-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_experts_up_in_range : Cert.Pre_experts_up_in_range.Facts] (m : (ℓ : Loc Cert.Kernel2.nD Cert.Kernel2.τ Cert.Kernel2.sig) → Buf (Elt Bits) ℓ) : Prop :=
  ∀ c : Dev Cert.Kernel2.nD,
    (Cert.Pre_experts_up_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3))) = (fun _ => 1#1)

def Pre_Kernel2Ideal [hPre_experts_up_in_range : Cert.Pre_experts_up_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_up_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_up_in_range [hPre_experts_up_in_range : Cert.Pre_experts_up_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_up_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 [hPre_experts_down_in_range : Cert.Pre_experts_down_in_range.Facts] (m : (ℓ : Loc Cert.Kernel3.nD Cert.Kernel3.τ Cert.Kernel3.sig) → Buf (Elt Bits) ℓ) : Prop :=
  ∀ c : Dev Cert.Kernel3.nD,
    (Cert.Pre_experts_down_in_range.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3))) = (fun _ => 1#1)

def Pre_Kernel3Ideal [hPre_experts_down_in_range : Cert.Pre_experts_down_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts_down_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_experts_down_in_range [hPre_experts_down_in_range : Cert.Pre_experts_down_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_experts_down_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_experts_up_in_range : Cert.Pre_experts_up_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] [hPre_experts_up_in_range : Cert.Pre_experts_up_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_experts_up_in_range [hReference2Ideal : Cert.Reference2Ideal.Facts] [hPre_experts_up_in_range : Cert.Pre_experts_up_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_up_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] [hPre_experts_down_in_range : Cert.Pre_experts_down_in_range.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] [hPre_experts_down_in_range : Cert.Pre_experts_down_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_experts_down_in_range [hReference3Ideal : Cert.Reference3Ideal.Facts] [hPre_experts_down_in_range : Cert.Pre_experts_down_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_experts_down_in_range m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_experts_up_in_range : Cert.Pre_experts_up_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] [hPre_experts_down_in_range : Cert.Pre_experts_down_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v6)) (v1 : (c : Dev Cert.Kernel4Ideal.nD) → Buf (Elt Ideal) ((c.tc : Thread Cert.Kernel4Ideal.nD Cert.Kernel4Ideal.τ).loc Cert.Kernel4Ideal.main_v8)) (v2 : (c : Dev Cert.Kernel4Ideal.nD) → Buf (Elt Ideal) ((c.tc : Thread Cert.Kernel4Ideal.nD Cert.Kernel4Ideal.τ).loc Cert.Kernel4Ideal.main_v10)) (v3 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_v8) = v1 c
          ∧ r.2.mem ((c.tc : Thread Cert.Kernel4Ideal.nD Cert.Kernel4Ideal.τ).loc Cert.Kernel4Ideal.main_v10) = v2 c
          ∧ r.2.mem ((c.tc : Thread Cert.Kernel4Ideal.nD Cert.Kernel4Ideal.τ).loc Cert.Kernel4Ideal.main_v12) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_v8) = v1 c
          ∧ r.2.mem ((c.tc : Thread Cert.Reference4Ideal.nD Cert.Reference4Ideal.τ).loc Cert.Reference4Ideal.main_v10) = v2 c
          ∧ r.2.mem ((c.tc : Thread Cert.Reference4Ideal.nD Cert.Reference4Ideal.τ).loc Cert.Reference4Ideal.main_v12) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_inputs : Cert.Pre_finite_inputs.Facts) (hPre_experts_up_in_range : Cert.Pre_experts_up_in_range.Facts) (hPre_experts_down_in_range : Cert.Pre_experts_down_in_range.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2) (hPre_experts_up_in_range := hPre_experts_up_in_range)
    ∧ quiescent_Kernel2Ideal (hKernel2Ideal := hKernel2Ideal) (hPre_experts_up_in_range := hPre_experts_up_in_range)
    ∧ quiescent_Reference2Ideal (hReference2Ideal := hReference2Ideal)
    ∧ quiescent_Reference2Ideal_pre_experts_up_in_range (hReference2Ideal := hReference2Ideal) (hPre_experts_up_in_range := hPre_experts_up_in_range)
    ∧ quiescent_Kernel3 (hKernel3 := hKernel3) (hPre_experts_down_in_range := hPre_experts_down_in_range)
    ∧ quiescent_Kernel3Ideal (hKernel3Ideal := hKernel3Ideal) (hPre_experts_down_in_range := hPre_experts_down_in_range)
    ∧ quiescent_Reference3Ideal (hReference3Ideal := hReference3Ideal)
    ∧ quiescent_Reference3Ideal_pre_experts_down_in_range (hReference3Ideal := hReference3Ideal) (hPre_experts_down_in_range := hPre_experts_down_in_range)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal) (hPre_experts_up_in_range := hPre_experts_up_in_range)
    ∧ preserves_Kernel3_Kernel3Ideal
    ∧ algebraic_Kernel3Ideal_Reference3Ideal (hKernel3Ideal := hKernel3Ideal) (hReference3Ideal := hReference3Ideal) (hPre_experts_down_in_range := hPre_experts_down_in_range)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_experts_down_in_range.lean ====
abbrev S20992x7168 : Shape := ⟨2, ![20992, 7168]⟩
abbrev S8x7168x2048 : Shape := ⟨3, ![8, 7168, 2048]⟩
abbrev S41 : Shape := ⟨1, ![41]⟩
abbrev S1 : Shape := ⟨1, ![1]⟩
abbrev S_ : Shape := ⟨0, ![]⟩

class Facts : Prop where
  bcast_S_S41 : S_.BroadcastsInDim S41 (![] : Fin 0 → Fin S41.rank)
  reducesTo_S41_S_d0 : S41.ReducesTo [0] S_
  h_S_ : 0 < S_.numel
  shapeCasts_S1_S_ : S1.ShapeCasts S_

variable [Facts]

def fn {F : FTy → Type} [FloatOps F] (main_arg0 : FVec F S20992x7168 .bf16) (main_arg1 : FVec F S8x7168x2048 .f32) (main_arg2 : IVec S41 32) (main_arg3 : IVec S1 32) : IVec S_ 1 :=
  let main_c : IVec S_ 32 := constantI S_ 32 0#32
  let main_v0 : IVec S41 32 := broadcastInDim S41 ![] bcast_S_S41 main_c
  let main_v1 : IVec S41 1 := cmpi .sge main_arg2 main_v0
  let main_c_0 : IVec S_ 32 := constantI S_ 32 8#32
  let main_v2 : IVec S41 32 := broadcastInDim S41 ![] bcast_S_S41 main_c_0
  let main_v3 : IVec S41 1 := cmpi .slt main_arg2 main_v2
  let main_v4 : IVec S41 1 := andi main_v1 main_v3
  let main_c_1 : IVec S_ 1 := constantI S_ 1 1#1
  let main_v5 : IVec S_ 1 := (fun x v => Host.reduce IntOp.andi x v reducesTo_S41_S_d0 h_S_) main_v4 main_c_1
  let main_v6 : IVec S_ 32 := shapeCast S_ main_arg3 shapeCasts_S1_S_
  let main_c_2 : IVec S_ 32 := constantI S_ 32 1#32
  let main_v7 : IVec S_ 1 := cmpi .sge main_v6 main_c_2
  let main_v8 : IVec S_ 1 := andi main_v5 main_v7
  let main_v9 : IVec S_ 32 := shapeCast S_ main_arg3 shapeCasts_S1_S_
  let main_c_3 : IVec S_ 32 := constantI S_ 32 41#32
  let main_v10 : IVec S_ 1 := cmpi .sle main_v9 main_c_3
  let main_v11 : IVec S_ 1 := andi main_v8 main_v10
  main_v11
-- ==== Pre_experts_up_in_range.lean ====
abbrev S20992x2048 : Shape := ⟨2, ![20992, 2048]⟩
abbrev S8x2048x14336 : Shape := ⟨3, ![8, 2048, 14336]⟩
abbrev S41 : Shape := ⟨1, ![41]⟩
abbrev S1 : Shape := ⟨1, ![1]⟩
abbrev S_ : Shape := ⟨0, ![]⟩

class Facts : Prop where
  bcast_S_S41 : S_.BroadcastsInDim S41 (![] : Fin 0 → Fin S41.rank)
  reducesTo_S41_S_d0 : S41.ReducesTo [0] S_
  h_S_ : 0 < S_.numel
  shapeCasts_S1_S_ : S1.ShapeCasts S_

variable [Facts]

def fn {F : FTy → Type} [FloatOps F] (main_arg0 : FVec F S20992x2048 .bf16) (main_arg1 : FVec F S8x2048x14336 .f32) (main_arg2 : IVec S41 32) (main_arg3 : IVec S1 32) : IVec S_ 1 :=
  let main_c : IVec S_ 32 := constantI S_ 32 0#32
  let main_v0 : IVec S41 32 := broadcastInDim S41 ![] bcast_S_S41 main_c
  let main_v1 : IVec S41 1 := cmpi .sge main_arg2 main_v0
  let main_c_0 : IVec S_ 32 := constantI S_ 32 8#32
  let main_v2 : IVec S41 32 := broadcastInDim S41 ![] bcast_S_S41 main_c_0
  let main_v3 : IVec S41 1 := cmpi .slt main_arg2 main_v2
  let main_v4 : IVec S41 1 := andi main_v1 main_v3
  let main_c_1 : IVec S_ 1 := constantI S_ 1 1#1
  let main_v5 : IVec S_ 1 := (fun x v => Host.reduce IntOp.andi x v reducesTo_S41_S_d0 h_S_) main_v4 main_c_1
  let main_v6 : IVec S_ 32 := shapeCast S_ main_arg3 shapeCasts_S1_S_
  let main_c_2 : IVec S_ 32 := constantI S_ 32 1#32
  let main_v7 : IVec S_ 1 := cmpi .sge main_v6 main_c_2
  let main_v8 : IVec S_ 1 := andi main_v5 main_v7
  let main_v9 : IVec S_ 32 := shapeCast S_ main_arg3 shapeCasts_S1_S_
  let main_c_3 : IVec S_ 32 := constantI S_ 32 41#32
  let main_v10 : IVec S_ 1 := cmpi .sle main_v9 main_c_3
  let main_v11 : IVec S_ 1 := andi main_v8 main_v10
  main_v11
-- ==== Pre_finite_inputs.lean ====
abbrev S8704x3072 : Shape := ⟨2, ![8704, 3072]⟩
abbrev S1x32x4096x8x64 : Shape := ⟨5, ![1, 32, 4096, 8, 64]⟩
abbrev S32x4112x32 : Shape := ⟨3, ![32, 4112, 32]⟩
abbrev S8704x2048 : Shape := ⟨2, ![8704, 2048]⟩
abbrev S_ : Shape := ⟨0, ![]⟩

class Facts : Prop where
  bcast_S_S8704x3072 : S_.BroadcastsInDim S8704x3072 (![] : Fin 0 → Fin S8704x3072.rank)
  reducesTo_S8704x3072_S_d0_1 : S8704x3072.ReducesTo [0, 1] S_
  h_S_ : 0 < S_.numel
  bcast_S_S1x32x4096x8x64 : S_.BroadcastsInDim S1x32x4096x8x64 (![] : Fin 0 → Fin S1x32x4096x8x64.rank)
  reducesTo_S1x32x4096x8x64_S_d0_1_2_3_4 : S1x32x4096x8x64.ReducesTo [0, 1, 2, 3, 4] S_
  bcast_S_S32x4112x32 : S_.BroadcastsInDim S32x4112x32 (![] : Fin 0 → Fin S32x4112x32.rank)
  reducesTo_S32x4112x32_S_d0_1_2 : S32x4112x32.ReducesTo [0, 1, 2] S_

variable [Facts]

def fn_part1 {F : FTy → Type} [FloatOps F] (main_arg2 : FVec F S1x32x4096x8x64 .f32) (main_arg3 : FVec F S32x4112x32 .f32) (main_v12 : IVec S_ 1) (main_v14 : IVec S1x32x4096x8x64 1) (main_v15 : FVec F S1x32x4096x8x64 .f32) : IVec S_ 1 :=
  let main_v16 : IVec S1x32x4096x8x64 1 := cmpf .ogt main_arg2 main_v15
  let main_v17 : IVec S1x32x4096x8x64 1 := andi main_v14 main_v16
  let main_c_6 : IVec S_ 1 := constantI S_ 1 1#1
  let main_v18 : IVec S_ 1 := (fun x v => Host.reduce IntOp.andi x v reducesTo_S1x32x4096x8x64_S_d0_1_2_3_4 h_S_) main_v17 main_c_6
  let main_v19 : IVec S_ 1 := andi main_v12 main_v18
  let main_cst_7 : FVec F S_ .f32 := constant S_ .f32 0x7F800000#32
  let main_v20 : FVec F S32x4112x32 .f32 := broadcastInDim S32x4112x32 ![] bcast_S_S32x4112x32 main_cst_7
  let main_v21 : IVec S32x4112x32 1 := cmpf .olt main_arg3 main_v20
  let main_cst_8 : FVec F S_ .f32 := constant S_ .f32 0xFF800000#32
  let main_v22 : FVec F S32x4112x32 .f32 := broadcastInDim S32x4112x32 ![] bcast_S_S32x4112x32 main_cst_8
  let main_v23 : IVec S32x4112x32 1 := cmpf .ogt main_arg3 main_v22
  let main_v24 : IVec S32x4112x32 1 := andi main_v21 main_v23
  let main_c_9 : IVec S_ 1 := constantI S_ 1 1#1
  let main_v25 : IVec S_ 1 := (fun x v => Host.reduce IntOp.andi x v reducesTo_S32x4112x32_S_d0_1_2 h_S_) main_v24 main_c_9
  let main_v26 : IVec S_ 1 := andi main_v19 main_v25
  main_v26

def fn {F : FTy → Type} [FloatOps F] (main_arg0 : FVec F S8704x3072 .f32) (main_arg1 : FVec F S1x32x4096x8x64 .f32) (main_arg2 : FVec F S1x32x4096x8x64 .f32) (main_arg3 : FVec F S32x4112x32 .f32) (main_arg4 : FVec F S8704x2048 .bf16) : IVec S_ 1 :=
  let main_cst : FVec F S_ .f32 := constant S_ .f32 0x7F800000#32
  let main_v0 : FVec F S8704x3072 .f32 := broadcastInDim S8704x3072 ![] bcast_S_S8704x3072 main_cst
  let main_v1 : IVec S8704x3072 1 := cmpf .olt main_arg0 main_v0
  let main_cst_0 : FVec F S_ .f32 := constant S_ .f32 0xFF800000#32
  let main_v2 : FVec F S8704x3072 .f32 := broadcastInDim S8704x3072 ![] bcast_S_S8704x3072 main_cst_0
  let main_v3 : IVec S8704x3072 1 := cmpf .ogt main_arg0 main_v2
  let main_v4 : IVec S8704x3072 1 := andi main_v1 main_v3
  let main_c : IVec S_ 1 := constantI S_ 1 1#1
  let main_v5 : IVec S_ 1 := (fun x v => Host.reduce IntOp.andi x v reducesTo_S8704x3072_S_d0_1 h_S_) main_v4 main_c
  let main_cst_1 : FVec F S_ .f32 := constant S_ .f32 0x7F800000#32
  let main_v6 : FVec F S1x32x4096x8x64 .f32 := broadcastInDim S1x32x4096x8x64 ![] bcast_S_S1x32x4096x8x64 main_cst_1
  let main_v7 : IVec S1x32x4096x8x64 1 := cmpf .olt main_arg1 main_v6
  let main_cst_2 : FVec F S_ .f32 := constant S_ .f32 0xFF800000#32
  let main_v8 : FVec F S1x32x4096x8x64 .f32 := broadcastInDim S1x32x4096x8x64 ![] bcast_S_S1x32x4096x8x64 main_cst_2
  let main_v9 : IVec S1x32x4096x8x64 1 := cmpf .ogt main_arg1 main_v8
  let main_v10 : IVec S1x32x4096x8x64 1 := andi main_v7 main_v9
  let main_c_3 : IVec S_ 1 := constantI S_ 1 1#1
  let main_v11 : IVec S_ 1 := (fun x v => Host.reduce IntOp.andi x v reducesTo_S1x32x4096x8x64_S_d0_1_2_3_4 h_S_) main_v10 main_c_3
  let main_v12 : IVec S_ 1 := andi main_v5 main_v11
  let main_cst_4 : FVec F S_ .f32 := constant S_ .f32 0x7F800000#32
  let main_v13 : FVec F S1x32x4096x8x64 .f32 := broadcastInDim S1x32x4096x8x64 ![] bcast_S_S1x32x4096x8x64 main_cst_4
  let main_v14 : IVec S1x32x4096x8x64 1 := cmpf .olt main_arg2 main_v13
  let main_cst_5 : FVec F S_ .f32 := constant S_ .f32 0xFF800000#32
  let main_v15 : FVec F S1x32x4096x8x64 .f32 := broadcastInDim S1x32x4096x8x64 ![] bcast_S_S1x32x4096x8x64 main_cst_5
  fn_part1 (F := F) main_arg2 main_arg3 main_v12 main_v14 main_v15
-- ==== Kernel.lean ====
abbrev S8704x3072 : Shape := ⟨2, ![8704, 3072]⟩
abbrev S1x32x4096x8x64 : Shape := ⟨5, ![1, 32, 4096, 8, 64]⟩
abbrev S32x4112x32 : Shape := ⟨3, ![32, 4112, 32]⟩
abbrev S8704x2048 : Shape := ⟨2, ![8704, 2048]⟩
abbrev S32x4096x32 : Shape := ⟨3, ![32, 4096, 32]⟩
abbrev S32x32x4096 : Shape := ⟨3, ![32, 32, 4096]⟩
abbrev S1024x4096 : Shape := ⟨2, ![1024, 4096]⟩
abbrev S32x16x32 : Shape := ⟨3, ![32, 16, 32]⟩
abbrev S512x32 : Shape := ⟨2, ![512, 32]⟩
abbrev S_ : Shape := ⟨0, ![]⟩
abbrev S512x128 : Shape := ⟨2, ![512, 128]⟩
abbrev S32x32x16 : Shape := ⟨3, ![32, 32, 16]⟩
abbrev S1024x16 : Shape := ⟨2, ![1024, 16]⟩
abbrev S1024x128 : Shape := ⟨2, ![1024, 128]⟩
abbrev S32x4096x8x64 : Shape := ⟨4, ![32, 4096, 8, 64]⟩
abbrev S32x8x64x4096 : Shape := ⟨4, ![32, 8, 64, 4096]⟩
abbrev S16x2048 : Shape := ⟨2, ![16, 2048]⟩
abbrev S16x512 : Shape := ⟨2, ![16, 512]⟩
abbrev S1x8x64x2048 : Shape := ⟨4, ![1, 8, 64, 2048]⟩
abbrev S16x128 : Shape := ⟨2, ![16, 128]⟩
abbrev S32x2048 : Shape := ⟨2, ![32, 2048]⟩
abbrev S32x128 : Shape := ⟨2, ![32, 128]⟩
abbrev S4x128x128 : Shape := ⟨3, ![4, 128, 128]⟩
abbrev S128x128 : Shape := ⟨2, ![128, 128]⟩
abbrev S1x128x128 : Shape := ⟨3, ![1, 128, 128]⟩
abbrev S16 : Shape := ⟨1, ![16]⟩
abbrev S16x1 : Shape := ⟨2, ![16, 1]⟩
abbrev S1x1x64x2048 : Shape := ⟨4, ![1, 1, 64, 2048]⟩
abbrev S64x2048 : Shape := ⟨2, ![64, 2048]⟩
abbrev S128x2048 : Shape := ⟨2, ![128, 2048]⟩
abbrev S1x2048 : Shape := ⟨2, ![1, 2048]⟩
abbrev S128 : Shape := ⟨1, ![128]⟩
abbrev S128x1 : Shape := ⟨2, ![128, 1]⟩
abbrev S128x16 : Shape := ⟨2, ![128, 16]⟩
abbrev S1x16 : Shape := ⟨2, ![1, 16]⟩
abbrev S16x16 : Shape := ⟨2, ![16, 16]⟩

abbrev nBuf : Space → Nat
  | .hbm => 25
  | .vmem => 23
  | .smem => 0
  | _ => 0

abbrev bufTy : (tb : Table) → Fin (tcTables nBuf tb) → BufTy
  | .hbm, ⟨0, _⟩ => ⟨S8704x3072, .f32⟩
  | .hbm, ⟨1, _⟩ => ⟨S1x32x4096x8x64, .f32⟩
  | .hbm, ⟨2, _⟩ => ⟨S1x32x4096x8x64, .f32⟩
  | .hbm, ⟨3, _⟩ => ⟨S32x4112x32, .f32⟩
  | .hbm, ⟨4, _⟩ => ⟨S8704x2048, .bf16⟩
  | .hbm, ⟨5, _⟩ => ⟨S32x4096x32, .f32⟩
  | .hbm, ⟨6, _⟩ => ⟨S32x32x4096, .f32⟩
  | .hbm, ⟨7, _⟩ => ⟨S1024x4096, .f32⟩
  | .hbm, ⟨8, _⟩ => ⟨S32x16x32, .f32⟩
  | .hbm, ⟨9, _⟩ => ⟨S512x32, .f32⟩
  | .hbm, ⟨10, _⟩ => ⟨S_, .i32⟩
  | .hbm, ⟨11, _⟩ => ⟨S_, .f32⟩
  | .hbm, ⟨12, _⟩ => ⟨S512x128, .f32⟩
  | .hbm, ⟨13, _⟩ => ⟨S512x32, .f32⟩
  | .hbm, ⟨14, _⟩ => ⟨S32x16x32, .f32⟩
  | .hbm, ⟨15, _⟩ => ⟨S32x32x16, .f32⟩
  | .hbm, ⟨16, _⟩ => ⟨S1024x16, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S32x4096x8x64, .f32⟩
  | .hbm, ⟨21, _⟩ => ⟨S32x8x64x4096, .f32⟩
  | .hbm, ⟨22, _⟩ => ⟨S32x4096x8x64, .f32⟩
  | .hbm, ⟨23, _⟩ => ⟨S32x8x64x4096, .f32⟩
  | .hbm, ⟨24, _⟩ => ⟨S8704x2048, .bf16⟩
  | .local _ .vmem, ⟨0, _⟩ => ⟨S16x2048, .f32⟩
  | .local _ .vmem, ⟨1, _⟩ => ⟨S16x2048, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S1x8x64x2048, .f32⟩
  | .local _ .vmem, ⟨7, _⟩ => ⟨S1x8x64x2048, .f32⟩
  | .local _ .vmem, ⟨8, _⟩ => ⟨S1x8x64x2048, .f32⟩
  | .local _ .vmem, ⟨9, _⟩ => ⟨S1x8x64x2048, .f32⟩
  | .local _ .vmem, ⟨10, _⟩ => ⟨S16x128, .f32⟩
  | .local _ .vmem, ⟨11, _⟩ => ⟨S16x128, .f32⟩
  | .local _ .vmem, ⟨12, _⟩ => ⟨S32x2048, .f32⟩
  | .local _ .vmem, ⟨13, _⟩ => ⟨S32x2048, .f32⟩
  | .local _ .vmem, ⟨14, _⟩ => ⟨S32x128, .f32⟩
  | .local _ .vmem, ⟨15, _⟩ => ⟨S32x128, .f32⟩
  | .local _ .vmem, ⟨16, _⟩ => ⟨S16x2048, .bf16⟩
  | .local _ .vmem, ⟨17, _⟩ => ⟨S16x2048, .bf16⟩
  | .local _ .vmem, ⟨18, _⟩ => ⟨S4x128x128, .bf16⟩
  | .local _ .vmem, ⟨19, _⟩ => ⟨S4x128x128, .f32⟩
  | .local _ .vmem, ⟨20, _⟩ => ⟨S4x128x128, .f32⟩
  | .local _ .vmem, ⟨21, _⟩ => ⟨S4x128x128, .f32⟩
  | .local _ .vmem, ⟨22, _⟩ => ⟨S4x128x128, .f32⟩
  | _, _ => ⟨S8704x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_call1_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v347 : BitVec 1 := Scalar.cmpi .eq arg1 c1_i32
  let v348 : BitVec 32 := Scalar.extui v347
  let c0_i32_208 : BitVec 32 := 0#32
  let v349 : BitVec 1 := Scalar.cmpi .ne v348 c0_i32_208
  v349

def cc0_transform_0 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.addi c512_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.addi c512_i32 arg0
  let c4_i32 : BitVec 32 := 4#32
  let c0_i32 : BitVec 32 := 0#32
  ![v0.toNat, c4_i32.toNat]

def cc0_transform_2 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.addi c512_i32 arg0
  let c5_i32 : BitVec 32 := 5#32
  let c0_i32 : BitVec 32 := 0#32
  ![v0.toNat, c5_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.addi c512_i32 arg0
  let c0_i32 : BitVec 32 := 0#32
  let c0_i32_0 : BitVec 32 := 0#32
  ![v0.toNat, c0_i32.toNat]

abbrev stage0_0 : Fin 2 → Memref sig .tc .vmem S16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S32x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S16x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S8704x3072 : Shape := ⟨2, ![8704, 3072]⟩
abbrev S1x32x4096x8x64 : Shape := ⟨5, ![1, 32, 4096, 8, 64]⟩
abbrev S32x4112x32 : Shape := ⟨3, ![32, 4112, 32]⟩
abbrev S8704x2048 : Shape := ⟨2, ![8704, 2048]⟩
abbrev S512x3072 : Shape := ⟨2, ![512, 3072]⟩
abbrev S512x2048 : Shape := ⟨2, ![512, 2048]⟩
abbrev S32x16x8x4x64 : Shape := ⟨5, ![32, 16, 8, 4, 64]⟩
abbrev S512x512 : Shape := ⟨2, ![512, 512]⟩
abbrev S32x16x8x64 : Shape := ⟨4, ![32, 16, 8, 64]⟩
abbrev S32x4096x8x64 : Shape := ⟨4, ![32, 4096, 8, 64]⟩
abbrev S32x4112x8x64 : Shape := ⟨4, ![32, 4112, 8, 64]⟩
abbrev S32x8x4112x16x4 : Shape := ⟨5, ![32, 8, 4112, 16, 4]⟩
abbrev S32x8x4x16x4112 : Shape := ⟨5, ![32, 8, 4, 16, 4112]⟩
abbrev S_ : Shape := ⟨0, ![]⟩
abbrev S32x4112x8x4 : Shape := ⟨4, ![32, 4112, 8, 4]⟩
abbrev S32x16x8x4 : Shape := ⟨4, ![32, 16, 8, 4]⟩
abbrev S32x8x4x16 : Shape := ⟨4, ![32, 8, 4, 16]⟩
abbrev S32x8x4x16x1 : Shape := ⟨5, ![32, 8, 4, 16, 1]⟩
abbrev S32x8x4x4112 : Shape := ⟨4, ![32, 8, 4, 4112]⟩
abbrev S32x8x4x1x4112 : Shape := ⟨5, ![32, 8, 4, 1, 4112]⟩
abbrev S16 : Shape := ⟨1, ![16]⟩
abbrev S4112 : Shape := ⟨1, ![4112]⟩
abbrev S1x4112 : Shape := ⟨2, ![1, 4112]⟩
abbrev S16x1 : Shape := ⟨2, ![16, 1]⟩
abbrev S16x4112 : Shape := ⟨2, ![16, 4112]⟩
abbrev S32x8x64x4x16 : Shape := ⟨5, ![32, 8, 64, 4, 16]⟩
abbrev S8192x2048 : Shape := ⟨2, ![8192, 2048]⟩

abbrev nBuf : Space → Nat
  | .hbm => 66
  | .vmem => 0
  | .smem => 0
  | _ => 0

abbrev bufTy : (tb : Table) → Fin (tcTables nBuf tb) → BufTy
  | .hbm, ⟨0, _⟩ => ⟨S8704x3072, .f32⟩
  | .hbm, ⟨1, _⟩ => ⟨S1x32x4096x8x64, .f32⟩
  | .hbm, ⟨2, _⟩ => ⟨S1x32x4096x8x64, .f32⟩
  | .hbm, ⟨3, _⟩ => ⟨S32x4112x32, .f32⟩
  | .hbm, ⟨4, _⟩ => ⟨S8704x2048, .bf16⟩
  | .hbm, ⟨5, _⟩ => ⟨S512x3072, .f32⟩
  | .hbm, ⟨6, _⟩ => ⟨S512x2048, .f32⟩
  | .hbm, ⟨7, _⟩ => ⟨S32x16x8x4x64, .f32⟩
  | .hbm, ⟨8, _⟩ => ⟨S512x512, .f32⟩
  | .hbm, ⟨9, _⟩ => ⟨S32x16x8x64, .f32⟩
  | .hbm, ⟨10, _⟩ => ⟨S512x512, .f32⟩
  | .hbm, ⟨11, _⟩ => ⟨S32x16x8x64, .f32⟩
  | .hbm, ⟨12, _⟩ => ⟨S32x4096x8x64, .f32⟩
  | .hbm, ⟨13, _⟩ => ⟨S32x4112x8x64, .f32⟩
  | .hbm, ⟨14, _⟩ => ⟨S32x4096x8x64, .f32⟩
  | .hbm, ⟨15, _⟩ => ⟨S32x4112x8x64, .f32⟩
  | .hbm, ⟨16, _⟩ => ⟨S32x8x4112x16x4, .f32⟩
  | .hbm, ⟨17, _⟩ => ⟨S32x8x4x16x4112, .f32⟩
  | .hbm, ⟨18, _⟩ => ⟨S_, .f32⟩
  | .hbm, ⟨19, _⟩ => ⟨S32x8x4x16x4112, .f32⟩
  | .hbm, ⟨20, _⟩ => ⟨S32x8x4x16x4112, .f32⟩
  | .hbm, ⟨21, _⟩ => ⟨S32x4112x8x4, .f32⟩
  | .hbm, ⟨22, _⟩ => ⟨S32x16x8x4, .f32⟩
  | .hbm, ⟨23, _⟩ => ⟨S32x8x4x16, .f32⟩
  | .hbm, ⟨24, _⟩ => ⟨S32x8x4x16x1, .f32⟩
  | .hbm, ⟨25, _⟩ => ⟨S32x8x4x4112, .f32⟩
  | .hbm, ⟨26, _⟩ => ⟨S32x8x4x1x4112, .f32⟩
  | .hbm, ⟨27, _⟩ => ⟨S16, .i32⟩
  | .hbm, ⟨28, _⟩ => ⟨S_, .i32⟩
  | .hbm, ⟨29, _⟩ => ⟨S16, .i32⟩
  | .hbm, ⟨30, _⟩ => ⟨S16, .i32⟩
  | .hbm, ⟨31, _⟩ => ⟨S4112, .i32⟩
  | .hbm, ⟨32, _⟩ => ⟨S1x4112, .i32⟩
  | .hbm, ⟨33, _⟩ => ⟨S16x1, .i32⟩
  | .hbm, ⟨34, _⟩ => ⟨S16x4112, .i32⟩
  | .hbm, ⟨35, _⟩ => ⟨S16x4112, .i32⟩
  | .hbm, ⟨36, _⟩ => ⟨S16x4112, .i1⟩
  | .hbm, ⟨37, _⟩ => ⟨S32x8x4x16x4112, .f32⟩
  | .hbm, ⟨38, _⟩ => ⟨S32x8x4x16x4112, .f32⟩
  | .hbm, ⟨39, _⟩ => ⟨S32x8x4x16x4112, .f32⟩
  | .hbm, ⟨40, _⟩ => ⟨S32x8x4x16x4112, .f32⟩
  | .hbm, ⟨41, _⟩ => ⟨S_, .f32⟩
  | .hbm, ⟨42, _⟩ => ⟨S_, .f32⟩
  | .hbm, ⟨43, _⟩ => ⟨S32x8x4x16x4112, .i1⟩
  | .hbm, ⟨44, _⟩ => ⟨S32x8x4x16x4112, .f32⟩
  | .hbm, ⟨45, _⟩ => ⟨S32x8x4x16x4112, .f32⟩
  | .hbm, ⟨46, _⟩ => ⟨S_, .f32⟩
  | .hbm, ⟨47, _⟩ => ⟨S32x8x4x16, .f32⟩
  | .hbm, ⟨48, _⟩ => ⟨S_, .f32⟩
  | .hbm, ⟨49, _⟩ => ⟨S32x8x4x16, .f32⟩
  | .hbm, ⟨50, _⟩ => ⟨S32x8x4x16, .f32⟩
  | .hbm, ⟨51, _⟩ => ⟨S32x8x4x16x1, .f32⟩
  | .hbm, ⟨52, _⟩ => ⟨S32x8x4x16x4112, .f32⟩
  | .hbm, ⟨53, _⟩ => ⟨S32x8x4x16x4112, .f32⟩
  | .hbm, ⟨54, _⟩ => ⟨S32x8x4x16x4112, .f32⟩
  | .hbm, ⟨55, _⟩ => ⟨S_, .f32⟩
  | .hbm, ⟨56, _⟩ => ⟨S32x8x4x16, .f32⟩
  | .hbm, ⟨57, _⟩ => ⟨S32x8x4x16x1, .f32⟩
  | .hbm, ⟨58, _⟩ => ⟨S32x8x4x16x4112, .f32⟩
  | .hbm, ⟨59, _⟩ => ⟨S32x8x4x16x4112, .f32⟩
  | .hbm, ⟨60, _⟩ => ⟨S32x8x64x4x16, .f32⟩
  | .hbm, ⟨61, _⟩ => ⟨S32x16x8x4x64, .f32⟩
  | .hbm, ⟨62, _⟩ => ⟨S8192x2048, .bf16⟩
  | .hbm, ⟨63, _⟩ => ⟨S512x2048, .f32⟩
  | .hbm, ⟨64, _⟩ => ⟨S512x2048, .bf16⟩
  | .hbm, ⟨65, _⟩ => ⟨S8704x2048, .bf16⟩
  | _, _ => ⟨S8704x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_0 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v34 : Ref sig .tc := ⟨.hbm, 45, rfl⟩
abbrev main_cst_1 : Ref sig .tc := ⟨.hbm, 46, rfl⟩
abbrev main_v35 : Ref sig .tc := ⟨.hbm, 47, rfl⟩
abbrev main_cst_2 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_3 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== Kernel2.lean ====
abbrev S20992x2048 : Shape := ⟨2, ![20992, 2048]⟩
abbrev S8x2048x14336 : Shape := ⟨3, ![8, 2048, 14336]⟩
abbrev S41 : Shape := ⟨1, ![41]⟩
abbrev S1 : Shape := ⟨1, ![1]⟩
abbrev S20992x7168 : Shape := ⟨2, ![20992, 7168]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 3
  | .vmem => 10
  | .smem => 2
  | _ => 0

abbrev bufTy : (tb : Table) → Fin (tcTables nBuf tb) → BufTy
  | .hbm, ⟨0, _⟩ => ⟨S20992x2048, .bf16⟩
  | .hbm, ⟨1, _⟩ => ⟨S8x2048x14336, .f32⟩
  | .hbm, ⟨2, _⟩ => ⟨S20992x7168, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x2048x1024, .f32⟩
  | .local _ .vmem, ⟨5, _⟩ => ⟨S1x2048x1024, .f32⟩
  | .local _ .vmem, ⟨6, _⟩ => ⟨S512x1024, .bf16⟩
  | .local _ .vmem, ⟨7, _⟩ => ⟨S512x1024, .bf16⟩
  | .local _ .vmem, ⟨8, _⟩ => ⟨S2048x1024, .bf16⟩
  | .local _ .vmem, ⟨9, _⟩ => ⟨S2048x1024, .bf16⟩
  | .local _ .smem, ⟨0, _⟩ => ⟨S41, .i32⟩
  | .local _ .smem, ⟨1, _⟩ => ⟨S1, .i32⟩
  | _, _ => ⟨S20992x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![7, 41], ![false, false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v2 : BitVec 32 := Scalar.subi arg1 c1_i32
  let c0_i32 : BitVec 32 := 0#32
  let v3 : BitVec 32 := Scalar.maxsi v2 c0_i32
  let v4 : Index := Scalar.indexCast v3
  ![v4.toNat]
def k0_cond1 (i : grid0.Coords) (v9 : BitVec 32) : BitVec 1 :=
  let arg1 : BitVec 32 := BitVec.ofNat 32 (i 1).val
  let v10 : BitVec 1 := Scalar.cmpi .slt arg1 v9
  let v_true : BitVec 1 := 1#1
  let v11 : BitVec 1 := Scalar.xori v10 v_true
  let v12 : BitVec 32 := Scalar.extui v11
  let c0_i32_1 : BitVec 32 := 0#32
  let v13 : BitVec 1 := Scalar.cmpi .ne v12 c0_i32_1
  v13

def k0_cond3 (i : grid0.Coords) (v9 : BitVec 32) : BitVec 1 :=
  let arg1 : BitVec 32 := BitVec.ofNat 32 (i 1).val
  let v10 : BitVec 1 := Scalar.cmpi .slt arg1 v9
  let v16 : BitVec 32 := Scalar.extui v10
  let c0_i32_3 : BitVec 32 := 0#32
  let v17 : BitVec 1 := Scalar.cmpi .ne v16 c0_i32_3
  v17

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S41.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S41) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S41.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S41) ![v0.toNat] S1.size (k0_off1_inb i)) numel1_S1
  let c7_i32 : BitVec 32 := 7#32
  let v2 : BitVec 32 := Scalar.addi arg0 c7_i32
  let c0_i32 : BitVec 32 := 0#32
  let c0_i32_0 : BitVec 32 := 0#32
  ![v1.toNat, c0_i32.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S20992x2048 : Shape := ⟨2, ![20992, 2048]⟩
abbrev S8x2048x14336 : Shape := ⟨3, ![8, 2048, 14336]⟩
abbrev S41 : Shape := ⟨1, ![41]⟩
abbrev S1 : Shape := ⟨1, ![1]⟩
abbrev S41x1 : Shape := ⟨2, ![41, 1]⟩
abbrev S8 : Shape := ⟨1, ![8]⟩
abbrev S1x8 : Shape := ⟨2, ![1, 8]⟩
abbrev S41x8 : Shape := ⟨2, ![41, 8]⟩
abbrev S_ : Shape := ⟨0, ![]⟩
abbrev S41x1x8 : Shape := ⟨3, ![41, 1, 8]⟩
abbrev S41x512x8 : Shape := ⟨3, ![41, 512, 8]⟩
abbrev S20992x8x1 : Shape := ⟨3, ![20992, 8, 1]⟩
abbrev S20992x8x14336 : Shape := ⟨3, ![20992, 8, 14336]⟩
abbrev S20992x8x7168 : Shape := ⟨3, ![20992, 8, 7168]⟩
abbrev S20992x7168 : Shape := ⟨2, ![20992, 7168]⟩

abbrev nBuf : Space → Nat
  | .hbm => 42
  | .vmem => 0
  | .smem => 0
  | _ => 0

abbrev bufTy : (tb : Table) → Fin (tcTables nBuf tb) → BufTy
  | .hbm, ⟨0, _⟩ => ⟨S20992x2048, .bf16⟩
  | .hbm, ⟨1, _⟩ => ⟨S8x2048x14336, .f32⟩
  | .hbm, ⟨2, _⟩ => ⟨S41, .i32⟩
  | .hbm, ⟨3, _⟩ => ⟨S1, .i32⟩
  | .hbm, ⟨4, _⟩ => ⟨S41x1, .i32⟩
  | .hbm, ⟨5, _⟩ => ⟨S8, .i32⟩
  | .hbm, ⟨6, _⟩ => ⟨S1x8, .i32⟩
  | .hbm, ⟨7, _⟩ => ⟨S41x8, .i32⟩
  | .hbm, ⟨8, _⟩ => ⟨S41x8, .i32⟩
  | .hbm, ⟨9, _⟩ => ⟨S41x8, .i1⟩
  | .hbm, ⟨10, _⟩ => ⟨S41, .i32⟩
  | .hbm, ⟨11, _⟩ => ⟨S_, .i32⟩
  | .hbm, ⟨12, _⟩ => ⟨S41, .i32⟩
  | .hbm, ⟨13, _⟩ => ⟨S41, .i1⟩
  | .hbm, ⟨14, _⟩ => ⟨S41x1, .i1⟩
  | .hbm, ⟨15, _⟩ => ⟨S41x8, .i1⟩
  | .hbm, ⟨16, _⟩ => ⟨S41x8, .i1⟩
  | .hbm, ⟨17, _⟩ => ⟨S41x1x8, .i1⟩
  | .hbm, ⟨18, _⟩ => ⟨S41x512x8, .i1⟩
  | .hbm, ⟨19, _⟩ => ⟨S20992x8x1, .i1⟩
  | .hbm, ⟨20, _⟩ => ⟨S20992x2048, .f32⟩
  | .hbm, ⟨21, _⟩ => ⟨S20992x8x14336, .f32⟩
  | .hbm, ⟨22, _⟩ => ⟨S20992x8x7168, .f32⟩
  | .hbm, ⟨23, _⟩ => ⟨S20992x8x7168, .f32⟩
  | .hbm, ⟨24, _⟩ => ⟨S20992x8x7168, .f32⟩
  | .hbm, ⟨25, _⟩ => ⟨S20992x8x7168, .f32⟩
  | .hbm, ⟨26, _⟩ => ⟨S_, .f32⟩
  | .hbm, ⟨27, _⟩ => ⟨S20992x8x7168, .f32⟩
  | .hbm, ⟨28, _⟩ => ⟨S20992x8x7168, .f32⟩
  | .hbm, ⟨29, _⟩ => ⟨S_, .f32⟩
  | .hbm, ⟨30, _⟩ => ⟨S20992x8x7168, .f32⟩
  | .hbm, ⟨31, _⟩ => ⟨S20992x8x7168, .f32⟩
  | .hbm, ⟨32, _⟩ => ⟨S20992x8x7168, .f32⟩
  | .hbm, ⟨33, _⟩ => ⟨S20992x8x7168, .f32⟩
  | .hbm, ⟨34, _⟩ => ⟨S_, .f32⟩
  | .hbm, ⟨35, _⟩ => ⟨S_, .f32⟩
  | .hbm, ⟨36, _⟩ => ⟨S20992x8x7168, .i1⟩
  | .hbm, ⟨37, _⟩ => ⟨S20992x8x7168, .f32⟩
  | .hbm, ⟨38, _⟩ => ⟨S20992x8x7168, .f32⟩
  | .hbm, ⟨39, _⟩ => ⟨S_, .f32⟩
  | .hbm, ⟨40, _⟩ => ⟨S20992x7168, .f32⟩
  | .hbm, ⟨41, _⟩ => ⟨S20992x7168, .bf16⟩
  | _, _ => ⟨S20992x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_1 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel3.lean ====
abbrev S20992x7168 : Shape := ⟨2, ![20992, 7168]⟩
abbrev S8x7168x2048 : Shape := ⟨3, ![8, 7168, 2048]⟩
abbrev S41 : Shape := ⟨1, ![41]⟩
abbrev S1 : Shape := ⟨1, ![1]⟩
abbrev S20992x2048 : Shape := ⟨2, ![20992, 2048]⟩
abbrev S512x7168 : Shape := ⟨2, ![512, 7168]⟩
abbrev S1x7168x512 : Shape := ⟨3, ![1, 7168, 512]⟩
abbrev S512x512 : Shape := ⟨2, ![512, 512]⟩
abbrev S7168x512 : Shape := ⟨2, ![7168, 512]⟩

abbrev nBuf : Space → Nat
  | .hbm => 3
  | .vmem => 7
  | .smem => 2
  | _ => 0

abbrev bufTy : (tb : Table) → Fin (tcTables nBuf tb) → BufTy
  | .hbm, ⟨0, _⟩ => ⟨S20992x7168, .bf16⟩
  | .hbm, ⟨1, _⟩ => ⟨S8x7168x2048, .f32⟩
  | .hbm, ⟨2, _⟩ => ⟨S20992x2048, .f32⟩
  | .local _ .vmem, ⟨0, _⟩ => ⟨S512x7168, .bf16⟩
  | .local _ .vmem, ⟨1, _⟩ => ⟨S512x7168, .bf16⟩
  | .local _ .vmem, ⟨2, _⟩ => ⟨S1x7168x512, .f32⟩
  | .local _ .vmem, ⟨3, _⟩ => ⟨S1x7168x512, .f32⟩
  | .local _ .vmem, ⟨4, _⟩ => ⟨S512x512, .f32⟩
  | .local _ .vmem, ⟨5, _⟩ => ⟨S512x512, .f32⟩
  | .local _ .vmem, ⟨6, _⟩ => ⟨S7168x512, .bf16⟩
  | .local _ .smem, ⟨0, _⟩ => ⟨S41, .i32⟩
  | .local _ .smem, ⟨1, _⟩ => ⟨S1, .i32⟩
  | _, _ => ⟨S20992x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 41], ![false, false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v2 : BitVec 32 := Scalar.subi arg1 c1_i32
  let c0_i32 : BitVec 32 := 0#32
  let v3 : BitVec 32 := Scalar.maxsi v2 c0_i32
  let v4 : Index := Scalar.indexCast v3
  ![v4.toNat]
def k0_cond1 (i : grid0.Coords) (v9 : BitVec 32) : BitVec 1 :=
  let arg1 : BitVec 32 := BitVec.ofNat 32 (i 1).val
  let v10 : BitVec 1 := Scalar.cmpi .slt arg1 v9
  let v_true : BitVec 1 := 1#1
  let v11 : BitVec 1 := Scalar.xori v10 v_true
  let v12 : BitVec 32 := Scalar.extui v11
  let c0_i32_1 : BitVec 32 := 0#32
  let v13 : BitVec 1 := Scalar.cmpi .ne v12 c0_i32_1
  v13

def k0_cond3 (i : grid0.Coords) (v9 : BitVec 32) : BitVec 1 :=
  let arg1 : BitVec 32 := BitVec.ofNat 32 (i 1).val
  let v10 : BitVec 1 := Scalar.cmpi .slt arg1 v9
  let v16 : BitVec 32 := Scalar.extui v10
  let c0_i32_3 : BitVec 32 := 0#32
  let v17 : BitVec 1 := Scalar.cmpi .ne v16 c0_i32_3
  v17

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S41.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S41) ![v0.toNat] S1.size (k0_off1_inb i)) numel1_S1
  let c0_i32 : BitVec 32 := 0#32
  let c0_i32_0 : BitVec 32 := 0#32
  ![v1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x7168x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S20992x7168 : Shape := ⟨2, ![20992, 7168]⟩
abbrev S8x7168x2048 : Shape := ⟨3, ![8, 7168, 2048]⟩
abbrev S41 : Shape := ⟨1, ![41]⟩
abbrev S1 : Shape := ⟨1, ![1]⟩
abbrev S41x1 : Shape := ⟨2, ![41, 1]⟩
abbrev S8 : Shape := ⟨1, ![8]⟩
abbrev S1x8 : Shape := ⟨2, ![1, 8]⟩
abbrev S41x8 : Shape := ⟨2, ![41, 8]⟩
abbrev S_ : Shape := ⟨0, ![]⟩
abbrev S41x1x8 : Shape := ⟨3, ![41, 1, 8]⟩
abbrev S41x512x8 : Shape := ⟨3, ![41, 512, 8]⟩
abbrev S20992x8x1 : Shape := ⟨3, ![20992, 8, 1]⟩
abbrev S20992x8x2048 : Shape := ⟨3, ![20992, 8, 2048]⟩
abbrev S20992x2048 : Shape := ⟨2, ![20992, 2048]⟩

abbrev nBuf : Space → Nat
  | .hbm => 29
  | .vmem => 0
  | .smem => 0
  | _ => 0

abbrev bufTy : (tb : Table) → Fin (tcTables nBuf tb) → BufTy
  | .hbm, ⟨0, _⟩ => ⟨S20992x7168, .bf16⟩
  | .hbm, ⟨1, _⟩ => ⟨S8x7168x2048, .f32⟩
  | .hbm, ⟨2, _⟩ => ⟨S41, .i32⟩
  | .hbm, ⟨3, _⟩ => ⟨S1, .i32⟩
  | .hbm, ⟨4, _⟩ => ⟨S41x1, .i32⟩
  | .hbm, ⟨5, _⟩ => ⟨S8, .i32⟩
  | .hbm, ⟨6, _⟩ => ⟨S1x8, .i32⟩
  | .hbm, ⟨7, _⟩ => ⟨S41x8, .i32⟩
  | .hbm, ⟨8, _⟩ => ⟨S41x8, .i32⟩
  | .hbm, ⟨9, _⟩ => ⟨S41x8, .i1⟩
  | .hbm, ⟨10, _⟩ => ⟨S41, .i32⟩
  | .hbm, ⟨11, _⟩ => ⟨S_, .i32⟩
  | .hbm, ⟨12, _⟩ => ⟨S41, .i32⟩
  | .hbm, ⟨13, _⟩ => ⟨S41, .i1⟩
  | .hbm, ⟨14, _⟩ => ⟨S41x1, .i1⟩
  | .hbm, ⟨15, _⟩ => ⟨S41x8, .i1⟩
  | .hbm, ⟨16, _⟩ => ⟨S41x8, .i1⟩
  | .hbm, ⟨17, _⟩ => ⟨S41x1x8, .i1⟩
  | .hbm, ⟨18, _⟩ => ⟨S41x512x8, .i1⟩
  | .hbm, ⟨19, _⟩ => ⟨S20992x8x1, .i1⟩
  | .hbm, ⟨20, _⟩ => ⟨S20992x7168, .f32⟩
  | .hbm, ⟨21, _⟩ => ⟨S20992x8x2048, .f32⟩
  | .hbm, ⟨22, _⟩ => ⟨S_, .f32⟩
  | .hbm, ⟨23, _⟩ => ⟨S_, .f32⟩
  | .hbm, ⟨24, _⟩ => ⟨S20992x8x2048, .i1⟩
  | .hbm, ⟨25, _⟩ => ⟨S20992x8x2048, .f32⟩
  | .hbm, ⟨26, _⟩ => ⟨S20992x8x2048, .f32⟩
  | .hbm, ⟨27, _⟩ => ⟨S_, .f32⟩
  | .hbm, ⟨28, _⟩ => ⟨S20992x2048, .f32⟩
  | _, _ => ⟨S20992x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel4.lean ====
abbrev S8704x2048 : Shape := ⟨2, ![8704, 2048]⟩
abbrev S1x2048x3104 : Shape := ⟨3, ![1, 2048, 3104]⟩
abbrev S1x3104x2048 : Shape := ⟨3, ![1, 3104, 2048]⟩
abbrev S1x3072x2048 : Shape := ⟨3, ![1, 3072, 2048]⟩
abbrev S_ : Shape := ⟨0, ![]⟩
abbrev S8 : Shape := ⟨1, ![8]⟩
abbrev S1 : Shape := ⟨1, ![1]⟩
abbrev S8704x3072 : Shape := ⟨2, ![8704, 3072]⟩
abbrev S1088x2048 : Shape := ⟨2, ![1088, 2048]⟩
abbrev S1x1024x2048 : Shape := ⟨3, ![1, 1024, 2048]⟩
abbrev S1088x1024 : Shape := ⟨2, ![1088, 1024]⟩
abbrev S1024x2048 : Shape := ⟨2, ![1024, 2048]⟩
abbrev S8192x512 : Shape := ⟨2, ![8192, 512]⟩
abbrev S1x1x8192x8x64 : Shape := ⟨5, ![1, 1, 8192, 8, 64]⟩
abbrev S512x512 : Shape := ⟨2, ![512, 512]⟩
abbrev S1x32x16x8x64 : Shape := ⟨5, ![1, 32, 16, 8, 64]⟩

abbrev nBuf : Space → Nat
  | .hbm => 15
  | .vmem => 7
  | .smem => 2
  | _ => 0

abbrev bufTy : (tb : Table) → Fin (tcTables nBuf tb) → BufTy
  | .hbm, ⟨0, _⟩ => ⟨S8704x2048, .bf16⟩
  | .hbm, ⟨1, _⟩ => ⟨S1x2048x3104, .f32⟩
  | .hbm, ⟨2, _⟩ => ⟨S1x3104x2048, .f32⟩
  | .hbm, ⟨3, _⟩ => ⟨S1x3072x2048, .f32⟩
  | .hbm, ⟨4, _⟩ => ⟨S_, .i32⟩
  | .hbm, ⟨5, _⟩ => ⟨S_, .i32⟩
  | .hbm, ⟨6, _⟩ => ⟨S8704x3072, .f32⟩
  | .hbm, ⟨7, _⟩ => ⟨S8192x512, .f32⟩
  | .hbm, ⟨8, _⟩ => ⟨S1x1x8192x8x64, .f32⟩
  | .hbm, ⟨9, _⟩ => ⟨S8192x512, .f32⟩
  | .hbm, ⟨10, _⟩ => ⟨S1x1x8192x8x64, .f32⟩
  | .hbm, ⟨11, _⟩ => ⟨S512x512, .f32⟩
  | .hbm, ⟨12, _⟩ => ⟨S1x32x16x8x64, .f32⟩
  | .hbm, ⟨13, _⟩ => ⟨S512x512, .f32⟩
  | .hbm, ⟨14, _⟩ => ⟨S1x32x16x8x64, .f32⟩
  | .local _ .vmem, ⟨0, _⟩ => ⟨S1088x2048, .bf16⟩
  | .local _ .vmem, ⟨1, _⟩ => ⟨S1088x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1088x1024, .f32⟩
  | .local _ .vmem, ⟨5, _⟩ => ⟨S1088x1024, .f32⟩
  | .local _ .vmem, ⟨6, _⟩ => ⟨S1024x2048, .bf16⟩
  | .local _ .smem, ⟨0, _⟩ => ⟨S8, .i32⟩
  | .local _ .smem, ⟨1, _⟩ => ⟨S1, .i32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_c_0 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v2 : Ref sig .tc := ⟨.smem, 0, rfl⟩
abbrev main_v3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

abbrev pre0 : Pipeline.Prefetch sig := ⟨2, ![main_v2.idx, main_v3.idx], fun | 0 => main_v2.names | 1 => main_v3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v2 : BitVec 32 := Scalar.subi arg1 c1_i32
  let c0_i32 : BitVec 32 := 0#32
  let v3 : BitVec 32 := Scalar.maxsi v2 c0_i32
  let v4 : Index := Scalar.indexCast v3
  ![v4.toNat]
def k0_cond1 (i : grid0.Coords) (v9 : BitVec 32) : BitVec 1 :=
  let arg1 : BitVec 32 := BitVec.ofNat 32 (i 1).val
  let v10 : BitVec 1 := Scalar.cmpi .slt arg1 v9
  let v_true : BitVec 1 := 1#1
  let v11 : BitVec 1 := Scalar.xori v10 v_true
  let v12 : BitVec 32 := Scalar.extui v11
  let c0_i32_1 : BitVec 32 := 0#32
  let v13 : BitVec 1 := Scalar.cmpi .ne v12 c0_i32_1
  v13

def k0_cond3 (i : grid0.Coords) (v9 : BitVec 32) : BitVec 1 :=
  let arg1 : BitVec 32 := BitVec.ofNat 32 (i 1).val
  let v10 : BitVec 1 := Scalar.cmpi .slt arg1 v9
  let v16 : BitVec 32 := Scalar.extui v10
  let c0_i32_3 : BitVec 32 := 0#32
  let v17 : BitVec 1 := Scalar.cmpi .ne v16 c0_i32_3
  v17

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S8) ![v0.toNat] S1.size (k0_off1_inb i)) numel1_S1
  let c0_i32 : BitVec 32 := 0#32
  let c0_i32_0 : BitVec 32 := 0#32
  ![v1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8704x2048 : Shape := ⟨2, ![8704, 2048]⟩
abbrev S1x2048x3104 : Shape := ⟨3, ![1, 2048, 3104]⟩
abbrev S2048x3104 : Shape := ⟨2, ![2048, 3104]⟩
abbrev S8704x3104 : Shape := ⟨2, ![8704, 3104]⟩
abbrev S8704x512 : Shape := ⟨2, ![8704, 512]⟩
abbrev S8192x512 : Shape := ⟨2, ![8192, 512]⟩
abbrev S1x1x8192x8x64 : Shape := ⟨5, ![1, 1, 8192, 8, 64]⟩
abbrev S512x512 : Shape := ⟨2, ![512, 512]⟩
abbrev S1x32x16x8x64 : Shape := ⟨5, ![1, 32, 16, 8, 64]⟩

abbrev nBuf : Space → Nat
  | .hbm => 15
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S1x2048x3104, .f32⟩
  | .hbm, ⟨2, _⟩ => ⟨S8704x2048, .f32⟩
  | .hbm, ⟨3, _⟩ => ⟨S2048x3104, .f32⟩
  | .hbm, ⟨4, _⟩ => ⟨S8704x3104, .f32⟩
  | .hbm, ⟨5, _⟩ => ⟨S8704x512, .f32⟩
  | .hbm, ⟨6, _⟩ => ⟨S8704x512, .f32⟩
  | .hbm, ⟨7, _⟩ => ⟨S8192x512, .f32⟩
  | .hbm, ⟨8, _⟩ => ⟨S1x1x8192x8x64, .f32⟩
  | .hbm, ⟨9, _⟩ => ⟨S8192x512, .f32⟩
  | .hbm, ⟨10, _⟩ => ⟨S1x1x8192x8x64, .f32⟩
  | .hbm, ⟨11, _⟩ => ⟨S512x512, .f32⟩
  | .hbm, ⟨12, _⟩ => ⟨S1x32x16x8x64, .f32⟩
  | .hbm, ⟨13, _⟩ => ⟨S512x512, .f32⟩
  | .hbm, ⟨14, _⟩ => ⟨S1x32x16x8x64, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Kernel5.lean ====
abbrev S8704x2048 : Shape := ⟨2, ![8704, 2048]⟩
abbrev S1x2048x3104 : Shape := ⟨3, ![1, 2048, 3104]⟩
abbrev S1x32 : Shape := ⟨2, ![1, 32]⟩
abbrev S1x3104x2048 : Shape := ⟨3, ![1, 3104, 2048]⟩
abbrev S1x32x2048 : Shape := ⟨3, ![1, 32, 2048]⟩
abbrev S32x2048 : Shape := ⟨2, ![32, 2048]⟩
abbrev S_ : Shape := ⟨0, ![]⟩
abbrev S128x2048 : Shape := ⟨2, ![128, 2048]⟩
abbrev S32 : Shape := ⟨1, ![32]⟩
abbrev S128 : Shape := ⟨1, ![128]⟩
abbrev S1x128 : Shape := ⟨2, ![1, 128]⟩
abbrev S8192x128 : Shape := ⟨2, ![8192, 128]⟩
abbrev S256x2048 : Shape := ⟨2, ![256, 2048]⟩
abbrev S256x128 : Shape := ⟨2, ![256, 128]⟩
abbrev S256x256 : Shape := ⟨2, ![256, 256]⟩
abbrev S8192x32 : Shape := ⟨2, ![8192, 32]⟩
abbrev S1x1x8192x32 : Shape := ⟨4, ![1, 1, 8192, 32]⟩

abbrev nBuf : Space → Nat
  | .hbm => 20
  | .vmem => 11
  | .smem => 0
  | _ => 0

abbrev bufTy : (tb : Table) → Fin (tcTables nBuf tb) → BufTy
  | .hbm, ⟨0, _⟩ => ⟨S8704x2048, .bf16⟩
  | .hbm, ⟨1, _⟩ => ⟨S1x2048x3104, .f32⟩
  | .hbm, ⟨2, _⟩ => ⟨S1x32, .f32⟩
  | .hbm, ⟨3, _⟩ => ⟨S1x3104x2048, .f32⟩
  | .hbm, ⟨4, _⟩ => ⟨S1x32x2048, .f32⟩
  | .hbm, ⟨5, _⟩ => ⟨S32x2048, .f32⟩
  | .hbm, ⟨6, _⟩ => ⟨S_, .i32⟩
  | .hbm, ⟨7, _⟩ => ⟨S_, .f32⟩
  | .hbm, ⟨8, _⟩ => ⟨S128x2048, .f32⟩
  | .hbm, ⟨9, _⟩ => ⟨S32, .f32⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S_, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S8192x32, .f32⟩
  | .hbm, ⟨19, _⟩ => ⟨S1x1x8192x32, .f32⟩
  | .local _ .vmem, ⟨0, _⟩ => ⟨S256x2048, .bf16⟩
  | .local _ .vmem, ⟨1, _⟩ => ⟨S256x2048, .bf16⟩
  | .local _ .vmem, ⟨2, _⟩ => ⟨S128x2048, .f32⟩
  | .local _ .vmem, ⟨3, _⟩ => ⟨S1x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x128, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S8704x2048 : Shape := ⟨2, ![8704, 2048]⟩
abbrev S1x2048x3104 : Shape := ⟨3, ![1, 2048, 3104]⟩
abbrev S1x32 : Shape := ⟨2, ![1, 32]⟩
abbrev S2048x3104 : Shape := ⟨2, ![2048, 3104]⟩
abbrev S8704x3104 : Shape := ⟨2, ![8704, 3104]⟩
abbrev S8192x32 : Shape := ⟨2, ![8192, 32]⟩
abbrev S32 : Shape := ⟨1, ![32]⟩
abbrev S_ : Shape := ⟨0, ![]⟩
abbrev S1x1x8192x32 : Shape := ⟨4, ![1, 1, 8192, 32]⟩

abbrev nBuf : Space → Nat
  | .hbm => 28
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S1x2048x3104, .f32⟩
  | .hbm, ⟨2, _⟩ => ⟨S1x32, .f32⟩
  | .hbm, ⟨3, _⟩ => ⟨S8704x2048, .f32⟩
  | .hbm, ⟨4, _⟩ => ⟨S2048x3104, .f32⟩
  | .hbm, ⟨5, _⟩ => ⟨S8704x3104, .f32⟩
  | .hbm, ⟨6, _⟩ => ⟨S8192x32, .f32⟩
  | .hbm, ⟨7, _⟩ => ⟨S32, .f32⟩
  | .hbm, ⟨8, _⟩ => ⟨S1x32, .f32⟩
  | .hbm, ⟨9, _⟩ => ⟨S8192x32, .f32⟩
  | .hbm, ⟨10, _⟩ => ⟨S8192x32, .f32⟩
  | .hbm, ⟨11, _⟩ => ⟨S8192x32, .f32⟩
  | .hbm, ⟨12, _⟩ => ⟨S_, .f32⟩
  | .hbm, ⟨13, _⟩ => ⟨S8192x32, .f32⟩
  | .hbm, ⟨14, _⟩ => ⟨S8192x32, .f32⟩
  | .hbm, ⟨15, _⟩ => ⟨S8192x32, .f32⟩
  | .hbm, ⟨16, _⟩ => ⟨S8192x32, .f32⟩
  | .hbm, ⟨17, _⟩ => ⟨S8192x32, .i1⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S1x1x8192x32, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_v1 : Ref sig .tc := ⟨.hbm, 25, rfl⟩
abbrev main_v8 : Ref sig .tc := ⟨.hbm, 26, rfl⟩
abbrev main_v9 : Ref sig .tc := ⟨.hbm, 27, rfl⟩

abbrev nD : Nat := 1
abbrev τ : Topo := Topo.v7x

variable {F : FTy → Type} [FloatOps F]
-- ==== Kernel6.lean ====
abbrev S8704x2048 : Shape := ⟨2, ![8704, 2048]⟩
abbrev S1x2048x3104 : Shape := ⟨3, ![1, 2048, 3104]⟩
abbrev S1x32 : Shape := ⟨2, ![1, 32]⟩
abbrev S512x128 : Shape := ⟨2, ![512, 128]⟩
abbrev S1x3104x2048 : Shape := ⟨3, ![1, 3104, 2048]⟩
abbrev S1x32x2048 : Shape := ⟨3, ![1, 32, 2048]⟩
abbrev S32x2048 : Shape := ⟨2, ![32, 2048]⟩
abbrev S_ : Shape := ⟨0, ![]⟩
abbrev S128x2048 : Shape := ⟨2, ![128, 2048]⟩
abbrev S32 : Shape := ⟨1, ![32]⟩
abbrev S128 : Shape := ⟨1, ![128]⟩
abbrev S1x128 : Shape := ⟨2, ![1, 128]⟩
abbrev S256x2048 : Shape := ⟨2, ![256, 2048]⟩
abbrev S256x128 : Shape := ⟨2, ![256, 128]⟩
abbrev S256x256 : Shape := ⟨2, ![256, 256]⟩
abbrev S512x32 : Shape := ⟨2, ![512, 32]⟩
abbrev S1x32x16x32 : Shape := ⟨4, ![1, 32, 16, 32]⟩

abbrev nBuf : Space → Nat
  | .hbm => 19
  | .vmem => 11
  | .smem => 0
  | _ => 0

abbrev bufTy : (tb : Table) → Fin (tcTables nBuf tb) → BufTy
  | .hbm, ⟨0, _⟩ => ⟨S8704x2048, .bf16⟩
  | .hbm, ⟨1, _⟩ => ⟨S1x2048x3104, .f32⟩
  | .hbm, ⟨2, _⟩ => ⟨S1x32, .f32⟩
  | .hbm, ⟨3, _⟩ => ⟨S512x128, .f32⟩
  | .hbm, ⟨4, _⟩ => ⟨S1x3104x2048, .f32⟩
  | .hbm, ⟨5, _⟩ => ⟨S1x32x2048, .f32⟩
  | .hbm, ⟨6, _⟩ => ⟨S32x2048, .f32⟩
  | .hbm, ⟨7, _⟩ => ⟨S_, .i32⟩
  | .hbm, ⟨8, _⟩ => ⟨S_, .f32⟩
  | .hbm, ⟨9, _⟩ => ⟨S128x2048, .f32⟩
  | .hbm, ⟨10, _⟩ => ⟨S32, .f32⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S512x128, .f32⟩
  | .hbm, ⟨16, _⟩ => ⟨S512x128, .f32⟩
  | .hbm, ⟨17, _⟩ => ⟨S512x32, .f32⟩
  | .hbm, ⟨18, _⟩ => ⟨S1x32x16x32, .f32⟩
  | .local _ .vmem, ⟨0, _⟩ => ⟨S256x2048, .bf16⟩
  | .local _ .vmem, ⟨1, _⟩ => ⟨S256x2048, .bf16⟩
  | .local _ .vmem, ⟨2, _⟩ => ⟨S128x2048, .f32⟩
  | .local _ .vmem, ⟨3, _⟩ => ⟨S1x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x128, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S8704x2048 : Shape := ⟨2, ![8704, 2048]⟩
abbrev S1x2048x3104 : Shape := ⟨3, ![1, 2048, 3104]⟩
abbrev S1x32 : Shape := ⟨2, ![1, 32]⟩
abbrev S512x128 : Shape := ⟨2, ![512, 128]⟩
abbrev S2048x3104 : Shape := ⟨2, ![2048, 3104]⟩
abbrev S8704x3104 : Shape := ⟨2, ![8704, 3104]⟩
abbrev S512x32 : Shape := ⟨2, ![512, 32]⟩
abbrev S32 : Shape := ⟨1, ![32]⟩
abbrev S_ : Shape := ⟨0, ![]⟩
abbrev S1x32x16x32 : Shape := ⟨4, ![1, 32, 16, 32]⟩

abbrev nBuf : Space → Nat
  | .hbm => 29
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S1x2048x3104, .f32⟩
  | .hbm, ⟨2, _⟩ => ⟨S1x32, .f32⟩
  | .hbm, ⟨3, _⟩ => ⟨S512x128, .f32⟩
  | .hbm, ⟨4, _⟩ => ⟨S8704x2048, .f32⟩
  | .hbm, ⟨5, _⟩ => ⟨S2048x3104, .f32⟩
  | .hbm, ⟨6, _⟩ => ⟨S8704x3104, .f32⟩
  | .hbm, ⟨7, _⟩ => ⟨S512x32, .f32⟩
  | .hbm, ⟨8, _⟩ => ⟨S32, .f32⟩
  | .hbm, ⟨9, _⟩ => ⟨S1x32, .f32⟩
  | .hbm, ⟨10, _⟩ => ⟨S512x32, .f32⟩
  | .hbm, ⟨11, _⟩ => ⟨S512x32, .f32⟩
  | .hbm, ⟨12, _⟩ => ⟨S512x32, .f32⟩
  | .hbm, ⟨13, _⟩ => ⟨S_, .f32⟩
  | .hbm, ⟨14, _⟩ => ⟨S512x32, .f32⟩
  | .hbm, ⟨15, _⟩ => ⟨S512x32, .f32⟩
  | .hbm, ⟨16, _⟩ => ⟨S512x32, .f32⟩
  | .hbm, ⟨17, _⟩ => ⟨S512x32, .f32⟩
  | .hbm, ⟨18, _⟩ => ⟨S512x32, .i1⟩
  | .hbm, ⟨19, _⟩ => ⟨S512x32, .f32⟩
  | .hbm, ⟨20, _⟩ => ⟨S512x32, .f32⟩
  | .hbm, ⟨21, _⟩ => ⟨S512x32, .f32⟩
  | .hbm, ⟨22, _⟩ => ⟨S512x32, .f32⟩
  | .hbm, ⟨23, _⟩ => ⟨S512x32, .f32⟩
  | .hbm, ⟨24, _⟩ => ⟨S512x32, .f32⟩
  | .hbm, ⟨25, _⟩ => ⟨S512x32, .f32⟩
  | .hbm, ⟨26, _⟩ => ⟨S512x32, .f32⟩
  | .hbm, ⟨27, _⟩ => ⟨S512x32, .f32⟩
  | .hbm, ⟨28, _⟩ => ⟨S1x32x16x32, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1 : Ref sig .tc := ⟨.hbm, 26, rfl⟩
abbrev main_v8 : Ref sig .tc := ⟨.hbm, 27, rfl⟩
abbrev main_v9 : Ref sig .tc := ⟨.hbm, 28, rfl⟩

abbrev nD : Nat := 1
abbrev τ : Topo := Topo.v7x

variable {F : FTy → Type} [FloatOps F]
-- ==== Proof.Vocab.lean ====
module
public import proofs.«01_k».proof.Proof.Gen.KernelIdeal.Value

/-! The names this proof gives to what one pair of key heads is taken through: the stacked queries, their gates, the scores against a
block of keys, the running maximum, sum and weighted values after a block, and the columns written out at the end. They are over any
float family; the printed body is shown to be these below. -/

@[expose] public section
noncomputable section
namespace Cert.KernelIdeal.Att
open Idealize.ShloMosaic Idealize.ShloMosaic.TcCoe Idealize.SL.Sem
open Cert.KernelIdeal Cert.KernelIdeal.Gen
variable {F : FTy → Type} [FloatOps F]

/-- Where a lane of a tile is in its upper half. -/
def upper : IVec S16x128 1 := cmpi .sge (iota .tc S16x128 32 [1] iota_S16x128_d1_w32) (broadcast S16x128 64#32)

/-- The two halves of a tile exchanged. -/
def swap (x : Vec F S16x128 .f32) : FVec F S16x128 .f32 := dynamicRotate 1 64#32 none x rotates_S16x128_d1

/-- A tile's lower half scaled, its upper half zero. -/
def lowQ (x : Vec F S16x128 .f32) : FVec F S16x128 .bf16 :=
  truncf .bf16 (mulf (select (xori upper (constantI S16x128 1 1#1)) x (broadcast S16x128 (Scalar.ofBits .f32 0x00000000#32)))
    (broadcast S16x128 (Scalar.ofBits .f32 0x3E000000#32))) bitsLt_bf16_f32

/-- A tile's upper half scaled, its lower half zero. -/
def highQ (x : Vec F S16x128 .f32) : FVec F S16x128 .bf16 :=
  truncf .bf16 (mulf (select upper x (broadcast S16x128 (Scalar.ofBits .f32 0x00000000#32)))
    (broadcast S16x128 (Scalar.ofBits .f32 0x3E000000#32))) bitsLt_bf16_f32

/-- The eight query heads of a pair, stacked: each in the half of its own key head. -/
def qStack (a0 a1 a2 a3 : Vec F S16x128 .f32) : FVec F S1x128x128 .bf16 :=
  shapeCast S1x128x128 (concatenate S128x128 0 [⟨S16x128, lowQ a0⟩, ⟨S16x128, lowQ (swap a0)⟩, ⟨S16x128, lowQ a1⟩, ⟨S16x128, lowQ (swap a1)⟩,
    ⟨S16x128, highQ (swap a2)⟩, ⟨S16x128, highQ a2⟩, ⟨S16x128, highQ (swap a3)⟩, ⟨S16x128, highQ a3⟩]
    concatenates_S16x128_S16x128_S16x128_S16x128_S16x128_S16x128_S16x128_S16x128_S128x128_d0) shapeCasts_S128x128_S1x128x128

/-- One lane of a tile, in every lane. -/
def laneOf (w : BitVec 32) (x : Vec F S16x128 .f32) : FVec F S16x128 .f32 :=
  broadcastTo S16x128 (shapeCast S16x1 (shapeCast S16x1 (multiReduction .add [1] S16
    (select (cmpi .eq (iota .tc S16x128 32 [1] iota_S16x128_d1_w32) (broadcast S16x128 w)) (shapeCast S16x128 x shapeCasts_S16x128_S16x128)
      (broadcast S16x128 (Scalar.ofBits .f32 0x00000000#32))) 0x00000000#32 reduces_S16x128_S16 (.inl rfl) rfl) shapeCasts_S16_S16x1)
    shapeCasts_S16x1_S16x1) broadcasts_S16x1_S16x128

/-- The gates of a pair's eight query heads, stacked. -/
def fStack (w0 w1 w2 w3 w4 w5 w6 w7 : BitVec 32) (x : Vec F S16x128 .f32) : FVec F S1x128x128 .f32 :=
  shapeCast S1x128x128 (concatenate S128x128 0 [⟨S16x128, laneOf w0 x⟩, ⟨S16x128, laneOf w1 x⟩, ⟨S16x128, laneOf w2 x⟩, ⟨S16x128, laneOf w3 x⟩,
    ⟨S16x128, laneOf w4 x⟩, ⟨S16x128, laneOf w5 x⟩, ⟨S16x128, laneOf w6 x⟩, ⟨S16x128, laneOf w7 x⟩]
    concatenates_S16x128_S16x128_S16x128_S16x128_S16x128_S16x128_S16x128_S16x128_S128x128_d0) shapeCasts_S128x128_S1x128x128

/-- Two heads' blocks of the cache, stacked. -/
def kvPair (k0 k1 : Vec F S1x1x64x2048 .f32) : FVec F S128x2048 .bf16 :=
  truncf .bf16 (concatenate S128x2048 0 [⟨S64x2048, shapeCast S64x2048 k0 shapeCasts_S1x1x64x2048_S64x2048⟩,
    ⟨S64x2048, shapeCast S64x2048 k1 shapeCasts_S1x1x64x2048_S64x2048⟩] concatenates_S64x2048_S64x2048_S128x2048_d0) bitsLt_bf16_f32

/-- One key row of gates, for the sixteen rows of its head. -/
def keyRow (g : Vec F S1x2048 .f32) : FVec F S16x2048 .f32 :=
  broadcastTo S16x2048 (shapeCast S1x2048 (shapeCast S1x2048 g shapeCasts_S1x2048_S1x2048) shapeCasts_S1x2048_S1x2048) broadcasts_S1x2048_S16x2048

/-- A stack of lanes beside itself as wide as a block of keys. -/
def wide (v : FVec F S128x128 .f32) : FVec F S128x2048 .f32 :=
  concatenate S128x2048 1 [⟨S128x128, v⟩, ⟨S128x128, v⟩, ⟨S128x128, v⟩, ⟨S128x128, v⟩, ⟨S128x128, v⟩, ⟨S128x128, v⟩, ⟨S128x128, v⟩, ⟨S128x128, v⟩,
    ⟨S128x128, v⟩, ⟨S128x128, v⟩, ⟨S128x128, v⟩, ⟨S128x128, v⟩, ⟨S128x128, v⟩, ⟨S128x128, v⟩, ⟨S128x128, v⟩, ⟨S128x128, v⟩]
    concatenates_S128x128_S128x128_S128x128_S128x128_S128x128_S128x128_S128x128_S128x128_S128x128_S128x128_S128x128_S128x128_S128x128_S128x128_S128x128_S128x128_S128x2048_d1

/-- A stack without its leading axis. -/
def flat {e : EltTy} (x : Vec F S1x128x128 e) : Vec F S128x128 e := shapeCast S128x128 x shapeCasts_S1x128x128_S128x128

/-- A stack with its leading axis. -/
def lift (x : FVec F S128x128 .f32) : FVec F S1x128x128 .f32 := shapeCast S1x128x128 x shapeCasts_S128x128_S1x128x128

/-- A column in every lane. -/
def column (x : FVec F S128 .f32) : FVec F S128x128 .f32 :=
  broadcastTo S128x128 (shapeCast S128x1 x shapeCasts_S128_S128x1) broadcasts_S128x1_S128x128

/-- The scores against a block of cached keys. -/
def sPast (q : Vec F S1x128x128 .bf16) (f : Vec F S1x128x128 .f32) (k0 k1 : Vec F S1x1x64x2048 .f32)
    (g0 g1 g2 g3 g4 g5 g6 g7 : Vec F S1x2048 .f32) : FVec F S128x2048 .f32 :=
  addf (matmul dot_S128x128_S128x2048_S128x2048_1_0_0_1_n_n none (flat q) (kvPair k0 k1) (constant S128x2048 .f32 0x00000000#32))
    (subf (wide (flat f)) (concatenate S128x2048 0 [⟨S16x2048, keyRow g0⟩, ⟨S16x2048, keyRow g1⟩, ⟨S16x2048, keyRow g2⟩, ⟨S16x2048, keyRow g3⟩,
      ⟨S16x2048, keyRow g4⟩, ⟨S16x2048, keyRow g5⟩, ⟨S16x2048, keyRow g6⟩, ⟨S16x2048, keyRow g7⟩]
      concatenates_S16x2048_S16x2048_S16x2048_S16x2048_S16x2048_S16x2048_S16x2048_S16x2048_S128x2048_d0))

/-- The running maximum after a block of cached keys. -/
def topPast (s : FVec F S128x2048 .f32) (m : Vec F S1x128x128 .f32) : FVec F S128x128 .f32 :=
  maximumf (flat m) (column (multiReduction .maximumf [1] S128 s 0xFF800000#32 reduces_S128x2048_S128 (.inl rfl) rfl))

/-- The weights of a block of cached keys. -/
def wPast (s : FVec F S128x2048 .f32) (m : Vec F S1x128x128 .f32) : FVec F S128x2048 .f32 := exp (subf s (wide (topPast s m)))

def mPast (s : FVec F S128x2048 .f32) (m : Vec F S1x128x128 .f32) : FVec F S1x128x128 .f32 := lift (topPast s m)

def lPast (s : FVec F S128x2048 .f32) (m l : Vec F S1x128x128 .f32) : FVec F S1x128x128 .f32 :=
  lift (addf (mulf (exp (subf (flat m) (topPast s m))) (flat l))
    (column (multiReduction .add [1] S128 (wPast s m) 0x00000000#32 reduces_S128x2048_S128 (.inl rfl) rfl)))

def aPast (s : FVec F S128x2048 .f32) (v0 v1 : Vec F S1x1x64x2048 .f32) (m a : Vec F S1x128x128 .f32) : FVec F S1x128x128 .f32 :=
  lift (addf (mulf (exp (subf (flat m) (topPast s m))) (flat a))
    (matmul dot_S128x2048_S128x2048_S128x128_1_1_0_0_n_n none (truncf .bf16 (wPast s m) bitsLt_bf16_f32) (kvPair v0 v1) (constant S128x128 .f32 0x00000000#32)))

/-- One new key row of gates, for the sixteen rows of its head. -/
def keyRowN (g : Vec F S1x16 .f32) : FVec F S16x16 .f32 :=
  broadcastTo S16x16 (shapeCast S1x16 (shapeCast S1x16 g shapeCasts_S1x16_S1x16) shapeCasts_S1x16_S1x16) broadcasts_S1x16_S16x16

/-- The first sixteen lanes. -/
def narrow (x : FVec F S128x128 .f32) : FVec F S128x16 .f32 := extractStridedSlice S128x16 ![0, 0] x slices_S128x128_o0_0_S128x16

/-- Where a new key is no later than the row's own token. -/
def causal : IVec S128x16 1 :=
  cmpi .sle (iota .tc S128x16 32 [1] iota_S128x16_d1_w32) (andi (iota .tc S128x16 32 [0] iota_S128x16_d0_w32) (broadcast S128x16 15#32))

/-- The scores against the new keys, a later key masked. -/
def sNew (q : Vec F S1x128x128 .bf16) (f : Vec F S1x128x128 .f32) (k : Vec F S16x128 .f32)
    (g0 g1 g2 g3 g4 g5 g6 g7 : Vec F S1x16 .f32) : FVec F S128x16 .f32 :=
  select causal (addf (matmul dot_S128x128_S16x128_S128x16_1_1_0_0_n_n none (flat q) (truncf .bf16 k bitsLt_bf16_f32) (constant S128x16 .f32 0x00000000#32))
    (subf (narrow (flat f)) (concatenate S128x16 0 [⟨S16x16, keyRowN g0⟩, ⟨S16x16, keyRowN g1⟩, ⟨S16x16, keyRowN g2⟩, ⟨S16x16, keyRowN g3⟩,
      ⟨S16x16, keyRowN g4⟩, ⟨S16x16, keyRowN g5⟩, ⟨S16x16, keyRowN g6⟩, ⟨S16x16, keyRowN g7⟩]
      concatenates_S16x16_S16x16_S16x16_S16x16_S16x16_S16x16_S16x16_S16x16_S128x16_d0))) (broadcast S128x16 (Scalar.ofBits .f32 0xF149F2CA#32))

def topNew (s : FVec F S128x16 .f32) (m : Vec F S1x128x128 .f32) : FVec F S128x128 .f32 :=
  maximumf (flat m) (column (multiReduction .maximumf [1] S128 s 0xFF800000#32 reduces_S128x16_S128 (.inl rfl) rfl))

def wNew (s : FVec F S128x16 .f32) (m : Vec F S1x128x128 .f32) : FVec F S128x16 .f32 := exp (subf s (narrow (topNew s m)))

def lNew (s : FVec F S128x16 .f32) (m l : Vec F S1x128x128 .f32) : FVec F S1x128x128 .f32 :=
  lift (addf (mulf (exp (subf (flat m) (topNew s m))) (flat l))
    (column (multiReduction .add [1] S128 (wNew s m) 0x00000000#32 reduces_S128x16_S128 (.inl rfl) rfl)))

def aNew (s : FVec F S128x16 .f32) (v : Vec F S16x128 .f32) (m a : Vec F S1x128x128 .f32) : FVec F S1x128x128 .f32 :=
  lift (addf (mulf (exp (subf (flat m) (topNew s m))) (flat a))
    (matmul dot_S128x16_S16x128_S128x128_1_0_0_1_n_n none (truncf .bf16 (wNew s m) bitsLt_bf16_f32) (truncf .bf16 v bitsLt_bf16_f32) (constant S128x128 .f32 0x00000000#32)))

/-- The weighted values over their weights. -/
def quot (a l : Vec F S1x128x128 .f32) : FVec F S128x128 .f32 := divf (flat a) (flat l)

/-- Two heads beside each other, both from the lower half. -/
def lowPair (e o : Vec F S16x128 .f32) : FVec F S16x128 .bf16 := truncf .bf16 (select upper (swap o) e) bitsLt_bf16_f32

/-- Two heads beside each other, both from the upper half. -/
def highPair (e o : Vec F S16x128 .f32) : FVec F S16x128 .bf16 := truncf .bf16 (select upper o (swap e)) bitsLt_bf16_f32

def out0 (x : FVec F S128x128 .f32) : FVec F S16x128 .bf16 :=
  lowPair (extractStridedSlice S16x128 ![0, 0] x slices_S128x128_o0_0_S16x128) (extractStridedSlice S16x128 ![16, 0] x slices_S128x128_o16_0_S16x128)
def out1 (x : FVec F S128x128 .f32) : FVec F S16x128 .bf16 :=
  lowPair (extractStridedSlice S16x128 ![32, 0] x slices_S128x128_o32_0_S16x128) (extractStridedSlice S16x128 ![48, 0] x slices_S128x128_o48_0_S16x128)
def out2 (x : FVec F S128x128 .f32) : FVec F S16x128 .bf16 :=
  highPair (extractStridedSlice S16x128 ![64, 0] x slices_S128x128_o64_0_S16x128) (extractStridedSlice S16x128 ![80, 0] x slices_S128x128_o80_0_S16x128)
def out3 (x : FVec F S128x128 .f32) : FVec F S16x128 .bf16 :=
  highPair (extractStridedSlice S16x128 ![96, 0] x slices_S128x128_o96_0_S16x128) (extractStridedSlice S16x128 ![112, 0] x slices_S128x128_o112_0_S16x128)

/-- The running maximum, sum and weighted values before any key. -/
def m0 : FVec F S4x128x128 .f32 := k0_pay162
def l0 : FVec F S4x128x128 .f32 := k0_pay163
def a0 : FVec F S4x128x128 .f32 := k0_pay164

/-! The blocks a pair loads. -/

/-- Pair `p`'s slab of a scratch array. -/
def slab {e : EltTy} (x : Vec F S4x128x128 e) (p : ℕ) (hp : p < 4) : Vec F S1x128x128 e :=
  View.ld x (Rect.unit ![p, 0, 0] ![1, 128, 128] (by intro a; fin_cases a <;> simp <;> omega))

def qTile (x : Vec F S16x2048 .f32) (p t : ℕ) (hp : p < 4) (ht : t < 4) : Vec F S16x128 .f32 :=
  View.ld x (Rect.unit ![0, 512 * p + 128 * t] ![16, 128] (by intro a; fin_cases a <;> simp <;> omega))

def headBlock (x : Vec F S1x8x64x2048 .f32) (h : ℕ) (hh : h < 8) : Vec F S1x1x64x2048 .f32 :=
  View.ld x (Rect.unit ![0, h, 0, 0] ![1, 1, 64, 2048] (by intro a; fin_cases a <;> simp <;> omega))

def gateRow (x : Vec F S32x2048 .f32) (h : ℕ) (hh : h < 32) : Vec F S1x2048 .f32 :=
  View.ld x (Rect.unit ![h, 0] ![1, 2048] (by intro a; fin_cases a <;> simp <;> omega))

def gateRowN (x : Vec F S32x128 .f32) (h : ℕ) (hh : h < 32) : Vec F S1x16 .f32 :=
  View.ld x (Rect.unit ![h, 0] ![1, 16] (by intro a; fin_cases a <;> simp <;> omega))

def newTile (x : Vec F S16x512 .f32) (p : ℕ) (hp : p < 4) : Vec F S16x128 .f32 :=
  View.ld x (Rect.unit ![0, 128 * p] ![16, 128] (by intro a; fin_cases a <;> simp <;> omega))

/-- Pair `p`'s stacked queries. -/
def qP (x0 : Vec F S16x2048 .f32) (p : ℕ) (hp : p < 4) : FVec F S1x128x128 .bf16 :=
  qStack (qTile x0 p 0 hp (by omega)) (qTile x0 p 1 hp (by omega)) (qTile x0 p 2 hp (by omega)) (qTile x0 p 3 hp (by omega))

/-- Pair `p`'s stacked gates. -/
def fP (x5 : Vec F S16x128 .f32) (p : ℕ) : FVec F S1x128x128 .f32 :=
  fStack (BitVec.ofNat 32 (8 * p)) (BitVec.ofNat 32 (8 * p + 1)) (BitVec.ofNat 32 (8 * p + 2)) (BitVec.ofNat 32 (8 * p + 3))
    (BitVec.ofNat 32 (8 * p + 4)) (BitVec.ofNat 32 (8 * p + 5)) (BitVec.ofNat 32 (8 * p + 6)) (BitVec.ofNat 32 (8 * p + 7))
    (View.ld x5 (Rect.unit ![0, 0] ![16, 128] (by intro a; fin_cases a <;> simp)))

/-- Pair `p`'s scores against a block of cached keys, from its stacked queries and gates. -/
def sP (q : Vec F S1x128x128 .bf16) (f : Vec F S1x128x128 .f32) (x3 : Vec F S1x8x64x2048 .f32) (x6 : Vec F S32x2048 .f32) (p : ℕ) (hp : p < 4) :
    FVec F S128x2048 .f32 :=
  sPast q f (headBlock x3 (2 * p) (by omega)) (headBlock x3 (2 * p + 1) (by omega)) (gateRow x6 (8 * p) (by omega)) (gateRow x6 (8 * p + 1) (by omega))
    (gateRow x6 (8 * p + 2) (by omega)) (gateRow x6 (8 * p + 3) (by omega)) (gateRow x6 (8 * p + 4) (by omega)) (gateRow x6 (8 * p + 5) (by omega))
    (gateRow x6 (8 * p + 6) (by omega)) (gateRow x6 (8 * p + 7) (by omega))

/-- Pair `p`'s weighted values after a block of cached keys. -/
def aP (s : FVec F S128x2048 .f32) (x4 : Vec F S1x8x64x2048 .f32) (m a : Vec F S1x128x128 .f32) (p : ℕ) (hp : p < 4) : FVec F S1x128x128 .f32 :=
  aPast s (headBlock x4 (2 * p) (by omega)) (headBlock x4 (2 * p + 1) (by omega)) m a

/-- Pair `p`'s scores against the new keys. -/
def sN (q : Vec F S1x128x128 .bf16) (f : Vec F S1x128x128 .f32) (x1 : Vec F S16x512 .f32) (x7 : Vec F S32x128 .f32) (p : ℕ) (hp : p < 4) :
    FVec F S128x16 .f32 :=
  sNew q f (newTile x1 p hp) (gateRowN x7 (8 * p) (by omega)) (gateRowN x7 (8 * p + 1) (by omega))
    (gateRowN x7 (8 * p + 2) (by omega)) (gateRowN x7 (8 * p + 3) (by omega)) (gateRowN x7 (8 * p + 4) (by omega)) (gateRowN x7 (8 * p + 5) (by omega))
    (gateRowN x7 (8 * p + 6) (by omega)) (gateRowN x7 (8 * p + 7) (by omega))

/-- Pair `p`'s attention: the last block of cached keys, then the new keys, then the quotient. -/
def attP (q : Vec F S1x128x128 .bf16) (f m l a : Vec F S1x128x128 .f32) (x1 x2 : Vec F S16x512 .f32) (x3 x4 : Vec F S1x8x64x2048 .f32)
    (x6 : Vec F S32x2048 .f32) (x7 : Vec F S32x128 .f32) (p : ℕ) (hp : p < 4) : FVec F S128x128 .f32 :=
  quot (aNew (sN q f x1 x7 p hp) (newTile x2 p hp) (mPast (sP q f x3 x6 p hp) m) (aP (sP q f x3 x6 p hp) x4 m a p hp))
    (lNew (sN q f x1 x7 p hp) (mPast (sP q f x3 x6 p hp) m) (lPast (sP q f x3 x6 p hp) m l))

end Cert.KernelIdeal.Att
end
-- ==== Proof.Math.lean ====
module
public import proofs.«01_k».proof.Proof.Vocab
public import Idealize.ShloMosaic.Lib.Pointwise
public import Idealize.ShloMosaic.Lib.WordCmp

/-! What a pair of key heads is taken through, in real numbers: with real blocks every step is real, and the running sums stay the sums
of the weights times one factor per row. -/

@[expose] public section
noncomputable section
namespace Cert.KernelIdeal.Att
open Idealize.ShloMosaic Idealize.ShloMosaic.TcCoe Idealize.SL.Sem
open Cert.KernelIdeal Cert.KernelIdeal.Gen Idealize.ShloMosaic.WordCmp

/-- The scale of the queries. -/
def scale : ℝ := (Ideal.ofBits .f32 0x3E000000#32).toReal

/-- The score of a masked key. -/
def masked : ℝ := (Ideal.ofBits .f32 0xF149F2CA#32).toReal

theorem scale_eq : Ideal.ofBits .f32 0x3E000000#32 = (scale : EReal) := by
  refine (EReal.coe_toReal ?_ ?_).symm <;> simp [Ideal.ofBits, Ideal.ieee, -EReal.coe_mul, -EReal.coe_neg]

theorem masked_eq : Ideal.ofBits .f32 0xF149F2CA#32 = (masked : EReal) := by
  refine (EReal.coe_toReal ?_ ?_).symm <;> simp [Ideal.ofBits, Ideal.ieee, -EReal.coe_mul, -EReal.coe_neg]

theorem least_eq : Ideal.ofBits .f32 0xFF800000#32 = ⊥ := by simp [Ideal.ofBits, Ideal.ieee]

theorem lowQ_apply (x : Vec Ideal S16x128 .f32) (t : Fin 16) (d : Fin 128) :
    lowQ x (ix2 t d) = if d.val < 64 then x (ix2 t d) * (scale : EReal) else 0 := by
  pointwise [lowQ, upper]
  rw [scale_eq, cmpi_sge_ofNat (by omega) (by omega)]
  by_cases h : d.val < 64
  · rw [if_pos h, decide_eq_false (by omega)]; rfl
  · rw [if_neg h, decide_eq_true (by omega)]; rfl

theorem highQ_apply (x : Vec Ideal S16x128 .f32) (t : Fin 16) (d : Fin 128) :
    highQ x (ix2 t d) = if d.val < 64 then 0 else x (ix2 t d) * (scale : EReal) := by
  pointwise [highQ, upper]
  rw [scale_eq, cmpi_sge_ofNat (by omega) (by omega)]
  by_cases h : d.val < 64
  · rw [if_pos h, decide_eq_false (by omega)]; rfl
  · rw [if_neg h, decide_eq_true (by omega)]; rfl

theorem swap_apply (x : Vec Ideal S16x128 .f32) (t : Fin 16) (d : Fin 128) :
    swap x (ix2 t d) = x (ix2 t ⟨(d.val + 64) % 128, by omega⟩) := by
  pointwise [swap]
  have e : d.val + 128 - 64 = d.val + 64 := by omega
  simp only [e]

theorem laneOf_apply (x : Vec Ideal S16x128 .f32) (t : Fin 16) (d : Fin 128) (n : ℕ) (hn : n < 128) :
    laneOf (BitVec.ofNat 32 n) x (ix2 t d) = x (ix2 t ⟨n, hn⟩) := by
  pointwise [laneOf]
  rw [Finset.sum_eq_single ⟨n, hn⟩]
  · rw [cmpi_eq_ofNat (by omega) (by omega), decide_eq_true rfl]; rfl
  · intro b _ hb
    rw [cmpi_eq_ofNat (by omega) (by omega), decide_eq_false (fun h => hb (Fin.ext h))]; rfl
  · intro h; exact absurd (Finset.mem_univ _) h

theorem keyRow_apply (g : Vec Ideal S1x2048 .f32) (t : Fin 16) (k : Fin 2048) : keyRow g (ix2 t k) = g (ix2 0 k) := by
  pointwise [keyRow]

theorem keyRowN_apply (g : Vec Ideal S1x16 .f32) (t : Fin 16) (k : Fin 16) : keyRowN g (ix2 t k) = g (ix2 0 k) := by
  pointwise [keyRowN]

theorem wide_apply (v : FVec Ideal S128x128 .f32) (r : Fin 128) (y : EReal) (h : ∀ d : Fin 128, v (ix2 r d) = y) (k : Fin 2048) :
    wide v (ix2 r k) = y := by
  refine (concatenate_replicate_apply (s₁ := S128x128) (t := S128x2048) (1 : Fin 2) 16 v _ rfl (ix2 r k)
    (ix2 r ⟨k.val % 128, Nat.mod_lt _ (by omega)⟩) rfl ?_).trans (h _)
  intro b hb
  match b with
  | 0 => rfl
  | 1 => exact absurd rfl hb

theorem flat_apply {e : EltTy} (x : Vec Ideal S1x128x128 e) (r d : Fin 128) : flat x (ix2 r d) = x (ix3 0 r d) := by
  pointwise [flat]

theorem lift_apply (x : FVec Ideal S128x128 .f32) (r d : Fin 128) : lift x (ix3 0 r d) = x (ix2 r d) := by
  pointwise [lift]

theorem coe_max' (a b : ℝ) : max (a : EReal) (b : EReal) = ((max a b : ℝ) : EReal) := (EReal.coe_strictMono.monotone.map_max).symm

theorem fold_max_real {n : ℕ} (f : Fin n → ℝ) (s : Finset (Fin n)) :
    Finset.fold max (⊥ : EReal) (fun k => (f k : EReal)) s = ⊥ ∨ ∃ M : ℝ, Finset.fold max (⊥ : EReal) (fun k => (f k : EReal)) s = (M : EReal) := by
  classical
  induction s using Finset.induction_on with
  | empty => left; simp
  | insert a s ha ih =>
    right
    rw [Finset.fold_insert ha]
    rcases ih with h | ⟨M, h⟩
    · exact ⟨f a, by rw [h]; simp⟩
    · exact ⟨max (f a) M, by rw [h, coe_max']⟩

theorem max_fold_real {n : ℕ} (f : Fin n → ℝ) (μ : ℝ) :
    ∃ M : ℝ, max (μ : EReal) (Finset.fold max (⊥ : EReal) (fun k => (f k : EReal)) Finset.univ) = (M : EReal) := by
  rcases fold_max_real f Finset.univ with h | ⟨M, h⟩
  · exact ⟨μ, by rw [h]; simp⟩
  · exact ⟨max μ M, by rw [h, coe_max']⟩

/-- What a row's running maximum, sum and weighted values are, given the sum `L` and the weighted sums `A` of the weights so far. -/
def Row (m l a : Vec Ideal S1x128x128 .f32) (r : Fin 128) (L : ℝ) (A : Fin 128 → ℝ) : Prop :=
  ∃ μ : ℝ, ∀ d : Fin 128, m (ix3 0 r d) = (μ : EReal) ∧ l (ix3 0 r d) = ((L * Real.exp (-μ) : ℝ) : EReal) ∧
    a (ix3 0 r d) = ((A d * Real.exp (-μ) : ℝ) : EReal)

theorem coe_sum {n : ℕ} (f : Fin n → ℝ) : ∑ k, (f k : EReal) = ((∑ k, f k : ℝ) : EReal) := by
  induction n with
  | zero => simp
  | succ n ih => rw [Fin.sum_univ_succ, Fin.sum_univ_succ, ih, EReal.coe_add]

theorem step_sum {n : ℕ} (σ : Fin n → ℝ) (L μ M : ℝ) :
    Real.exp (μ - M) * (L * Real.exp (-μ)) + ∑ k, Real.exp (σ k - M) = (L + ∑ k, Real.exp (σ k)) * Real.exp (-M) := by
  rw [add_mul, Finset.sum_mul]
  congr 1
  · rw [mul_left_comm, ← Real.exp_add]; congr 2; ring
  · refine Finset.sum_congr rfl fun k _ => ?_
    rw [← Real.exp_add]; congr 1

theorem step_dot {n : ℕ} (σ v : Fin n → ℝ) (A μ M : ℝ) :
    Real.exp (μ - M) * (A * Real.exp (-μ)) + ∑ k, Real.exp (σ k - M) * v k = (A + ∑ k, Real.exp (σ k) * v k) * Real.exp (-M) := by
  rw [add_mul, Finset.sum_mul]
  congr 1
  · rw [mul_left_comm, ← Real.exp_add]; congr 2; ring
  · refine Finset.sum_congr rfl fun k _ => ?_
    rw [mul_right_comm, ← Real.exp_add]; congr 2

theorem row_past (s : FVec Ideal S128x2048 .f32) (v0 v1 : Vec Ideal S1x1x64x2048 .f32) (m l a : Vec Ideal S1x128x128 .f32) (r : Fin 128)
    (L : ℝ) (A : Fin 128 → ℝ) (σ : Fin 2048 → ℝ) (v : Fin 128 → Fin 2048 → ℝ) (h : Row m l a r L A)
    (hs : ∀ k, s (ix2 r k) = (σ k : EReal)) (hv : ∀ d k, kvPair v0 v1 (ix2 d k) = (v d k : EReal)) :
    Row (mPast s m) (lPast s m l) (aPast s v0 v1 m a) r (L + ∑ k, Real.exp (σ k)) (fun d => A d + ∑ k, Real.exp (σ k) * v d k) := by
  obtain ⟨μ, h⟩ := h
  obtain ⟨M, hM⟩ := max_fold_real σ μ
  have htop : ∀ d : Fin 128, topPast s m (ix2 r d) = (M : EReal) := fun d => by
    pointwise [topPast, flat, column]
    rw [(h d).1, least_eq, ← hM]
    simp only [hs]
  have hw : ∀ k, wPast s m (ix2 r k) = ((Real.exp (σ k - M) : ℝ) : EReal) := fun k => by
    show Ideal.exp (s (ix2 r k) - wide (topPast s m) (ix2 r k)) = _
    rw [wide_apply _ r _ htop, hs, ← EReal.coe_sub, Ideal.exp_coe]
  refine ⟨M, fun d => ⟨?_, ?_, ?_⟩⟩
  · rw [mPast, lift_apply, htop]
  · rw [lPast, lift_apply, ← step_sum σ L μ M]
    pointwise [column, flat]
    rw [htop, (h d).1, (h d).2.1]
    simp only [hw]
    rw [coe_sum, ← EReal.coe_sub, Ideal.exp_coe, ← EReal.coe_mul, ← EReal.coe_add]
  · rw [aPast, lift_apply, ← step_dot σ (v d) (A d) μ M]
    pointwise [flat]
    rw [htop, (h d).1, (h d).2.2]
    simp only [hw, hv, ← EReal.coe_mul]
    rw [coe_sum, ← EReal.coe_sub, Ideal.exp_coe, ← EReal.coe_mul, ← EReal.coe_add]

theorem row_new (s : FVec Ideal S128x16 .f32) (w : Vec Ideal S16x128 .f32) (m l a : Vec Ideal S1x128x128 .f32) (r : Fin 128)
    (L : ℝ) (A : Fin 128 → ℝ) (σ : Fin 16 → ℝ) (v : Fin 128 → Fin 16 → ℝ) (h : Row m l a r L A)
    (hs : ∀ k, s (ix2 r k) = (σ k : EReal)) (hv : ∀ d k, w (ix2 k d) = (v d k : EReal)) :
    ∃ M : ℝ, ∀ d : Fin 128, lNew s m l (ix3 0 r d) = (((L + ∑ k, Real.exp (σ k)) * Real.exp (-M) : ℝ) : EReal) ∧
      aNew s w m a (ix3 0 r d) = (((A d + ∑ k, Real.exp (σ k) * v d k) * Real.exp (-M) : ℝ) : EReal) := by
  obtain ⟨μ, h⟩ := h
  obtain ⟨M, hM⟩ := max_fold_real σ μ
  have htop : ∀ d : Fin 128, topNew s m (ix2 r d) = (M : EReal) := fun d => by
    pointwise [topNew, flat, column]
    rw [(h d).1, least_eq, ← hM]
    simp only [hs]
  have hw : ∀ k, wNew s m (ix2 r k) = ((Real.exp (σ k - M) : ℝ) : EReal) := fun k => by
    pointwise [wNew, narrow]
    rw [htop, hs, ← EReal.coe_sub, Ideal.exp_coe]
  refine ⟨M, fun d => ⟨?_, ?_⟩⟩
  · rw [lNew, lift_apply, ← step_sum σ L μ M]
    pointwise [column, flat]
    rw [htop, (h d).1, (h d).2.1]
    simp only [hw]
    rw [coe_sum, ← EReal.coe_sub, Ideal.exp_coe, ← EReal.coe_mul, ← EReal.coe_add]
  · rw [aNew, lift_apply, ← step_dot σ (v d) (A d) μ M]
    pointwise [flat]
    rw [htop, (h d).1, (h d).2.2]
    simp only [hw, hv, ← EReal.coe_mul]
    rw [coe_sum, ← EReal.coe_sub, Ideal.exp_coe, ← EReal.coe_mul, ← EReal.coe_add]

theorem quot_row (a l : Vec Ideal S1x128x128 .f32) (r d : Fin 128) (L A M : ℝ) (hL : 0 < L)
    (hl : l (ix3 0 r d) = ((L * Real.exp (-M) : ℝ) : EReal)) (ha : a (ix3 0 r d) = ((A * Real.exp (-M) : ℝ) : EReal)) :
    quot a l (ix2 r d) = ((A / L : ℝ) : EReal) := by
  pointwise [quot, flat]
  rw [hl, ha, Ideal.div_coe (mul_pos hL (Real.exp_pos _)).ne', ← EReal.coe_mul]
  congr 1
  have := Real.exp_pos (-M)
  field_simp

end Cert.KernelIdeal.Att
end
-- ==== Proof.Finite.lean ====
module
public import proofs.«01_k».proof.Pre_finite_inputs
public import proofs.«01_k».proof.Proof.Math
public import Idealize.ShloMosaic.Lib.ReduceAll

/-! The precondition, read back: every element of the four float arrays is a real number. -/

@[expose] public section
noncomputable section
namespace Cert.Pre_finite_inputs
open Idealize.ShloMosaic

instance facts : Facts where
  bcast_S_S8704x3072 := by decide
  reducesTo_S8704x3072_S_d0_1 := by decide
  h_S_ := by decide
  bcast_S_S1x32x4096x8x64 := by decide
  reducesTo_S1x32x4096x8x64_S_d0_1_2_3_4 := by decide
  bcast_S_S32x4112x32 := by decide
  reducesTo_S32x4112x32_S_d0_1_2 := by decide

instance : Subsingleton S_.Idx := ⟨fun a b => funext fun i => i.elim0⟩

theorem real_of_bounds (x : EReal) (h1 : Ideal.cmp .olt x (Ideal.ofBits .f32 0x7F800000#32) = 1#1) (h2 : Ideal.cmp .ogt x (Ideal.ofBits .f32 0xFF800000#32) = 1#1) :
    x = ((x.toReal : ℝ) : EReal) := by
  have t : Ideal.ofBits .f32 0x7F800000#32 = ⊤ := by simp [Ideal.ofBits, Ideal.ieee]
  rw [t] at h1
  rw [Cert.KernelIdeal.Att.least_eq] at h2
  refine (EReal.coe_toReal ?_ ?_).symm
  · rintro rfl
    simp [Ideal.cmp] at h1
  · rintro rfl
    simp [Ideal.cmp] at h2

theorem all_real {s : Shape} {axes : List (Fin s.rank)} (x : FVec Ideal s .f32) (hb : S_.BroadcastsInDim s (![] : Fin 0 → Fin s.rank)) (h : s.ReducesTo axes S_) (j : S_.Idx) (hu : 0 < S_.numel)
    (e : Host.reduce IntOp.andi (andi (cmpf .olt x (broadcastInDim s ![] hb (constant (F := Ideal) S_ .f32 0x7F800000#32)))
      (cmpf .ogt x (broadcastInDim s ![] hb (constant (F := Ideal) S_ .f32 0xFF800000#32)))) (constantI S_ 1 1#1) h hu j = 1#1) (i : s.Idx) :
    x i = (((x i : EReal).toReal : ℝ) : EReal) := by
  have := IntOp.andi_eq_one.1 (Host.reduce_andi_all _ _ h hu j e i)
  exact real_of_bounds _ this.1 this.2

theorem reals (a0 : FVec Ideal S8704x3072 .f32) (a1 a2 : FVec Ideal S1x32x4096x8x64 .f32) (a3 : FVec Ideal S32x4112x32 .f32) (a4 : FVec Ideal S8704x2048 .bf16)
    (h : fn (F := Ideal) a0 a1 a2 a3 a4 = fun _ => 1#1) :
    (∀ i, a0 i = (((a0 i : EReal).toReal : ℝ) : EReal)) ∧ (∀ i, a1 i = (((a1 i : EReal).toReal : ℝ) : EReal)) ∧
    (∀ i, a2 i = (((a2 i : EReal).toReal : ℝ) : EReal)) ∧ (∀ i, a3 i = (((a3 i : EReal).toReal : ℝ) : EReal)) := by
  have e := congrFun h (fun a => a.elim0)
  unfold fn fn_part1 at e
  obtain ⟨e, e3⟩ := IntOp.andi_eq_one.1 e
  obtain ⟨e, e2⟩ := IntOp.andi_eq_one.1 e
  obtain ⟨e0, e1⟩ := IntOp.andi_eq_one.1 e
  exact ⟨all_real a0 _ _ _ _ e0, all_real a1 _ _ _ _ e1, all_real a2 _ _ _ _ e2, all_real a3 _ _ _ _ e3⟩

end Cert.Pre_finite_inputs
end
-- ==== Proof.ReadA.lean ====
module
public import proofs.«01_k».proof.Proof.Vocab

/-! What the two cases of the body leave: the scratch after a sample's first block of keys, pair by pair, and the block written after its
last. -/

@[expose] public section
noncomputable section
namespace Cert.KernelIdeal.Att
open Idealize.ShloMosaic Idealize.ShloMosaic.TcCoe Idealize.SL.Sem
open Cert.KernelIdeal Cert.KernelIdeal.Gen
variable {F : FTy → Type} [FloatOps F]

theorem slab_disjoint {p q : ℕ} (h : p ≠ q) (hp : ∀ a, (![p,0,0] : Fin 3 → ℕ) a + (![1,128,128] : Fin 3 → ℕ) a ≤ S4x128x128.size a) (hq : ∀ a, (![q,0,0] : Fin 3 → ℕ) a + (![1,128,128] : Fin 3 → ℕ) a ≤ S4x128x128.size a) :
    Disjoint (Rect.unit (s := S4x128x128) ![p,0,0] ![1,128,128] hp).set (Rect.unit (s := S4x128x128) ![q,0,0] ![1,128,128] hq).set := by
  rw [Finset.disjoint_left]
  intro y h1 h2
  have a1 := Rect.mem_set_unit.1 h1 (0 : Fin 3)
  have a2 := Rect.mem_set_unit.1 h2 (0 : Fin 3)
  have e1 : p ≤ (y (0 : Fin 3)).val ∧ (y (0 : Fin 3)).val < p + 1 := a1
  have e2 : q ≤ (y (0 : Fin 3)).val ∧ (y (0 : Fin 3)).val < q + 1 := a2
  omega

theorem rc_miss {Val : EltTy → Type} [∀ e, Nonempty (Val e)] {sp : Space} {κ : Kind} {e : EltTy} (v : View sig κ sp S4x128x128 e) {p q : ℕ} (h : p ≠ q) (hp : ∀ a, (![p,0,0] : Fin 3 → ℕ) a + (![1,128,128] : Fin 3 → ℕ) a ≤ S4x128x128.size a) (hq : ∀ a, (![q,0,0] : Fin 3 → ℕ) a + (![1,128,128] : Fin 3 → ℕ) a ≤ S4x128x128.size a) (w) (L) :
    v.readCov (Val := Val) (⟨Rect.unit (s := S4x128x128) ![p,0,0] ![1,128,128] hp, w⟩ :: L) (Rect.unit (s := S4x128x128) ![q,0,0] ![1,128,128] hq).toLoadRect
     = v.readCov L (Rect.unit (s := S4x128x128) ![q,0,0] ![1,128,128] hq).toLoadRect :=
  View.readCov_cons_of_disjoint _ _ _ _ (slab_disjoint h hp hq)

theorem rc_full {Val : EltTy → Type} [∀ e, Nonempty (Val e)] {sp : Space} {κ : Kind} {e : EltTy} (v : View sig κ sp S4x128x128 e) {q : ℕ} (hp : ∀ a, (![0,0,0] : Fin 3 → ℕ) a + (![4,128,128] : Fin 3 → ℕ) a ≤ S4x128x128.size a) (hq : ∀ a, (![q,0,0] : Fin 3 → ℕ) a + (![1,128,128] : Fin 3 → ℕ) a ≤ S4x128x128.size a) (w : S4x128x128.Idx → Val e) :
    v.readCov (Val := Val) [⟨Rect.unit (s := S4x128x128) ![0,0,0] ![4,128,128] hp, w⟩] (Rect.unit (s := S4x128x128) ![q,0,0] ![1,128,128] hq).toLoadRect
     = View.ld w (Rect.unit (s := S4x128x128) ![q,0,0] ![1,128,128] hq) := by
  rw [View.readCov_eq_canon']
  have : View.canon [(⟨Rect.unit (s := S4x128x128) ![0,0,0] ![4,128,128] hp, w⟩ : View.Piece Val S4x128x128 e)] = w :=
    View.canon_unit_zero (S := S4x128x128) (off := ![0,0,0]) (by funext a; fin_cases a <;> rfl) hp w
  rw [this]

theorem ld_hit {Val : EltTy → Type} [∀ e, Nonempty (Val e)] {S : Shape} {e : EltTy} (r : Rect S) (w : r.shape.Idx → Val e) (L) :
    View.ld (View.canon (⟨r, w⟩ :: L)) r = w := by
  funext j; exact View.canon_cons_emb r w L j

theorem ld_miss {Val : EltTy → Type} [∀ e, Nonempty (Val e)] {e : EltTy} {p q : ℕ} (h : p ≠ q) (hp : ∀ a, (![p,0,0] : Fin 3 → ℕ) a + (![1,128,128] : Fin 3 → ℕ) a ≤ S4x128x128.size a) (hq : ∀ a, (![q,0,0] : Fin 3 → ℕ) a + (![1,128,128] : Fin 3 → ℕ) a ≤ S4x128x128.size a) (w) (L) :
    View.ld (View.canon (Val := Val) (e := e) (⟨Rect.unit (s := S4x128x128) ![p,0,0] ![1,128,128] hp, w⟩ :: L)) (Rect.unit (s := S4x128x128) ![q,0,0] ![1,128,128] hq)
     = View.ld (View.canon L) (Rect.unit (s := S4x128x128) ![q,0,0] ![1,128,128] hq) := by
  funext j
  exact View.canon_cons_of_not_mem _ _ fun hm =>
    Finset.disjoint_left.1 (slab_disjoint h hp hq) hm (by have := (Rect.unit (s := S4x128x128) ![q,0,0] ![1,128,128] hq).map_emb_univ; rw [← this]; exact Finset.mem_map_of_mem _ (Finset.mem_univ j))

set_option maxHeartbeats 4000000 in
/-- Pair 0's slab after a sample's first block of keys: the stacked queries. -/
theorem first_0_0 (c : Dev nD) (i : grid0.Coords) (arg2 : Memref sig .tc .vmem S16x2048 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S1x8x64x2048 .f32) (harg5 : arg5.IsWhole) (arg6 : Memref sig .tc .vmem S1x8x64x2048 .f32) (harg6 : arg6.IsWhole) (arg7 : Memref sig .tc .vmem S16x128 .f32) (harg7 : arg7.IsWhole) (arg8 : Memref sig .tc .vmem S32x2048 .f32) (harg8 : arg8.IsWhole) (arg9 : Memref sig .tc .vmem S32x128 .f32) (harg9 : arg9.IsWhole) (arg11 : Memref sig .tc .vmem S16x2048 .bf16) (harg11 : arg11.IsWhole) (arg12 : Memref sig .tc .vmem S4x128x128 .bf16) (harg12 : arg12.IsWhole) (arg13 : Memref sig .tc .vmem S4x128x128 .f32) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S4x128x128 .f32) (harg16 : arg16.IsWhole) (hc0 : cond0_0 i) (hc1 : ¬cond0_1 i)
    (x0 : Vec F S16x2048 .f32) (x1 : Vec F S16x512 .f32) (x2 : Vec F S16x512 .f32) (x3 : Vec F S1x8x64x2048 .f32) (x4 : Vec F S1x8x64x2048 .f32) (x5 : Vec F S16x128 .f32) (x6 : Vec F S32x2048 .f32) (x7 : Vec F S32x128 .f32) :
    slab (sout0_A_0 c i arg2 harg2 arg3 harg3 arg4 harg4 arg5 harg5 arg6 harg6 arg7 harg7 arg8 harg8 arg9 harg9 arg11 harg11 arg12 harg12 arg13 harg13 arg14 harg14 arg15 harg15 arg16 harg16 hc0 hc1 x0 x1 x2 x3 x4 x5 x6 x7) 0 (by omega) = qP x0 0 (by omega) := by
  unfold slab sout0_A_0 kernelRun0_A
  dsimp only
  sl_unfold_words
  simp only [View.read_writes_junk_eq_canon, View.readAt_eq_ld, Memref.IsWhole.read_unread, View.readCov_cons_toLoadRect, rc_miss, rc_full, ne_eq, Nat.reduceEqDiff, not_false_eq_true, OfNat.ofNat_ne_zero, OfNat.ofNat_ne_one, OfNat.zero_ne_ofNat, OfNat.one_ne_ofNat, one_ne_zero, zero_ne_one, ld_hit, ld_miss]
  rfl

set_option maxHeartbeats 4000000 in
/-- Pair 1's slab after a sample's first block of keys: the stacked queries. -/
theorem first_0_1 (c : Dev nD) (i : grid0.Coords) (arg2 : Memref sig .tc .vmem S16x2048 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S1x8x64x2048 .f32) (harg5 : arg5.IsWhole) (arg6 : Memref sig .tc .vmem S1x8x64x2048 .f32) (harg6 : arg6.IsWhole) (arg7 : Memref sig .tc .vmem S16x128 .f32) (harg7 : arg7.IsWhole) (arg8 : Memref sig .tc .vmem S32x2048 .f32) (harg8 : arg8.IsWhole) (arg9 : Memref sig .tc .vmem S32x128 .f32) (harg9 : arg9.IsWhole) (arg11 : Memref sig .tc .vmem S16x2048 .bf16) (harg11 : arg11.IsWhole) (arg12 : Memref sig .tc .vmem S4x128x128 .bf16) (harg12 : arg12.IsWhole) (arg13 : Memref sig .tc .vmem S4x128x128 .f32) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S4x128x128 .f32) (harg16 : arg16.IsWhole) (hc0 : cond0_0 i) (hc1 : ¬cond0_1 i)
    (x0 : Vec F S16x2048 .f32) (x1 : Vec F S16x512 .f32) (x2 : Vec F S16x512 .f32) (x3 : Vec F S1x8x64x2048 .f32) (x4 : Vec F S1x8x64x2048 .f32) (x5 : Vec F S16x128 .f32) (x6 : Vec F S32x2048 .f32) (x7 : Vec F S32x128 .f32) :
    slab (sout0_A_0 c i arg2 harg2 arg3 harg3 arg4 harg4 arg5 harg5 arg6 harg6 arg7 harg7 arg8 harg8 arg9 harg9 arg11 harg11 arg12 harg12 arg13 harg13 arg14 harg14 arg15 harg15 arg16 harg16 hc0 hc1 x0 x1 x2 x3 x4 x5 x6 x7) 1 (by omega) = qP x0 1 (by omega) := by
  unfold slab sout0_A_0 kernelRun0_A
  dsimp only
  sl_unfold_words
  simp only [View.read_writes_junk_eq_canon, View.readAt_eq_ld, Memref.IsWhole.read_unread, View.readCov_cons_toLoadRect, rc_miss, rc_full, ne_eq, Nat.reduceEqDiff, not_false_eq_true, OfNat.ofNat_ne_zero, OfNat.ofNat_ne_one, OfNat.zero_ne_ofNat, OfNat.one_ne_ofNat, one_ne_zero, zero_ne_one, ld_hit, ld_miss]
  rfl

set_option maxHeartbeats 4000000 in
/-- Pair 2's slab after a sample's first block of keys: the stacked queries. -/
theorem first_0_2 (c : Dev nD) (i : grid0.Coords) (arg2 : Memref sig .tc .vmem S16x2048 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S1x8x64x2048 .f32) (harg5 : arg5.IsWhole) (arg6 : Memref sig .tc .vmem S1x8x64x2048 .f32) (harg6 : arg6.IsWhole) (arg7 : Memref sig .tc .vmem S16x128 .f32) (harg7 : arg7.IsWhole) (arg8 : Memref sig .tc .vmem S32x2048 .f32) (harg8 : arg8.IsWhole) (arg9 : Memref sig .tc .vmem S32x128 .f32) (harg9 : arg9.IsWhole) (arg11 : Memref sig .tc .vmem S16x2048 .bf16) (harg11 : arg11.IsWhole) (arg12 : Memref sig .tc .vmem S4x128x128 .bf16) (harg12 : arg12.IsWhole) (arg13 : Memref sig .tc .vmem S4x128x128 .f32) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S4x128x128 .f32) (harg16 : arg16.IsWhole) (hc0 : cond0_0 i) (hc1 : ¬cond0_1 i)
    (x0 : Vec F S16x2048 .f32) (x1 : Vec F S16x512 .f32) (x2 : Vec F S16x512 .f32) (x3 : Vec F S1x8x64x2048 .f32) (x4 : Vec F S1x8x64x2048 .f32) (x5 : Vec F S16x128 .f32) (x6 : Vec F S32x2048 .f32) (x7 : Vec F S32x128 .f32) :
    slab (sout0_A_0 c i arg2 harg2 arg3 harg3 arg4 harg4 arg5 harg5 arg6 harg6 arg7 harg7 arg8 harg8 arg9 harg9 arg11 harg11 arg12 harg12 arg13 harg13 arg14 harg14 arg15 harg15 arg16 harg16 hc0 hc1 x0 x1 x2 x3 x4 x5 x6 x7) 2 (by omega) = qP x0 2 (by omega) := by
  unfold slab sout0_A_0 kernelRun0_A
  dsimp only
  sl_unfold_words
  simp only [View.read_writes_junk_eq_canon, View.readAt_eq_ld, Memref.IsWhole.read_unread, View.readCov_cons_toLoadRect, rc_miss, rc_full, ne_eq, Nat.reduceEqDiff, not_false_eq_true, OfNat.ofNat_ne_zero, OfNat.ofNat_ne_one, OfNat.zero_ne_ofNat, OfNat.one_ne_ofNat, one_ne_zero, zero_ne_one, ld_hit, ld_miss]
  rfl

set_option maxHeartbeats 4000000 in
/-- Pair 3's slab after a sample's first block of keys: the stacked queries. -/
theorem first_0_3 (c : Dev nD) (i : grid0.Coords) (arg2 : Memref sig .tc .vmem S16x2048 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S1x8x64x2048 .f32) (harg5 : arg5.IsWhole) (arg6 : Memref sig .tc .vmem S1x8x64x2048 .f32) (harg6 : arg6.IsWhole) (arg7 : Memref sig .tc .vmem S16x128 .f32) (harg7 : arg7.IsWhole) (arg8 : Memref sig .tc .vmem S32x2048 .f32) (harg8 : arg8.IsWhole) (arg9 : Memref sig .tc .vmem S32x128 .f32) (harg9 : arg9.IsWhole) (arg11 : Memref sig .tc .vmem S16x2048 .bf16) (harg11 : arg11.IsWhole) (arg12 : Memref sig .tc .vmem S4x128x128 .bf16) (harg12 : arg12.IsWhole) (arg13 : Memref sig .tc .vmem S4x128x128 .f32) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S4x128x128 .f32) (harg16 : arg16.IsWhole) (hc0 : cond0_0 i) (hc1 : ¬cond0_1 i)
    (x0 : Vec F S16x2048 .f32) (x1 : Vec F S16x512 .f32) (x2 : Vec F S16x512 .f32) (x3 : Vec F S1x8x64x2048 .f32) (x4 : Vec F S1x8x64x2048 .f32) (x5 : Vec F S16x128 .f32) (x6 : Vec F S32x2048 .f32) (x7 : Vec F S32x128 .f32) :
    slab (sout0_A_0 c i arg2 harg2 arg3 harg3 arg4 harg4 arg5 harg5 arg6 harg6 arg7 harg7 arg8 harg8 arg9 harg9 arg11 harg11 arg12 harg12 arg13 harg13 arg14 harg14 arg15 harg15 arg16 harg16 hc0 hc1 x0 x1 x2 x3 x4 x5 x6 x7) 3 (by omega) = qP x0 3 (by omega) := by
  unfold slab sout0_A_0 kernelRun0_A
  dsimp only
  sl_unfold_words
  simp only [View.read_writes_junk_eq_canon, View.readAt_eq_ld, Memref.IsWhole.read_unread, View.readCov_cons_toLoadRect, rc_miss, rc_full, ne_eq, Nat.reduceEqDiff, not_false_eq_true, OfNat.ofNat_ne_zero, OfNat.ofNat_ne_one, OfNat.zero_ne_ofNat, OfNat.one_ne_ofNat, one_ne_zero, zero_ne_one, ld_hit, ld_miss]
  rfl

set_option maxHeartbeats 4000000 in
/-- Pair 0's slab after a sample's first block of keys: the stacked gates. -/
theorem first_1_0 (c : Dev nD) (i : grid0.Coords) (arg2 : Memref sig .tc .vmem S16x2048 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S1x8x64x2048 .f32) (harg5 : arg5.IsWhole) (arg6 : Memref sig .tc .vmem S1x8x64x2048 .f32) (harg6 : arg6.IsWhole) (arg7 : Memref sig .tc .vmem S16x128 .f32) (harg7 : arg7.IsWhole) (arg8 : Memref sig .tc .vmem S32x2048 .f32) (harg8 : arg8.IsWhole) (arg9 : Memref sig .tc .vmem S32x128 .f32) (harg9 : arg9.IsWhole) (arg11 : Memref sig .tc .vmem S16x2048 .bf16) (harg11 : arg11.IsWhole) (arg12 : Memref sig .tc .vmem S4x128x128 .bf16) (harg12 : arg12.IsWhole) (arg13 : Memref sig .tc .vmem S4x128x128 .f32) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S4x128x128 .f32) (harg16 : arg16.IsWhole) (hc0 : cond0_0 i) (hc1 : ¬cond0_1 i)
    (x0 : Vec F S16x2048 .f32) (x1 : Vec F S16x512 .f32) (x2 : Vec F S16x512 .f32) (x3 : Vec F S1x8x64x2048 .f32) (x4 : Vec F S1x8x64x2048 .f32) (x5 : Vec F S16x128 .f32) (x6 : Vec F S32x2048 .f32) (x7 : Vec F S32x128 .f32) :
    slab (sout0_A_1 c i arg2 harg2 arg3 harg3 arg4 harg4 arg5 harg5 arg6 harg6 arg7 harg7 arg8 harg8 arg9 harg9 arg11 harg11 arg12 harg12 arg13 harg13 arg14 harg14 arg15 harg15 arg16 harg16 hc0 hc1 x0 x1 x2 x3 x4 x5 x6 x7) 0 (by omega) = fP x5 0 := by
  unfold slab sout0_A_1 kernelRun0_A
  dsimp only
  sl_unfold_words
  simp only [View.read_writes_junk_eq_canon, View.readAt_eq_ld, Memref.IsWhole.read_unread, View.readCov_cons_toLoadRect, rc_miss, rc_full, ne_eq, Nat.reduceEqDiff, not_false_eq_true, OfNat.ofNat_ne_zero, OfNat.ofNat_ne_one, OfNat.zero_ne_ofNat, OfNat.one_ne_ofNat, one_ne_zero, zero_ne_one, ld_hit, ld_miss]
  rfl

set_option maxHeartbeats 4000000 in
/-- Pair 1's slab after a sample's first block of keys: the stacked gates. -/
theorem first_1_1 (c : Dev nD) (i : grid0.Coords) (arg2 : Memref sig .tc .vmem S16x2048 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S1x8x64x2048 .f32) (harg5 : arg5.IsWhole) (arg6 : Memref sig .tc .vmem S1x8x64x2048 .f32) (harg6 : arg6.IsWhole) (arg7 : Memref sig .tc .vmem S16x128 .f32) (harg7 : arg7.IsWhole) (arg8 : Memref sig .tc .vmem S32x2048 .f32) (harg8 : arg8.IsWhole) (arg9 : Memref sig .tc .vmem S32x128 .f32) (harg9 : arg9.IsWhole) (arg11 : Memref sig .tc .vmem S16x2048 .bf16) (harg11 : arg11.IsWhole) (arg12 : Memref sig .tc .vmem S4x128x128 .bf16) (harg12 : arg12.IsWhole) (arg13 : Memref sig .tc .vmem S4x128x128 .f32) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S4x128x128 .f32) (harg16 : arg16.IsWhole) (hc0 : cond0_0 i) (hc1 : ¬cond0_1 i)
    (x0 : Vec F S16x2048 .f32) (x1 : Vec F S16x512 .f32) (x2 : Vec F S16x512 .f32) (x3 : Vec F S1x8x64x2048 .f32) (x4 : Vec F S1x8x64x2048 .f32) (x5 : Vec F S16x128 .f32) (x6 : Vec F S32x2048 .f32) (x7 : Vec F S32x128 .f32) :
    slab (sout0_A_1 c i arg2 harg2 arg3 harg3 arg4 harg4 arg5 harg5 arg6 harg6 arg7 harg7 arg8 harg8 arg9 harg9 arg11 harg11 arg12 harg12 arg13 harg13 arg14 harg14 arg15 harg15 arg16 harg16 hc0 hc1 x0 x1 x2 x3 x4 x5 x6 x7) 1 (by omega) = fP x5 1 := by
  unfold slab sout0_A_1 kernelRun0_A
  dsimp only
  sl_unfold_words
  simp only [View.read_writes_junk_eq_canon, View.readAt_eq_ld, Memref.IsWhole.read_unread, View.readCov_cons_toLoadRect, rc_miss, rc_full, ne_eq, Nat.reduceEqDiff, not_false_eq_true, OfNat.ofNat_ne_zero, OfNat.ofNat_ne_one, OfNat.zero_ne_ofNat, OfNat.one_ne_ofNat, one_ne_zero, zero_ne_one, ld_hit, ld_miss]
  rfl

set_option maxHeartbeats 4000000 in
/-- Pair 2's slab after a sample's first block of keys: the stacked gates. -/
theorem first_1_2 (c : Dev nD) (i : grid0.Coords) (arg2 : Memref sig .tc .vmem S16x2048 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S1x8x64x2048 .f32) (harg5 : arg5.IsWhole) (arg6 : Memref sig .tc .vmem S1x8x64x2048 .f32) (harg6 : arg6.IsWhole) (arg7 : Memref sig .tc .vmem S16x128 .f32) (harg7 : arg7.IsWhole) (arg8 : Memref sig .tc .vmem S32x2048 .f32) (harg8 : arg8.IsWhole) (arg9 : Memref sig .tc .vmem S32x128 .f32) (harg9 : arg9.IsWhole) (arg11 : Memref sig .tc .vmem S16x2048 .bf16) (harg11 : arg11.IsWhole) (arg12 : Memref sig .tc .vmem S4x128x128 .bf16) (harg12 : arg12.IsWhole) (arg13 : Memref sig .tc .vmem S4x128x128 .f32) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S4x128x128 .f32) (harg16 : arg16.IsWhole) (hc0 : cond0_0 i) (hc1 : ¬cond0_1 i)
    (x0 : Vec F S16x2048 .f32) (x1 : Vec F S16x512 .f32) (x2 : Vec F S16x512 .f32) (x3 : Vec F S1x8x64x2048 .f32) (x4 : Vec F S1x8x64x2048 .f32) (x5 : Vec F S16x128 .f32) (x6 : Vec F S32x2048 .f32) (x7 : Vec F S32x128 .f32) :
    slab (sout0_A_1 c i arg2 harg2 arg3 harg3 arg4 harg4 arg5 harg5 arg6 harg6 arg7 harg7 arg8 harg8 arg9 harg9 arg11 harg11 arg12 harg12 arg13 harg13 arg14 harg14 arg15 harg15 arg16 harg16 hc0 hc1 x0 x1 x2 x3 x4 x5 x6 x7) 2 (by omega) = fP x5 2 := by
  unfold slab sout0_A_1 kernelRun0_A
  dsimp only
  sl_unfold_words
  simp only [View.read_writes_junk_eq_canon, View.readAt_eq_ld, Memref.IsWhole.read_unread, View.readCov_cons_toLoadRect, rc_miss, rc_full, ne_eq, Nat.reduceEqDiff, not_false_eq_true, OfNat.ofNat_ne_zero, OfNat.ofNat_ne_one, OfNat.zero_ne_ofNat, OfNat.one_ne_ofNat, one_ne_zero, zero_ne_one, ld_hit, ld_miss]
  rfl

set_option maxHeartbeats 4000000 in
/-- Pair 3's slab after a sample's first block of keys: the stacked gates. -/
theorem first_1_3 (c : Dev nD) (i : grid0.Coords) (arg2 : Memref sig .tc .vmem S16x2048 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S1x8x64x2048 .f32) (harg5 : arg5.IsWhole) (arg6 : Memref sig .tc .vmem S1x8x64x2048 .f32) (harg6 : arg6.IsWhole) (arg7 : Memref sig .tc .vmem S16x128 .f32) (harg7 : arg7.IsWhole) (arg8 : Memref sig .tc .vmem S32x2048 .f32) (harg8 : arg8.IsWhole) (arg9 : Memref sig .tc .vmem S32x128 .f32) (harg9 : arg9.IsWhole) (arg11 : Memref sig .tc .vmem S16x2048 .bf16) (harg11 : arg11.IsWhole) (arg12 : Memref sig .tc .vmem S4x128x128 .bf16) (harg12 : arg12.IsWhole) (arg13 : Memref sig .tc .vmem S4x128x128 .f32) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S4x128x128 .f32) (harg16 : arg16.IsWhole) (hc0 : cond0_0 i) (hc1 : ¬cond0_1 i)
    (x0 : Vec F S16x2048 .f32) (x1 : Vec F S16x512 .f32) (x2 : Vec F S16x512 .f32) (x3 : Vec F S1x8x64x2048 .f32) (x4 : Vec F S1x8x64x2048 .f32) (x5 : Vec F S16x128 .f32) (x6 : Vec F S32x2048 .f32) (x7 : Vec F S32x128 .f32) :
    slab (sout0_A_1 c i arg2 harg2 arg3 harg3 arg4 harg4 arg5 harg5 arg6 harg6 arg7 harg7 arg8 harg8 arg9 harg9 arg11 harg11 arg12 harg12 arg13 harg13 arg14 harg14 arg15 harg15 arg16 harg16 hc0 hc1 x0 x1 x2 x3 x4 x5 x6 x7) 3 (by omega) = fP x5 3 := by
  unfold slab sout0_A_1 kernelRun0_A
  dsimp only
  sl_unfold_words
  simp only [View.read_writes_junk_eq_canon, View.readAt_eq_ld, Memref.IsWhole.read_unread, View.readCov_cons_toLoadRect, rc_miss, rc_full, ne_eq, Nat.reduceEqDiff, not_false_eq_true, OfNat.ofNat_ne_zero, OfNat.ofNat_ne_one, OfNat.zero_ne_ofNat, OfNat.one_ne_ofNat, one_ne_zero, zero_ne_one, ld_hit, ld_miss]
  rfl

set_option maxHeartbeats 4000000 in
/-- Pair 0's slab after a sample's first block of keys: the running maximum. -/
theorem first_2_0 (c : Dev nD) (i : grid0.Coords) (arg2 : Memref sig .tc .vmem S16x2048 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S1x8x64x2048 .f32) (harg5 : arg5.IsWhole) (arg6 : Memref sig .tc .vmem S1x8x64x2048 .f32) (harg6 : arg6.IsWhole) (arg7 : Memref sig .tc .vmem S16x128 .f32) (harg7 : arg7.IsWhole) (arg8 : Memref sig .tc .vmem S32x2048 .f32) (harg8 : arg8.IsWhole) (arg9 : Memref sig .tc .vmem S32x128 .f32) (harg9 : arg9.IsWhole) (arg11 : Memref sig .tc .vmem S16x2048 .bf16) (harg11 : arg11.IsWhole) (arg12 : Memref sig .tc .vmem S4x128x128 .bf16) (harg12 : arg12.IsWhole) (arg13 : Memref sig .tc .vmem S4x128x128 .f32) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S4x128x128 .f32) (harg16 : arg16.IsWhole) (hc0 : cond0_0 i) (hc1 : ¬cond0_1 i)
    (x0 : Vec F S16x2048 .f32) (x1 : Vec F S16x512 .f32) (x2 : Vec F S16x512 .f32) (x3 : Vec F S1x8x64x2048 .f32) (x4 : Vec F S1x8x64x2048 .f32) (x5 : Vec F S16x128 .f32) (x6 : Vec F S32x2048 .f32) (x7 : Vec F S32x128 .f32) :
    slab (sout0_A_2 c i arg2 harg2 arg3 harg3 arg4 harg4 arg5 harg5 arg6 harg6 arg7 harg7 arg8 harg8 arg9 harg9 arg11 harg11 arg12 harg12 arg13 harg13 arg14 harg14 arg15 harg15 arg16 harg16 hc0 hc1 x0 x1 x2 x3 x4 x5 x6 x7) 0 (by omega) = mPast (sP (qP x0 0 (by omega)) (fP x5 0) x3 x6 0 (by omega)) (slab m0 0 (by omega)) := by
  unfold slab sout0_A_2 kernelRun0_A
  dsimp only
  sl_unfold_words
  simp only [View.read_writes_junk_eq_canon, View.readAt_eq_ld, Memref.IsWhole.read_unread, View.readCov_cons_toLoadRect, rc_miss, rc_full, ne_eq, Nat.reduceEqDiff, not_false_eq_true, OfNat.ofNat_ne_zero, OfNat.ofNat_ne_one, OfNat.zero_ne_ofNat, OfNat.one_ne_ofNat, one_ne_zero, zero_ne_one, ld_hit, ld_miss]
  rfl

set_option maxHeartbeats 4000000 in
/-- Pair 1's slab after a sample's first block of keys: the running maximum. -/
theorem first_2_1 (c : Dev nD) (i : grid0.Coords) (arg2 : Memref sig .tc .vmem S16x2048 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S1x8x64x2048 .f32) (harg5 : arg5.IsWhole) (arg6 : Memref sig .tc .vmem S1x8x64x2048 .f32) (harg6 : arg6.IsWhole) (arg7 : Memref sig .tc .vmem S16x128 .f32) (harg7 : arg7.IsWhole) (arg8 : Memref sig .tc .vmem S32x2048 .f32) (harg8 : arg8.IsWhole) (arg9 : Memref sig .tc .vmem S32x128 .f32) (harg9 : arg9.IsWhole) (arg11 : Memref sig .tc .vmem S16x2048 .bf16) (harg11 : arg11.IsWhole) (arg12 : Memref sig .tc .vmem S4x128x128 .bf16) (harg12 : arg12.IsWhole) (arg13 : Memref sig .tc .vmem S4x128x128 .f32) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S4x128x128 .f32) (harg16 : arg16.IsWhole) (hc0 : cond0_0 i) (hc1 : ¬cond0_1 i)
    (x0 : Vec F S16x2048 .f32) (x1 : Vec F S16x512 .f32) (x2 : Vec F S16x512 .f32) (x3 : Vec F S1x8x64x2048 .f32) (x4 : Vec F S1x8x64x2048 .f32) (x5 : Vec F S16x128 .f32) (x6 : Vec F S32x2048 .f32) (x7 : Vec F S32x128 .f32) :
    slab (sout0_A_2 c i arg2 harg2 arg3 harg3 arg4 harg4 arg5 harg5 arg6 harg6 arg7 harg7 arg8 harg8 arg9 harg9 arg11 harg11 arg12 harg12 arg13 harg13 arg14 harg14 arg15 harg15 arg16 harg16 hc0 hc1 x0 x1 x2 x3 x4 x5 x6 x7) 1 (by omega) = mPast (sP (qP x0 1 (by omega)) (fP x5 1) x3 x6 1 (by omega)) (slab m0 1 (by omega)) := by
  unfold slab sout0_A_2 kernelRun0_A
  dsimp only
  sl_unfold_words
  simp only [View.read_writes_junk_eq_canon, View.readAt_eq_ld, Memref.IsWhole.read_unread, View.readCov_cons_toLoadRect, rc_miss, rc_full, ne_eq, Nat.reduceEqDiff, not_false_eq_true, OfNat.ofNat_ne_zero, OfNat.ofNat_ne_one, OfNat.zero_ne_ofNat, OfNat.one_ne_ofNat, one_ne_zero, zero_ne_one, ld_hit, ld_miss]
  rfl

set_option maxHeartbeats 4000000 in
/-- Pair 2's slab after a sample's first block of keys: the running maximum. -/
theorem first_2_2 (c : Dev nD) (i : grid0.Coords) (arg2 : Memref sig .tc .vmem S16x2048 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S1x8x64x2048 .f32) (harg5 : arg5.IsWhole) (arg6 : Memref sig .tc .vmem S1x8x64x2048 .f32) (harg6 : arg6.IsWhole) (arg7 : Memref sig .tc .vmem S16x128 .f32) (harg7 : arg7.IsWhole) (arg8 : Memref sig .tc .vmem S32x2048 .f32) (harg8 : arg8.IsWhole) (arg9 : Memref sig .tc .vmem S32x128 .f32) (harg9 : arg9.IsWhole) (arg11 : Memref sig .tc .vmem S16x2048 .bf16) (harg11 : arg11.IsWhole) (arg12 : Memref sig .tc .vmem S4x128x128 .bf16) (harg12 : arg12.IsWhole) (arg13 : Memref sig .tc .vmem S4x128x128 .f32) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S4x128x128 .f32) (harg16 : arg16.IsWhole) (hc0 : cond0_0 i) (hc1 : ¬cond0_1 i)
    (x0 : Vec F S16x2048 .f32) (x1 : Vec F S16x512 .f32) (x2 : Vec F S16x512 .f32) (x3 : Vec F S1x8x64x2048 .f32) (x4 : Vec F S1x8x64x2048 .f32) (x5 : Vec F S16x128 .f32) (x6 : Vec F S32x2048 .f32) (x7 : Vec F S32x128 .f32) :
    slab (sout0_A_2 c i arg2 harg2 arg3 harg3 arg4 harg4 arg5 harg5 arg6 harg6 arg7 harg7 arg8 harg8 arg9 harg9 arg11 harg11 arg12 harg12 arg13 harg13 arg14 harg14 arg15 harg15 arg16 harg16 hc0 hc1 x0 x1 x2 x3 x4 x5 x6 x7) 2 (by omega) = mPast (sP (qP x0 2 (by omega)) (fP x5 2) x3 x6 2 (by omega)) (slab m0 2 (by omega)) := by
  unfold slab sout0_A_2 kernelRun0_A
  dsimp only
  sl_unfold_words
  simp only [View.read_writes_junk_eq_canon, View.readAt_eq_ld, Memref.IsWhole.read_unread, View.readCov_cons_toLoadRect, rc_miss, rc_full, ne_eq, Nat.reduceEqDiff, not_false_eq_true, OfNat.ofNat_ne_zero, OfNat.ofNat_ne_one, OfNat.zero_ne_ofNat, OfNat.one_ne_ofNat, one_ne_zero, zero_ne_one, ld_hit, ld_miss]
  rfl

set_option maxHeartbeats 4000000 in
/-- Pair 3's slab after a sample's first block of keys: the running maximum. -/
theorem first_2_3 (c : Dev nD) (i : grid0.Coords) (arg2 : Memref sig .tc .vmem S16x2048 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S1x8x64x2048 .f32) (harg5 : arg5.IsWhole) (arg6 : Memref sig .tc .vmem S1x8x64x2048 .f32) (harg6 : arg6.IsWhole) (arg7 : Memref sig .tc .vmem S16x128 .f32) (harg7 : arg7.IsWhole) (arg8 : Memref sig .tc .vmem S32x2048 .f32) (harg8 : arg8.IsWhole) (arg9 : Memref sig .tc .vmem S32x128 .f32) (harg9 : arg9.IsWhole) (arg11 : Memref sig .tc .vmem S16x2048 .bf16) (harg11 : arg11.IsWhole) (arg12 : Memref sig .tc .vmem S4x128x128 .bf16) (harg12 : arg12.IsWhole) (arg13 : Memref sig .tc .vmem S4x128x128 .f32) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S4x128x128 .f32) (harg16 : arg16.IsWhole) (hc0 : cond0_0 i) (hc1 : ¬cond0_1 i)
    (x0 : Vec F S16x2048 .f32) (x1 : Vec F S16x512 .f32) (x2 : Vec F S16x512 .f32) (x3 : Vec F S1x8x64x2048 .f32) (x4 : Vec F S1x8x64x2048 .f32) (x5 : Vec F S16x128 .f32) (x6 : Vec F S32x2048 .f32) (x7 : Vec F S32x128 .f32) :
    slab (sout0_A_2 c i arg2 harg2 arg3 harg3 arg4 harg4 arg5 harg5 arg6 harg6 arg7 harg7 arg8 harg8 arg9 harg9 arg11 harg11 arg12 harg12 arg13 harg13 arg14 harg14 arg15 harg15 arg16 harg16 hc0 hc1 x0 x1 x2 x3 x4 x5 x6 x7) 3 (by omega) = mPast (sP (qP x0 3 (by omega)) (fP x5 3) x3 x6 3 (by omega)) (slab m0 3 (by omega)) := by
  unfold slab sout0_A_2 kernelRun0_A
  dsimp only
  sl_unfold_words
  simp only [View.read_writes_junk_eq_canon, View.readAt_eq_ld, Memref.IsWhole.read_unread, View.readCov_cons_toLoadRect, rc_miss, rc_full, ne_eq, Nat.reduceEqDiff, not_false_eq_true, OfNat.ofNat_ne_zero, OfNat.ofNat_ne_one, OfNat.zero_ne_ofNat, OfNat.one_ne_ofNat, one_ne_zero, zero_ne_one, ld_hit, ld_miss]
  rfl

set_option maxHeartbeats 4000000 in
/-- Pair 0's slab after a sample's first block of keys: the running sum. -/
theorem first_3_0 (c : Dev nD) (i : grid0.Coords) (arg2 : Memref sig .tc .vmem S16x2048 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S1x8x64x2048 .f32) (harg5 : arg5.IsWhole) (arg6 : Memref sig .tc .vmem S1x8x64x2048 .f32) (harg6 : arg6.IsWhole) (arg7 : Memref sig .tc .vmem S16x128 .f32) (harg7 : arg7.IsWhole) (arg8 : Memref sig .tc .vmem S32x2048 .f32) (harg8 : arg8.IsWhole) (arg9 : Memref sig .tc .vmem S32x128 .f32) (harg9 : arg9.IsWhole) (arg11 : Memref sig .tc .vmem S16x2048 .bf16) (harg11 : arg11.IsWhole) (arg12 : Memref sig .tc .vmem S4x128x128 .bf16) (harg12 : arg12.IsWhole) (arg13 : Memref sig .tc .vmem S4x128x128 .f32) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S4x128x128 .f32) (harg16 : arg16.IsWhole) (hc0 : cond0_0 i) (hc1 : ¬cond0_1 i)
    (x0 : Vec F S16x2048 .f32) (x1 : Vec F S16x512 .f32) (x2 : Vec F S16x512 .f32) (x3 : Vec F S1x8x64x2048 .f32) (x4 : Vec F S1x8x64x2048 .f32) (x5 : Vec F S16x128 .f32) (x6 : Vec F S32x2048 .f32) (x7 : Vec F S32x128 .f32) :
    slab (sout0_A_3 c i arg2 harg2 arg3 harg3 arg4 harg4 arg5 harg5 arg6 harg6 arg7 harg7 arg8 harg8 arg9 harg9 arg11 harg11 arg12 harg12 arg13 harg13 arg14 harg14 arg15 harg15 arg16 harg16 hc0 hc1 x0 x1 x2 x3 x4 x5 x6 x7) 0 (by omega) = lPast (sP (qP x0 0 (by omega)) (fP x5 0) x3 x6 0 (by omega)) (slab m0 0 (by omega)) (slab l0 0 (by omega)) := by
  unfold slab sout0_A_3 kernelRun0_A
  dsimp only
  sl_unfold_words
  simp only [View.read_writes_junk_eq_canon, View.readAt_eq_ld, Memref.IsWhole.read_unread, View.readCov_cons_toLoadRect, rc_miss, rc_full, ne_eq, Nat.reduceEqDiff, not_false_eq_true, OfNat.ofNat_ne_zero, OfNat.ofNat_ne_one, OfNat.zero_ne_ofNat, OfNat.one_ne_ofNat, one_ne_zero, zero_ne_one, ld_hit, ld_miss]
  rfl

set_option maxHeartbeats 4000000 in
/-- Pair 1's slab after a sample's first block of keys: the running sum. -/
theorem first_3_1 (c : Dev nD) (i : grid0.Coords) (arg2 : Memref sig .tc .vmem S16x2048 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S1x8x64x2048 .f32) (harg5 : arg5.IsWhole) (arg6 : Memref sig .tc .vmem S1x8x64x2048 .f32) (harg6 : arg6.IsWhole) (arg7 : Memref sig .tc .vmem S16x128 .f32) (harg7 : arg7.IsWhole) (arg8 : Memref sig .tc .vmem S32x2048 .f32) (harg8 : arg8.IsWhole) (arg9 : Memref sig .tc .vmem S32x128 .f32) (harg9 : arg9.IsWhole) (arg11 : Memref sig .tc .vmem S16x2048 .bf16) (harg11 : arg11.IsWhole) (arg12 : Memref sig .tc .vmem S4x128x128 .bf16) (harg12 : arg12.IsWhole) (arg13 : Memref sig .tc .vmem S4x128x128 .f32) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S4x128x128 .f32) (harg16 : arg16.IsWhole) (hc0 : cond0_0 i) (hc1 : ¬cond0_1 i)
    (x0 : Vec F S16x2048 .f32) (x1 : Vec F S16x512 .f32) (x2 : Vec F S16x512 .f32) (x3 : Vec F S1x8x64x2048 .f32) (x4 : Vec F S1x8x64x2048 .f32) (x5 : Vec F S16x128 .f32) (x6 : Vec F S32x2048 .f32) (x7 : Vec F S32x128 .f32) :
    slab (sout0_A_3 c i arg2 harg2 arg3 harg3 arg4 harg4 arg5 harg5 arg6 harg6 arg7 harg7 arg8 harg8 arg9 harg9 arg11 harg11 arg12 harg12 arg13 harg13 arg14 harg14 arg15 harg15 arg16 harg16 hc0 hc1 x0 x1 x2 x3 x4 x5 x6 x7) 1 (by omega) = lPast (sP (qP x0 1 (by omega)) (fP x5 1) x3 x6 1 (by omega)) (slab m0 1 (by omega)) (slab l0 1 (by omega)) := by
  unfold slab sout0_A_3 kernelRun0_A
  dsimp only
  sl_unfold_words
  simp only [View.read_writes_junk_eq_canon, View.readAt_eq_ld, Memref.IsWhole.read_unread, View.readCov_cons_toLoadRect, rc_miss, rc_full, ne_eq, Nat.reduceEqDiff, not_false_eq_true, OfNat.ofNat_ne_zero, OfNat.ofNat_ne_one, OfNat.zero_ne_ofNat, OfNat.one_ne_ofNat, one_ne_zero, zero_ne_one, ld_hit, ld_miss]
  rfl

set_option maxHeartbeats 4000000 in
/-- Pair 2's slab after a sample's first block of keys: the running sum. -/
theorem first_3_2 (c : Dev nD) (i : grid0.Coords) (arg2 : Memref sig .tc .vmem S16x2048 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S1x8x64x2048 .f32) (harg5 : arg5.IsWhole) (arg6 : Memref sig .tc .vmem S1x8x64x2048 .f32) (harg6 : arg6.IsWhole) (arg7 : Memref sig .tc .vmem S16x128 .f32) (harg7 : arg7.IsWhole) (arg8 : Memref sig .tc .vmem S32x2048 .f32) (harg8 : arg8.IsWhole) (arg9 : Memref sig .tc .vmem S32x128 .f32) (harg9 : arg9.IsWhole) (arg11 : Memref sig .tc .vmem S16x2048 .bf16) (harg11 : arg11.IsWhole) (arg12 : Memref sig .tc .vmem S4x128x128 .bf16) (harg12 : arg12.IsWhole) (arg13 : Memref sig .tc .vmem S4x128x128 .f32) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S4x128x128 .f32) (harg16 : arg16.IsWhole) (hc0 : cond0_0 i) (hc1 : ¬cond0_1 i)
    (x0 : Vec F S16x2048 .f32) (x1 : Vec F S16x512 .f32) (x2 : Vec F S16x512 .f32) (x3 : Vec F S1x8x64x2048 .f32) (x4 : Vec F S1x8x64x2048 .f32) (x5 : Vec F S16x128 .f32) (x6 : Vec F S32x2048 .f32) (x7 : Vec F S32x128 .f32) :
    slab (sout0_A_3 c i arg2 harg2 arg3 harg3 arg4 harg4 arg5 harg5 arg6 harg6 arg7 harg7 arg8 harg8 arg9 harg9 arg11 harg11 arg12 harg12 arg13 harg13 arg14 harg14 arg15 harg15 arg16 harg16 hc0 hc1 x0 x1 x2 x3 x4 x5 x6 x7) 2 (by omega) = lPast (sP (qP x0 2 (by omega)) (fP x5 2) x3 x6 2 (by omega)) (slab m0 2 (by omega)) (slab l0 2 (by omega)) := by
  unfold slab sout0_A_3 kernelRun0_A
  dsimp only
  sl_unfold_words
  simp only [View.read_writes_junk_eq_canon, View.readAt_eq_ld, Memref.IsWhole.read_unread, View.readCov_cons_toLoadRect, rc_miss, rc_full, ne_eq, Nat.reduceEqDiff, not_false_eq_true, OfNat.ofNat_ne_zero, OfNat.ofNat_ne_one, OfNat.zero_ne_ofNat, OfNat.one_ne_ofNat, one_ne_zero, zero_ne_one, ld_hit, ld_miss]
  rfl

set_option maxHeartbeats 4000000 in
/-- Pair 3's slab after a sample's first block of keys: the running sum. -/
theorem first_3_3 (c : Dev nD) (i : grid0.Coords) (arg2 : Memref sig .tc .vmem S16x2048 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S1x8x64x2048 .f32) (harg5 : arg5.IsWhole) (arg6 : Memref sig .tc .vmem S1x8x64x2048 .f32) (harg6 : arg6.IsWhole) (arg7 : Memref sig .tc .vmem S16x128 .f32) (harg7 : arg7.IsWhole) (arg8 : Memref sig .tc .vmem S32x2048 .f32) (harg8 : arg8.IsWhole) (arg9 : Memref sig .tc .vmem S32x128 .f32) (harg9 : arg9.IsWhole) (arg11 : Memref sig .tc .vmem S16x2048 .bf16) (harg11 : arg11.IsWhole) (arg12 : Memref sig .tc .vmem S4x128x128 .bf16) (harg12 : arg12.IsWhole) (arg13 : Memref sig .tc .vmem S4x128x128 .f32) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S4x128x128 .f32) (harg16 : arg16.IsWhole) (hc0 : cond0_0 i) (hc1 : ¬cond0_1 i)
    (x0 : Vec F S16x2048 .f32) (x1 : Vec F S16x512 .f32) (x2 : Vec F S16x512 .f32) (x3 : Vec F S1x8x64x2048 .f32) (x4 : Vec F S1x8x64x2048 .f32) (x5 : Vec F S16x128 .f32) (x6 : Vec F S32x2048 .f32) (x7 : Vec F S32x128 .f32) :
    slab (sout0_A_3 c i arg2 harg2 arg3 harg3 arg4 harg4 arg5 harg5 arg6 harg6 arg7 harg7 arg8 harg8 arg9 harg9 arg11 harg11 arg12 harg12 arg13 harg13 arg14 harg14 arg15 harg15 arg16 harg16 hc0 hc1 x0 x1 x2 x3 x4 x5 x6 x7) 3 (by omega) = lPast (sP (qP x0 3 (by omega)) (fP x5 3) x3 x6 3 (by omega)) (slab m0 3 (by omega)) (slab l0 3 (by omega)) := by
  unfold slab sout0_A_3 kernelRun0_A
  dsimp only
  sl_unfold_words
  simp only [View.read_writes_junk_eq_canon, View.readAt_eq_ld, Memref.IsWhole.read_unread, View.readCov_cons_toLoadRect, rc_miss, rc_full, ne_eq, Nat.reduceEqDiff, not_false_eq_true, OfNat.ofNat_ne_zero, OfNat.ofNat_ne_one, OfNat.zero_ne_ofNat, OfNat.one_ne_ofNat, one_ne_zero, zero_ne_one, ld_hit, ld_miss]
  rfl

set_option maxHeartbeats 4000000 in
/-- Pair 0's slab after a sample's first block of keys: the weighted values. -/
theorem first_4_0 (c : Dev nD) (i : grid0.Coords) (arg2 : Memref sig .tc .vmem S16x2048 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S1x8x64x2048 .f32) (harg5 : arg5.IsWhole) (arg6 : Memref sig .tc .vmem S1x8x64x2048 .f32) (harg6 : arg6.IsWhole) (arg7 : Memref sig .tc .vmem S16x128 .f32) (harg7 : arg7.IsWhole) (arg8 : Memref sig .tc .vmem S32x2048 .f32) (harg8 : arg8.IsWhole) (arg9 : Memref sig .tc .vmem S32x128 .f32) (harg9 : arg9.IsWhole) (arg11 : Memref sig .tc .vmem S16x2048 .bf16) (harg11 : arg11.IsWhole) (arg12 : Memref sig .tc .vmem S4x128x128 .bf16) (harg12 : arg12.IsWhole) (arg13 : Memref sig .tc .vmem S4x128x128 .f32) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S4x128x128 .f32) (harg16 : arg16.IsWhole) (hc0 : cond0_0 i) (hc1 : ¬cond0_1 i)
    (x0 : Vec F S16x2048 .f32) (x1 : Vec F S16x512 .f32) (x2 : Vec F S16x512 .f32) (x3 : Vec F S1x8x64x2048 .f32) (x4 : Vec F S1x8x64x2048 .f32) (x5 : Vec F S16x128 .f32) (x6 : Vec F S32x2048 .f32) (x7 : Vec F S32x128 .f32) :
    slab (sout0_A_4 c i arg2 harg2 arg3 harg3 arg4 harg4 arg5 harg5 arg6 harg6 arg7 harg7 arg8 harg8 arg9 harg9 arg11 harg11 arg12 harg12 arg13 harg13 arg14 harg14 arg15 harg15 arg16 harg16 hc0 hc1 x0 x1 x2 x3 x4 x5 x6 x7) 0 (by omega) = aP (sP (qP x0 0 (by omega)) (fP x5 0) x3 x6 0 (by omega)) x4 (slab m0 0 (by omega)) (slab a0 0 (by omega)) 0 (by omega) := by
  unfold slab sout0_A_4 kernelRun0_A
  dsimp only
  sl_unfold_words
  simp only [View.read_writes_junk_eq_canon, View.readAt_eq_ld, Memref.IsWhole.read_unread, View.readCov_cons_toLoadRect, rc_miss, rc_full, ne_eq, Nat.reduceEqDiff, not_false_eq_true, OfNat.ofNat_ne_zero, OfNat.ofNat_ne_one, OfNat.zero_ne_ofNat, OfNat.one_ne_ofNat, one_ne_zero, zero_ne_one, ld_hit, ld_miss]
  rfl

set_option maxHeartbeats 4000000 in
/-- Pair 1's slab after a sample's first block of keys: the weighted values. -/
theorem first_4_1 (c : Dev nD) (i : grid0.Coords) (arg2 : Memref sig .tc .vmem S16x2048 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S1x8x64x2048 .f32) (harg5 : arg5.IsWhole) (arg6 : Memref sig .tc .vmem S1x8x64x2048 .f32) (harg6 : arg6.IsWhole) (arg7 : Memref sig .tc .vmem S16x128 .f32) (harg7 : arg7.IsWhole) (arg8 : Memref sig .tc .vmem S32x2048 .f32) (harg8 : arg8.IsWhole) (arg9 : Memref sig .tc .vmem S32x128 .f32) (harg9 : arg9.IsWhole) (arg11 : Memref sig .tc .vmem S16x2048 .bf16) (harg11 : arg11.IsWhole) (arg12 : Memref sig .tc .vmem S4x128x128 .bf16) (harg12 : arg12.IsWhole) (arg13 : Memref sig .tc .vmem S4x128x128 .f32) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S4x128x128 .f32) (harg16 : arg16.IsWhole) (hc0 : cond0_0 i) (hc1 : ¬cond0_1 i)
    (x0 : Vec F S16x2048 .f32) (x1 : Vec F S16x512 .f32) (x2 : Vec F S16x512 .f32) (x3 : Vec F S1x8x64x2048 .f32) (x4 : Vec F S1x8x64x2048 .f32) (x5 : Vec F S16x128 .f32) (x6 : Vec F S32x2048 .f32) (x7 : Vec F S32x128 .f32) :
    slab (sout0_A_4 c i arg2 harg2 arg3 harg3 arg4 harg4 arg5 harg5 arg6 harg6 arg7 harg7 arg8 harg8 arg9 harg9 arg11 harg11 arg12 harg12 arg13 harg13 arg14 harg14 arg15 harg15 arg16 harg16 hc0 hc1 x0 x1 x2 x3 x4 x5 x6 x7) 1 (by omega) = aP (sP (qP x0 1 (by omega)) (fP x5 1) x3 x6 1 (by omega)) x4 (slab m0 1 (by omega)) (slab a0 1 (by omega)) 1 (by omega) := by
  unfold slab sout0_A_4 kernelRun0_A
  dsimp only
  sl_unfold_words
  simp only [View.read_writes_junk_eq_canon, View.readAt_eq_ld, Memref.IsWhole.read_unread, View.readCov_cons_toLoadRect, rc_miss, rc_full, ne_eq, Nat.reduceEqDiff, not_false_eq_true, OfNat.ofNat_ne_zero, OfNat.ofNat_ne_one, OfNat.zero_ne_ofNat, OfNat.one_ne_ofNat, one_ne_zero, zero_ne_one, ld_hit, ld_miss]
  rfl

set_option maxHeartbeats 4000000 in
/-- Pair 2's slab after a sample's first block of keys: the weighted values. -/
theorem first_4_2 (c : Dev nD) (i : grid0.Coords) (arg2 : Memref sig .tc .vmem S16x2048 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S1x8x64x2048 .f32) (harg5 : arg5.IsWhole) (arg6 : Memref sig .tc .vmem S1x8x64x2048 .f32) (harg6 : arg6.IsWhole) (arg7 : Memref sig .tc .vmem S16x128 .f32) (harg7 : arg7.IsWhole) (arg8 : Memref sig .tc .vmem S32x2048 .f32) (harg8 : arg8.IsWhole) (arg9 : Memref sig .tc .vmem S32x128 .f32) (harg9 : arg9.IsWhole) (arg11 : Memref sig .tc .vmem S16x2048 .bf16) (harg11 : arg11.IsWhole) (arg12 : Memref sig .tc .vmem S4x128x128 .bf16) (harg12 : arg12.IsWhole) (arg13 : Memref sig .tc .vmem S4x128x128 .f32) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S4x128x128 .f32) (harg16 : arg16.IsWhole) (hc0 : cond0_0 i) (hc1 : ¬cond0_1 i)
    (x0 : Vec F S16x2048 .f32) (x1 : Vec F S16x512 .f32) (x2 : Vec F S16x512 .f32) (x3 : Vec F S1x8x64x2048 .f32) (x4 : Vec F S1x8x64x2048 .f32) (x5 : Vec F S16x128 .f32) (x6 : Vec F S32x2048 .f32) (x7 : Vec F S32x128 .f32) :
    slab (sout0_A_4 c i arg2 harg2 arg3 harg3 arg4 harg4 arg5 harg5 arg6 harg6 arg7 harg7 arg8 harg8 arg9 harg9 arg11 harg11 arg12 harg12 arg13 harg13 arg14 harg14 arg15 harg15 arg16 harg16 hc0 hc1 x0 x1 x2 x3 x4 x5 x6 x7) 2 (by omega) = aP (sP (qP x0 2 (by omega)) (fP x5 2) x3 x6 2 (by omega)) x4 (slab m0 2 (by omega)) (slab a0 2 (by omega)) 2 (by omega) := by
  unfold slab sout0_A_4 kernelRun0_A
  dsimp only
  sl_unfold_words
  simp only [View.read_writes_junk_eq_canon, View.readAt_eq_ld, Memref.IsWhole.read_unread, View.readCov_cons_toLoadRect, rc_miss, rc_full, ne_eq, Nat.reduceEqDiff, not_false_eq_true, OfNat.ofNat_ne_zero, OfNat.ofNat_ne_one, OfNat.zero_ne_ofNat, OfNat.one_ne_ofNat, one_ne_zero, zero_ne_one, ld_hit, ld_miss]
  rfl

set_option maxHeartbeats 4000000 in
/-- Pair 3's slab after a sample's first block of keys: the weighted values. -/
theorem first_4_3 (c : Dev nD) (i : grid0.Coords) (arg2 : Memref sig .tc .vmem S16x2048 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S1x8x64x2048 .f32) (harg5 : arg5.IsWhole) (arg6 : Memref sig .tc .vmem S1x8x64x2048 .f32) (harg6 : arg6.IsWhole) (arg7 : Memref sig .tc .vmem S16x128 .f32) (harg7 : arg7.IsWhole) (arg8 : Memref sig .tc .vmem S32x2048 .f32) (harg8 : arg8.IsWhole) (arg9 : Memref sig .tc .vmem S32x128 .f32) (harg9 : arg9.IsWhole) (arg11 : Memref sig .tc .vmem S16x2048 .bf16) (harg11 : arg11.IsWhole) (arg12 : Memref sig .tc .vmem S4x128x128 .bf16) (harg12 : arg12.IsWhole) (arg13 : Memref sig .tc .vmem S4x128x128 .f32) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S4x128x128 .f32) (harg16 : arg16.IsWhole) (hc0 : cond0_0 i) (hc1 : ¬cond0_1 i)
    (x0 : Vec F S16x2048 .f32) (x1 : Vec F S16x512 .f32) (x2 : Vec F S16x512 .f32) (x3 : Vec F S1x8x64x2048 .f32) (x4 : Vec F S1x8x64x2048 .f32) (x5 : Vec F S16x128 .f32) (x6 : Vec F S32x2048 .f32) (x7 : Vec F S32x128 .f32) :
    slab (sout0_A_4 c i arg2 harg2 arg3 harg3 arg4 harg4 arg5 harg5 arg6 harg6 arg7 harg7 arg8 harg8 arg9 harg9 arg11 harg11 arg12 harg12 arg13 harg13 arg14 harg14 arg15 harg15 arg16 harg16 hc0 hc1 x0 x1 x2 x3 x4 x5 x6 x7) 3 (by omega) = aP (sP (qP x0 3 (by omega)) (fP x5 3) x3 x6 3 (by omega)) x4 (slab m0 3 (by omega)) (slab a0 3 (by omega)) 3 (by omega) := by
  unfold slab sout0_A_4 kernelRun0_A
  dsimp only
  sl_unfold_words
  simp only [View.read_writes_junk_eq_canon, View.readAt_eq_ld, Memref.IsWhole.read_unread, View.readCov_cons_toLoadRect, rc_miss, rc_full, ne_eq, Nat.reduceEqDiff, not_false_eq_true, OfNat.ofNat_ne_zero, OfNat.ofNat_ne_one, OfNat.zero_ne_ofNat, OfNat.one_ne_ofNat, one_ne_zero, zero_ne_one, ld_hit, ld_miss]
  rfl

end Cert.KernelIdeal.Att
end
-- ==== Proof.ReadB.lean ====
module
public import proofs.«01_k».proof.Proof.ReadA

/-! The block a sample's last step writes, piece by piece. -/

@[expose] public section
noncomputable section
namespace Cert.KernelIdeal.Att
open Idealize.ShloMosaic Idealize.ShloMosaic.TcCoe Idealize.SL.Sem
open Cert.KernelIdeal Cert.KernelIdeal.Gen
variable {F : FTy → Type} [FloatOps F]

/-- Columns `o` to `o + 128` of the block. -/
abbrev colRect (o : ℕ) (ho : o + 128 ≤ 2048) : Rect S16x2048 :=
  Rect.unit ![0, o] ![16, 128] (by intro a; fin_cases a <;> simp <;> omega)

/-- The block from the four pairs' attention. -/
def outBlock (y0 y1 y2 y3 : FVec F S128x128 .f32) : Vec F S16x2048 .bf16 :=
  View.canon [
    ⟨colRect 1920 (by omega), out3 y3⟩,
    ⟨colRect 1792 (by omega), out2 y3⟩,
    ⟨colRect 1664 (by omega), out1 y3⟩,
    ⟨colRect 1536 (by omega), out0 y3⟩,
    ⟨colRect 1408 (by omega), out3 y2⟩,
    ⟨colRect 1280 (by omega), out2 y2⟩,
    ⟨colRect 1152 (by omega), out1 y2⟩,
    ⟨colRect 1024 (by omega), out0 y2⟩,
    ⟨colRect 896 (by omega), out3 y1⟩,
    ⟨colRect 768 (by omega), out2 y1⟩,
    ⟨colRect 640 (by omega), out1 y1⟩,
    ⟨colRect 512 (by omega), out0 y1⟩,
    ⟨colRect 384 (by omega), out3 y0⟩,
    ⟨colRect 256 (by omega), out2 y0⟩,
    ⟨colRect 128 (by omega), out1 y0⟩,
    ⟨colRect 0 (by omega), out0 y0⟩  ]

set_option maxHeartbeats 4000000 in
/-- The block a sample's last step writes, from the scratch of the step before. -/
theorem last_block (c : Dev nD) (i : grid0.Coords) (arg2 : Memref sig .tc .vmem S16x2048 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S1x8x64x2048 .f32) (harg5 : arg5.IsWhole) (arg6 : Memref sig .tc .vmem S1x8x64x2048 .f32) (harg6 : arg6.IsWhole) (arg7 : Memref sig .tc .vmem S16x128 .f32) (harg7 : arg7.IsWhole) (arg8 : Memref sig .tc .vmem S32x2048 .f32) (harg8 : arg8.IsWhole) (arg9 : Memref sig .tc .vmem S32x128 .f32) (harg9 : arg9.IsWhole) (arg11 : Memref sig .tc .vmem S16x2048 .bf16) (harg11 : arg11.IsWhole) (arg12 : Memref sig .tc .vmem S4x128x128 .bf16) (harg12 : arg12.IsWhole) (arg13 : Memref sig .tc .vmem S4x128x128 .f32) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S4x128x128 .f32) (harg16 : arg16.IsWhole) (hc0 : ¬cond0_0 i) (hc1 : cond0_1 i)
    (x0 : Vec F S16x2048 .f32) (x1 : Vec F S16x512 .f32) (x2 : Vec F S16x512 .f32) (x3 : Vec F S1x8x64x2048 .f32) (x4 : Vec F S1x8x64x2048 .f32) (x5 : Vec F S16x128 .f32) (x6 : Vec F S32x2048 .f32) (x7 : Vec F S32x128 .f32) (xs0 : Vec F S4x128x128 .bf16) (xs1 : Vec F S4x128x128 .f32) (xs2 : Vec F S4x128x128 .f32) (xs3 : Vec F S4x128x128 .f32) (xs4 : Vec F S4x128x128 .f32) :
    out0_B_8 c i arg2 harg2 arg3 harg3 arg4 harg4 arg5 harg5 arg6 harg6 arg7 harg7 arg8 harg8 arg9 harg9 arg11 harg11 arg12 harg12 arg13 harg13 arg14 harg14 arg15 harg15 arg16 harg16 hc0 hc1 x0 x1 x2 x3 x4 x5 x6 x7 xs0 xs1 xs2 xs3 xs4 = outBlock (attP (slab xs0 0 (by omega)) (slab xs1 0 (by omega)) (slab xs2 0 (by omega)) (slab xs3 0 (by omega)) (slab xs4 0 (by omega)) x1 x2 x3 x4 x6 x7 0 (by omega)) (attP (slab xs0 1 (by omega)) (slab xs1 1 (by omega)) (slab xs2 1 (by omega)) (slab xs3 1 (by omega)) (slab xs4 1 (by omega)) x1 x2 x3 x4 x6 x7 1 (by omega)) (attP (slab xs0 2 (by omega)) (slab xs1 2 (by omega)) (slab xs2 2 (by omega)) (slab xs3 2 (by omega)) (slab xs4 2 (by omega)) x1 x2 x3 x4 x6 x7 2 (by omega)) (attP (slab xs0 3 (by omega)) (slab xs1 3 (by omega)) (slab xs2 3 (by omega)) (slab xs3 3 (by omega)) (slab xs4 3 (by omega)) x1 x2 x3 x4 x6 x7 3 (by omega)) := by
  unfold out0_B_8 kernelRun0_B
  dsimp only
  sl_unfold_words
  simp only [View.read_writes_junk_eq_canon, View.readAt_eq_ld, Memref.IsWhole.read_unread, View.readCov_cons_toLoadRect, rc_miss, rc_full, ne_eq, Nat.reduceEqDiff, not_false_eq_true, OfNat.ofNat_ne_zero, OfNat.ofNat_ne_one, OfNat.zero_ne_ofNat, OfNat.one_ne_ofNat, one_ne_zero, zero_ne_one]
  rfl

end Cert.KernelIdeal.Att
end
-- ==== Proof.Score.lean ====
module
public import proofs.«01_k».proof.Proof.Math
public import proofs.«01_k».proof.Proof.ReadB

/-! The scores a stacked row has against cached and new keys, and the place of a row's quotient in the result, in real numbers. The arrays'
values are functions of natural numbers here. -/

@[expose] public section
noncomputable section
namespace Cert.KernelIdeal.Att
open Idealize.ShloMosaic Idealize.ShloMosaic.TcCoe Idealize.SL.Sem
open Cert.KernelIdeal Cert.KernelIdeal.Gen Idealize.ShloMosaic.WordCmp

/-- The stacked row of token `t` under head `j` of a pair. -/
abbrev rw8 (j : Fin 8) (t : Fin 16) : Fin 128 := ⟨16 * j.val + t.val, by omega⟩

theorem stack8 {α : Type} {n : ℕ} (g0 g1 g2 g3 g4 g5 g6 g7 : (⟨2, ![16, n]⟩ : Shape).Idx → α)
    (h : Shape.Concatenates (([⟨⟨2, ![16, n]⟩, g0⟩, ⟨⟨2, ![16, n]⟩, g1⟩, ⟨⟨2, ![16, n]⟩, g2⟩, ⟨⟨2, ![16, n]⟩, g3⟩, ⟨⟨2, ![16, n]⟩, g4⟩,
      ⟨⟨2, ![16, n]⟩, g5⟩, ⟨⟨2, ![16, n]⟩, g6⟩, ⟨⟨2, ![16, n]⟩, g7⟩] : List ((s : Shape) × (s.Idx → α))).map (·.1)) ⟨2, ![128, n]⟩ 0)
    (j : Fin 8) (t : Fin 16) (k : Fin n) :
    concatenate ⟨2, ![128, n]⟩ 0 [⟨⟨2, ![16, n]⟩, g0⟩, ⟨⟨2, ![16, n]⟩, g1⟩, ⟨⟨2, ![16, n]⟩, g2⟩, ⟨⟨2, ![16, n]⟩, g3⟩, ⟨⟨2, ![16, n]⟩, g4⟩,
      ⟨⟨2, ![16, n]⟩, g5⟩, ⟨⟨2, ![16, n]⟩, g6⟩, ⟨⟨2, ![16, n]⟩, g7⟩] h (ix2 (rw8 j t) k) = (![g0, g1, g2, g3, g4, g5, g6, g7] j) (ix2 t k) := by
  refine concatenate_ofFn_apply (s₁ := ⟨2, ![16, n]⟩) (t := ⟨2, ![128, n]⟩) (0 : Fin 2) ![g0, g1, g2, g3, g4, g5, g6, g7] h rfl 16 rfl
    (ix2 (rw8 j t) k) j ?_ (ix2 t k) ?_ ?_
  · show (16 * j.val + t.val) / 16 = j.val
    omega
  · show t.val = (16 * j.val + t.val) % 16
    omega
  · intro b hb
    match b with
    | 0 => exact absurd rfl hb
    | 1 => rfl

theorem qStack_apply (a0 a1 a2 a3 : Vec Ideal S16x128 .f32) (j : Fin 8) (t : Fin 16) (d : Fin 128) :
    qStack a0 a1 a2 a3 (ix3 0 (rw8 j t) d) =
      (![lowQ a0, lowQ (swap a0), lowQ a1, lowQ (swap a1), highQ (swap a2), highQ a2, highQ (swap a3), highQ a3] j) (ix2 t d) := by
  rw [← stack8 _ _ _ _ _ _ _ _ concatenates_S16x128_S16x128_S16x128_S16x128_S16x128_S16x128_S16x128_S16x128_S128x128_d0]
  unfold qStack
  generalize concatenate S128x128 _ _ _ = y
  pointwise

theorem fStack_apply (w : Fin 8 → ℕ) (hw : ∀ j, w j < 128) (x : Vec Ideal S16x128 .f32) (j : Fin 8) (t : Fin 16) (d : Fin 128) :
    fStack (BitVec.ofNat 32 (w 0)) (BitVec.ofNat 32 (w 1)) (BitVec.ofNat 32 (w 2)) (BitVec.ofNat 32 (w 3)) (BitVec.ofNat 32 (w 4))
      (BitVec.ofNat 32 (w 5)) (BitVec.ofNat 32 (w 6)) (BitVec.ofNat 32 (w 7)) x (ix3 0 (rw8 j t) d) = x (ix2 t ⟨w j, hw j⟩) := by
  refine Eq.trans (b := (![laneOf (BitVec.ofNat 32 (w 0)) x, laneOf (BitVec.ofNat 32 (w 1)) x, laneOf (BitVec.ofNat 32 (w 2)) x,
    laneOf (BitVec.ofNat 32 (w 3)) x, laneOf (BitVec.ofNat 32 (w 4)) x, laneOf (BitVec.ofNat 32 (w 5)) x, laneOf (BitVec.ofNat 32 (w 6)) x,
    laneOf (BitVec.ofNat 32 (w 7)) x] j) (ix2 t d)) ?_ ?_
  · rw [← stack8 _ _ _ _ _ _ _ _ concatenates_S16x128_S16x128_S16x128_S16x128_S16x128_S16x128_S16x128_S16x128_S128x128_d0]
    unfold fStack
    generalize concatenate S128x128 _ _ _ = y
    pointwise
  · fin_cases j <;> exact laneOf_apply x t d _ _

variable (X0 F X6 X7 X1 X2 : ℕ → ℕ → ℝ) (X3 X4 : ℕ → ℕ → ℕ → ℝ)

/-- The score of head `h` at token `t` against a key. -/
def dotS (X : ℕ → ℝ) (h t : ℕ) : ℝ := ∑ x : Fin 64, X0 t (64 * h + x.val) * scale * X x.val

theorem qP_apply (x0 : Vec Ideal S16x2048 .f32) (h0 : ∀ (t : Fin 16) (c : Fin 2048), x0 (ix2 t c) = ((X0 t.val c.val : ℝ) : EReal))
    (p : ℕ) (hp : p < 4) (j : Fin 8) (t : Fin 16) (d : Fin 128) :
    qP x0 p hp (ix3 0 (rw8 j t) d) = ((if d.val / 64 = j.val / 4 then X0 t.val (64 * (8 * p + j.val) + d.val % 64) * scale else 0 : ℝ) : EReal) := by
  have ht : ∀ (tt : ℕ) (htt : tt < 4) (d : Fin 128), qTile x0 p tt hp htt (ix2 t d) = ((X0 t.val (512 * p + 128 * tt + d.val) : ℝ) : EReal) :=
    fun tt htt d => by pointwise [qTile]; exact h0 _ _
  rw [qP, qStack_apply]
  have e : ∀ a b : ℕ, a = b → X0 t.val a = X0 t.val b := fun a b h => by rw [h]
  fin_cases j <;> simp only [Fin.zero_eta, Fin.mk_one, Fin.reduceFinMk, Matrix.cons_val, lowQ_apply, highQ_apply, swap_apply, ht] <;>
    (rw [apply_ite Real.toEReal]; simp only [EReal.coe_mul, EReal.coe_zero]) <;> by_cases hd : d.val < 64 <;>
    simp (disch := omega) only [hd, if_true, if_false, if_pos, if_neg] <;> first | rfl | (congr 2; apply e; simp; omega)

theorem fP_apply (x5 : Vec Ideal S16x128 .f32) (h5 : ∀ (t : Fin 16) (c : Fin 32), x5 (ix2 t ⟨c.val, by omega⟩) = ((F t.val c.val : ℝ) : EReal))
    (p : ℕ) (hp : p < 4) (j : Fin 8) (t : Fin 16) (d : Fin 128) :
    fP x5 p (ix3 0 (rw8 j t) d) = ((F t.val (8 * p + j.val) : ℝ) : EReal) := by
  refine (fStack_apply (fun j => 8 * p + j.val) (fun j => by show 8 * p + j.val < 128; omega) _ j t d).trans ?_
  pointwise
  exact h5 t ⟨8 * p + j.val, by omega⟩

theorem kv_apply (x3 : Vec Ideal S1x8x64x2048 .f32)
    (h3 : ∀ (g : Fin 8) (x : Fin 64) (k : Fin 2048), x3 (ix4 0 g x k) = ((X3 g.val x.val k.val : ℝ) : EReal))
    (p : ℕ) (hp : p < 4) (d : Fin 128) (k : Fin 2048) :
    kvPair (headBlock x3 (2 * p) (by omega)) (headBlock x3 (2 * p + 1) (by omega)) (ix2 d k) =
      ((X3 (2 * p + d.val / 64) (d.val % 64) k.val : ℝ) : EReal) := by
  pointwise [kvPair, headBlock]
  by_cases hd : d.val < 64
  · rw [dif_pos hd, show d.val / 64 = 0 by omega, show d.val % 64 = d.val by omega]
    exact h3 ⟨2 * p, by omega⟩ ⟨d.val, hd⟩ k
  · rw [dif_neg hd, show d.val / 64 = 1 by omega, show d.val % 64 = d.val - 64 by omega]
    exact h3 ⟨2 * p + 1, by omega⟩ ⟨d.val - 64, by omega⟩ k

/-- A product of a stacked query with a stacked key is the product in the half that is not zero. -/
theorem half_dot (f g : ℕ → ℝ) (b : ℕ) (hb : b < 2) :
    ∑ d : Fin 128, (if d.val / 64 = b then f (d.val % 64) else 0) * g d.val = ∑ x : Fin 64, f x.val * g (64 * b + x.val) := by
  have e : ∑ d : Fin (64 + 64), (if d.val / 64 = b then f (d.val % 64) else 0) * g d.val =
      ∑ x : Fin 64, (if x.val / 64 = b then f (x.val % 64) else 0) * g x.val +
      ∑ x : Fin 64, (if (64 + x.val) / 64 = b then f ((64 + x.val) % 64) else 0) * g (64 + x.val) := Fin.sum_univ_add _
  refine e.trans ?_
  have hx : ∀ x : Fin 64, x.val / 64 = 0 ∧ x.val % 64 = x.val ∧ (64 + x.val) / 64 = 1 ∧ (64 + x.val) % 64 = x.val := fun x => by omega
  obtain rfl | rfl : b = 0 ∨ b = 1 := by omega
  · simp [hx]
  · simp [hx]

theorem sP_apply (x0 : Vec Ideal S16x2048 .f32) (x5 : Vec Ideal S16x128 .f32) (x3 : Vec Ideal S1x8x64x2048 .f32) (x6 : Vec Ideal S32x2048 .f32)
    (h0 : ∀ (t : Fin 16) (c : Fin 2048), x0 (ix2 t c) = ((X0 t.val c.val : ℝ) : EReal))
    (h5 : ∀ (t : Fin 16) (c : Fin 32), x5 (ix2 t ⟨c.val, by omega⟩) = ((F t.val c.val : ℝ) : EReal))
    (h3 : ∀ (g : Fin 8) (x : Fin 64) (k : Fin 2048), x3 (ix4 0 g x k) = ((X3 g.val x.val k.val : ℝ) : EReal))
    (h6 : ∀ (h : Fin 32) (k : Fin 2048), x6 (ix2 h k) = ((X6 h.val k.val : ℝ) : EReal))
    (p : ℕ) (hp : p < 4) (j : Fin 8) (t : Fin 16) (k : Fin 2048) :
    sP (qP x0 p hp) (fP x5 p) x3 x6 p hp (ix2 (rw8 j t) k) =
      ((dotS X0 (fun x => X3 (2 * p + j.val / 4) x k.val) (8 * p + j.val) t.val + (F t.val (8 * p + j.val) - X6 (8 * p + j.val) k.val) : ℝ) : EReal) := by
  have hg : ∀ (h : ℕ) (hh : h < 32), keyRow (gateRow x6 h hh) (ix2 t k) = ((X6 h k.val : ℝ) : EReal) := fun h hh => by
    rw [keyRow_apply]
    pointwise [gateRow]
    exact h6 ⟨h, hh⟩ k
  have hf : ∀ d : Fin 128, flat (F := Ideal) (e := .f32) (fP x5 p) (ix2 (rw8 j t) d) = ((F t.val (8 * p + j.val) : ℝ) : EReal) := fun d =>
    (flat_apply (e := .f32) (fP x5 p) _ _).trans (fP_apply F x5 h5 p hp j t d)
  unfold sP sPast
  show _ + (wide _ _ - concatenate S128x2048 _ _ _ _) = _
  rw [wide_apply _ _ _ hf, stack8]
  rw [EReal.coe_add, EReal.coe_sub]
  congr 1
  · have := half_dot (fun x => X0 t.val (64 * (8 * p + j.val) + x) * scale) (fun d => X3 (2 * p + d / 64) (d % 64) k.val) (j.val / 4) (by omega)
    have e : ∀ x : Fin 64, (64 * (j.val / 4) + x.val) / 64 = j.val / 4 ∧ (64 * (j.val / 4) + x.val) % 64 = x.val := fun x => by omega
    simp only [e] at this
    rw [dotS, ← this, ← coe_sum]
    generalize hkv : kvPair (F := Ideal) _ _ = kv
    have hk : ∀ d : Fin 128, kv (ix2 d k) = ((X3 (2 * p + d.val / 64) (d.val % 64) k.val : ℝ) : EReal) := fun d => by
      rw [← hkv]; exact kv_apply X3 x3 h3 p hp d k
    generalize hq : qP x0 p hp = q
    have hq' := fun d => (congrFun hq _).symm.trans (qP_apply X0 x0 h0 p hp j t d)
    pointwise [flat]
    simp only [hq', hk, ← EReal.coe_mul]
  · congr 1
    fin_cases j <;> exact hg _ (by omega)

theorem causal_apply (j : Fin 8) (t k : Fin 16) (x y : FVec Ideal S128x16 .f32) :
    select causal x y (ix2 (rw8 j t) k) = if k.val ≤ t.val then x (ix2 (rw8 j t) k) else y (ix2 (rw8 j t) k) := by
  pointwise [causal]
  have e : IntOp.andi (BitVec.ofNat 32 (16 * j.val + t.val)) 15#32 = BitVec.ofNat 32 t.val := by
    revert j t; decide
  rw [e, cmpi_sle_ofNat (by omega) (by omega)]
  by_cases h : k.val ≤ t.val <;> simp [h, Scalar.select]

theorem sN_apply (x0 : Vec Ideal S16x2048 .f32) (x5 : Vec Ideal S16x128 .f32) (x1 : Vec Ideal S16x512 .f32) (x7 : Vec Ideal S32x128 .f32)
    (h0 : ∀ (t : Fin 16) (c : Fin 2048), x0 (ix2 t c) = ((X0 t.val c.val : ℝ) : EReal))
    (h5 : ∀ (t : Fin 16) (c : Fin 32), x5 (ix2 t ⟨c.val, by omega⟩) = ((F t.val c.val : ℝ) : EReal))
    (h1 : ∀ (k : Fin 16) (c : Fin 512), x1 (ix2 k c) = ((X1 k.val c.val : ℝ) : EReal))
    (h7 : ∀ (h : Fin 32) (k : Fin 16), x7 (ix2 h ⟨k.val, by omega⟩) = ((X7 h.val k.val : ℝ) : EReal))
    (p : ℕ) (hp : p < 4) (j : Fin 8) (t : Fin 16) (k : Fin 16) :
    sN (qP x0 p hp) (fP x5 p) x1 x7 p hp (ix2 (rw8 j t) k) =
      ((if k.val ≤ t.val then dotS X0 (fun x => X1 k.val (64 * (2 * p + j.val / 4) + x)) (8 * p + j.val) t.val +
        (F t.val (8 * p + j.val) - X7 (8 * p + j.val) k.val) else masked : ℝ) : EReal) := by
  have hg : ∀ (h : ℕ) (hh : h < 32), keyRowN (gateRowN x7 h hh) (ix2 t k) = ((X7 h k.val : ℝ) : EReal) := fun h hh => by
    rw [keyRowN_apply]
    pointwise [gateRowN]
    exact h7 ⟨h, hh⟩ k
  have hf : ∀ d : Fin 128, flat (F := Ideal) (e := .f32) (fP x5 p) (ix2 (rw8 j t) d) = ((F t.val (8 * p + j.val) : ℝ) : EReal) := fun d =>
    (flat_apply (e := .f32) (fP x5 p) _ _).trans (fP_apply F x5 h5 p hp j t d)
  unfold sN sNew
  rw [causal_apply, apply_ite Real.toEReal]
  refine if_congr Iff.rfl ?_ masked_eq
  show _ + (narrow _ _ - concatenate S128x16 _ _ _ _) = _
  rw [stack8]
  rw [EReal.coe_add, EReal.coe_sub]
  congr 1
  · have := half_dot (fun x => X0 t.val (64 * (8 * p + j.val) + x) * scale) (fun d => X1 k.val (128 * p + d)) (j.val / 4) (by omega)
    have e : ∀ x : Fin 64, 128 * p + (64 * (j.val / 4) + x.val) = 64 * (2 * p + j.val / 4) + x.val := fun x => by omega
    simp only [e] at this
    rw [dotS, ← this, ← coe_sum]
    generalize hq : qP x0 p hp = q
    have hq' := fun d => (congrFun hq _).symm.trans (qP_apply X0 x0 h0 p hp j t d)
    have hk : ∀ d : Fin 128, newTile x1 p hp (ix2 k d) = ((X1 k.val (128 * p + d.val) : ℝ) : EReal) := fun d => by
      pointwise [newTile]; exact h1 k ⟨128 * p + d.val, by omega⟩
    generalize newTile x1 p hp = kk at hk
    pointwise [flat]
    simp only [hq', hk, ← EReal.coe_mul]
  · congr 1
    · pointwise [narrow]
      exact hf _
    · fin_cases j <;> exact hg _ (by first | (show _ + _ < 32; omega) | (show _ * _ < 32; omega) | omega)

end Cert.KernelIdeal.Att
end
-- ==== Proof.Att.lean ====
module
public import proofs.«01_k».proof.Proof.Score

/-! A sample's block of the result, in real numbers: two blocks of cached keys and the new keys, one softmax over all of them. -/

@[expose] public section
noncomputable section
namespace Cert.KernelIdeal.Att
open Idealize.ShloMosaic Idealize.ShloMosaic.TcCoe Idealize.SL.Sem
open Cert.KernelIdeal Cert.KernelIdeal.Gen Idealize.ShloMosaic.WordCmp

theorem lowPair_apply (e o : Vec Ideal S16x128 .f32) (t : Fin 16) (d : Fin 128) :
    lowPair e o (ix2 t d) = if d.val < 64 then e (ix2 t d) else o (ix2 t ⟨d.val - 64, by omega⟩) := by
  show (select upper (swap o) e) (ix2 t d) = _
  have hs := swap_apply o t d
  generalize swap o = z at hs
  pointwise [upper]
  rw [cmpi_sge_ofNat (by omega) (by omega)]
  by_cases h : d.val < 64
  · rw [if_pos h, decide_eq_false (by omega)]; rfl
  · rw [if_neg h, decide_eq_true (by omega)]
    refine hs.trans ?_
    have e : (d.val + 64) % 128 = d.val - 64 := by omega
    simp only [e]

theorem highPair_apply (e o : Vec Ideal S16x128 .f32) (t : Fin 16) (d : Fin 128) :
    highPair e o (ix2 t d) = if h : d.val < 64 then e (ix2 t ⟨d.val + 64, by omega⟩) else o (ix2 t d) := by
  show (select upper o (swap e)) (ix2 t d) = _
  have hs := swap_apply e t d
  generalize swap e = z at hs
  pointwise [upper]
  rw [cmpi_sge_ofNat (by omega) (by omega)]
  by_cases h : d.val < 64
  · rw [dif_pos h, decide_eq_false (by omega)]
    refine hs.trans ?_
    have e : (d.val + 64) % 128 = d.val + 64 := by omega
    simp only [e]
  · rw [dif_neg h, decide_eq_true (by omega)]; rfl

theorem out0_apply (x : FVec Ideal S128x128 .f32) (t : Fin 16) (d : Fin 128) :
    out0 x (ix2 t d) = x (ix2 ⟨16 * (d.val / 64) + t.val, by omega⟩ ⟨d.val % 64, by omega⟩) := by
  rw [out0, lowPair_apply]
  by_cases h : d.val < 64
  · rw [if_pos h]; pointwise
    simp only [show d.val / 64 = 0 by omega, show d.val % 64 = d.val by omega, Nat.mul_zero, Nat.zero_add]
  · rw [if_neg h]; pointwise
    simp only [show d.val / 64 = 1 by omega, show d.val % 64 = d.val - 64 by omega, Nat.mul_one]

theorem out1_apply (x : FVec Ideal S128x128 .f32) (t : Fin 16) (d : Fin 128) :
    out1 x (ix2 t d) = x (ix2 ⟨16 * (2 + d.val / 64) + t.val, by omega⟩ ⟨d.val % 64, by omega⟩) := by
  rw [out1, lowPair_apply]
  by_cases h : d.val < 64
  · rw [if_pos h]; pointwise
    simp only [show d.val / 64 = 0 by omega, show d.val % 64 = d.val by omega, Nat.add_zero, Nat.reduceMul]
  · rw [if_neg h]; pointwise
    simp only [show d.val / 64 = 1 by omega, show d.val % 64 = d.val - 64 by omega, Nat.reduceMul, Nat.reduceAdd]

theorem out2_apply (x : FVec Ideal S128x128 .f32) (t : Fin 16) (d : Fin 128) :
    out2 x (ix2 t d) = x (ix2 ⟨16 * (4 + d.val / 64) + t.val, by omega⟩ ⟨64 + d.val % 64, by omega⟩) := by
  rw [out2, highPair_apply]
  by_cases h : d.val < 64
  · rw [dif_pos h]; pointwise
    simp only [show d.val / 64 = 0 by omega, show 64 + d.val % 64 = d.val + 64 by omega, Nat.add_zero, Nat.reduceMul]
  · rw [dif_neg h]; pointwise
    simp only [show d.val / 64 = 1 by omega, show 64 + d.val % 64 = d.val by omega, Nat.reduceMul, Nat.reduceAdd]

theorem out3_apply (x : FVec Ideal S128x128 .f32) (t : Fin 16) (d : Fin 128) :
    out3 x (ix2 t d) = x (ix2 ⟨16 * (6 + d.val / 64) + t.val, by omega⟩ ⟨64 + d.val % 64, by omega⟩) := by
  rw [out3, highPair_apply]
  by_cases h : d.val < 64
  · rw [dif_pos h]; pointwise
    simp only [show d.val / 64 = 0 by omega, show 64 + d.val % 64 = d.val + 64 by omega, Nat.add_zero, Nat.reduceMul]
  · rw [dif_neg h]; pointwise
    simp only [show d.val / 64 = 1 by omega, show 64 + d.val % 64 = d.val by omega, Nat.reduceMul, Nat.reduceAdd]

theorem piece_eq (y : FVec Ideal S128x128 .f32) (G : ℕ → ℕ → EReal) (p : ℕ) (o : Vec Ideal S16x128 .bf16) (q b : ℕ) (hb : b = 0 ∨ b = 64)
    (hq : 16 * (q + 1) + 16 ≤ 128) (off : ℕ) (hoff : off + 128 ≤ 2048)
    (hy : ∀ (j : Fin 8) (t : Fin 16) (x : Fin 64), y (ix2 (rw8 j t) ⟨64 * (j.val / 4) + x.val, by omega⟩) = G t.val (64 * (8 * p + j.val) + x.val))
    (ho : ∀ (t : Fin 16) (d : Fin 128), o (ix2 t d) = y (ix2 ⟨16 * (q + d.val / 64) + t.val, by omega⟩ ⟨b + d.val % 64, by omega⟩))
    (hq4 : b = 64 * (q / 4)) (hq2 : q % 2 = 0) (hof : off = 512 * p + 64 * q) (x : S16x128.Idx) :
    o x = (fun z : S16x2048.Idx => G (z 0).val (z 1).val) ((colRect off hoff).emb x) := by
  obtain ⟨t, d, rfl⟩ : ∃ (t : Fin 16) (d : Fin 128), x = ix2 t d := ⟨x 0, x 1, by funext a; fin_cases a <;> rfl⟩
  rw [ho]
  have h := hy ⟨q + d.val / 64, by omega⟩ t ⟨d.val % 64, by omega⟩
  have e0 : (((colRect off hoff).emb (ix2 t d)) 0).val = t.val := by
    show 0 + 1 * t.val = t.val; omega
  have e1 : (((colRect off hoff).emb (ix2 t d)) 1).val = 64 * (8 * p + (q + d.val / 64)) + d.val % 64 := by
    show off + 1 * d.val = _; omega
  show _ = G _ _
  rw [e0, e1, ← h]
  have e2 : 64 * ((q + d.val / 64) / 4) = b := by omega
  simp only [e2]

theorem outBlock_apply (y0 y1 y2 y3 : FVec Ideal S128x128 .f32) (G : ℕ → ℕ → EReal)
    (h0 : ∀ (j : Fin 8) (t : Fin 16) (x : Fin 64), y0 (ix2 (rw8 j t) ⟨64 * (j.val / 4) + x.val, by omega⟩) = G t.val (64 * (8 * 0 + j.val) + x.val))
    (h1 : ∀ (j : Fin 8) (t : Fin 16) (x : Fin 64), y1 (ix2 (rw8 j t) ⟨64 * (j.val / 4) + x.val, by omega⟩) = G t.val (64 * (8 * 1 + j.val) + x.val))
    (h2 : ∀ (j : Fin 8) (t : Fin 16) (x : Fin 64), y2 (ix2 (rw8 j t) ⟨64 * (j.val / 4) + x.val, by omega⟩) = G t.val (64 * (8 * 2 + j.val) + x.val))
    (h3 : ∀ (j : Fin 8) (t : Fin 16) (x : Fin 64), y3 (ix2 (rw8 j t) ⟨64 * (j.val / 4) + x.val, by omega⟩) = G t.val (64 * (8 * 3 + j.val) + x.val))
    (z : S16x2048.Idx) : outBlock y0 y1 y2 y3 z = G (z 0).val (z 1).val := by
  unfold outBlock
  refine View.canon_apply_of_pieces (Val := Elt Ideal) (e := .bf16) (fun z : S16x2048.Idx => G (z 0).val (z 1).val) _ ?_ z ?_
  · have z0 : ∀ (x : FVec Ideal S128x128 .f32) (t : Fin 16) (d : Fin 128),
        out0 x (ix2 t d) = x (ix2 ⟨16 * (0 + d.val / 64) + t.val, by omega⟩ ⟨0 + d.val % 64, by omega⟩) := fun x t d => by
      rw [out0_apply]; simp only [Nat.zero_add]
    have z1 : ∀ (x : FVec Ideal S128x128 .f32) (t : Fin 16) (d : Fin 128),
        out1 x (ix2 t d) = x (ix2 ⟨16 * (2 + d.val / 64) + t.val, by omega⟩ ⟨0 + d.val % 64, by omega⟩) := fun x t d => by
      rw [out1_apply]; simp only [Nat.zero_add]
    simp only [List.forall_mem_cons, List.not_mem_nil, false_imp_iff, implies_true, and_true]
    refine ⟨?_, ?_, ?_, ?_, ?_, ?_, ?_, ?_, ?_, ?_, ?_, ?_, ?_, ?_, ?_, ?_⟩
    · exact piece_eq y3 G 3 _ 6 64 (by omega) (by omega) _ _ h3 (out3_apply y3) rfl rfl rfl
    · exact piece_eq y3 G 3 _ 4 64 (by omega) (by omega) _ _ h3 (out2_apply y3) rfl rfl rfl
    · exact piece_eq y3 G 3 _ 2 0 (by omega) (by omega) _ _ h3 (z1 y3) rfl rfl rfl
    · exact piece_eq y3 G 3 _ 0 0 (by omega) (by omega) _ _ h3 (z0 y3) rfl rfl rfl
    · exact piece_eq y2 G 2 _ 6 64 (by omega) (by omega) _ _ h2 (out3_apply y2) rfl rfl rfl
    · exact piece_eq y2 G 2 _ 4 64 (by omega) (by omega) _ _ h2 (out2_apply y2) rfl rfl rfl
    · exact piece_eq y2 G 2 _ 2 0 (by omega) (by omega) _ _ h2 (z1 y2) rfl rfl rfl
    · exact piece_eq y2 G 2 _ 0 0 (by omega) (by omega) _ _ h2 (z0 y2) rfl rfl rfl
    · exact piece_eq y1 G 1 _ 6 64 (by omega) (by omega) _ _ h1 (out3_apply y1) rfl rfl rfl
    · exact piece_eq y1 G 1 _ 4 64 (by omega) (by omega) _ _ h1 (out2_apply y1) rfl rfl rfl
    · exact piece_eq y1 G 1 _ 2 0 (by omega) (by omega) _ _ h1 (z1 y1) rfl rfl rfl
    · exact piece_eq y1 G 1 _ 0 0 (by omega) (by omega) _ _ h1 (z0 y1) rfl rfl rfl
    · exact piece_eq y0 G 0 _ 6 64 (by omega) (by omega) _ _ h0 (out3_apply y0) rfl rfl rfl
    · exact piece_eq y0 G 0 _ 4 64 (by omega) (by omega) _ _ h0 (out2_apply y0) rfl rfl rfl
    · exact piece_eq y0 G 0 _ 2 0 (by omega) (by omega) _ _ h0 (z1 y0) rfl rfl rfl
    · exact piece_eq y0 G 0 _ 0 0 (by omega) (by omega) _ _ h0 (z0 y0) rfl rfl rfl
  · have hm : ∀ (off : ℕ) (hoff : off + 128 ≤ 2048), off ≤ (z 1).val → (z 1).val < off + 128 → z ∈ (colRect off hoff).set := by
      intro off hoff h1 h2
      refine Rect.mem_set_unit.2 fun a => ?_
      match a with
      | 0 => exact ⟨Nat.zero_le _, by show (z 0).val < 0 + 16; have h0 : (z 0).val < 16 := (z 0).isLt; omega⟩
      | 1 => exact ⟨h1, h2⟩
    have hz : (z 1).val < 2048 := (z 1).isLt
    simp only [List.exists_mem_cons_iff, List.not_mem_nil, false_and, exists_false, or_false]
    have := hm
    by_contra hno
    simp only [not_or] at hno
    obtain ⟨n15, n14, n13, n12, n11, n10, n9, n8, n7, n6, n5, n4, n3, n2, n1, n0⟩ := hno
    have k : ∀ (off : ℕ) (hoff : off + 128 ≤ 2048), z ∉ (colRect off hoff).set → ¬ (off ≤ (z 1).val ∧ (z 1).val < off + 128) :=
      fun off hoff hn h => hn (hm off hoff h.1 h.2)
    have := k _ _ n0; have := k _ _ n1; have := k _ _ n2; have := k _ _ n3; have := k _ _ n4; have := k _ _ n5; have := k _ _ n6
    have := k _ _ n7; have := k _ _ n8; have := k _ _ n9; have := k _ _ n10; have := k _ _ n11; have := k _ _ n12; have := k _ _ n13
    have := k _ _ n14; have := k _ _ n15
    omega

variable (X0 F XA6 XB6 X7 X1 X2 : ℕ → ℕ → ℝ) (XA3 XA4 XB3 XB4 : ℕ → ℕ → ℕ → ℝ)

/-- The score of head `h` at token `t` against a cached key. -/
def scoreP (X6 : ℕ → ℕ → ℝ) (X3 : ℕ → ℕ → ℕ → ℝ) (h t k : ℕ) : ℝ := dotS X0 (fun x => X3 (h / 4) x k) h t + (F t h - X6 h k)

/-- The score of head `h` at token `t` against a new key. -/
def scoreN (h t k : ℕ) : ℝ := if k ≤ t then dotS X0 (fun x => X1 k (64 * (h / 4) + x)) h t + (F t h - X7 h k) else masked

/-- The sum of all weights of head `h` at token `t`. -/
def total (h t : ℕ) : ℝ := ∑ k : Fin 2048, Real.exp (scoreP X0 F XA6 XA3 h t k.val) + ∑ k : Fin 2048, Real.exp (scoreP X0 F XB6 XB3 h t k.val) +
  ∑ k : Fin 16, Real.exp (scoreN X0 F X7 X1 h t k.val)

/-- The weighted sum of all values of head `h` at token `t`. -/
def weighted (h t x : ℕ) : ℝ :=
  ∑ k : Fin 2048, Real.exp (scoreP X0 F XA6 XA3 h t k.val) * XA4 (h / 4) x k.val +
  ∑ k : Fin 2048, Real.exp (scoreP X0 F XB6 XB3 h t k.val) * XB4 (h / 4) x k.val +
  ∑ k : Fin 16, Real.exp (scoreN X0 F X7 X1 h t k.val) * X2 k.val (64 * (h / 4) + x)

theorem total_pos (h t : ℕ) : 0 < total X0 F XA6 XB6 X7 X1 XA3 XB3 h t := by
  unfold total
  have h1 : 0 ≤ ∑ k : Fin 2048, Real.exp (scoreP X0 F XA6 XA3 h t k.val) := Finset.sum_nonneg fun _ _ => (Real.exp_pos _).le
  have h2 : 0 ≤ ∑ k : Fin 2048, Real.exp (scoreP X0 F XB6 XB3 h t k.val) := Finset.sum_nonneg fun _ _ => (Real.exp_pos _).le
  have h3 : 0 < ∑ k : Fin 16, Real.exp (scoreN X0 F X7 X1 h t k.val) := Finset.sum_pos (fun _ _ => Real.exp_pos _) ⟨0, Finset.mem_univ _⟩
  linarith

theorem row_zero (p : ℕ) (hp : p < 4) (r : Fin 128) :
    Row (slab (F := Ideal) (e := .f32) (m0 (F := Ideal)) p hp) (slab (F := Ideal) (e := .f32) (l0 (F := Ideal)) p hp) (slab (F := Ideal) (e := .f32) (a0 (F := Ideal)) p hp) r 0 (fun _ => 0) := by
  refine ⟨masked, fun d => ⟨?_, ?_, ?_⟩⟩
  · rw [← masked_eq]; rfl
  · rw [zero_mul, EReal.coe_zero, ← Ideal.ofBits_zero_f32]; rfl
  · rw [zero_mul, EReal.coe_zero, ← Ideal.ofBits_zero_f32]; rfl

theorem att_apply (x0 : Vec Ideal S16x2048 .f32) (x1 x2 : Vec Ideal S16x512 .f32) (xa3 xa4 xb3 xb4 : Vec Ideal S1x8x64x2048 .f32)
    (x5 : Vec Ideal S16x128 .f32) (xa6 xb6 : Vec Ideal S32x2048 .f32) (x7 : Vec Ideal S32x128 .f32)
    (h0 : ∀ (t : Fin 16) (c : Fin 2048), x0 (ix2 t c) = ((X0 t.val c.val : ℝ) : EReal))
    (h1 : ∀ (k : Fin 16) (c : Fin 512), x1 (ix2 k c) = ((X1 k.val c.val : ℝ) : EReal))
    (h2 : ∀ (k : Fin 16) (c : Fin 512), x2 (ix2 k c) = ((X2 k.val c.val : ℝ) : EReal))
    (ha3 : ∀ (g : Fin 8) (x : Fin 64) (k : Fin 2048), xa3 (ix4 0 g x k) = ((XA3 g.val x.val k.val : ℝ) : EReal))
    (ha4 : ∀ (g : Fin 8) (x : Fin 64) (k : Fin 2048), xa4 (ix4 0 g x k) = ((XA4 g.val x.val k.val : ℝ) : EReal))
    (hb3 : ∀ (g : Fin 8) (x : Fin 64) (k : Fin 2048), xb3 (ix4 0 g x k) = ((XB3 g.val x.val k.val : ℝ) : EReal))
    (hb4 : ∀ (g : Fin 8) (x : Fin 64) (k : Fin 2048), xb4 (ix4 0 g x k) = ((XB4 g.val x.val k.val : ℝ) : EReal))
    (h5 : ∀ (t : Fin 16) (c : Fin 32), x5 (ix2 t ⟨c.val, by omega⟩) = ((F t.val c.val : ℝ) : EReal))
    (ha6 : ∀ (h : Fin 32) (k : Fin 2048), xa6 (ix2 h k) = ((XA6 h.val k.val : ℝ) : EReal))
    (hb6 : ∀ (h : Fin 32) (k : Fin 2048), xb6 (ix2 h k) = ((XB6 h.val k.val : ℝ) : EReal))
    (h7 : ∀ (h : Fin 32) (k : Fin 16), x7 (ix2 h ⟨k.val, by omega⟩) = ((X7 h.val k.val : ℝ) : EReal))
    (p : ℕ) (hp : p < 4) (j : Fin 8) (t : Fin 16) (x : Fin 64) :
    attP (qP x0 p hp) (fP x5 p) (mPast (sP (qP x0 p hp) (fP x5 p) xa3 xa6 p hp) (slab (F := Ideal) (e := .f32) (m0 (F := Ideal)) p hp))
      (lPast (sP (qP x0 p hp) (fP x5 p) xa3 xa6 p hp) (slab (F := Ideal) (e := .f32) (m0 (F := Ideal)) p hp) (slab (F := Ideal) (e := .f32) (l0 (F := Ideal)) p hp))
      (aP (sP (qP x0 p hp) (fP x5 p) xa3 xa6 p hp) xa4 (slab (F := Ideal) (e := .f32) (m0 (F := Ideal)) p hp) (slab (F := Ideal) (e := .f32) (a0 (F := Ideal)) p hp) p hp) x1 x2 xb3 xb4 xb6 x7 p hp
      (ix2 (rw8 j t) ⟨64 * (j.val / 4) + x.val, by omega⟩) =
      ((weighted X0 F XA6 XB6 X7 X1 X2 XA3 XA4 XB3 XB4 (8 * p + j.val) t.val x.val / total X0 F XA6 XB6 X7 X1 XA3 XB3 (8 * p + j.val) t.val : ℝ) : EReal) := by
  have eg : (8 * p + j.val) / 4 = 2 * p + j.val / 4 := by omega
  have r0 := row_past _ (headBlock xa4 (2 * p) (by omega)) (headBlock xa4 (2 * p + 1) (by omega)) _ _ _ _ _ _ _ _ (row_zero p hp (rw8 j t))
    (fun k => sP_apply X0 F XA6 XA3 x0 x5 xa3 xa6 h0 h5 ha3 ha6 p hp j t k) (fun d k => kv_apply XA4 xa4 ha4 p hp d k)
  have r1 := row_past _ (headBlock xb4 (2 * p) (by omega)) (headBlock xb4 (2 * p + 1) (by omega)) _ _ _ _ _ _ _ _ r0
    (fun k => sP_apply X0 F XB6 XB3 x0 x5 xb3 xb6 h0 h5 hb3 hb6 p hp j t k) (fun d k => kv_apply XB4 xb4 hb4 p hp d k)
  obtain ⟨M, r2⟩ := row_new _ (newTile x2 p hp) _ _ _ _ _ _ _ (fun d k => X2 k.val (128 * p + d.val)) r1
    (fun k => sN_apply X0 F X7 X1 x0 x5 x1 x7 h0 h5 h1 h7 p hp j t k)
    (fun d k => by pointwise [newTile]; exact h2 k ⟨128 * p + d.val, by omega⟩)
  have r3 := r2 ⟨64 * (j.val / 4) + x.val, by omega⟩
  have hpos := total_pos X0 F XA6 XB6 X7 X1 XA3 XB3 (8 * p + j.val) t.val
  have e1 : (64 * (j.val / 4) + x.val) / 64 = j.val / 4 := by omega
  have e2 : (64 * (j.val / 4) + x.val) % 64 = x.val := by omega
  have e3 : 128 * p + (64 * (j.val / 4) + x.val) = 64 * (2 * p + j.val / 4) + x.val := by omega
  simp only [e1, e2, e3, zero_add] at r3
  unfold total scoreP scoreN at hpos
  simp only [eg] at hpos
  unfold weighted total scoreP scoreN
  simp only [eg]
  exact quot_row _ _ _ _ _ _ M hpos r3.1 r3.2

end Cert.KernelIdeal.Att
end
-- ==== Proof.Win.lean ====
module
public import proofs.«01_k».proof.Proof.Att
public import proofs.«01_k».proof.Proof.Gen.KernelIdeal.Value
public import Idealize.ShloMosaic.Lib.StableHlo.ReadAt
public import Idealize.ShloMosaic.Lib.Claim

/-! The blocks a step reads, as elements of the arguments. -/

@[expose] public section
noncomputable section
namespace Cert.KernelIdeal.Att
open Idealize.ShloMosaic Idealize.ShloMosaic.TcCoe Idealize.SL.Sem
open Cert.KernelIdeal Cert.KernelIdeal.Gen Idealize.ShloMosaic.WordCmp

variable {F : FTy → Type} [FloatOps F] (m : (ℓ : Loc nD τ sig) → Buf (Elt F) ℓ)

theorem V_v12 (c : Dev nD) (b : Fin 32) (g : Fin 8) (x : Fin 64) (k : Fin 4096) :
    (V m c main_v12 : S32x8x64x4096.Idx → F .f32) (ix4 b g x k) = (m ((c : Thread nD τ).loc main_arg1) : S1x32x4096x8x64.Idx → F .f32) (ix5 0 b k g x) := by
  unfold V
  after_reads_at

theorem V_v14 (c : Dev nD) (b : Fin 32) (g : Fin 8) (x : Fin 64) (k : Fin 4096) :
    (V m c main_v14 : S32x8x64x4096.Idx → F .f32) (ix4 b g x k) = (m ((c : Thread nD τ).loc main_arg2) : S1x32x4096x8x64.Idx → F .f32) (ix5 0 b k g x) := by
  unfold V
  after_reads_at

theorem V_v2 (c : Dev nD) (b : Fin 32) (h : Fin 32) (k : Fin 4096) :
    (V m c main_v2 : S1024x4096.Idx → F .f32) (ix2 ⟨32 * b.val + h.val, by omega⟩ k) = (m ((c : Thread nD τ).loc main_arg3) : S32x4112x32.Idx → F .f32) (ix3 b ⟨k.val, by omega⟩ h) := by
  unfold V
  after_reads_at

theorem V_v5 (c : Dev nD) (b : Fin 32) (t : Fin 16) (h : Fin 32) :
    (V m c main_v5 : S512x128.Idx → F .f32) (ix2 ⟨16 * b.val + t.val, by omega⟩ ⟨h.val, by omega⟩) = (m ((c : Thread nD τ).loc main_arg3) : S32x4112x32.Idx → F .f32) (ix3 b ⟨4096 + t.val, by omega⟩ h) := by
  unfold V
  after_reads_at
  rw [dif_pos (by omega)]
  have e1 : (16 * b.val + t.val) / 16 = b.val := by omega
  have e2 : 4096 + (16 * b.val + t.val) % 16 = 4096 + t.val := by omega
  simp only [e1, e2] <;> rfl

theorem V_v10 (c : Dev nD) (b : Fin 32) (t : Fin 16) (h : Fin 32) :
    (V m c main_v10 : S1024x128.Idx → F .f32) (ix2 ⟨32 * b.val + h.val, by omega⟩ ⟨t.val, by omega⟩) = (m ((c : Thread nD τ).loc main_arg3) : S32x4112x32.Idx → F .f32) (ix3 b ⟨4096 + t.val, by omega⟩ h) := by
  unfold V
  after_reads_at
  rw [dif_pos (by omega), dif_pos (by omega)]
  have e0 : (32 * b.val + h.val) / 32 = b.val := by omega
  have e1 : ((32 * b.val + h.val) / 32 * 16 + t.val) / 16 = b.val := by omega
  have e2 : 4096 + ((32 * b.val + h.val) / 32 * 16 + t.val) % 16 = 4096 + t.val := by omega
  have e3 : (32 * b.val + h.val) % 32 = h.val := by omega
  simp only [e1, e2, e3] <;> rfl

theorem V_v15 (c : Dev nD) : V m c main_v15 = m ((c : Thread nD τ).loc main_arg4) := by
  unfold V
  after_reads_simp
  first | done | rfl

/-! Which block each window reads: of the new rows, batch `t / 2`; of the past, chunk `t % 2` besides. -/

theorem idx_0 : ∀ t : Fin cfg0.N, win0_0.index t = ![512 + t.val / 2, 0] := by decide +kernel
theorem idx_1 : ∀ t : Fin cfg0.N, win0_1.index t = ![512 + t.val / 2, 4] := by decide +kernel
theorem idx_2 : ∀ t : Fin cfg0.N, win0_2.index t = ![512 + t.val / 2, 5] := by decide +kernel
theorem idx_3 : ∀ t : Fin cfg0.N, win0_3.index t = ![t.val / 2, 0, 0, t.val % 2] := by decide +kernel
theorem idx_4 : ∀ t : Fin cfg0.N, win0_4.index t = ![t.val / 2, 0, 0, t.val % 2] := by decide +kernel
theorem idx_5 : ∀ t : Fin cfg0.N, win0_5.index t = ![t.val / 2, 0] := by decide +kernel
theorem idx_6 : ∀ t : Fin cfg0.N, win0_6.index t = ![t.val / 2, t.val % 2] := by decide +kernel
theorem idx_7 : ∀ t : Fin cfg0.N, win0_7.index t = ![t.val / 2, 0] := by decide +kernel
theorem idx_8 : ∀ t : Fin cfg0.N, win0_8.index t = ![512 + t.val / 2, 0] := by decide +kernel

theorem blk_0 (c : Dev nD) (t : Fin cfg0.N) (ht : t.val < 64) (r : Fin 16) (l : Fin 2048) :
    (X0_0 m c t : S16x2048.Idx → F .f32) (ix2 r l) = (m ((c : Thread nD τ).loc main_arg0) : S8704x3072.Idx → F .f32) (ix2 ⟨8192 + 16 * (t.val / 2) + r.val, by omega⟩ ⟨l.val, by omega⟩) := by
  rw [← V_main_arg0 m c]
  unfold X0_0 Pipeline.Window.fill
  rw [dif_pos (moved0_0 t _)]
  unfold iblk
  rw [View.read_apply]
  show (V m c main_arg0 : S8704x3072.Idx → F .f32) _ = (V m c main_arg0 : S8704x3072.Idx → F .f32) _
  congr 1
  funext a
  apply Fin.ext
  match a with
  | ⟨0, _⟩ => show win0_0.index t 0 * 16 + 1 * r.val = 8192 + 16 * (t.val / 2) + r.val; rw [idx_0 t]; show (512 + t.val / 2) * 16 + 1 * r.val = _; omega
  | ⟨1, _⟩ => show win0_0.index t 1 * 2048 + 1 * l.val = l.val; rw [idx_0 t]; show 0 * 2048 + 1 * l.val = _; omega

theorem blk_1 (c : Dev nD) (t : Fin cfg0.N) (ht : t.val < 64) (r : Fin 16) (l : Fin 512) :
    (iblk m c 1 t : S16x512.Idx → F .f32) (ix2 r l) = (m ((c : Thread nD τ).loc main_arg0) : S8704x3072.Idx → F .f32) (ix2 ⟨8192 + 16 * (t.val / 2) + r.val, by omega⟩ ⟨2048 + l.val, by omega⟩) := by
  rw [← V_main_arg0 m c]
  unfold iblk
  rw [View.read_apply]
  show (V m c main_arg0 : S8704x3072.Idx → F .f32) _ = (V m c main_arg0 : S8704x3072.Idx → F .f32) _
  congr 1
  funext a
  apply Fin.ext
  match a with
  | ⟨0, _⟩ => show win0_1.index t 0 * 16 + 1 * r.val = 8192 + 16 * (t.val / 2) + r.val; rw [idx_1 t]; show (512 + t.val / 2) * 16 + 1 * r.val = _; omega
  | ⟨1, _⟩ => show win0_1.index t 1 * 512 + 1 * l.val = 2048 + l.val; rw [idx_1 t]; show 4 * 512 + 1 * l.val = _; omega

theorem blk_2 (c : Dev nD) (t : Fin cfg0.N) (ht : t.val < 64) (r : Fin 16) (l : Fin 512) :
    (iblk m c 2 t : S16x512.Idx → F .f32) (ix2 r l) = (m ((c : Thread nD τ).loc main_arg0) : S8704x3072.Idx → F .f32) (ix2 ⟨8192 + 16 * (t.val / 2) + r.val, by omega⟩ ⟨2560 + l.val, by omega⟩) := by
  rw [← V_main_arg0 m c]
  unfold iblk
  rw [View.read_apply]
  show (V m c main_arg0 : S8704x3072.Idx → F .f32) _ = (V m c main_arg0 : S8704x3072.Idx → F .f32) _
  congr 1
  funext a
  apply Fin.ext
  match a with
  | ⟨0, _⟩ => show win0_2.index t 0 * 16 + 1 * r.val = 8192 + 16 * (t.val / 2) + r.val; rw [idx_2 t]; show (512 + t.val / 2) * 16 + 1 * r.val = _; omega
  | ⟨1, _⟩ => show win0_2.index t 1 * 512 + 1 * l.val = 2560 + l.val; rw [idx_2 t]; show 5 * 512 + 1 * l.val = _; omega

theorem blk_3 (c : Dev nD) (t : Fin cfg0.N) (ht : t.val < 64) (g : Fin 8) (x : Fin 64) (k : Fin 2048) :
    (iblk m c 3 t : S1x8x64x2048.Idx → F .f32) (ix4 0 g x k) = (m ((c : Thread nD τ).loc main_arg1) : S1x32x4096x8x64.Idx → F .f32) (ix5 0 ⟨t.val / 2, by omega⟩ ⟨2048 * (t.val % 2) + k.val, by omega⟩ g x) := by
  rw [← V_v12 m c ⟨t.val / 2, by omega⟩ g x ⟨2048 * (t.val % 2) + k.val, by omega⟩]
  unfold iblk
  rw [View.read_apply]
  show (V m c main_v12 : S32x8x64x4096.Idx → F .f32) _ = (V m c main_v12 : S32x8x64x4096.Idx → F .f32) _
  congr 1
  funext a
  apply Fin.ext
  match a with
  | ⟨0, _⟩ => show win0_3.index t 0 * 1 + 1 * 0 = t.val / 2; rw [idx_3 t]; show (t.val / 2) * 1 + 1 * 0 = _; omega
  | ⟨1, _⟩ => show win0_3.index t 1 * 8 + 1 * g.val = g.val; rw [idx_3 t]; show 0 * 8 + 1 * g.val = _; omega
  | ⟨2, _⟩ => show win0_3.index t 2 * 64 + 1 * x.val = x.val; rw [idx_3 t]; show 0 * 64 + 1 * x.val = _; omega
  | ⟨3, _⟩ => show win0_3.index t 3 * 2048 + 1 * k.val = 2048 * (t.val % 2) + k.val; rw [idx_3 t]; show (t.val % 2) * 2048 + 1 * k.val = _; omega

theorem blk_4 (c : Dev nD) (t : Fin cfg0.N) (ht : t.val < 64) (g : Fin 8) (x : Fin 64) (k : Fin 2048) :
    (iblk m c 4 t : S1x8x64x2048.Idx → F .f32) (ix4 0 g x k) = (m ((c : Thread nD τ).loc main_arg2) : S1x32x4096x8x64.Idx → F .f32) (ix5 0 ⟨t.val / 2, by omega⟩ ⟨2048 * (t.val % 2) + k.val, by omega⟩ g x) := by
  rw [← V_v14 m c ⟨t.val / 2, by omega⟩ g x ⟨2048 * (t.val % 2) + k.val, by omega⟩]
  unfold iblk
  rw [View.read_apply]
  show (V m c main_v14 : S32x8x64x4096.Idx → F .f32) _ = (V m c main_v14 : S32x8x64x4096.Idx → F .f32) _
  congr 1
  funext a
  apply Fin.ext
  match a with
  | ⟨0, _⟩ => show win0_4.index t 0 * 1 + 1 * 0 = t.val / 2; rw [idx_4 t]; show (t.val / 2) * 1 + 1 * 0 = _; omega
  | ⟨1, _⟩ => show win0_4.index t 1 * 8 + 1 * g.val = g.val; rw [idx_4 t]; show 0 * 8 + 1 * g.val = _; omega
  | ⟨2, _⟩ => show win0_4.index t 2 * 64 + 1 * x.val = x.val; rw [idx_4 t]; show 0 * 64 + 1 * x.val = _; omega
  | ⟨3, _⟩ => show win0_4.index t 3 * 2048 + 1 * k.val = 2048 * (t.val % 2) + k.val; rw [idx_4 t]; show (t.val % 2) * 2048 + 1 * k.val = _; omega

theorem blk_5 (c : Dev nD) (t : Fin cfg0.N) (ht : t.val < 64) (r : Fin 16) (h : Fin 32) :
    (iblk m c 5 t : S16x128.Idx → F .f32) (ix2 r ⟨h.val, by omega⟩) = (m ((c : Thread nD τ).loc main_arg3) : S32x4112x32.Idx → F .f32) (ix3 ⟨t.val / 2, by omega⟩ ⟨4096 + r.val, by omega⟩ h) := by
  rw [← V_v5 m c ⟨t.val / 2, by omega⟩ r h]
  unfold iblk
  rw [View.read_apply]
  show (V m c main_v5 : S512x128.Idx → F .f32) _ = (V m c main_v5 : S512x128.Idx → F .f32) _
  congr 1
  funext a
  apply Fin.ext
  match a with
  | ⟨0, _⟩ => show win0_5.index t 0 * 16 + 1 * r.val = 16 * (t.val / 2) + r.val; rw [idx_5 t]; show (t.val / 2) * 16 + 1 * r.val = _; omega
  | ⟨1, _⟩ => show win0_5.index t 1 * 128 + 1 * h.val = h.val; rw [idx_5 t]; show 0 * 128 + 1 * h.val = _; omega

theorem blk_6 (c : Dev nD) (t : Fin cfg0.N) (ht : t.val < 64) (h : Fin 32) (k : Fin 2048) :
    (iblk m c 6 t : S32x2048.Idx → F .f32) (ix2 h k) = (m ((c : Thread nD τ).loc main_arg3) : S32x4112x32.Idx → F .f32) (ix3 ⟨t.val / 2, by omega⟩ ⟨2048 * (t.val % 2) + k.val, by omega⟩ h) := by
  rw [← V_v2 m c ⟨t.val / 2, by omega⟩ h ⟨2048 * (t.val % 2) + k.val, by omega⟩]
  unfold iblk
  rw [View.read_apply]
  show (V m c main_v2 : S1024x4096.Idx → F .f32) _ = (V m c main_v2 : S1024x4096.Idx → F .f32) _
  congr 1
  funext a
  apply Fin.ext
  match a with
  | ⟨0, _⟩ => show win0_6.index t 0 * 32 + 1 * h.val = 32 * (t.val / 2) + h.val; rw [idx_6 t]; show (t.val / 2) * 32 + 1 * h.val = _; omega
  | ⟨1, _⟩ => show win0_6.index t 1 * 2048 + 1 * k.val = 2048 * (t.val % 2) + k.val; rw [idx_6 t]; show (t.val % 2) * 2048 + 1 * k.val = _; omega

theorem blk_7 (c : Dev nD) (t : Fin cfg0.N) (ht : t.val < 64) (h : Fin 32) (r : Fin 16) :
    (iblk m c 7 t : S32x128.Idx → F .f32) (ix2 h ⟨r.val, by omega⟩) = (m ((c : Thread nD τ).loc main_arg3) : S32x4112x32.Idx → F .f32) (ix3 ⟨t.val / 2, by omega⟩ ⟨4096 + r.val, by omega⟩ h) := by
  rw [← V_v10 m c ⟨t.val / 2, by omega⟩ r h]
  unfold iblk
  rw [View.read_apply]
  show (V m c main_v10 : S1024x128.Idx → F .f32) _ = (V m c main_v10 : S1024x128.Idx → F .f32) _
  congr 1
  funext a
  apply Fin.ext
  match a with
  | ⟨0, _⟩ => show win0_7.index t 0 * 32 + 1 * h.val = 32 * (t.val / 2) + h.val; rw [idx_7 t]; show (t.val / 2) * 32 + 1 * h.val = _; omega
  | ⟨1, _⟩ => show win0_7.index t 1 * 128 + 1 * r.val = r.val; rw [idx_7 t]; show 0 * 128 + 1 * r.val = _; omega

end Cert.KernelIdeal.Att
end
-- ==== Proof.Block.lean ====
module
public import proofs.«01_k».proof.Proof.Win
public import proofs.«01_k».proof.Proof.ReadA
public import proofs.«01_k».proof.Proof.ReadB

/-! The block a sample's last step leaves: every head's weighted values over its sum of weights. -/

@[expose] public section
noncomputable section
namespace Cert.KernelIdeal.Att
open Idealize.ShloMosaic Idealize.ShloMosaic.TcCoe Idealize.SL.Sem
open Cert.KernelIdeal Cert.KernelIdeal.Gen Idealize.ShloMosaic.WordCmp

/-- An element of the projected rows, as a real. -/
def rd0 (A : S8704x3072.Idx → EReal) (i j : ℕ) : ℝ := (A (ix2 ⟨i % 8704, by omega⟩ ⟨j % 3072, by omega⟩)).toReal
/-- An element of a cache, as a real: batch, position, key head, lane. -/
def rd1 (A : S1x32x4096x8x64.Idx → EReal) (b k g x : ℕ) : ℝ :=
  (A (ix5 0 ⟨b % 32, by omega⟩ ⟨k % 4096, by omega⟩ ⟨g % 8, by omega⟩ ⟨x % 64, by omega⟩)).toReal
/-- A cumulative gate, as a real: batch, position, head. -/
def rd3 (A : S32x4112x32.Idx → EReal) (b k h : ℕ) : ℝ := (A (ix3 ⟨b % 32, by omega⟩ ⟨k % 4112, by omega⟩ ⟨h % 32, by omega⟩)).toReal

theorem rd0_eq (A : S8704x3072.Idx → EReal) (hA : ∀ i, A i = ((A i).toReal : EReal)) (i j : ℕ) (hi : i < 8704) (hj : j < 3072) :
    A (ix2 ⟨i, hi⟩ ⟨j, hj⟩) = (rd0 A i j : EReal) := by
  unfold rd0
  rw [← hA]
  congr 2 <;> exact Fin.ext (Nat.mod_eq_of_lt (by assumption)).symm

theorem rd1_eq (A : S1x32x4096x8x64.Idx → EReal) (hA : ∀ i, A i = ((A i).toReal : EReal)) (b k g x : ℕ) (hb : b < 32) (hk : k < 4096) (hg : g < 8) (hx : x < 64) :
    A (ix5 0 ⟨b, hb⟩ ⟨k, hk⟩ ⟨g, hg⟩ ⟨x, hx⟩) = (rd1 A b k g x : EReal) := by
  unfold rd1
  rw [← hA]
  congr 2 <;> exact Fin.ext (Nat.mod_eq_of_lt (by assumption)).symm

theorem rd3_eq (A : S32x4112x32.Idx → EReal) (hA : ∀ i, A i = ((A i).toReal : EReal)) (b k h : ℕ) (hb : b < 32) (hk : k < 4112) (hh : h < 32) :
    A (ix3 ⟨b, hb⟩ ⟨k, hk⟩ ⟨h, hh⟩) = (rd3 A b k h : EReal) := by
  unfold rd3
  rw [← hA]
  congr 2 <;> exact Fin.ext (Nat.mod_eq_of_lt (by assumption)).symm

/-- The sum of the weights of batch `b`, head `h`, token `t`. -/
def resD (A0 : S8704x3072.Idx → EReal) (A1 : S1x32x4096x8x64.Idx → EReal) (A3 : S32x4112x32.Idx → EReal) (b h t : ℕ) : ℝ :=
  total (fun t c => rd0 A0 (8192 + 16 * b + t) c) (fun t h => rd3 A3 b (4096 + t) h) (fun h k => rd3 A3 b k h) (fun h k => rd3 A3 b (2048 + k) h)
    (fun h k => rd3 A3 b (4096 + k) h) (fun k c => rd0 A0 (8192 + 16 * b + k) (2048 + c)) (fun g x k => rd1 A1 b k g x) (fun g x k => rd1 A1 b (2048 + k) g x) h t

/-- The weighted values of batch `b`, head `h`, token `t`, lane `x`. -/
def resN (A0 : S8704x3072.Idx → EReal) (A1 A2 : S1x32x4096x8x64.Idx → EReal) (A3 : S32x4112x32.Idx → EReal) (b h t x : ℕ) : ℝ :=
  weighted (fun t c => rd0 A0 (8192 + 16 * b + t) c) (fun t h => rd3 A3 b (4096 + t) h) (fun h k => rd3 A3 b k h) (fun h k => rd3 A3 b (2048 + k) h)
    (fun h k => rd3 A3 b (4096 + k) h) (fun k c => rd0 A0 (8192 + 16 * b + k) (2048 + c)) (fun k c => rd0 A0 (8192 + 16 * b + k) (2560 + c))
    (fun g x k => rd1 A1 b k g x) (fun g x k => rd1 A2 b k g x) (fun g x k => rd1 A1 b (2048 + k) g x) (fun g x k => rd1 A2 b (2048 + k) g x) h t x

section
variable {F : FTy → Type} [FloatOps F] (m : (ℓ : Loc nD τ sig) → Buf (Elt F) ℓ)

theorem scr_0_0 (c : Dev nD) (s : Fin cfg0.N) (h0 : s.val % 2 = 0) (h1 : ¬s.val % 2 = 1) :
    slab (F := F) (e := .bf16) (outsAt0 m c s.val s.isLt).2.1 0 (by omega) = qP (X0_0 m c s) 0 (by omega) := by
  have e : (outsAt0 m c s.val s.isLt).2.1 = sout0_A_0 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s) := by rw [outsAt0_A m c s h0 h1]
  have f := first_0_0 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s)
  rw [e, f]

theorem scr_1_0 (c : Dev nD) (s : Fin cfg0.N) (h0 : s.val % 2 = 0) (h1 : ¬s.val % 2 = 1) :
    slab (F := F) (e := .f32) (outsAt0 m c s.val s.isLt).2.2.1 0 (by omega) = fP (iblk m c 5 s) 0 := by
  have e : (outsAt0 m c s.val s.isLt).2.2.1 = sout0_A_1 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s) := by rw [outsAt0_A m c s h0 h1]
  have f := first_1_0 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s)
  rw [e, f]

theorem scr_2_0 (c : Dev nD) (s : Fin cfg0.N) (h0 : s.val % 2 = 0) (h1 : ¬s.val % 2 = 1) :
    slab (F := F) (e := .f32) (outsAt0 m c s.val s.isLt).2.2.2.1 0 (by omega) = mPast (sP (qP (X0_0 m c s) 0 (by omega)) (fP (iblk m c 5 s) 0) (iblk m c 3 s) (iblk m c 6 s) 0 (by omega)) (slab (F := F) (e := .f32) (m0 (F := F)) 0 (by omega)) := by
  have e : (outsAt0 m c s.val s.isLt).2.2.2.1 = sout0_A_2 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s) := by rw [outsAt0_A m c s h0 h1]
  have f := first_2_0 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s)
  rw [e, f]

theorem scr_3_0 (c : Dev nD) (s : Fin cfg0.N) (h0 : s.val % 2 = 0) (h1 : ¬s.val % 2 = 1) :
    slab (F := F) (e := .f32) (outsAt0 m c s.val s.isLt).2.2.2.2.1 0 (by omega) = lPast (sP (qP (X0_0 m c s) 0 (by omega)) (fP (iblk m c 5 s) 0) (iblk m c 3 s) (iblk m c 6 s) 0 (by omega)) (slab (F := F) (e := .f32) (m0 (F := F)) 0 (by omega)) (slab (F := F) (e := .f32) (l0 (F := F)) 0 (by omega)) := by
  have e : (outsAt0 m c s.val s.isLt).2.2.2.2.1 = sout0_A_3 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s) := by rw [outsAt0_A m c s h0 h1]
  have f := first_3_0 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s)
  rw [e, f]

theorem scr_4_0 (c : Dev nD) (s : Fin cfg0.N) (h0 : s.val % 2 = 0) (h1 : ¬s.val % 2 = 1) :
    slab (F := F) (e := .f32) (outsAt0 m c s.val s.isLt).2.2.2.2.2 0 (by omega) = aP (sP (qP (X0_0 m c s) 0 (by omega)) (fP (iblk m c 5 s) 0) (iblk m c 3 s) (iblk m c 6 s) 0 (by omega)) (iblk m c 4 s) (slab (F := F) (e := .f32) (m0 (F := F)) 0 (by omega)) (slab (F := F) (e := .f32) (a0 (F := F)) 0 (by omega)) 0 (by omega) := by
  have e : (outsAt0 m c s.val s.isLt).2.2.2.2.2 = sout0_A_4 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s) := by rw [outsAt0_A m c s h0 h1]
  have f := first_4_0 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s)
  rw [e, f]

theorem scr_0_1 (c : Dev nD) (s : Fin cfg0.N) (h0 : s.val % 2 = 0) (h1 : ¬s.val % 2 = 1) :
    slab (F := F) (e := .bf16) (outsAt0 m c s.val s.isLt).2.1 1 (by omega) = qP (X0_0 m c s) 1 (by omega) := by
  have e : (outsAt0 m c s.val s.isLt).2.1 = sout0_A_0 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s) := by rw [outsAt0_A m c s h0 h1]
  have f := first_0_1 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s)
  rw [e, f]

theorem scr_1_1 (c : Dev nD) (s : Fin cfg0.N) (h0 : s.val % 2 = 0) (h1 : ¬s.val % 2 = 1) :
    slab (F := F) (e := .f32) (outsAt0 m c s.val s.isLt).2.2.1 1 (by omega) = fP (iblk m c 5 s) 1 := by
  have e : (outsAt0 m c s.val s.isLt).2.2.1 = sout0_A_1 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s) := by rw [outsAt0_A m c s h0 h1]
  have f := first_1_1 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s)
  rw [e, f]

theorem scr_2_1 (c : Dev nD) (s : Fin cfg0.N) (h0 : s.val % 2 = 0) (h1 : ¬s.val % 2 = 1) :
    slab (F := F) (e := .f32) (outsAt0 m c s.val s.isLt).2.2.2.1 1 (by omega) = mPast (sP (qP (X0_0 m c s) 1 (by omega)) (fP (iblk m c 5 s) 1) (iblk m c 3 s) (iblk m c 6 s) 1 (by omega)) (slab (F := F) (e := .f32) (m0 (F := F)) 1 (by omega)) := by
  have e : (outsAt0 m c s.val s.isLt).2.2.2.1 = sout0_A_2 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s) := by rw [outsAt0_A m c s h0 h1]
  have f := first_2_1 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s)
  rw [e, f]

theorem scr_3_1 (c : Dev nD) (s : Fin cfg0.N) (h0 : s.val % 2 = 0) (h1 : ¬s.val % 2 = 1) :
    slab (F := F) (e := .f32) (outsAt0 m c s.val s.isLt).2.2.2.2.1 1 (by omega) = lPast (sP (qP (X0_0 m c s) 1 (by omega)) (fP (iblk m c 5 s) 1) (iblk m c 3 s) (iblk m c 6 s) 1 (by omega)) (slab (F := F) (e := .f32) (m0 (F := F)) 1 (by omega)) (slab (F := F) (e := .f32) (l0 (F := F)) 1 (by omega)) := by
  have e : (outsAt0 m c s.val s.isLt).2.2.2.2.1 = sout0_A_3 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s) := by rw [outsAt0_A m c s h0 h1]
  have f := first_3_1 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s)
  rw [e, f]

theorem scr_4_1 (c : Dev nD) (s : Fin cfg0.N) (h0 : s.val % 2 = 0) (h1 : ¬s.val % 2 = 1) :
    slab (F := F) (e := .f32) (outsAt0 m c s.val s.isLt).2.2.2.2.2 1 (by omega) = aP (sP (qP (X0_0 m c s) 1 (by omega)) (fP (iblk m c 5 s) 1) (iblk m c 3 s) (iblk m c 6 s) 1 (by omega)) (iblk m c 4 s) (slab (F := F) (e := .f32) (m0 (F := F)) 1 (by omega)) (slab (F := F) (e := .f32) (a0 (F := F)) 1 (by omega)) 1 (by omega) := by
  have e : (outsAt0 m c s.val s.isLt).2.2.2.2.2 = sout0_A_4 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s) := by rw [outsAt0_A m c s h0 h1]
  have f := first_4_1 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s)
  rw [e, f]

theorem scr_0_2 (c : Dev nD) (s : Fin cfg0.N) (h0 : s.val % 2 = 0) (h1 : ¬s.val % 2 = 1) :
    slab (F := F) (e := .bf16) (outsAt0 m c s.val s.isLt).2.1 2 (by omega) = qP (X0_0 m c s) 2 (by omega) := by
  have e : (outsAt0 m c s.val s.isLt).2.1 = sout0_A_0 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s) := by rw [outsAt0_A m c s h0 h1]
  have f := first_0_2 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s)
  rw [e, f]

theorem scr_1_2 (c : Dev nD) (s : Fin cfg0.N) (h0 : s.val % 2 = 0) (h1 : ¬s.val % 2 = 1) :
    slab (F := F) (e := .f32) (outsAt0 m c s.val s.isLt).2.2.1 2 (by omega) = fP (iblk m c 5 s) 2 := by
  have e : (outsAt0 m c s.val s.isLt).2.2.1 = sout0_A_1 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s) := by rw [outsAt0_A m c s h0 h1]
  have f := first_1_2 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s)
  rw [e, f]

theorem scr_2_2 (c : Dev nD) (s : Fin cfg0.N) (h0 : s.val % 2 = 0) (h1 : ¬s.val % 2 = 1) :
    slab (F := F) (e := .f32) (outsAt0 m c s.val s.isLt).2.2.2.1 2 (by omega) = mPast (sP (qP (X0_0 m c s) 2 (by omega)) (fP (iblk m c 5 s) 2) (iblk m c 3 s) (iblk m c 6 s) 2 (by omega)) (slab (F := F) (e := .f32) (m0 (F := F)) 2 (by omega)) := by
  have e : (outsAt0 m c s.val s.isLt).2.2.2.1 = sout0_A_2 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s) := by rw [outsAt0_A m c s h0 h1]
  have f := first_2_2 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s)
  rw [e, f]

theorem scr_3_2 (c : Dev nD) (s : Fin cfg0.N) (h0 : s.val % 2 = 0) (h1 : ¬s.val % 2 = 1) :
    slab (F := F) (e := .f32) (outsAt0 m c s.val s.isLt).2.2.2.2.1 2 (by omega) = lPast (sP (qP (X0_0 m c s) 2 (by omega)) (fP (iblk m c 5 s) 2) (iblk m c 3 s) (iblk m c 6 s) 2 (by omega)) (slab (F := F) (e := .f32) (m0 (F := F)) 2 (by omega)) (slab (F := F) (e := .f32) (l0 (F := F)) 2 (by omega)) := by
  have e : (outsAt0 m c s.val s.isLt).2.2.2.2.1 = sout0_A_3 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s) := by rw [outsAt0_A m c s h0 h1]
  have f := first_3_2 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s)
  rw [e, f]

theorem scr_4_2 (c : Dev nD) (s : Fin cfg0.N) (h0 : s.val % 2 = 0) (h1 : ¬s.val % 2 = 1) :
    slab (F := F) (e := .f32) (outsAt0 m c s.val s.isLt).2.2.2.2.2 2 (by omega) = aP (sP (qP (X0_0 m c s) 2 (by omega)) (fP (iblk m c 5 s) 2) (iblk m c 3 s) (iblk m c 6 s) 2 (by omega)) (iblk m c 4 s) (slab (F := F) (e := .f32) (m0 (F := F)) 2 (by omega)) (slab (F := F) (e := .f32) (a0 (F := F)) 2 (by omega)) 2 (by omega) := by
  have e : (outsAt0 m c s.val s.isLt).2.2.2.2.2 = sout0_A_4 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s) := by rw [outsAt0_A m c s h0 h1]
  have f := first_4_2 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s)
  rw [e, f]

theorem scr_0_3 (c : Dev nD) (s : Fin cfg0.N) (h0 : s.val % 2 = 0) (h1 : ¬s.val % 2 = 1) :
    slab (F := F) (e := .bf16) (outsAt0 m c s.val s.isLt).2.1 3 (by omega) = qP (X0_0 m c s) 3 (by omega) := by
  have e : (outsAt0 m c s.val s.isLt).2.1 = sout0_A_0 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s) := by rw [outsAt0_A m c s h0 h1]
  have f := first_0_3 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s)
  rw [e, f]

theorem scr_1_3 (c : Dev nD) (s : Fin cfg0.N) (h0 : s.val % 2 = 0) (h1 : ¬s.val % 2 = 1) :
    slab (F := F) (e := .f32) (outsAt0 m c s.val s.isLt).2.2.1 3 (by omega) = fP (iblk m c 5 s) 3 := by
  have e : (outsAt0 m c s.val s.isLt).2.2.1 = sout0_A_1 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s) := by rw [outsAt0_A m c s h0 h1]
  have f := first_1_3 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s)
  rw [e, f]

theorem scr_2_3 (c : Dev nD) (s : Fin cfg0.N) (h0 : s.val % 2 = 0) (h1 : ¬s.val % 2 = 1) :
    slab (F := F) (e := .f32) (outsAt0 m c s.val s.isLt).2.2.2.1 3 (by omega) = mPast (sP (qP (X0_0 m c s) 3 (by omega)) (fP (iblk m c 5 s) 3) (iblk m c 3 s) (iblk m c 6 s) 3 (by omega)) (slab (F := F) (e := .f32) (m0 (F := F)) 3 (by omega)) := by
  have e : (outsAt0 m c s.val s.isLt).2.2.2.1 = sout0_A_2 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s) := by rw [outsAt0_A m c s h0 h1]
  have f := first_2_3 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s)
  rw [e, f]

theorem scr_3_3 (c : Dev nD) (s : Fin cfg0.N) (h0 : s.val % 2 = 0) (h1 : ¬s.val % 2 = 1) :
    slab (F := F) (e := .f32) (outsAt0 m c s.val s.isLt).2.2.2.2.1 3 (by omega) = lPast (sP (qP (X0_0 m c s) 3 (by omega)) (fP (iblk m c 5 s) 3) (iblk m c 3 s) (iblk m c 6 s) 3 (by omega)) (slab (F := F) (e := .f32) (m0 (F := F)) 3 (by omega)) (slab (F := F) (e := .f32) (l0 (F := F)) 3 (by omega)) := by
  have e : (outsAt0 m c s.val s.isLt).2.2.2.2.1 = sout0_A_3 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s) := by rw [outsAt0_A m c s h0 h1]
  have f := first_3_3 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s)
  rw [e, f]

theorem scr_4_3 (c : Dev nD) (s : Fin cfg0.N) (h0 : s.val % 2 = 0) (h1 : ¬s.val % 2 = 1) :
    slab (F := F) (e := .f32) (outsAt0 m c s.val s.isLt).2.2.2.2.2 3 (by omega) = aP (sP (qP (X0_0 m c s) 3 (by omega)) (fP (iblk m c 5 s) 3) (iblk m c 3 s) (iblk m c 6 s) 3 (by omega)) (iblk m c 4 s) (slab (F := F) (e := .f32) (m0 (F := F)) 3 (by omega)) (slab (F := F) (e := .f32) (a0 (F := F)) 3 (by omega)) 3 (by omega) := by
  have e : (outsAt0 m c s.val s.isLt).2.2.2.2.2 = sout0_A_4 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s) := by rw [outsAt0_A m c s h0 h1]
  have f := first_4_3 c (grid0.coords s) (ms0_0 s) (hs0_0 s) (ms0_1 s) (hs0_1 s) (ms0_2 s) (hs0_2 s) (ms0_3 s) (hs0_3 s) (ms0_4 s) (hs0_4 s) (ms0_5 s) (hs0_5 s) (ms0_6 s) (hs0_6 s) (ms0_7 s) (hs0_7 s) (ms0_8 s) (hs0_8 s) scM0_0 (Memref.isWhole_whole _) scM0_1 (Memref.isWhole_whole _) scM0_2 (Memref.isWhole_whole _) scM0_3 (Memref.isWhole_whole _) scM0_4 (Memref.isWhole_whole _) ((hcond0_0 s).mpr h0) (fun h => h1 ((hcond0_1 s).mp h)) (X0_0 m c s) (iblk m c 1 s) (iblk m c 2 s) (iblk m c 3 s) (iblk m c 4 s) (iblk m c 5 s) (iblk m c 6 s) (iblk m c 7 s)
  rw [e, f]

end

variable (m : (ℓ : Loc nD τ sig) → Buf (Elt Ideal) ℓ)

/-- Every element the kernel reads is a real number. -/
structure Reals (c : Dev nD) : Prop where
  r0 : ∀ i, (m ((c : Thread nD τ).loc main_arg0) : S8704x3072.Idx → EReal) i = (((m ((c : Thread nD τ).loc main_arg0) : S8704x3072.Idx → EReal) i).toReal : EReal)
  r1 : ∀ i, (m ((c : Thread nD τ).loc main_arg1) : S1x32x4096x8x64.Idx → EReal) i = (((m ((c : Thread nD τ).loc main_arg1) : S1x32x4096x8x64.Idx → EReal) i).toReal : EReal)
  r2 : ∀ i, (m ((c : Thread nD τ).loc main_arg2) : S1x32x4096x8x64.Idx → EReal) i = (((m ((c : Thread nD τ).loc main_arg2) : S1x32x4096x8x64.Idx → EReal) i).toReal : EReal)
  r3 : ∀ i, (m ((c : Thread nD τ).loc main_arg3) : S32x4112x32.Idx → EReal) i = (((m ((c : Thread nD τ).loc main_arg3) : S32x4112x32.Idx → EReal) i).toReal : EReal)

theorem pair_0 (c : Dev nD) (R : Reals m c) (t s : Fin cfg0.N) (hst : s.val = t.val - 1) (h1 : t.val % 2 = 1) (ht : t.val < 64) (j : Fin 8) (r : Fin 16) (x : Fin 64) :
    attP (slab (F := Ideal) (e := .bf16) (outsAt0 m c s.val s.isLt).2.1 0 (by omega)) (slab (F := Ideal) (e := .f32) (outsAt0 m c s.val s.isLt).2.2.1 0 (by omega))
      (slab (F := Ideal) (e := .f32) (outsAt0 m c s.val s.isLt).2.2.2.1 0 (by omega)) (slab (F := Ideal) (e := .f32) (outsAt0 m c s.val s.isLt).2.2.2.2.1 0 (by omega))
      (slab (F := Ideal) (e := .f32) (outsAt0 m c s.val s.isLt).2.2.2.2.2 0 (by omega))
      (iblk m c 1 t) (iblk m c 2 t) (iblk m c 3 t) (iblk m c 4 t) (iblk m c 6 t) (iblk m c 7 t) 0 (by omega) (ix2 (rw8 j r) ⟨64 * (j.val / 4) + x.val, by omega⟩) =
    ((resN (m ((c : Thread nD τ).loc main_arg0)) (m ((c : Thread nD τ).loc main_arg1)) (m ((c : Thread nD τ).loc main_arg2)) (m ((c : Thread nD τ).loc main_arg3)) (t.val / 2) (8 * 0 + j.val) r.val x.val / resD (m ((c : Thread nD τ).loc main_arg0)) (m ((c : Thread nD τ).loc main_arg1)) (m ((c : Thread nD τ).loc main_arg3)) (t.val / 2) (8 * 0 + j.val) r.val : ℝ) : EReal) := by
  have hs0 : s.val % 2 = 0 := by omega
  have hs1 : ¬s.val % 2 = 1 := by omega
  have hs : s.val < 64 := by omega
  have e2 : s.val / 2 = t.val / 2 := by omega
  rw [scr_0_0 m c s hs0 hs1, scr_1_0 m c s hs0 hs1, scr_2_0 m c s hs0 hs1, scr_3_0 m c s hs0 hs1, scr_4_0 m c s hs0 hs1]
  refine att_apply _ _ _ _ _ _ _ _ _ _ _ (X0_0 m c s) (iblk m c 1 t) (iblk m c 2 t) (iblk m c 3 s) (iblk m c 4 s) (iblk m c 3 t) (iblk m c 4 t) (iblk m c 5 s) (iblk m c 6 s) (iblk m c 6 t) (iblk m c 7 t)
    (fun a b => ?_) (fun a b => ?_) (fun a b => ?_) (fun a b d => ?_) (fun a b d => ?_) (fun a b d => ?_) (fun a b d => ?_) (fun a b => ?_) (fun a b => ?_) (fun a b => ?_) (fun a b => ?_) 0 (by omega) j r x
  · rw [blk_0 m c s hs]; simp only [e2]; exact rd0_eq _ R.r0 _ _ _ _
  · rw [blk_1 m c t ht]; exact rd0_eq _ R.r0 _ _ _ _
  · rw [blk_2 m c t ht]; exact rd0_eq _ R.r0 _ _ _ _
  · rw [blk_3 m c s hs]; simp only [e2, hs0, Nat.mul_zero, Nat.zero_add]; exact rd1_eq _ R.r1 _ _ _ _ _ _ _ _
  · rw [blk_4 m c s hs]; simp only [e2, hs0, Nat.mul_zero, Nat.zero_add]; exact rd1_eq _ R.r2 _ _ _ _ _ _ _ _
  · rw [blk_3 m c t ht]; simp only [h1, Nat.mul_one]; exact rd1_eq _ R.r1 _ _ _ _ _ _ _ _
  · rw [blk_4 m c t ht]; simp only [h1, Nat.mul_one]; exact rd1_eq _ R.r2 _ _ _ _ _ _ _ _
  · rw [blk_5 m c s hs]; simp only [e2]; exact rd3_eq _ R.r3 _ _ _ _ _ _
  · rw [blk_6 m c s hs]; simp only [e2, hs0, Nat.mul_zero, Nat.zero_add]; exact rd3_eq _ R.r3 _ _ _ _ _ _
  · rw [blk_6 m c t ht]; simp only [h1, Nat.mul_one]; exact rd3_eq _ R.r3 _ _ _ _ _ _
  · rw [blk_7 m c t ht]; exact rd3_eq _ R.r3 _ _ _ _ _ _

theorem pair_1 (c : Dev nD) (R : Reals m c) (t s : Fin cfg0.N) (hst : s.val = t.val - 1) (h1 : t.val % 2 = 1) (ht : t.val < 64) (j : Fin 8) (r : Fin 16) (x : Fin 64) :
    attP (slab (F := Ideal) (e := .bf16) (outsAt0 m c s.val s.isLt).2.1 1 (by omega)) (slab (F := Ideal) (e := .f32) (outsAt0 m c s.val s.isLt).2.2.1 1 (by omega))
      (slab (F := Ideal) (e := .f32) (outsAt0 m c s.val s.isLt).2.2.2.1 1 (by omega)) (slab (F := Ideal) (e := .f32) (outsAt0 m c s.val s.isLt).2.2.2.2.1 1 (by omega))
      (slab (F := Ideal) (e := .f32) (outsAt0 m c s.val s.isLt).2.2.2.2.2 1 (by omega))
      (iblk m c 1 t) (iblk m c 2 t) (iblk m c 3 t) (iblk m c 4 t) (iblk m c 6 t) (iblk m c 7 t) 1 (by omega) (ix2 (rw8 j r) ⟨64 * (j.val / 4) + x.val, by omega⟩) =
    ((resN (m ((c : Thread nD τ).loc main_arg0)) (m ((c : Thread nD τ).loc main_arg1)) (m ((c : Thread nD τ).loc main_arg2)) (m ((c : Thread nD τ).loc main_arg3)) (t.val / 2) (8 * 1 + j.val) r.val x.val / resD (m ((c : Thread nD τ).loc main_arg0)) (m ((c : Thread nD τ).loc main_arg1)) (m ((c : Thread nD τ).loc main_arg3)) (t.val / 2) (8 * 1 + j.val) r.val : ℝ) : EReal) := by
  have hs0 : s.val % 2 = 0 := by omega
  have hs1 : ¬s.val % 2 = 1 := by omega
  have hs : s.val < 64 := by omega
  have e2 : s.val / 2 = t.val / 2 := by omega
  rw [scr_0_1 m c s hs0 hs1, scr_1_1 m c s hs0 hs1, scr_2_1 m c s hs0 hs1, scr_3_1 m c s hs0 hs1, scr_4_1 m c s hs0 hs1]
  refine att_apply _ _ _ _ _ _ _ _ _ _ _ (X0_0 m c s) (iblk m c 1 t) (iblk m c 2 t) (iblk m c 3 s) (iblk m c 4 s) (iblk m c 3 t) (iblk m c 4 t) (iblk m c 5 s) (iblk m c 6 s) (iblk m c 6 t) (iblk m c 7 t)
    (fun a b => ?_) (fun a b => ?_) (fun a b => ?_) (fun a b d => ?_) (fun a b d => ?_) (fun a b d => ?_) (fun a b d => ?_) (fun a b => ?_) (fun a b => ?_) (fun a b => ?_) (fun a b => ?_) 1 (by omega) j r x
  · rw [blk_0 m c s hs]; simp only [e2]; exact rd0_eq _ R.r0 _ _ _ _
  · rw [blk_1 m c t ht]; exact rd0_eq _ R.r0 _ _ _ _
  · rw [blk_2 m c t ht]; exact rd0_eq _ R.r0 _ _ _ _
  · rw [blk_3 m c s hs]; simp only [e2, hs0, Nat.mul_zero, Nat.zero_add]; exact rd1_eq _ R.r1 _ _ _ _ _ _ _ _
  · rw [blk_4 m c s hs]; simp only [e2, hs0, Nat.mul_zero, Nat.zero_add]; exact rd1_eq _ R.r2 _ _ _ _ _ _ _ _
  · rw [blk_3 m c t ht]; simp only [h1, Nat.mul_one]; exact rd1_eq _ R.r1 _ _ _ _ _ _ _ _
  · rw [blk_4 m c t ht]; simp only [h1, Nat.mul_one]; exact rd1_eq _ R.r2 _ _ _ _ _ _ _ _
  · rw [blk_5 m c s hs]; simp only [e2]; exact rd3_eq _ R.r3 _ _ _ _ _ _
  · rw [blk_6 m c s hs]; simp only [e2, hs0, Nat.mul_zero, Nat.zero_add]; exact rd3_eq _ R.r3 _ _ _ _ _ _
  · rw [blk_6 m c t ht]; simp only [h1, Nat.mul_one]; exact rd3_eq _ R.r3 _ _ _ _ _ _
  · rw [blk_7 m c t ht]; exact rd3_eq _ R.r3 _ _ _ _ _ _

theorem pair_2 (c : Dev nD) (R : Reals m c) (t s : Fin cfg0.N) (hst : s.val = t.val - 1) (h1 : t.val % 2 = 1) (ht : t.val < 64) (j : Fin 8) (r : Fin 16) (x : Fin 64) :
    attP (slab (F := Ideal) (e := .bf16) (outsAt0 m c s.val s.isLt).2.1 2 (by omega)) (slab (F := Ideal) (e := .f32) (outsAt0 m c s.val s.isLt).2.2.1 2 (by omega))
      (slab (F := Ideal) (e := .f32) (outsAt0 m c s.val s.isLt).2.2.2.1 2 (by omega)) (slab (F := Ideal) (e := .f32) (outsAt0 m c s.val s.isLt).2.2.2.2.1 2 (by omega))
      (slab (F := Ideal) (e := .f32) (outsAt0 m c s.val s.isLt).2.2.2.2.2 2 (by omega))
      (iblk m c 1 t) (iblk m c 2 t) (iblk m c 3 t) (iblk m c 4 t) (iblk m c 6 t) (iblk m c 7 t) 2 (by omega) (ix2 (rw8 j r) ⟨64 * (j.val / 4) + x.val, by omega⟩) =
    ((resN (m ((c : Thread nD τ).loc main_arg0)) (m ((c : Thread nD τ).loc main_arg1)) (m ((c : Thread nD τ).loc main_arg2)) (m ((c : Thread nD τ).loc main_arg3)) (t.val / 2) (8 * 2 + j.val) r.val x.val / resD (m ((c : Thread nD τ).loc main_arg0)) (m ((c : Thread nD τ).loc main_arg1)) (m ((c : Thread nD τ).loc main_arg3)) (t.val / 2) (8 * 2 + j.val) r.val : ℝ) : EReal) := by
  have hs0 : s.val % 2 = 0 := by omega
  have hs1 : ¬s.val % 2 = 1 := by omega
  have hs : s.val < 64 := by omega
  have e2 : s.val / 2 = t.val / 2 := by omega
  rw [scr_0_2 m c s hs0 hs1, scr_1_2 m c s hs0 hs1, scr_2_2 m c s hs0 hs1, scr_3_2 m c s hs0 hs1, scr_4_2 m c s hs0 hs1]
  refine att_apply _ _ _ _ _ _ _ _ _ _ _ (X0_0 m c s) (iblk m c 1 t) (iblk m c 2 t) (iblk m c 3 s) (iblk m c 4 s) (iblk m c 3 t) (iblk m c 4 t) (iblk m c 5 s) (iblk m c 6 s) (iblk m c 6 t) (iblk m c 7 t)
    (fun a b => ?_) (fun a b => ?_) (fun a b => ?_) (fun a b d => ?_) (fun a b d => ?_) (fun a b d => ?_) (fun a b d => ?_) (fun a b => ?_) (fun a b => ?_) (fun a b => ?_) (fun a b => ?_) 2 (by omega) j r x
  · rw [blk_0 m c s hs]; simp only [e2]; exact rd0_eq _ R.r0 _ _ _ _
  · rw [blk_1 m c t ht]; exact rd0_eq _ R.r0 _ _ _ _
  · rw [blk_2 m c t ht]; exact rd0_eq _ R.r0 _ _ _ _
  · rw [blk_3 m c s hs]; simp only [e2, hs0, Nat.mul_zero, Nat.zero_add]; exact rd1_eq _ R.r1 _ _ _ _ _ _ _ _
  · rw [blk_4 m c s hs]; simp only [e2, hs0, Nat.mul_zero, Nat.zero_add]; exact rd1_eq _ R.r2 _ _ _ _ _ _ _ _
  · rw [blk_3 m c t ht]; simp only [h1, Nat.mul_one]; exact rd1_eq _ R.r1 _ _ _ _ _ _ _ _
  · rw [blk_4 m c t ht]; simp only [h1, Nat.mul_one]; exact rd1_eq _ R.r2 _ _ _ _ _ _ _ _
  · rw [blk_5 m c s hs]; simp only [e2]; exact rd3_eq _ R.r3 _ _ _ _ _ _
  · rw [blk_6 m c s hs]; simp only [e2, hs0, Nat.mul_zero, Nat.zero_add]; exact rd3_eq _ R.r3 _ _ _ _ _ _
  · rw [blk_6 m c t ht]; simp only [h1, Nat.mul_one]; exact rd3_eq _ R.r3 _ _ _ _ _ _
  · rw [blk_7 m c t ht]; exact rd3_eq _ R.r3 _ _ _ _ _ _

theorem pair_3 (c : Dev nD) (R : Reals m c) (t s : Fin cfg0.N) (hst : s.val = t.val - 1) (h1 : t.val % 2 = 1) (ht : t.val < 64) (j : Fin 8) (r : Fin 16) (x : Fin 64) :
    attP (slab (F := Ideal) (e := .bf16) (outsAt0 m c s.val s.isLt).2.1 3 (by omega)) (slab (F := Ideal) (e := .f32) (outsAt0 m c s.val s.isLt).2.2.1 3 (by omega))
      (slab (F := Ideal) (e := .f32) (outsAt0 m c s.val s.isLt).2.2.2.1 3 (by omega)) (slab (F := Ideal) (e := .f32) (outsAt0 m c s.val s.isLt).2.2.2.2.1 3 (by omega))
      (slab (F := Ideal) (e := .f32) (outsAt0 m c s.val s.isLt).2.2.2.2.2 3 (by omega))
      (iblk m c 1 t) (iblk m c 2 t) (iblk m c 3 t) (iblk m c 4 t) (iblk m c 6 t) (iblk m c 7 t) 3 (by omega) (ix2 (rw8 j r) ⟨64 * (j.val / 4) + x.val, by omega⟩) =
    ((resN (m ((c : Thread nD τ).loc main_arg0)) (m ((c : Thread nD τ).loc main_arg1)) (m ((c : Thread nD τ).loc main_arg2)) (m ((c : Thread nD τ).loc main_arg3)) (t.val / 2) (8 * 3 + j.val) r.val x.val / resD (m ((c : Thread nD τ).loc main_arg0)) (m ((c : Thread nD τ).loc main_arg1)) (m ((c : Thread nD τ).loc main_arg3)) (t.val / 2) (8 * 3 + j.val) r.val : ℝ) : EReal) := by
  have hs0 : s.val % 2 = 0 := by omega
  have hs1 : ¬s.val % 2 = 1 := by omega
  have hs : s.val < 64 := by omega
  have e2 : s.val / 2 = t.val / 2 := by omega
  rw [scr_0_3 m c s hs0 hs1, scr_1_3 m c s hs0 hs1, scr_2_3 m c s hs0 hs1, scr_3_3 m c s hs0 hs1, scr_4_3 m c s hs0 hs1]
  refine att_apply _ _ _ _ _ _ _ _ _ _ _ (X0_0 m c s) (iblk m c 1 t) (iblk m c 2 t) (iblk m c 3 s) (iblk m c 4 s) (iblk m c 3 t) (iblk m c 4 t) (iblk m c 5 s) (iblk m c 6 s) (iblk m c 6 t) (iblk m c 7 t)
    (fun a b => ?_) (fun a b => ?_) (fun a b => ?_) (fun a b d => ?_) (fun a b d => ?_) (fun a b d => ?_) (fun a b d => ?_) (fun a b => ?_) (fun a b => ?_) (fun a b => ?_) (fun a b => ?_) 3 (by omega) j r x
  · rw [blk_0 m c s hs]; simp only [e2]; exact rd0_eq _ R.r0 _ _ _ _
  · rw [blk_1 m c t ht]; exact rd0_eq _ R.r0 _ _ _ _
  · rw [blk_2 m c t ht]; exact rd0_eq _ R.r0 _ _ _ _
  · rw [blk_3 m c s hs]; simp only [e2, hs0, Nat.mul_zero, Nat.zero_add]; exact rd1_eq _ R.r1 _ _ _ _ _ _ _ _
  · rw [blk_4 m c s hs]; simp only [e2, hs0, Nat.mul_zero, Nat.zero_add]; exact rd1_eq _ R.r2 _ _ _ _ _ _ _ _
  · rw [blk_3 m c t ht]; simp only [h1, Nat.mul_one]; exact rd1_eq _ R.r1 _ _ _ _ _ _ _ _
  · rw [blk_4 m c t ht]; simp only [h1, Nat.mul_one]; exact rd1_eq _ R.r2 _ _ _ _ _ _ _ _
  · rw [blk_5 m c s hs]; simp only [e2]; exact rd3_eq _ R.r3 _ _ _ _ _ _
  · rw [blk_6 m c s hs]; simp only [e2, hs0, Nat.mul_zero, Nat.zero_add]; exact rd3_eq _ R.r3 _ _ _ _ _ _
  · rw [blk_6 m c t ht]; simp only [h1, Nat.mul_one]; exact rd3_eq _ R.r3 _ _ _ _ _ _
  · rw [blk_7 m c t ht]; exact rd3_eq _ R.r3 _ _ _ _ _ _

/-- What batch `t / 2`'s last step leaves in its block. -/
def sampleAt (A0 : S8704x3072.Idx → EReal) (A1 A2 : S1x32x4096x8x64.Idx → EReal) (A3 : S32x4112x32.Idx → EReal) (b t d : ℕ) : EReal :=
  ((resN A0 A1 A2 A3 b (d / 64) t (d % 64) / resD A0 A1 A3 b (d / 64) t : ℝ) : EReal)

theorem sampleAt_head (A0 : S8704x3072.Idx → EReal) (A1 A2 : S1x32x4096x8x64.Idx → EReal) (A3 : S32x4112x32.Idx → EReal) (b t h x : ℕ) (hx : x < 64) :
    sampleAt A0 A1 A2 A3 b t (64 * h + x) = ((resN A0 A1 A2 A3 b h t x / resD A0 A1 A3 b h t : ℝ) : EReal) := by
  unfold sampleAt
  rw [show (64 * h + x) / 64 = h by omega, show (64 * h + x) % 64 = x by omega]

theorem flushed_apply (c : Dev nD) (R : Reals m c) (t : Fin cfg0.N) (h1 : t.val % 2 = 1) (ht : t.val < 64) (z : S16x2048.Idx) :
    (outsAt0 m c t.val t.isLt).1 z = sampleAt (m ((c : Thread nD τ).loc main_arg0)) (m ((c : Thread nD τ).loc main_arg1)) (m ((c : Thread nD τ).loc main_arg2)) (m ((c : Thread nD τ).loc main_arg3)) (t.val / 2) (z 0).val (z 1).val := by
  have e : (outsAt0 m c t.val t.isLt).1 = out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => (show ¬t.val % 2 = 0 by omega) ((hcond0_0 t).mp h)) ((hcond0_1 t).mpr h1) (X0_0 m c t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 := by rw [outsAt0_B m c t (by omega) h1]
  have f := last_block (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) (fun h => (show ¬t.val % 2 = 0 by omega) ((hcond0_0 t).mp h)) ((hcond0_1 t).mpr h1) (X0_0 m c t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  rw [e, f]
  have hN : t.val - 1 < cfg0.N := Nat.lt_of_le_of_lt (Nat.sub_le _ _) t.isLt
  refine outBlock_apply _ _ _ _ (sampleAt (m ((c : Thread nD τ).loc main_arg0)) (m ((c : Thread nD τ).loc main_arg1)) (m ((c : Thread nD τ).loc main_arg2)) (m ((c : Thread nD τ).loc main_arg3)) (t.val / 2)) ?_ ?_ ?_ ?_ z
  · intro j r x; rw [sampleAt_head _ _ _ _ _ _ _ _ x.isLt]; exact pair_0 m c R t ⟨t.val - 1, hN⟩ rfl h1 ht j r x
  · intro j r x; rw [sampleAt_head _ _ _ _ _ _ _ _ x.isLt]; exact pair_1 m c R t ⟨t.val - 1, hN⟩ rfl h1 ht j r x
  · intro j r x; rw [sampleAt_head _ _ _ _ _ _ _ _ x.isLt]; exact pair_2 m c R t ⟨t.val - 1, hN⟩ rfl h1 ht j r x
  · intro j r x; rw [sampleAt_head _ _ _ _ _ _ _ _ x.isLt]; exact pair_3 m c R t ⟨t.val - 1, hN⟩ rfl h1 ht j r x

end Cert.KernelIdeal.Att
end
-- ==== Proof.Array.lean ====
module
public import proofs.«01_k».proof.Proof.Block
public import Idealize.ShloMosaic.Lib.Pipeline.ValueKit.Partial
public import Idealize.ShloMosaic.Lib.Pipeline.ValueKit.Geometry

/-! The result array: the prompts' rows as they were, each sample's rows its attention. -/

@[expose] public section
noncomputable section
namespace Cert.KernelIdeal.Att
open Idealize.ShloMosaic Idealize.ShloMosaic.TcCoe Idealize.SL.Sem
open Cert.KernelIdeal Cert.KernelIdeal.Gen Idealize.ShloMosaic.WordCmp

/-- The prompts' rows of `A4`, then the samples' attention. -/
def wholeResult (A0 : S8704x3072.Idx → EReal) (A1 A2 : S1x32x4096x8x64.Idx → EReal) (A3 : S32x4112x32.Idx → EReal) (A4 : S8704x2048.Idx → EReal) :
    S8704x2048.Idx → EReal := fun i =>
  if (i 0).val < 8192 then A4 i else sampleAt A0 A1 A2 A3 (((i 0).val - 8192) / 16) (((i 0).val - 8192) % 16) (i 1).val

variable (m : (ℓ : Loc nD τ sig) → Buf (Elt Ideal) ℓ)

theorem wholeResult_eq (c : Dev nD) (R : Reals m c) : (dats m 0 c).arrAt 8 cfg0.N =
    wholeResult (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_coversWhere_of_agree 8 _ (fun β => 512 ≤ β (0 : Fin 2)) (by decide +kernel) (fun t hf y => ?_) (fun j hj => ?_)
  · have h1 := (flush0_8 t).mp hf
    have ht : t.val < 64 := lt_of_lt_of_eq t.isLt N_0
    have e := flushed_apply m c R t h1 ht y
    have y0 : (y 0).val < 16 := (y 0).isLt
    have p0 : (((win0_8.blk t).view.emb y) 0).val = 8192 + 16 * (t.val / 2) + (y 0).val := by
      show win0_8.index t 0 * 16 + 1 * (y 0).val = _
      rw [idx_8 t]; show (512 + t.val / 2) * 16 + 1 * (y 0).val = _; omega
    have p1 : (((win0_8.blk t).view.emb y) 1).val = (y 1).val := by
      show win0_8.index t 1 * 2048 + 1 * (y 1).val = _
      rw [idx_8 t]; show 0 * 2048 + 1 * (y 1).val = _; omega
    refine Eq.trans ?_ (e.trans ?_)
    · show (dats m 0 c).after 8 t y = _
      rw [after0_8]
    · show _ = wholeResult _ _ _ _ _ ((win0_8.blk t).view.emb y)
      unfold wholeResult
      rw [if_neg (by rw [p0]; omega), p0, p1]
      rw [show (8192 + 16 * (t.val / 2) + (y 0).val - 8192) / 16 = t.val / 2 by omega, show (8192 + 16 * (t.val / 2) + (y 0).val - 8192) % 16 = (y 0).val by omega]
  · rw [A_eq]
    show (V m c main_v15 : S8704x2048.Idx → EReal) j = wholeResult _ _ _ _ _ j
    rw [V_v15]
    unfold wholeResult
    have hj' : ¬512 ≤ (j 0).val / 16 := hj
    rw [if_pos (by omega)]

end Cert.KernelIdeal.Att
end
-- ==== Proof.Ref.lean ====
module
public import proofs.«01_k».proof.Proof.Array
public import proofs.«01_k».proof.Proof.Gen.ReferenceIdeal.Run
public import Idealize.ShloMosaic.Lib.Pointwise
public import Idealize.ShloMosaic.Lib.WordCmp

/-! The stages of the reference, named. -/

@[expose] public section
noncomputable section
namespace Cert.ReferenceIdeal.Att
open Idealize.ShloMosaic Idealize.ShloMosaic.TcCoe Idealize.SL.Sem
open Cert.ReferenceIdeal Cert.ReferenceIdeal.Gen Idealize.ShloMosaic.WordCmp

/-- The past keys, then the new ones. -/
def keysT (A0 : FVec Ideal S8704x3072 .f32) (A1 : FVec Ideal S1x32x4096x8x64 .f32) : FVec Ideal S32x4112x8x64 .f32 :=
  concatenate S32x4112x8x64 1 [⟨S32x4096x8x64, (shapeCast _ A1 shapeCasts_S1x32x4096x8x64_S32x4096x8x64)⟩, ⟨S32x16x8x64, (shapeCast _ (extractStridedSlice S512x512 ![0, 2048] (extractStridedSlice S512x3072 ![8192, 0] A0 slices_S8704x3072_S512x3072_8192_0) slices_S512x3072_S512x512_0_2048) shapeCasts_S512x512_S32x16x8x64)⟩] concatenates_S32x4096x8x64_S32x16x8x64_S32x4112x8x64_d1

/-- The past values, then the new ones. -/
def valsT (A0 : FVec Ideal S8704x3072 .f32) (A2 : FVec Ideal S1x32x4096x8x64 .f32) : FVec Ideal S32x4112x8x64 .f32 :=
  concatenate S32x4112x8x64 1 [⟨S32x4096x8x64, (shapeCast _ A2 shapeCasts_S1x32x4096x8x64_S32x4096x8x64)⟩, ⟨S32x16x8x64, (shapeCast _ (extractStridedSlice S512x512 ![0, 2560] (extractStridedSlice S512x3072 ![8192, 0] A0 slices_S8704x3072_S512x3072_8192_0) slices_S512x3072_S512x512_0_2560) shapeCasts_S512x512_S32x16x8x64)⟩] concatenates_S32x4096x8x64_S32x16x8x64_S32x4112x8x64_d1

/-- Which keys a token sees. -/
def maskT  : IVec S32x8x4x16x4112 1 :=
  broadcastInDim S32x8x4x16x4112 ![3, 4] bcast_S16x4112_S32x8x4x16x4112_3_4 (cmpi .sle (broadcastInDim S16x4112 ![0, 1] bcast_S1x4112_S16x4112_0_1 (broadcastInDim S1x4112 ![1] bcast_S4112_S1x4112_1 (iotaInDim S4112 32 0))) (broadcastInDim S16x4112 ![0, 1] bcast_S16x1_S16x4112_0_1 (broadcastInDim S16x1 ![0] bcast_S16_S16x1_0 (addi (broadcastInDim S16 ![] bcast_S_S16 (constantI S_ 32 4096#32)) (iotaInDim S16 32 0)))))

/-- The gates between a key and a token. -/
def gapT (A3 : FVec Ideal S32x4112x32 .f32) : FVec Ideal S32x8x4x16x4112 .f32 :=
  subf (broadcastInDim S32x8x4x16x4112 ![0, 1, 2, 3, 4] bcast_S32x8x4x16x1_S32x8x4x16x4112_0_1_2_3_4 (broadcastInDim S32x8x4x16x1 ![0, 1, 2, 3] bcast_S32x8x4x16_S32x8x4x16x1_0_1_2_3 (transpose S32x8x4x16 [0, 2, 3, 1] (extractStridedSlice S32x16x8x4 ![0, 4096, 0, 0] (shapeCast _ A3 shapeCasts_S32x4112x32_S32x4112x8x4) slices_S32x4112x8x4_S32x16x8x4_0_4096_0_0) transposes_S32x16x8x4_S32x8x4x16_0_2_3_1))) (broadcastInDim S32x8x4x16x4112 ![0, 1, 2, 3, 4] bcast_S32x8x4x1x4112_S32x8x4x16x4112_0_1_2_3_4 (broadcastInDim S32x8x4x1x4112 ![0, 1, 2, 4] bcast_S32x8x4x4112_S32x8x4x1x4112_0_1_2_4 (transpose S32x8x4x4112 [0, 2, 3, 1] (shapeCast _ A3 shapeCasts_S32x4112x32_S32x4112x8x4) transposes_S32x4112x8x4_S32x8x4x4112_0_2_3_1)))

/-- The scaled products of queries and keys. -/
def prodT (A0 : FVec Ideal S8704x3072 .f32) (A1 : FVec Ideal S1x32x4096x8x64 .f32) : FVec Ideal S32x8x4x16x4112 .f32 :=
  mulf (transpose S32x8x4x16x4112 [0, 1, 4, 3, 2] (Host.dotGeneral dot_S32x4112x8x64_S32x16x8x4x64_S32x8x4112x16x4_3_4_1_13_02_02 none (keysT A0 A1) (shapeCast _ (extractStridedSlice S512x2048 ![0, 0] (extractStridedSlice S512x3072 ![8192, 0] A0 slices_S8704x3072_S512x3072_8192_0) slices_S512x3072_S512x2048_0_0) shapeCasts_S512x2048_S32x16x8x4x64)) transposes_S32x8x4112x16x4_S32x8x4x16x4112_0_1_4_3_2) (broadcastInDim S32x8x4x16x4112 ![] bcast_S_S32x8x4x16x4112 (constant S_ .f32 0x3E000000#32))

/-- The scores. -/
def scoreT (A0 : FVec Ideal S8704x3072 .f32) (A1 : FVec Ideal S1x32x4096x8x64 .f32) (A3 : FVec Ideal S32x4112x32 .f32) : FVec Ideal S32x8x4x16x4112 .f32 :=
  select maskT (addf (prodT A0 A1) (gapT A3)) (broadcastInDim S32x8x4x16x4112 ![] bcast_S_S32x8x4x16x4112 (id (constant S_ .f32 0xF149F2CA#32)))

/-- The largest score of a row. -/
def maxT (A0 : FVec Ideal S8704x3072 .f32) (A1 : FVec Ideal S1x32x4096x8x64 .f32) (A3 : FVec Ideal S32x4112x32 .f32) : FVec Ideal S32x8x4x16 .f32 :=
  maximumf (broadcastInDim S32x8x4x16 ![] bcast_S_S32x8x4x16 (constant S_ .f32 0xFF800000#32)) (Host.reduce FloatOps.maximumf (scoreT A0 A1 A3) (constant S_ .f32 0xFF800000#32) reducesTo_S32x8x4x16x4112_S32x8x4x16_d4 h_S_)

/-- The weights. -/
def expT (A0 : FVec Ideal S8704x3072 .f32) (A1 : FVec Ideal S1x32x4096x8x64 .f32) (A3 : FVec Ideal S32x4112x32 .f32) : FVec Ideal S32x8x4x16x4112 .f32 :=
  Host.exp (subf (scoreT A0 A1 A3) (broadcastInDim S32x8x4x16x4112 ![0, 1, 2, 3, 4] bcast_S32x8x4x16x1_S32x8x4x16x4112_0_1_2_3_4 (broadcastInDim S32x8x4x16x1 ![0, 1, 2, 3] bcast_S32x8x4x16_S32x8x4x16x1_0_1_2_3 (maxT A0 A1 A3))))

/-- A row's sum of weights. -/
def sumT (A0 : FVec Ideal S8704x3072 .f32) (A1 : FVec Ideal S1x32x4096x8x64 .f32) (A3 : FVec Ideal S32x4112x32 .f32) : FVec Ideal S32x8x4x16 .f32 :=
  Host.reduceAdd (expT A0 A1 A3) (constant S_ .f32 0x00000000#32) reducesTo_S32x8x4x16x4112_S32x8x4x16_d4 h_S_

/-- The shares. -/
def probT (A0 : FVec Ideal S8704x3072 .f32) (A1 : FVec Ideal S1x32x4096x8x64 .f32) (A3 : FVec Ideal S32x4112x32 .f32) : FVec Ideal S32x8x4x16x4112 .f32 :=
  Host.divf (expT A0 A1 A3) (broadcastInDim S32x8x4x16x4112 ![0, 1, 2, 3, 4] bcast_S32x8x4x16x1_S32x8x4x16x4112_0_1_2_3_4 (broadcastInDim S32x8x4x16x1 ![0, 1, 2, 3] bcast_S32x8x4x16_S32x8x4x16x1_0_1_2_3 (sumT A0 A1 A3)))

/-- The shares times the values. -/
def outT (A0 : FVec Ideal S8704x3072 .f32) (A1 : FVec Ideal S1x32x4096x8x64 .f32) (A2 : FVec Ideal S1x32x4096x8x64 .f32) (A3 : FVec Ideal S32x4112x32 .f32) : FVec Ideal S32x8x64x4x16 .f32 :=
  Host.dotGeneral dot_S32x4112x8x64_S32x8x4x16x4112_S32x8x64x4x16_1_4_3_23_02_01 none (valsT A0 A2) (probT A0 A1 A3)

/-- The prompts' rows, then the samples'. -/
def resT (A0 : FVec Ideal S8704x3072 .f32) (A1 : FVec Ideal S1x32x4096x8x64 .f32) (A2 : FVec Ideal S1x32x4096x8x64 .f32) (A3 : FVec Ideal S32x4112x32 .f32) (A4 : FVec Ideal S8704x2048 .bf16) : FVec Ideal S8704x2048 .bf16 :=
  concatenate S8704x2048 0 [⟨S8192x2048, (extractStridedSlice S8192x2048 ![0, 0] A4 slices_S8704x2048_S8192x2048_0_0)⟩, ⟨S512x2048, (truncf .bf16 (shapeCast _ (transpose S32x16x8x4x64 [0, 4, 1, 3, 2] (outT A0 A1 A2 A3) transposes_S32x8x64x4x16_S32x16x8x4x64_0_4_1_3_2) shapeCasts_S32x16x8x4x64_S512x2048) bitsLt_bf16_f32)⟩] concatenates_S8192x2048_S512x2048_S8704x2048_d0

theorem res_eq (m : (ℓ : Loc nD τ sig) → Buf (Elt Ideal) ℓ) (c : Dev nD) :
    Value.res_main_v51 m c = resT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

open Cert.KernelIdeal.Att (scale masked scale_eq masked_eq least_eq rd0 rd1 rd3 rd0_eq rd1_eq rd3_eq)

theorem concat4_left {α : Type} {a n1 n2 n c d : ℕ} (x₁ : (⟨4, ![a, n1, c, d]⟩ : Shape).Idx → α) (x₂ : (⟨4, ![a, n2, c, d]⟩ : Shape).Idx → α)
    (h : Shape.Concatenates [⟨4, ![a, n1, c, d]⟩, ⟨4, ![a, n2, c, d]⟩] ⟨4, ![a, n, c, d]⟩ 1) (b : Fin a) (k : Fin n) (g : Fin c) (x : Fin d) (k' : Fin n1) (hk : k.val = k'.val) :
    concatenate ⟨4, ![a, n, c, d]⟩ 1 [⟨⟨4, ![a, n1, c, d]⟩, x₁⟩, ⟨⟨4, ![a, n2, c, d]⟩, x₂⟩] h (ix4 b k g x) = x₁ (ix4 b k' g x) :=
  concatenate_pair_apply_left (t := ⟨4, ![a, n, c, d]⟩) (s₁ := ⟨4, ![a, n1, c, d]⟩) (s₂ := ⟨4, ![a, n2, c, d]⟩) 1 _ _ _ (ix4 b k g x) rfl (ix4 b k' g x) (by
    intro y; fin_cases y <;> first | rfl | exact hk.symm)

theorem concat4_right {α : Type} {a n1 n2 n c d : ℕ} (x₁ : (⟨4, ![a, n1, c, d]⟩ : Shape).Idx → α) (x₂ : (⟨4, ![a, n2, c, d]⟩ : Shape).Idx → α)
    (h : Shape.Concatenates [⟨4, ![a, n1, c, d]⟩, ⟨4, ![a, n2, c, d]⟩] ⟨4, ![a, n, c, d]⟩ 1) (b : Fin a) (k : Fin n) (g : Fin c) (x : Fin d) (k' : Fin n2) (hk : k'.val + n1 = k.val) :
    concatenate ⟨4, ![a, n, c, d]⟩ 1 [⟨⟨4, ![a, n1, c, d]⟩, x₁⟩, ⟨⟨4, ![a, n2, c, d]⟩, x₂⟩] h (ix4 b k g x) = x₂ (ix4 b k' g x) :=
  concatenate_pair_apply_right (t := ⟨4, ![a, n, c, d]⟩) (s₁ := ⟨4, ![a, n1, c, d]⟩) (s₂ := ⟨4, ![a, n2, c, d]⟩) 1 _ _ _ (ix4 b k g x) rfl rfl (ix4 b k' g x)
    (by intro y hy; fin_cases y <;> first | rfl | exact absurd rfl hy) hk

theorem concat2_left {α : Type} {n1 n2 n d : ℕ} (x₁ : (⟨2, ![n1, d]⟩ : Shape).Idx → α) (x₂ : (⟨2, ![n2, d]⟩ : Shape).Idx → α)
    (h : Shape.Concatenates [⟨2, ![n1, d]⟩, ⟨2, ![n2, d]⟩] ⟨2, ![n, d]⟩ 0) (k : Fin n) (x : Fin d) (k' : Fin n1) (hk : k.val = k'.val) :
    concatenate ⟨2, ![n, d]⟩ 0 [⟨⟨2, ![n1, d]⟩, x₁⟩, ⟨⟨2, ![n2, d]⟩, x₂⟩] h (ix2 k x) = x₁ (ix2 k' x) :=
  concatenate_pair_apply_left (t := ⟨2, ![n, d]⟩) (s₁ := ⟨2, ![n1, d]⟩) (s₂ := ⟨2, ![n2, d]⟩) 0 _ _ _ (ix2 k x) rfl (ix2 k' x) (by
    intro y; fin_cases y <;> first | rfl | exact hk.symm)

theorem concat2_right {α : Type} {n1 n2 n d : ℕ} (x₁ : (⟨2, ![n1, d]⟩ : Shape).Idx → α) (x₂ : (⟨2, ![n2, d]⟩ : Shape).Idx → α)
    (h : Shape.Concatenates [⟨2, ![n1, d]⟩, ⟨2, ![n2, d]⟩] ⟨2, ![n, d]⟩ 0) (k : Fin n) (x : Fin d) (k' : Fin n2) (hk : k'.val + n1 = k.val) :
    concatenate ⟨2, ![n, d]⟩ 0 [⟨⟨2, ![n1, d]⟩, x₁⟩, ⟨⟨2, ![n2, d]⟩, x₂⟩] h (ix2 k x) = x₂ (ix2 k' x) :=
  concatenate_pair_apply_right (t := ⟨2, ![n, d]⟩) (s₁ := ⟨2, ![n1, d]⟩) (s₂ := ⟨2, ![n2, d]⟩) 0 _ _ _ (ix2 k x) rfl rfl (ix2 k' x)
    (by intro y hy; fin_cases y <;> first | rfl | exact absurd rfl hy) hk

theorem keysT_past (A0 : FVec Ideal S8704x3072 .f32) (A1 : FVec Ideal S1x32x4096x8x64 .f32) (b : Fin 32) (k : Fin 4112) (g : Fin 8) (x : Fin 64) (hk : k.val < 4096) :
    keysT A0 A1 (ix4 b k g x) = A1 (ix5 0 b ⟨k.val, hk⟩ g x) := by
  unfold keysT
  refine (concat4_left _ _ _ b k g x ⟨k.val, hk⟩ rfl).trans ?_
  generalize (⟨k.val, hk⟩ : Fin 4096) = k'
  pointwise []

theorem keysT_new (A0 : FVec Ideal S8704x3072 .f32) (A1 : FVec Ideal S1x32x4096x8x64 .f32) (b : Fin 32) (k : Fin 4112) (g : Fin 8) (x : Fin 64) (k' : Fin 16) (hk : k'.val + 4096 = k.val) :
    keysT A0 A1 (ix4 b k g x) = A0 (ix2 ⟨8192 + 16 * b.val + k'.val, by omega⟩ ⟨2048 + (64 * g.val + x.val), by omega⟩) := by
  unfold keysT
  refine (concat4_right _ _ _ b k g x k' hk).trans ?_
  pointwise []
  have e1 : 8192 + (b.val * 16 + k'.val) = 8192 + 16 * b.val + k'.val := by omega
  have e2 : 2048 + (g.val * 64 + x.val) = 2048 + (64 * g.val + x.val) := by omega
  simp only [e1, e2]

theorem valsT_past (A0 : FVec Ideal S8704x3072 .f32) (A2 : FVec Ideal S1x32x4096x8x64 .f32) (b : Fin 32) (k : Fin 4112) (g : Fin 8) (x : Fin 64) (hk : k.val < 4096) :
    valsT A0 A2 (ix4 b k g x) = A2 (ix5 0 b ⟨k.val, hk⟩ g x) := by
  unfold valsT
  refine (concat4_left _ _ _ b k g x ⟨k.val, hk⟩ rfl).trans ?_
  generalize (⟨k.val, hk⟩ : Fin 4096) = k'
  pointwise []

theorem valsT_new (A0 : FVec Ideal S8704x3072 .f32) (A2 : FVec Ideal S1x32x4096x8x64 .f32) (b : Fin 32) (k : Fin 4112) (g : Fin 8) (x : Fin 64) (k' : Fin 16) (hk : k'.val + 4096 = k.val) :
    valsT A0 A2 (ix4 b k g x) = A0 (ix2 ⟨8192 + 16 * b.val + k'.val, by omega⟩ ⟨2560 + (64 * g.val + x.val), by omega⟩) := by
  unfold valsT
  refine (concat4_right _ _ _ b k g x k' hk).trans ?_
  pointwise []
  have e1 : 8192 + (b.val * 16 + k'.val) = 8192 + 16 * b.val + k'.val := by omega
  have e2 : 2560 + (g.val * 64 + x.val) = 2560 + (64 * g.val + x.val) := by omega
  simp only [e1, e2]

theorem maskT_apply (b : Fin 32) (g : Fin 8) (r : Fin 4) (t : Fin 16) (k : Fin 4112) :
    maskT (ix5 b g r t k) = BitVec.ofBool (decide (k.val ≤ 4096 + t.val)) := by
  pointwise [maskT]
  rw [show IntOp.addi (4096#32) (BitVec.ofNat 32 t.val) = BitVec.ofNat 32 (4096 + t.val) by rw [BitVec.ofNat_add]; rfl]
  exact cmpi_sle_ofNat (by omega) (by omega)

theorem gapT_apply (A3 : FVec Ideal S32x4112x32 .f32) (b : Fin 32) (g : Fin 8) (r : Fin 4) (t : Fin 16) (k : Fin 4112) :
    gapT A3 (ix5 b g r t k) = A3 (ix3 b ⟨4096 + t.val, by omega⟩ ⟨4 * g.val + r.val, by omega⟩) - A3 (ix3 b k ⟨4 * g.val + r.val, by omega⟩) := by
  pointwise [gapT]
  have e : g.val * 4 + r.val = 4 * g.val + r.val := by omega
  simp only [e]

theorem prodT_apply (A0 : FVec Ideal S8704x3072 .f32) (A1 : FVec Ideal S1x32x4096x8x64 .f32) (b : Fin 32) (g : Fin 8) (r : Fin 4) (t : Fin 16) (k : Fin 4112) :
    prodT A0 A1 (ix5 b g r t k) = (∑ x : Fin 64, keysT A0 A1 (ix4 b k g x) * A0 (ix2 ⟨8192 + 16 * b.val + t.val, by omega⟩ ⟨64 * (4 * g.val + r.val) + x.val, by omega⟩)) * (scale : EReal) := by
  rw [← scale_eq]
  pointwise [prodT]
  have e1 : 8192 + (b.val * 16 + t.val) = 8192 + 16 * b.val + t.val := by omega
  have e2 : ∀ x : Fin 64, g.val * 256 + r.val * 64 + x.val = 64 * (4 * g.val + r.val) + x.val := fun x => by omega
  simp only [e1, e2]

theorem fold_real {ι : Type} (f : ι → ℝ) (S : Finset ι) :
    Finset.fold max (⊥ : EReal) (fun k => (f k : EReal)) S = ⊥ ∨ ∃ M : ℝ, Finset.fold max (⊥ : EReal) (fun k => (f k : EReal)) S = (M : EReal) := by
  classical
  induction S using Finset.induction_on with
  | empty => left; simp
  | insert a S ha ih =>
    right
    rw [Finset.fold_insert ha]
    rcases ih with h | ⟨M, h⟩
    · exact ⟨f a, by rw [h]; simp⟩
    · exact ⟨max (f a) M, by rw [h, Cert.KernelIdeal.Att.coe_max']⟩

theorem reduce_real {s t u : Shape} {axes : List (Fin s.rank)} (X : s.Idx → Ideal .f32) (f : s.Idx → ℝ) (hX : ∀ i, X i = ((f i : ℝ) : EReal))
    (init : u.Idx → Ideal .f32) (h : s.ReducesTo axes t) (hu : 0 < u.numel) (hi : init (Shape.Idx.first hu) = (⊥ : EReal)) (i : s.Idx) :
    ∃ M : ℝ, Host.reduce FloatOps.maximumf X init h hu (h.drop i) = (M : EReal) := by
  classical
  obtain rfl : X = fun i => ((f i : ℝ) : EReal) := funext hX
  rw [Host.reduce_eq_fold, hi]
  have hm : i ∈ Finset.univ.filter fun i' => h.drop i' = h.drop i := by simp
  rcases fold_real f (Finset.univ.filter fun i' => h.drop i' = h.drop i) with e | ⟨M, e⟩
  · exfalso
    rw [← Finset.insert_erase hm, Finset.fold_insert (Finset.notMem_erase _ _)] at e
    exact EReal.coe_ne_bot _ (max_eq_bot.mp e).1
  · exact ⟨M, e⟩

theorem drop_row (h : S32x8x4x16x4112.ReducesTo [4] S32x8x4x16) (b : Fin 32) (g : Fin 8) (r : Fin 4) (t : Fin 16) (k : Fin 4112) : h.drop (ix5 b g r t k) = ix4 b g r t := by
  funext a
  apply Fin.ext
  fin_cases a
  · exact h.drop_apply_val_of_eq _ 0 0
  · exact h.drop_apply_val_of_eq _ 1 1
  · exact h.drop_apply_val_of_eq _ 2 2
  · exact h.drop_apply_val_of_eq _ 3 3

theorem max_least (y : FVec Ideal S32x8x4x16 .f32) (h : S_.BroadcastsInDim S32x8x4x16 (![] : Fin 0 → Fin S32x8x4x16.rank)) (i : S32x8x4x16.Idx) :
    maximumf (broadcastInDim S32x8x4x16 ![] h (constant (F := Ideal) S_ .f32 0xFF800000#32)) y i = y i := by
  show max (Ideal.ofBits .f32 0xFF800000#32) (y i) = y i
  rw [least_eq, max_eq_right bot_le]

theorem maxT_real (A0 : FVec Ideal S8704x3072 .f32) (A1 : FVec Ideal S1x32x4096x8x64 .f32) (A3 : FVec Ideal S32x4112x32 .f32) (f : S32x8x4x16x4112.Idx → ℝ)
    (hf : ∀ i, scoreT A0 A1 A3 i = ((f i : ℝ) : EReal)) (b : Fin 32) (g : Fin 8) (r : Fin 4) (t : Fin 16) :
    ∃ M : ℝ, maxT A0 A1 A3 (ix4 b g r t) = (M : EReal) := by
  unfold maxT
  rw [max_least, ← drop_row reducesTo_S32x8x4x16x4112_S32x8x4x16_d4 b g r t 0]
  exact reduce_real _ f hf _ _ _ least_eq _

theorem expT_apply (A0 : FVec Ideal S8704x3072 .f32) (A1 : FVec Ideal S1x32x4096x8x64 .f32) (A3 : FVec Ideal S32x4112x32 .f32) (b : Fin 32) (g : Fin 8) (r : Fin 4) (t : Fin 16) (k : Fin 4112) :
    expT A0 A1 A3 (ix5 b g r t k) = Ideal.exp (scoreT A0 A1 A3 (ix5 b g r t k) - maxT A0 A1 A3 (ix4 b g r t)) := by
  pointwise [expT]

theorem sumT_apply (A0 : FVec Ideal S8704x3072 .f32) (A1 : FVec Ideal S1x32x4096x8x64 .f32) (A3 : FVec Ideal S32x4112x32 .f32) (b : Fin 32) (g : Fin 8) (r : Fin 4) (t : Fin 16) :
    sumT A0 A1 A3 (ix4 b g r t) = ∑ k : Fin 4112, expT A0 A1 A3 (ix5 b g r t k) := by
  pointwise [sumT]

theorem probT_apply (A0 : FVec Ideal S8704x3072 .f32) (A1 : FVec Ideal S1x32x4096x8x64 .f32) (A3 : FVec Ideal S32x4112x32 .f32) (b : Fin 32) (g : Fin 8) (r : Fin 4) (t : Fin 16) (k : Fin 4112) :
    probT A0 A1 A3 (ix5 b g r t k) = Ideal.div (expT A0 A1 A3 (ix5 b g r t k)) (sumT A0 A1 A3 (ix4 b g r t)) := by
  pointwise [probT]

theorem outT_apply (A0 : FVec Ideal S8704x3072 .f32) (A1 A2 : FVec Ideal S1x32x4096x8x64 .f32) (A3 : FVec Ideal S32x4112x32 .f32) (b : Fin 32) (g : Fin 8) (x : Fin 64) (r : Fin 4) (t : Fin 16) :
    outT A0 A1 A2 A3 (ix5 b g x r t) = ∑ k : Fin 4112, valsT A0 A2 (ix4 b k g x) * probT A0 A1 A3 (ix5 b g r t k) := by
  pointwise [outT]

theorem resT_prompt (A0 : FVec Ideal S8704x3072 .f32) (A1 A2 : FVec Ideal S1x32x4096x8x64 .f32) (A3 : FVec Ideal S32x4112x32 .f32) (A4 : FVec Ideal S8704x2048 .bf16) (i' : Fin 8192) (d : Fin 2048) :
    resT A0 A1 A2 A3 A4 (ix2 ⟨i'.val, by omega⟩ d) = A4 (ix2 ⟨i'.val, by omega⟩ d) := by
  unfold resT
  refine (concat2_left _ _ _ (⟨i'.val, by omega⟩ : Fin 8704) d i' rfl).trans ?_
  pointwise []

theorem resT_sample (A0 : FVec Ideal S8704x3072 .f32) (A1 A2 : FVec Ideal S1x32x4096x8x64 .f32) (A3 : FVec Ideal S32x4112x32 .f32) (A4 : FVec Ideal S8704x2048 .bf16) (i : Fin 8704) (d : Fin 2048)
    (i' : Fin 512) (hi : i'.val + 8192 = i.val) :
    resT A0 A1 A2 A3 A4 (ix2 i d) = outT A0 A1 A2 A3 (ix5 ⟨i'.val / 16, by omega⟩ ⟨d.val / 256, by omega⟩ ⟨d.val % 64, by omega⟩ ⟨d.val / 64 % 4, by omega⟩ ⟨i'.val % 16, by omega⟩) := by
  unfold resT
  refine (concat2_right _ _ _ i d i' hi).trans ?_
  generalize outT A0 A1 A2 A3 = X
  pointwise []

end Cert.ReferenceIdeal.Att
end
-- ==== Proof.RefValue.lean ====
module
public import proofs.«01_k».proof.Proof.Ref

/-! The reference's rows in real numbers, and that they are the kernel's. -/

@[expose] public section
noncomputable section
namespace Cert.ReferenceIdeal.Att
open Idealize.ShloMosaic Idealize.ShloMosaic.TcCoe Idealize.SL.Sem
open Cert.ReferenceIdeal Cert.ReferenceIdeal.Gen Idealize.ShloMosaic.WordCmp
open Cert.KernelIdeal.Att (scale masked scale_eq masked_eq rd0 rd1 rd3 rd0_eq rd1_eq rd3_eq coe_sum scoreP scoreN dotS total weighted total_pos resD resN sampleAt wholeResult)

theorem sum_three {M : Type} [AddCommMonoid M] (f : ℕ → M) (n a b d : ℕ) (hn : n = a + b + d) :
    ∑ k : Fin n, f k.val = ∑ k : Fin a, f k.val + ∑ k : Fin b, f (a + k.val) + ∑ k : Fin d, f (a + b + k.val) := by
  subst hn
  rw [Fin.sum_univ_eq_sum_range, Finset.sum_range_add, Finset.sum_range_add, Fin.sum_univ_eq_sum_range, Fin.sum_univ_eq_sum_range (fun k => f (a + k)), Fin.sum_univ_eq_sum_range (fun k => f (a + b + k))]

theorem share_sum {n : ℕ} (s v : Fin n → ℝ) (M : ℝ) (hn : 0 < ∑ k, Real.exp (s k)) :
    ∑ k, v k * (Real.exp (s k - M) / ∑ k, Real.exp (s k - M)) = (∑ k, Real.exp (s k) * v k) / ∑ k, Real.exp (s k) := by
  have e : ∀ k, Real.exp (s k - M) = Real.exp (s k) * Real.exp (-M) := fun k => by rw [← Real.exp_add]; congr 1
  have hM := (Real.exp_pos (-M)).ne'
  simp only [e]
  rw [← Finset.sum_mul, Finset.sum_div]
  refine Finset.sum_congr rfl fun k _ => ?_
  field_simp

variable (A0 : FVec Ideal S8704x3072 .f32) (A1 A2 : FVec Ideal S1x32x4096x8x64 .f32) (A3 : FVec Ideal S32x4112x32 .f32)

/-- Key `k` of batch `b`, past or new. -/
def kk (b k g x : ℕ) : ℝ := if k < 4096 then rd1 A1 b k g x else rd0 A0 (8192 + 16 * b + (k - 4096)) (2048 + (64 * g + x))
/-- Value `k` of batch `b`, past or new. -/
def vv (b k g x : ℕ) : ℝ := if k < 4096 then rd1 A2 b k g x else rd0 A0 (8192 + 16 * b + (k - 4096)) (2560 + (64 * g + x))
/-- The score of head `h` at token `t` against key `k`. -/
def sc (b h t k : ℕ) : ℝ := if k ≤ 4096 + t then
    (∑ x : Fin 64, kk A0 A1 b k (h / 4) x.val * rd0 A0 (8192 + 16 * b + t) (64 * h + x.val)) * scale + (rd3 A3 b (4096 + t) h - rd3 A3 b k h)
  else masked

variable (r0 : ∀ i, A0 i = (((A0 i : EReal).toReal : ℝ) : EReal)) (r1 : ∀ i, A1 i = (((A1 i : EReal).toReal : ℝ) : EReal))
  (r2 : ∀ i, A2 i = (((A2 i : EReal).toReal : ℝ) : EReal)) (r3 : ∀ i, A3 i = (((A3 i : EReal).toReal : ℝ) : EReal))

include r0 r1 in
theorem keysT_apply (b : Fin 32) (k : Fin 4112) (g : Fin 8) (x : Fin 64) : keysT A0 A1 (ix4 b k g x) = ((kk A0 A1 b.val k.val g.val x.val : ℝ) : EReal) := by
  unfold kk
  by_cases hk : k.val < 4096
  · rw [if_pos hk, keysT_past A0 A1 b k g x hk]; exact rd1_eq _ r1 _ _ _ _ _ _ _ _
  · rw [if_neg hk, keysT_new A0 A1 b k g x ⟨k.val - 4096, by omega⟩ (by simp only []; omega)]; exact rd0_eq _ r0 _ _ _ _

include r0 r2 in
theorem valsT_apply (b : Fin 32) (k : Fin 4112) (g : Fin 8) (x : Fin 64) : valsT A0 A2 (ix4 b k g x) = ((vv A0 A2 b.val k.val g.val x.val : ℝ) : EReal) := by
  unfold vv
  by_cases hk : k.val < 4096
  · rw [if_pos hk, valsT_past A0 A2 b k g x hk]; exact rd1_eq _ r2 _ _ _ _ _ _ _ _
  · rw [if_neg hk, valsT_new A0 A2 b k g x ⟨k.val - 4096, by omega⟩ (by simp only []; omega)]; exact rd0_eq _ r0 _ _ _ _

include r0 r1 r3 in
theorem scoreT_apply (b : Fin 32) (g : Fin 8) (r : Fin 4) (t : Fin 16) (k : Fin 4112) :
    scoreT A0 A1 A3 (ix5 b g r t k) = ((sc A0 A1 A3 b.val (4 * g.val + r.val) t.val k.val : ℝ) : EReal) := by
  have hg : (4 * g.val + r.val) / 4 = g.val := by omega
  pointwise [scoreT]
  rw [maskT_apply, prodT_apply, gapT_apply, rd3_eq _ r3 _ _ _ b.isLt (by omega) (by omega), rd3_eq _ r3 _ _ _ b.isLt k.isLt (by omega)]
  unfold sc
  by_cases hk : k.val ≤ 4096 + t.val
  · rw [if_pos hk, decide_eq_true hk]
    have e : ∀ x : Fin 64, keysT A0 A1 (ix4 b k g x) * A0 (ix2 ⟨8192 + 16 * b.val + t.val, by omega⟩ ⟨64 * (4 * g.val + r.val) + x.val, by omega⟩) =
        ((kk A0 A1 b.val k.val g.val x.val * rd0 A0 (8192 + 16 * b.val + t.val) (64 * (4 * g.val + r.val) + x.val) : ℝ) : EReal) := fun x => by
      rw [keysT_apply A0 A1 r0 r1, rd0_eq _ r0, ← EReal.coe_mul]
    simp only [e]
    rw [coe_sum, hg, EReal.coe_add, EReal.coe_mul, EReal.coe_sub]
    rfl
  · rw [if_neg hk, decide_eq_false hk]
    exact masked_eq

include r0 r1 r3 in
theorem expT_real (b : Fin 32) (g : Fin 8) (r : Fin 4) (t : Fin 16) : ∃ M : ℝ, ∀ k : Fin 4112,
    expT A0 A1 A3 (ix5 b g r t k) = ((Real.exp (sc A0 A1 A3 b.val (4 * g.val + r.val) t.val k.val - M) : ℝ) : EReal) := by
  obtain ⟨M, hM⟩ := maxT_real A0 A1 A3 (fun i => sc A0 A1 A3 (i 0).val (4 * (i 1).val + (i 2).val) (i 3).val (i 4).val) (fun i => by
    obtain ⟨b, g, r, t, k, rfl⟩ : ∃ (b : Fin 32) (g : Fin 8) (r : Fin 4) (t : Fin 16) (k : Fin 4112), i = ix5 b g r t k :=
      ⟨i 0, i 1, i 2, i 3, i 4, by funext a; fin_cases a <;> rfl⟩
    exact scoreT_apply A0 A1 A3 r0 r1 r3 b g r t k) b g r t
  refine ⟨M, fun k => ?_⟩
  rw [expT_apply, hM, scoreT_apply A0 A1 A3 r0 r1 r3, ← EReal.coe_sub, Ideal.exp_coe]

theorem sc_past (b h t k : ℕ) (hk : k < 4096) :
    sc A0 A1 A3 b h t k = scoreP (fun t c => rd0 A0 (8192 + 16 * b + t) c) (fun t h => rd3 A3 b (4096 + t) h) (fun h k => rd3 A3 b k h) (fun g x k => rd1 A1 b k g x) h t k := by
  unfold sc scoreP dotS kk
  rw [if_pos (by omega), Finset.sum_mul]
  congr 1
  refine Finset.sum_congr rfl fun x _ => ?_
  rw [if_pos hk]
  ring

theorem sc_new (b h t k : ℕ) :
    sc A0 A1 A3 b h t (4096 + k) = scoreN (fun t c => rd0 A0 (8192 + 16 * b + t) c) (fun t h => rd3 A3 b (4096 + t) h) (fun h k => rd3 A3 b (4096 + k) h)
      (fun k c => rd0 A0 (8192 + 16 * b + k) (2048 + c)) h t k := by
  unfold sc scoreN dotS kk
  by_cases hk : k ≤ t
  · rw [if_pos (by omega), if_pos hk, Finset.sum_mul]
    congr 1
    refine Finset.sum_congr rfl fun x _ => ?_
    rw [if_neg (by omega), Nat.add_sub_cancel_left]
    ring
  · rw [if_neg (by omega), if_neg hk]

theorem total_eq (b h t : ℕ) : ∑ k : Fin 4112, Real.exp (sc A0 A1 A3 b h t k.val) = resD A0 A1 A3 b h t := by
  rw [sum_three (fun k => Real.exp (sc A0 A1 A3 b h t k)) 4112 2048 2048 16 (by norm_num)]
  unfold resD total
  refine congrArg₂ (· + ·) (congrArg₂ (· + ·) ?_ ?_) ?_ <;> refine Finset.sum_congr rfl fun k _ => congrArg Real.exp ?_
  · exact sc_past A0 A1 A3 b h t k.val (by omega)
  · exact sc_past A0 A1 A3 b h t (2048 + k.val) (by omega)
  · exact sc_new A0 A1 A3 b h t k.val

theorem weighted_eq (b h t x : ℕ) : ∑ k : Fin 4112, Real.exp (sc A0 A1 A3 b h t k.val) * vv A0 A2 b k.val (h / 4) x = resN A0 A1 A2 A3 b h t x := by
  rw [sum_three (fun k => Real.exp (sc A0 A1 A3 b h t k) * vv A0 A2 b k (h / 4) x) 4112 2048 2048 16 (by norm_num)]
  unfold resN weighted
  refine congrArg₂ (· + ·) (congrArg₂ (· + ·) ?_ ?_) ?_ <;> refine Finset.sum_congr rfl fun k _ => congrArg₂ (· * ·) (congrArg Real.exp ?_) ?_
  · exact sc_past A0 A1 A3 b h t k.val (by omega)
  · unfold vv; rw [if_pos (by omega)]
  · exact sc_past A0 A1 A3 b h t (2048 + k.val) (by omega)
  · unfold vv; rw [if_pos (by omega)]
  · exact sc_new A0 A1 A3 b h t k.val
  · unfold vv; rw [if_neg (by omega), show 2048 + 2048 + k.val - 4096 = k.val by omega]

include r0 r1 r2 r3 in
theorem outT_value (b : Fin 32) (g : Fin 8) (x : Fin 64) (r : Fin 4) (t : Fin 16) :
    outT A0 A1 A2 A3 (ix5 b g x r t) = ((resN A0 A1 A2 A3 b.val (4 * g.val + r.val) t.val x.val / resD A0 A1 A3 b.val (4 * g.val + r.val) t.val : ℝ) : EReal) := by
  obtain ⟨M, hM⟩ := expT_real A0 A1 A3 r0 r1 r3 b g r t
  have hg : (4 * g.val + r.val) / 4 = g.val := by omega
  have hp : 0 < ∑ k : Fin 4112, Real.exp (sc A0 A1 A3 b.val (4 * g.val + r.val) t.val k.val) := by rw [total_eq]; exact total_pos _ _ _ _ _ _ _ _ _ _
  have hs : sumT A0 A1 A3 (ix4 b g r t) = ((∑ k : Fin 4112, Real.exp (sc A0 A1 A3 b.val (4 * g.val + r.val) t.val k.val - M) : ℝ) : EReal) := by
    rw [sumT_apply, ← coe_sum]
    exact Finset.sum_congr rfl fun k _ => hM k
  have hp' : 0 < ∑ k : Fin 4112, Real.exp (sc A0 A1 A3 b.val (4 * g.val + r.val) t.val k.val - M) :=
    Finset.sum_pos (fun _ _ => Real.exp_pos _) ⟨⟨0, by norm_num⟩, Finset.mem_univ _⟩
  rw [outT_apply, ← weighted_eq A0 A1 A2 A3, ← total_eq, ← share_sum _ _ M hp, ← coe_sum, hg]
  refine Finset.sum_congr rfl fun k _ => ?_
  rw [valsT_apply A0 A2 r0 r2, probT_apply, hM, hs, Ideal.div_coe hp'.ne', ← EReal.coe_mul, mul_one_div, ← EReal.coe_mul]

include r0 r1 r2 r3 in
theorem resT_value (A4 : FVec Ideal S8704x2048 .bf16) : resT A0 A1 A2 A3 A4 = wholeResult A0 A1 A2 A3 A4 := by
  funext i
  obtain ⟨i, d, rfl⟩ : ∃ (a : Fin 8704) (d : Fin 2048), i = ix2 a d := ⟨i 0, i 1, by funext a; fin_cases a <;> rfl⟩
  show _ = if i.val < 8192 then A4 (ix2 i d) else sampleAt A0 A1 A2 A3 ((i.val - 8192) / 16) ((i.val - 8192) % 16) d.val
  by_cases hi : i.val < 8192
  · rw [if_pos hi]; exact resT_prompt A0 A1 A2 A3 A4 ⟨i.val, hi⟩ d
  · rw [if_neg hi, resT_sample A0 A1 A2 A3 A4 i d ⟨i.val - 8192, by omega⟩ (by simp only []; omega), outT_value A0 A1 A2 A3 r0 r1 r2 r3]
    have e : 4 * (d.val / 256) + d.val / 64 % 4 = d.val / 64 := by omega
    unfold sampleAt
    simp only [e]

end Cert.ReferenceIdeal.Att
end
-- ==== Proof.UpRange.lean ====
module
public import proofs.«01_k».proof.Proof.Gen.Pre_experts_up_in_range
public import Idealize.ShloMosaic.Lib.ReduceAll

/-! The tables' precondition, read back: each tile's expert is one of the eight, and between one and all tiles are in use. -/

@[expose] public section
noncomputable section
namespace Cert.Pre_experts_up_in_range
open Idealize.ShloMosaic

/-- Every expert is below 8, the number of used tiles between 1 and 41. -/
def InRange (te : S41.Idx → BitVec 32) (na : S1.Idx → BitVec 32) : Prop := (∀ i, (te i).toNat < 8) ∧ ∀ i, 1 ≤ (na i).toNat ∧ (na i).toNat ≤ 41

theorem ofBool_one {b : Bool} (h : BitVec.ofBool b = 1#1) : b = true := by revert h; revert b; decide

theorem expert_word (x : BitVec 32) (h0 : IntOp.cmpi .sge x 0#32 = 1#1) (h1 : IntOp.cmpi .slt x 8#32 = 1#1) : x.toNat < 8 := by
  have a : (0#32).sle x = true := ofBool_one h0
  have b : x.slt 8#32 = true := ofBool_one h1
  simp only [BitVec.sle, BitVec.slt, decide_eq_true_eq, BitVec.toInt_eq_toNat_cond, BitVec.toNat_ofNat] at a b
  omega

theorem tiles_word (x : BitVec 32) (h0 : IntOp.cmpi .sge x 1#32 = 1#1) (h1 : IntOp.cmpi .sle x 41#32 = 1#1) : 1 ≤ x.toNat ∧ x.toNat ≤ 41 := by
  have a : (1#32).sle x = true := ofBool_one h0
  have b : x.sle 41#32 = true := ofBool_one h1
  simp only [BitVec.sle, decide_eq_true_eq, BitVec.toInt_eq_toNat_cond, BitVec.toNat_ofNat] at a b
  omega

instance : Subsingleton S_.Idx := ⟨fun a b => funext fun i => i.elim0⟩
instance : Subsingleton S1.Idx := ⟨fun a b => funext fun i => by
  fin_cases i
  exact Fin.ext (by have h1 : (a 0).val < 1 := (a 0).isLt; have h2 : (b 0).val < 1 := (b 0).isLt; show (a 0).val = (b 0).val; omega)⟩

theorem inRange {F : FTy → Type} [FloatOps F] (a0 : FVec F S20992x2048 .bf16) (a1 : FVec F S8x2048x14336 .f32) (a2 : IVec S41 32) (a3 : IVec S1 32)
    (h : fn (F := F) a0 a1 a2 a3 = fun _ => 1#1) : InRange a2 a3 := by
  have e := congrFun h (fun a => a.elim0)
  unfold fn at e
  obtain ⟨e, e3⟩ := IntOp.andi_eq_one.1 e
  obtain ⟨e, e2⟩ := IntOp.andi_eq_one.1 e
  refine ⟨fun i => ?_, fun i => ?_⟩
  · have := IntOp.andi_eq_one.1 (Host.reduce_andi_all _ _ _ _ _ e i)
    exact expert_word _ this.1 this.2
  · have w := tiles_word _ e2 e3
    have q : shapeCast S_ a3 Facts.shapeCasts_S1_S_ (fun a => a.elim0) = a3 i := congrArg a3 (Subsingleton.elim _ _)
    rw [q] at w
    exact w

end Cert.Pre_experts_up_in_range
end
-- ==== Proof.UpIdealBody.lean ====
module
public import proofs.«01_k».proof.Proof.Gen.Kernel2Ideal.Skeleton
public import proofs.«01_k».proof.Proof.Gen.Kernel2Ideal.Launch
public import Idealize.ShloMosaic.Lib.Pipeline.Frame
public import Idealize.ShloMosaic.Lib.Pipeline.FrameBody
public import Idealize.ShloMosaic.Lib.Writes
public import Idealize.ShloMosaic.Lib.Pipeline.Value
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

/-! One call of the body of the first expert product: what it leaves, by the two decisions it makes. -/

@[expose] public section
set_option maxRecDepth 16384
set_option Elab.async false
noncomputable section
namespace Cert.Kernel2Ideal.Experts
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The two tables and the two scratches, whole. -/
abbrev tabE : Memref sig .tc .smem S41 .i32 := Memref.whole main_arg2
abbrev tabN : Memref sig .tc .smem S1 .i32 := Memref.whole main_arg3
abbrev scrG : Memref sig .tc .vmem S2048x1024 .bf16 := Memref.whole cc0_scratch0
abbrev scrU : Memref sig .tc .vmem S2048x1024 .bf16 := Memref.whole cc0_scratch1

/-- The words the body reads: the expert of its tile, the expert of the tile before, the number of tiles in use. -/
abbrev wordE (T0 : S41.Idx → Elt F .i32) (i : grid0.Coords) : BitVec 32 :=
  View.readAt (Elt F) tabE.view (Rect.unit (s := S41) (k0_off1 i) S1.size (k0_off1_inb i)).toLoadRect T0 (Shape.Idx.first (numel1_S1.symm ▸ Nat.one_pos))
abbrev wordP (T0 : S41.Idx → Elt F .i32) (i : grid0.Coords) : BitVec 32 :=
  View.readAt (Elt F) tabE.view (Rect.unit (s := S41) (k0_off2 i) S1.size (k0_off2_inb i)).toLoadRect T0 (Shape.Idx.first (numel1_S1.symm ▸ Nat.one_pos))
abbrev wordN (T1 : S1.Idx → Elt F .i32) : BitVec 32 :=
  View.readAt (Elt F) tabN.view (Rect.unit (s := S1) ![0] S1.size inb_S1_S1_0).toLoadRect T1 (Shape.Idx.first (numel1_S1.symm ▸ Nat.one_pos))

/-- Whether the body casts its weights anew. -/
abbrev Fresh (T0 : S41.Idx → Elt F .i32) (i : grid0.Coords) : Prop :=
  Scalar.cmpi .ne (Scalar.extui (Scalar.ori (Scalar.cmpi .eq (BitVec.ofNat 32 (i 1).val) 0#32) (Scalar.cmpi .ne (wordE T0 i) (wordP T0 i)))) 0#32 = 1#1

/-- Whether its tile is in use. -/
abbrev Used (T1 : S1.Idx → Elt F .i32) (i : grid0.Coords) : Prop := k0_cond3 i (wordN T1) = 1#1

theorem cond1_iff (i : grid0.Coords) (v : BitVec 32) : k0_cond1 i v = 1#1 ↔ ¬ k0_cond3 i v = 1#1 := by
  unfold k0_cond1 k0_cond3
  dsimp only
  generalize Scalar.cmpi .slt (BitVec.ofNat 32 (i 1).val) v = b
  revert b; decide

/-- What the body leaves in the scratches and the result's block. -/
def castG (T0 : S41.Idx → Elt F .i32) (i : grid0.Coords) (x1 : S1x2048x1024.Idx → Elt F .f32) (a : S2048x1024.Idx → Elt F .bf16) : S2048x1024.Idx → Elt F .bf16 :=
  if Fresh T0 i then k0_pay2 (F := F) x1 else a
def castU (T0 : S41.Idx → Elt F .i32) (i : grid0.Coords) (x2 : S1x2048x1024.Idx → Elt F .f32) (a : S2048x1024.Idx → Elt F .bf16) : S2048x1024.Idx → Elt F .bf16 :=
  if Fresh T0 i then k0_pay3 (F := F) x2 else a
def left (T1 : S1.Idx → Elt F .i32) (i : grid0.Coords) (x0 : S512x2048.Idx → Elt F .bf16) (g u : S2048x1024.Idx → Elt F .bf16) : S512x1024.Idx → Elt F .bf16 :=
  if Used T1 i then k0_pay4 (F := F) x0 g u else k0_pay1 (F := F)

theorem zeros2 : (![0, 0] : Fin 2 → ℕ) = fun _ => 0 := by funext a; fin_cases a <;> rfl
theorem zeros3 : (![0, 0, 0] : Fin 3 → ℕ) = fun _ => 0 := by funext a; fin_cases a <;> rfl

/-- A block stored whole, read whole. -/
theorem canonO (h) (w : S512x1024.Idx → Elt F .bf16) :
    View.canon [(⟨Rect.unit (s := S512x1024) ![0, 0] ![512, 1024] h, w⟩ : View.Piece (Elt F) S512x1024 .bf16)] = w :=
  View.canon_unit_zero (S := S512x1024) zeros2 h w
theorem ldX (h) (w : S512x2048.Idx → Elt F .bf16) : View.ld w (Rect.unit (s := S512x2048) ![0, 0] ![512, 2048] h) = w := View.ld_unit_zero (S := S512x2048) zeros2 h w
theorem ldW (h) (w : S1x2048x1024.Idx → Elt F .f32) : View.ld w (Rect.unit (s := S1x2048x1024) ![0, 0, 0] ![1, 2048, 1024] h) = w := View.ld_unit_zero (S := S1x2048x1024) zeros3 h w
theorem ldS (h) (w : S2048x1024.Idx → Elt F .bf16) : View.ld w (Rect.unit (s := S2048x1024) ![0, 0] ![2048, 1024] h) = w := View.ld_unit_zero (S := S2048x1024) zeros2 h w
theorem canonS (h) (w : S2048x1024.Idx → Elt F .bf16) :
    View.canon [(⟨Rect.unit (s := S2048x1024) ![0, 0] ![2048, 1024] h, w⟩ : View.Piece (Elt F) S2048x1024 .bf16)] = w :=
  View.canon_unit_zero (S := S2048x1024) zeros2 h w
abbrev vG : View sig .tc .vmem S2048x1024 .bf16 := View.whole cc0_scratch0
abbrev vU : View sig .tc .vmem S2048x1024 .bf16 := View.whole cc0_scratch1
theorem readG (a : S2048x1024.Idx → Elt F .bf16) : View.read (Elt F) vG a = a := rfl
theorem readU (a : S2048x1024.Idx → Elt F .bf16) : View.read (Elt F) vU a = a := rfl
theorem writesG (h) (w : S2048x1024.Idx → Elt F .bf16) :
    vG.writes (Elt F) vG.junk [(⟨Rect.unit (s := S2048x1024) ![0, 0] ![2048, 1024] h, w⟩ : View.Piece (Elt F) S2048x1024 .bf16)] = w := by
  have e := View.read_writes_junk_eq_canon (Val := Elt F) vG [(⟨Rect.unit (s := S2048x1024) ![0, 0] ![2048, 1024] h, w⟩ : View.Piece (Elt F) S2048x1024 .bf16)]
  rw [canonS] at e
  generalize vG.writes (Elt F) vG.junk _ = X at e ⊢
  exact e
theorem writesU (h) (w : S2048x1024.Idx → Elt F .bf16) :
    vU.writes (Elt F) vU.junk [(⟨Rect.unit (s := S2048x1024) ![0, 0] ![2048, 1024] h, w⟩ : View.Piece (Elt F) S2048x1024 .bf16)] = w := by
  have e := View.read_writes_junk_eq_canon (Val := Elt F) vU [(⟨Rect.unit (s := S2048x1024) ![0, 0] ![2048, 1024] h, w⟩ : View.Piece (Elt F) S2048x1024 .bf16)]
  rw [canonS] at e
  generalize vU.writes (Elt F) vU.junk _ = X at e ⊢
  exact e

set_option backward.proofsInPublic true in
set_option maxHeartbeats 1000000 in
theorem body_run (c : Dev nD) (i : grid0.Coords) (arg4 : Memref sig .tc .vmem S512x2048 .bf16) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S512x1024 .bf16) (harg7 : arg7.IsWhole) (T0 : S41.Idx → Elt F .i32) (T1 : S1.Idx → Elt F .i32)
    (x0 : S512x2048.Idx → Elt F .bf16) (x1 x2 : S1x2048x1024.Idx → Elt F .f32) (a8 a9 : S2048x1024.Idx → Elt F .bf16) (K : PUnit → sProp (MT nD τ sig Unit (Elt F) ℕ (UR sig nD τ) ℕ)) :
    iprop((arg4.view.loc (c : Thread nD τ) ↦[arg4.view.set]{fullShare} arg4.view.rep x0)
      ∗ (arg5.view.loc (c : Thread nD τ) ↦[arg5.view.set]{fullShare} arg5.view.rep x1)
      ∗ (arg6.view.loc (c : Thread nD τ) ↦[arg6.view.set]{fullShare} arg6.view.rep x2)
      ∗ (tabE.view.loc (c : Thread nD τ) ↦{fullShare.right} T0)
      ∗ (tabN.view.loc (c : Thread nD τ) ↦{fullShare.right} T1)
      ∗ (∃ d, owns (c : Thread nD τ) arg7 fullShare d)
      ∗ (scrG.view.loc (c : Thread nD τ) ↦{fullShare} a8)
      ∗ (scrU.view.loc (c : Thread nD τ) ↦{fullShare} a9)
      ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tabE.view.loc (c : Thread nD τ) ↦{fullShare.right} T0)
          ∗ (tabN.view.loc (c : Thread nD τ) ↦{fullShare.right} T1)
          ∗ owns (c : Thread nD τ) arg7 fullShare (left T1 i x0 (castG T0 i x1 a8) (castU T0 i x2 a9))
          ∗ (scrG.view.loc (c : Thread nD τ) ↦{fullShare} castG T0 i x1 a8)
          ∗ (scrU.view.loc (c : Thread nD τ) ↦{fullShare} castU T0 i x2 a9)) -∗ K ⟨⟩))
      ⊢ wp frame (wpE (defs₀ (F := F)) Variants.none c none) Set.univ (cc0_moe_gu i tabE (Memref.isWhole_whole _) tabN (Memref.isWhole_whole _) arg4 harg4 arg5 harg5 arg6 harg6 arg7 harg7 scrG (Memref.isWhole_whole _) scrU (Memref.isWhole_whole _)) K := by
  unfold owns
  rw [cc0_moe_gu_eq_skeleton]; unfold cc0_moe_gu_skel
  have hS0 : scrG.IsWhole := Memref.isWhole_whole _
  have hS1 : scrU.IsWhole := Memref.isWhole_whole _
  have hT0 : tabE.IsWhole := Memref.isWhole_whole _
  have hT1 : tabN.IsWhole := Memref.isWhole_whole _
  by_cases h3 : Used T1 i
  · have h1 : ¬ k0_cond1 i (wordN T1) = 1#1 := fun h => (cond1_iff _ _).1 h h3
    by_cases hn : Fresh T0 i
    · iintro ⟨H0, H1, H2, HT0, HT1, ⟨%d2, %f2, -, HO2⟩, HS0, HS1, Hk⟩
      sl_exec! (disch := first | (guard_target = ¬(k0_cond1 _ _ = _); exact h1) | (guard_target = Scalar.cmpi = _; exact hn) | (guard_target = k0_cond3 _ _ = _; exact h3))
      sl_step
      unfold left castG castU
      simp only [if_pos hn, if_pos h3]
      sl_unfold_words
      simp only [View.readAt_eq_ld, View.read_rep, View.readCov_cons_toLoadRect, readG, readU, ldX, ldW, ldS, writesG, writesU]
      iapply Hk
      isplitl [H0]; · iexact H0
      isplitl [H1]; · iexact H1
      isplitl [H2]; · iexact H2
      isplitl [HT0]; · iexact HT0
      isplitl [HT1]; · iexact HT1
      isplitl [HO2]
      · iexists _; isplitr; swap
        · iexact HO2
        · ipureintro; exact (View.read_writes_junk_eq_canon _ _).trans (canonO _ _)
      isplitl [HS0]
      · iexact HS0
      · iexact HS1
    · iintro ⟨H0, H1, H2, HT0, HT1, ⟨%d2, %f2, -, HO2⟩, HS0, HS1, Hk⟩
      sl_exec! (disch := first | (guard_target = ¬(k0_cond1 _ _ = _); exact h1) | (guard_target = ¬(Scalar.cmpi = _); exact hn) | (guard_target = k0_cond3 _ _ = _; exact h3))
      sl_step
      unfold left castG castU
      simp only [if_neg hn, if_pos h3]
      sl_unfold_words
      simp only [View.readAt_eq_ld, View.read_rep, View.readCov_cons_toLoadRect, readG, readU, ldX, ldW, ldS, writesG, writesU]
      iapply Hk
      isplitl [H0]; · iexact H0
      isplitl [H1]; · iexact H1
      isplitl [H2]; · iexact H2
      isplitl [HT0]; · iexact HT0
      isplitl [HT1]; · iexact HT1
      isplitl [HO2]
      · iexists _; isplitr; swap
        · iexact HO2
        · ipureintro; exact (View.read_writes_junk_eq_canon _ _).trans (canonO _ _)
      isplitl [HS0]; · iexact HS0
      iexact HS1
  · have h1 : k0_cond1 i (wordN T1) = 1#1 := (cond1_iff _ _).2 h3
    by_cases hn : Fresh T0 i
    · iintro ⟨H0, H1, H2, HT0, HT1, ⟨%d2, %f2, -, HO2⟩, HS0, HS1, Hk⟩
      sl_exec! (disch := first | (guard_target = k0_cond1 _ _ = _; exact h1) | (guard_target = Scalar.cmpi = _; exact hn) | (guard_target = ¬(k0_cond3 _ _ = _); exact h3))
      sl_step
      unfold left castG castU
      simp only [if_pos hn, if_neg h3]
      sl_unfold_words
      simp only [View.readAt_eq_ld, View.read_rep, View.readCov_cons_toLoadRect, readG, readU, ldX, ldW, ldS, writesG, writesU]
      iapply Hk
      isplitl [H0]; · iexact H0
      isplitl [H1]; · iexact H1
      isplitl [H2]; · iexact H2
      isplitl [HT0]; · iexact HT0
      isplitl [HT1]; · iexact HT1
      isplitl [HO2]
      · iexists _; isplitr; swap
        · iexact HO2
        · ipureintro; exact (View.read_writes_junk_eq_canon _ _).trans (canonO _ _)
      isplitl [HS0]
      · iexact HS0
      · iexact HS1
    · iintro ⟨H0, H1, H2, HT0, HT1, ⟨%d2, %f2, -, HO2⟩, HS0, HS1, Hk⟩
      sl_exec! (disch := first | (guard_target = k0_cond1 _ _ = _; exact h1) | (guard_target = ¬(Scalar.cmpi = _); exact hn) | (guard_target = ¬(k0_cond3 _ _ = _); exact h3))
      sl_step
      unfold left castG castU
      simp only [if_neg hn, if_neg h3]
      sl_unfold_words
      simp only [View.readAt_eq_ld, View.read_rep, View.readCov_cons_toLoadRect, readG, readU, ldX, ldW, ldS, writesG, writesU]
      iapply Hk
      isplitl [H0]; · iexact H0
      isplitl [H1]; · iexact H1
      isplitl [H2]; · iexact H2
      isplitl [HT0]; · iexact HT0
      isplitl [HT1]; · iexact HT1
      isplitl [HO2]
      · iexists _; isplitr; swap
        · iexact HO2
        · ipureintro; exact (View.read_writes_junk_eq_canon _ _).trans (canonO _ _)
      isplitl [HS0]; · iexact HS0
      iexact HS1
end Cert.Kernel2Ideal.Experts
end
-- ==== Proof.UpIdealLaunch.lean ====
module
public import proofs.«01_k».proof.Proof.UpIdealBody
public import Idealize.ShloMosaic.Lib.Pipeline.TableIdle
public import Idealize.ShloMosaic.Lib.Pipeline.Kit

/-! The first expert product over its whole grid: the tables fixed, what the scratches hold between points, the launch. -/

@[expose] public section
set_option maxRecDepth 16384
set_option Elab.async false
noncomputable section
namespace Cert.Kernel2Ideal.Experts
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-! ## The grid's points -/

theorem coords0 : ∀ t : Fin grid0.N, ((grid0.coords t) 0).val = t.val / 41 ∧ ((grid0.coords t) 1).val = t.val % 41 := by decide +kernel

theorem off1_eq (i : grid0.Coords) : k0_off1 i = ![(i 1).val] := by
  have h : ∀ n : Fin 41, (Scalar.indexCast (BitVec.ofNat 32 n.val) : Index).toNat = n.val := by decide
  unfold k0_off1; exact congrArg (fun n => ![n]) (h (i 1))
theorem off2_eq (i : grid0.Coords) (h0 : (i 1).val ≠ 0) : k0_off2 i = ![(i 1).val - 1] := by
  have h : ∀ n : Fin 41, n.val ≠ 0 → (Scalar.indexCast (Scalar.maxsi (Scalar.subi (BitVec.ofNat 32 n.val) 1#32) 0#32) : Index).toNat = n.val - 1 := by decide
  unfold k0_off2; exact congrArg (fun n => ![n]) (h (i 1) h0)

/-- A table read at equal offsets reads the same word. -/
theorem word_congr (T0 : S41.Idx → Elt F .i32) {o o' : Fin 1 → ℕ} (e : o = o') (h : ∀ a, o a + S1.size a ≤ S41.size a) (h' : ∀ a, o' a + S1.size a ≤ S41.size a) :
    View.readAt (Elt F) tabE.view (Rect.unit (s := S41) o S1.size h).toLoadRect T0 (Shape.Idx.first (numel1_S1.symm ▸ Nat.one_pos))
      = View.readAt (Elt F) tabE.view (Rect.unit (s := S41) o' S1.size h').toLoadRect T0 (Shape.Idx.first (numel1_S1.symm ▸ Nat.one_pos)) := by
  subst e; rfl

theorem ne_word (x y : BitVec 32) (h : x ≠ y) : Scalar.cmpi .ne x y = 1#1 := by
  show BitVec.ofBool (x != y) = 1#1
  rw [bne_iff_ne.2 h]; rfl

/-- Where the body keeps its cast weights, the tile is not the first and its expert is the one before's. -/
theorem of_not_fresh (T0 : S41.Idx → Elt F .i32) (i : grid0.Coords) (h : ¬ Fresh T0 i) : (i 1).val ≠ 0 ∧ wordE T0 i = wordP T0 i := by
  have k : ∀ p q : BitVec 1, ¬ (Scalar.cmpi .ne (Scalar.extui (Scalar.ori p q) : BitVec 32) 0#32 = 1#1) → ¬ p = 1#1 ∧ ¬ q = 1#1 := by decide
  obtain ⟨hp, hq⟩ := k _ _ h
  have k0 : ∀ n : Fin 41, ¬ Scalar.cmpi .eq (BitVec.ofNat 32 n.val) 0#32 = 1#1 → n.val ≠ 0 := by decide
  refine ⟨k0 (i 1) hp, ?_⟩
  by_contra hne
  exact hq (ne_word _ _ hne)

/-! ## The pipeline at admissible tables -/

variable (a : (pcfg0 (F := F)).Adm)

abbrev cfgA : Pipeline.Cfg sig Λ₀ := cfg0 (F := F) a
abbrev pcs : Fin 1 → Pipeline.Cfg sig Λ₀ := Pipeline.pin (pcfgs (F := F)) fun _ => a
abbrev tab0 : S41.Idx → Elt F .i32 := a.1 0
abbrev tab1 : S1.Idx → Elt F .i32 := a.1 1

variable (m : (ℓ : Loc nD τ sig) → Buf (Elt F) ℓ) (ρ : Dev nD → PrngReg)

abbrev crd (t : Fin (cfgA a).N) : grid0.Coords := (cfgA a).grid.coords t
abbrev ms0_0 (t : Fin (cfgA a).N) : Memref sig .tc .vmem S512x2048 .bf16 := spec0_0.stage ((cfgA a).slots t (0 : Fin 4))
abbrev hs0_0 (t : Fin (cfgA a).N) : (ms0_0 a t).IsWhole := hstage0_0 (((cfgA a).slots t (0 : Fin 4)).cast nbuf0_0)
abbrev ms0_1 (t : Fin (cfgA a).N) : Memref sig .tc .vmem S1x2048x1024 .f32 := spec0_1.stage ((cfgA a).slots t (1 : Fin 4))
abbrev hs0_1 (t : Fin (cfgA a).N) : (ms0_1 a t).IsWhole := hstage0_1 (((cfgA a).slots t (1 : Fin 4)).cast nbuf0_1)
abbrev ms0_2 (t : Fin (cfgA a).N) : Memref sig .tc .vmem S1x2048x1024 .f32 := spec0_2.stage ((cfgA a).slots t (2 : Fin 4))
abbrev hs0_2 (t : Fin (cfgA a).N) : (ms0_2 a t).IsWhole := hstage0_2 (((cfgA a).slots t (2 : Fin 4)).cast nbuf0_2)
abbrev ms0_3 (t : Fin (cfgA a).N) : Memref sig .tc .vmem S512x1024 .bf16 := spec0_3.stage ((cfgA a).slots t (3 : Fin 4))
abbrev hs0_3 (t : Fin (cfgA a).N) : (ms0_3 a t).IsWhole := hstage0_3 (((cfgA a).slots t (3 : Fin 4)).cast nbuf0_3)

/-- Window `w`'s block at point `t`, read off its array at launch. -/
def iblk (c : Dev nD) (w : Fin (cfgA a).W) (t : Fin (cfgA a).N) : (((cfgA a).win w).xblock ((cfgA a).grid.coords t)).Idx → Elt F ((cfgA a).win w).elt :=
  (((cfgA a).win w).blk t).view.read (Elt F) (m (((cfgA a).win w).arr.view.loc (c : Thread nD τ)))

/-- The weights' block at given block indices. -/
def wAt (c : Dev nD) (v : Fin 3 → ℕ) (h : ∀ b, (v b + 1) * S1x2048x1024.size b ≤ S8x2048x14336.size b) : S1x2048x1024.Idx → Elt F .f32 :=
  ((Memref.whole main_arg1 : Memref sig .tc .hbm S8x2048x14336 .f32).slice (Rect.block (s := S8x2048x14336) S1x2048x1024.size v h) fun _ => rfl).view.read (Elt F) (m ((c : Thread nD τ).loc main_arg1))
theorem wAt_congr (c : Dev nD) {v v' : Fin 3 → ℕ} (e : v = v') (h h') : wAt m c v h = wAt m c v' h' := by subst e; rfl

theorem iblk1_eq (c : Dev nD) (t : Fin (cfgA a).N) : iblk a m c (1 : Fin 4) t = wAt m c (cc0_transform_1 k0_off1_inb numel1_S1 a.1 (crd a t)) (fun b => hinb0 a.1 a.2 1 (crd a t) b) := rfl
theorem iblk2_eq (c : Dev nD) (t : Fin (cfgA a).N) : iblk a m c (2 : Fin 4) t = wAt m c (cc0_transform_2 k0_off1_inb numel1_S1 a.1 (crd a t)) (fun b => hinb0 a.1 a.2 2 (crd a t) b) := rfl

theorem tr1_eq (pf : pre0.Contents (Elt F)) (i : grid0.Coords) : cc0_transform_1 k0_off1_inb numel1_S1 pf i = ![(wordE (pf 0) i).toNat, (0#32).toNat, (BitVec.ofNat 32 (i 0).val).toNat] := rfl
theorem tr2_eq (pf : pre0.Contents (Elt F)) (i : grid0.Coords) : cc0_transform_2 k0_off1_inb numel1_S1 pf i = ![(wordE (pf 0) i).toNat, (0#32).toNat, (Scalar.addi (BitVec.ofNat 32 (i 0).val) 7#32).toNat] := rfl

/-- Where the body keeps its cast weights, the point before has the same blocks of weights. -/
theorem stay (t : Fin (cfgA a).N) (h : ¬ Fresh (tab0 a) (crd a t)) : ∃ h0 : t.val ≠ 0,
    wordE (tab0 a) (crd a t) = wordE (tab0 a) (crd a ⟨t.val - 1, by omega⟩) ∧ (crd a t 0).val = (crd a ⟨t.val - 1, by omega⟩ 0).val := by
  obtain ⟨h1, h2⟩ := of_not_fresh _ _ h
  have e := coords0 t
  have h1' : t.val % 41 ≠ 0 := by rw [← e.2]; exact h1
  have h0 : t.val ≠ 0 := fun h => h1' (by rw [h])
  have e' := coords0 ⟨t.val - 1, by omega⟩
  refine ⟨h0, h2.trans (word_congr _ ?_ _ _), ?_⟩
  · rw [off2_eq _ h1, off1_eq]
    refine congrArg (fun n => ![n]) ?_
    refine (congrArg (· - 1) e.2).trans (Eq.trans ?_ e'.2.symm)
    show t.val % 41 - 1 = (t.val - 1) % 41
    omega
  · refine e.1.trans (Eq.trans ?_ e'.1.symm)
    show t.val / 41 = (t.val - 1) / 41
    omega

theorem stay1 (c : Dev nD) (t : Fin (cfgA a).N) (h : ¬ Fresh (tab0 a) (crd a t)) (h0 : t.val - 1 < (cfgA a).N) :
    (iblk a m c (1 : Fin 4) t : S1x2048x1024.Idx → Elt F .f32) = iblk a m c (1 : Fin 4) ⟨t.val - 1, h0⟩ := by
  obtain ⟨_, e, e'⟩ := stay a t h
  rw [iblk1_eq, iblk1_eq]
  exact wAt_congr m c (by rw [tr1_eq, tr1_eq, e, e']) _ _
theorem stay2 (c : Dev nD) (t : Fin (cfgA a).N) (h : ¬ Fresh (tab0 a) (crd a t)) (h0 : t.val - 1 < (cfgA a).N) :
    (iblk a m c (2 : Fin 4) t : S1x2048x1024.Idx → Elt F .f32) = iblk a m c (2 : Fin 4) ⟨t.val - 1, h0⟩ := by
  obtain ⟨_, e, e'⟩ := stay a t h
  rw [iblk2_eq, iblk2_eq]
  exact wAt_congr m c (by rw [tr2_eq, tr2_eq, e, e']) _ _

/-- What the scratches hold after point `t`. -/
def heldG (c : Dev nD) (t : Fin (cfgA a).N) : S2048x1024.Idx → Elt F .bf16 := k0_pay2 (F := F) (iblk a m c (1 : Fin 4) t)
def heldU (c : Dev nD) (t : Fin (cfgA a).N) : S2048x1024.Idx → Elt F .bf16 := k0_pay3 (F := F) (iblk a m c (2 : Fin 4) t)

theorem castG_eq (c : Dev nD) (t : Fin (cfgA a).N) (a8 : S2048x1024.Idx → Elt F .bf16) (hh : ∀ s : Fin (cfgA a).N, s.val + 1 = t.val → a8 = heldG a m c s) :
    castG (tab0 a) (crd a t) (iblk a m c (1 : Fin 4) t) a8 = heldG a m c t := by
  by_cases hn : Fresh (tab0 a) (crd a t)
  · exact if_pos hn
  · obtain ⟨h0, -⟩ := stay a t hn
    refine (if_neg hn).trans ((hh ⟨t.val - 1, by omega⟩ (Nat.succ_pred_eq_of_ne_zero h0)).trans ?_)
    exact congrArg (k0_pay2 (F := F)) (stay1 a m c t hn (by omega)).symm
theorem castU_eq (c : Dev nD) (t : Fin (cfgA a).N) (a9 : S2048x1024.Idx → Elt F .bf16) (hh : ∀ s : Fin (cfgA a).N, s.val + 1 = t.val → a9 = heldU a m c s) :
    castU (tab0 a) (crd a t) (iblk a m c (2 : Fin 4) t) a9 = heldU a m c t := by
  by_cases hn : Fresh (tab0 a) (crd a t)
  · exact if_pos hn
  · obtain ⟨h0, -⟩ := stay a t hn
    refine (if_neg hn).trans ((hh ⟨t.val - 1, by omega⟩ (Nat.succ_pred_eq_of_ne_zero h0)).trans ?_)
    exact congrArg (k0_pay3 (F := F)) (stay2 a m c t hn (by omega)).symm

/-- What the result's block holds after point `t`. -/
def outAt (c : Dev nD) (t : Fin (cfgA a).N) : S512x1024.Idx → Elt F .bf16 :=
  left (tab1 a) (crd a t) (iblk a m c (0 : Fin 4) t) (heldG a m c t) (heldU a m c t)

/-- Between points: the scratches as the point before left them, the body's halves of the tables, the random register. -/
def Phi (c : Dev nD) (t : Fin ((cfgA a).N + 1)) : sProp (MT nD τ sig Unit (Elt F) ℕ (UR sig nD τ) ℕ) :=
  iprop((∃ a8 a9 : S2048x1024.Idx → Elt F .bf16, ⌜∀ s : Fin (cfgA a).N, s.val + 1 = t.val → a8 = heldG a m c s ∧ a9 = heldU a m c s⌝
      ∗ (scrG.view.loc (c : Thread nD τ) ↦{fullShare} a8) ∗ (scrU.view.loc (c : Thread nD τ) ↦{fullShare} a9))
    ∗ (tabE.view.loc (c : Thread nD τ) ↦{fullShare.right} tab0 a) ∗ (tabN.view.loc (c : Thread nD τ) ↦{fullShare.right} tab1 a)
    ∗ ∃ r, prngReg c r)

def dats (_ : Fin 1) (c : Dev nD) : Dat τ (Elt F) Unit ℕ (UR sig nD τ) ℕ (cfgA a) c where
  A w := m (((cfgA a).win w).arr.view.loc (c : Thread nD τ))
  after w t := match w with
    | ⟨0, _⟩ => iblk a m c (0 : Fin 4) t
    | ⟨1, _⟩ => iblk a m c (1 : Fin 4) t
    | ⟨2, _⟩ => iblk a m c (2 : Fin 4) t
    | ⟨3, _⟩ => outAt a m c t
  Φ t := Phi a m c t
  q w := Pipeline.shareOf spec0 w
  owed _ := 0

theorem after0_0 (c : Dev nD) (t : Fin (cfgA a).N) : (dats a m 0 c).after (0 : Fin 4) t = iblk a m c (0 : Fin 4) t := rfl
theorem after0_1 (c : Dev nD) (t : Fin (cfgA a).N) : (dats a m 0 c).after (1 : Fin 4) t = iblk a m c (1 : Fin 4) t := rfl
theorem after0_2 (c : Dev nD) (t : Fin (cfgA a).N) : (dats a m 0 c).after (2 : Fin 4) t = iblk a m c (2 : Fin 4) t := rfl
theorem after0_3 (c : Dev nD) (t : Fin (cfgA a).N) : (dats a m 0 c).after (3 : Fin 4) t = outAt a m c t := rfl

theorem before0_0 (c : Dev nD) (t : Fin (cfgA a).N) (d) : (dats a m 0 c).before (0 : Fin 4) t d = iblk a m c (0 : Fin 4) t :=
  ((dats a m 0 c).before_in_eq_fetched (0 : Fin 4) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA a).N) (d) : (dats a m 0 c).before (1 : Fin 4) t d = iblk a m c (1 : Fin 4) t :=
  ((dats a m 0 c).before_in_eq_fetched (1 : Fin 4) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA a).N) (d) : (dats a m 0 c).before (2 : Fin 4) t d = iblk a m c (2 : Fin 4) t :=
  ((dats a m 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- The result's block is stored at every point. -/
theorem idle3 (t : Fin (cfgA a).N) : (cfgA a).idle (3 : Fin 4) ((cfgA a).grid.coords t) = false := by
  have k : ∀ i v, (!(k0_cond1 i v == 1#1) && !(k0_cond3 i v == 1#1)) = false := by
    intro i v
    by_cases h : k0_cond3 i v = 1#1
    · rw [h]; simp
    · rw [(cond1_iff i v).2 h]; simp
  exact k _ _

abbrev bodyAt0 (t : Fin (cfgA a).N) : Prog (TpuEff nD τ sig (Elt F) Λ₀ .tc) PUnit :=
  cc0_moe_gu (crd a t) tabE (Memref.isWhole_whole _) tabN (Memref.isWhole_whole _) (ms0_0 a t) (hs0_0 a t) (ms0_1 a t) (hs0_1 a t) (ms0_2 a t) (hs0_2 a t) (ms0_3 a t) (hs0_3 a t) scrG (Memref.isWhole_whole _) scrU (Memref.isWhole_whole _)

/-- The body's run, its three results under other names. -/
theorem body_run_as (c : Dev nD) (i : grid0.Coords) (arg4 : Memref sig .tc .vmem S512x2048 .bf16) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S512x1024 .bf16) (harg7 : arg7.IsWhole) (T0 : S41.Idx → Elt F .i32) (T1 : S1.Idx → Elt F .i32)
    (x0 : S512x2048.Idx → Elt F .bf16) (x1 x2 : S1x2048x1024.Idx → Elt F .f32) (a8 a9 g u : S2048x1024.Idx → Elt F .bf16) (o : S512x1024.Idx → Elt F .bf16)
    (hg : castG T0 i x1 a8 = g) (hu : castU T0 i x2 a9 = u) (ho : left T1 i x0 g u = o)
    (K : PUnit → sProp (MT nD τ sig Unit (Elt F) ℕ (UR sig nD τ) ℕ)) :
    iprop(owns (c : Thread nD τ) arg4 fullShare x0 ∗ owns (c : Thread nD τ) arg5 fullShare x1 ∗ owns (c : Thread nD τ) arg6 fullShare x2
      ∗ (tabE.view.loc (c : Thread nD τ) ↦{fullShare.right} T0)
      ∗ (tabN.view.loc (c : Thread nD τ) ↦{fullShare.right} T1)
      ∗ (∃ d, owns (c : Thread nD τ) arg7 fullShare d)
      ∗ (scrG.view.loc (c : Thread nD τ) ↦{fullShare} a8)
      ∗ (scrU.view.loc (c : Thread nD τ) ↦{fullShare} a9)
      ∗ (iprop(owns (c : Thread nD τ) arg4 fullShare x0 ∗ owns (c : Thread nD τ) arg5 fullShare x1 ∗ owns (c : Thread nD τ) arg6 fullShare x2
          ∗ (tabE.view.loc (c : Thread nD τ) ↦{fullShare.right} T0)
          ∗ (tabN.view.loc (c : Thread nD τ) ↦{fullShare.right} T1)
          ∗ owns (c : Thread nD τ) arg7 fullShare o
          ∗ (scrG.view.loc (c : Thread nD τ) ↦{fullShare} g)
          ∗ (scrU.view.loc (c : Thread nD τ) ↦{fullShare} u)) -∗ K ⟨⟩))
      ⊢ wp frame (wpE (defs₀ (F := F)) Variants.none c none) Set.univ (cc0_moe_gu i tabE (Memref.isWhole_whole _) tabN (Memref.isWhole_whole _) arg4 harg4 arg5 harg5 arg6 harg6 arg7 harg7 scrG (Memref.isWhole_whole _) scrU (Memref.isWhole_whole _)) K := by
  subst hg hu ho
  iintro ⟨H0, H1, H2, HT0, HT1, H3, HS0, HS1, Hk⟩
  iapply (body_run c i arg4 harg4 arg5 harg5 arg6 harg6 arg7 harg7 T0 T1 x0 x1 x2 a8 a9 K)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexact H3
  isplitl [HS0]; · iexact HS0
  isplitl [HS1]; · iexact HS1
  iintro ⟨H0, H1, H2, HT0, HT1, H3, HS0, HS1⟩
  iapply Hk
  isplitl [H0]; · iapply owns_of_rep; iexact H0
  isplitl [H1]; · iapply owns_of_rep; iexact H1
  isplitl [H2]; · iapply owns_of_rep; iexact H2
  isplitl [HT0]; · iexact HT0
  isplitl [HT1]; · iexact HT1
  isplitl [H3]; · iexact H3
  isplitl [HS0]; · iexact HS0
  iexact HS1

/-- The body's run between two states of the scratches, whatever else is held beside it. -/
theorem core (c : Dev nD) (i : grid0.Coords) (arg4 : Memref sig .tc .vmem S512x2048 .bf16) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S512x1024 .bf16) (harg7 : arg7.IsWhole) (T0 : S41.Idx → Elt F .i32) (T1 : S1.Idx → Elt F .i32)
    (x0 : S512x2048.Idx → Elt F .bf16) (x1 x2 : S1x2048x1024.Idx → Elt F .f32) (g u : S2048x1024.Idx → Elt F .bf16) (o : S512x1024.Idx → Elt F .bf16)
    (Hp Hn : (S2048x1024.Idx → Elt F .bf16) → (S2048x1024.Idx → Elt F .bf16) → Prop)
    (hg : ∀ a8 a9, Hp a8 a9 → castG T0 i x1 a8 = g) (hu : ∀ a8 a9, Hp a8 a9 → castU T0 i x2 a9 = u) (ho : left T1 i x0 g u = o) (hn : Hn g u)
    (P R : sProp (MT nD τ sig Unit (Elt F) ℕ (UR sig nD τ) ℕ)) (bf : (S512x1024.Idx → Elt F .bf16) → (S512x1024.Idx → Elt F .bf16)) :
    iprop(((∃ a8 a9 : S2048x1024.Idx → Elt F .bf16, ⌜Hp a8 a9⌝ ∗ (scrG.view.loc (c : Thread nD τ) ↦{fullShare} a8) ∗ (scrU.view.loc (c : Thread nD τ) ↦{fullShare} a9))
          ∗ (tabE.view.loc (c : Thread nD τ) ↦{fullShare.right} T0) ∗ (tabN.view.loc (c : Thread nD τ) ↦{fullShare.right} T1) ∗ R)
        ∗ P
        ∗ (∃ d : S512x2048.Idx → Elt F .bf16, owns (c : Thread nD τ) arg4 fullShare x0)
        ∗ (∃ d : S1x2048x1024.Idx → Elt F .f32, owns (c : Thread nD τ) arg5 fullShare x1)
        ∗ (∃ d : S1x2048x1024.Idx → Elt F .f32, owns (c : Thread nD τ) arg6 fullShare x2)
        ∗ (∃ d : S512x1024.Idx → Elt F .bf16, owns (c : Thread nD τ) arg7 fullShare (bf d)))
      ⊢ wp frame (wpE (defs₀ (F := F)) Variants.none c none) Set.univ (cc0_moe_gu i tabE (Memref.isWhole_whole _) tabN (Memref.isWhole_whole _) arg4 harg4 arg5 harg5 arg6 harg6 arg7 harg7 scrG (Memref.isWhole_whole _) scrU (Memref.isWhole_whole _)) fun _ =>
          iprop(((∃ a8 a9 : S2048x1024.Idx → Elt F .bf16, ⌜Hn a8 a9⌝ ∗ (scrG.view.loc (c : Thread nD τ) ↦{fullShare} a8) ∗ (scrU.view.loc (c : Thread nD τ) ↦{fullShare} a9))
              ∗ (tabE.view.loc (c : Thread nD τ) ↦{fullShare.right} T0) ∗ (tabN.view.loc (c : Thread nD τ) ↦{fullShare.right} T1) ∗ R)
            ∗ P
            ∗ owns (c : Thread nD τ) arg4 fullShare x0
            ∗ owns (c : Thread nD τ) arg5 fullShare x1
            ∗ owns (c : Thread nD τ) arg6 fullShare x2
            ∗ owns (c : Thread nD τ) arg7 fullShare o) := by
  iintro ⟨⟨⟨%a8, %a9, %hh, HS0, HS1⟩, HT0, HT1, Hr⟩, Ho, ⟨%d0, H0⟩, ⟨%d1, H1⟩, ⟨%d2, H2⟩, ⟨%d3, H3⟩⟩
  iapply (body_run_as c i arg4 harg4 arg5 harg5 arg6 harg6 arg7 harg7 T0 T1 x0 x1 x2 a8 a9 g u o (hg _ _ hh) (hu _ _ hh) ho _)
  isplitl [H0]; · iexact H0
  isplitl [H1]; · iexact H1
  isplitl [H2]; · iexact H2
  isplitl [HT0]; · iexact HT0
  isplitl [HT1]; · iexact HT1
  isplitl [H3]; · iexists _; iexact H3
  isplitl [HS0]; · iexact HS0
  isplitl [HS1]; · iexact HS1
  iintro ⟨H0, H1, H2, HT0, HT1, H3, HS0, HS1⟩
  isplitl [HS0 HS1 HT0 HT1 Hr]
  · isplitl [HS0 HS1]
    · iexists g; iexists u; isplitr; swap
      · isplitl [HS0]
        · iexact HS0
        · iexact HS1
      · ipureintro; exact hn
    isplitl [HT0]
    · iexact HT0
    isplitl [HT1]
    · iexact HT1
    iexact Hr
  isplitl [Ho]; · iexact Ho
  isplitl [H0]; · iexact H0
  isplitl [H1]; · iexact H1
  isplitl [H2]; · iexact H2
  iexact H3

theorem held_succ (c : Dev nD) (t : Fin (cfgA a).N) (s : Fin (cfgA a).N) (hs : s.val + 1 = t.succ.val) : heldG a m c t = heldG a m c s ∧ heldU a m c t = heldU a m c s := by
  have e : s = t := Fin.ext (Nat.succ.inj hs)
  rw [e]; exact ⟨rfl, rfl⟩

set_option maxHeartbeats 400000 in
theorem sound_core (c : Dev nD) (t : Fin (cfgA a).N) (P : sProp (MT nD τ sig Unit (Elt F) ℕ (UR sig nD τ) ℕ)) (bf : (S512x1024.Idx → Elt F .bf16) → (S512x1024.Idx → Elt F .bf16)) :
    iprop(Phi a m c t.castSucc ∗ P
        ∗ (∃ d : S512x2048.Idx → Elt F .bf16, owns (c : Thread nD τ) (ms0_0 a t) fullShare (iblk a m c (0 : Fin 4) t))
        ∗ (∃ d : S1x2048x1024.Idx → Elt F .f32, owns (c : Thread nD τ) (ms0_1 a t) fullShare (iblk a m c (1 : Fin 4) t))
        ∗ (∃ d : S1x2048x1024.Idx → Elt F .f32, owns (c : Thread nD τ) (ms0_2 a t) fullShare (iblk a m c (2 : Fin 4) t))
        ∗ (∃ d : S512x1024.Idx → Elt F .bf16, owns (c : Thread nD τ) (ms0_3 a t) fullShare (bf d)))
      ⊢ wp frame (wpE (defs₀ (F := F)) Variants.none c none) Set.univ (bodyAt0 a t) fun _ =>
          iprop(Phi a m c t.succ ∗ P
            ∗ owns (c : Thread nD τ) (ms0_0 a t) fullShare (iblk a m c (0 : Fin 4) t)
            ∗ owns (c : Thread nD τ) (ms0_1 a t) fullShare (iblk a m c (1 : Fin 4) t)
            ∗ owns (c : Thread nD τ) (ms0_2 a t) fullShare (iblk a m c (2 : Fin 4) t)
            ∗ owns (c : Thread nD τ) (ms0_3 a t) fullShare (outAt a m c t)) :=
  by
  refine core c (crd a t) (ms0_0 a t) (hs0_0 a t) (ms0_1 a t) (hs0_1 a t) (ms0_2 a t) (hs0_2 a t) (ms0_3 a t) (hs0_3 a t) (tab0 a) (tab1 a)
    (iblk a m c (0 : Fin 4) t) (iblk a m c (1 : Fin 4) t) (iblk a m c (2 : Fin 4) t) (heldG a m c t) (heldU a m c t) (outAt a m c t)
    (fun a8 a9 => ∀ s : Fin (cfgA a).N, s.val + 1 = t.castSucc.val → a8 = heldG a m c s ∧ a9 = heldU a m c s)
    (fun a8 a9 => ∀ s : Fin (cfgA a).N, s.val + 1 = t.succ.val → a8 = heldG a m c s ∧ a9 = heldU a m c s)
    ?_ ?_ ?_ ?_ P _ bf
  · exact fun a8 a9 h => castG_eq a m c t a8 fun s hs => (h s (by rw [Fin.val_castSucc]; exact hs)).1
  · exact fun a8 a9 h => castU_eq a m c t a9 fun s hs => (h s (by rw [Fin.val_castSucc]; exact hs)).2
  · unfold outAt; rfl
  · exact held_succ a m c t

set_option maxHeartbeats 400000 in
theorem sound_body (c : Dev nD) (t : Fin (cfgA a).N) :
    iprop((dats a m 0 c).Φ t.castSucc ∗ (dats a m 0 c).owesAt () t.castSucc
        ∗ (∃ d, owns (c : Thread nD τ) (ms0_0 a t) fullShare ((dats a m 0 c).before (0 : Fin 4) t d))
        ∗ (∃ d, owns (c : Thread nD τ) (ms0_1 a t) fullShare ((dats a m 0 c).before (1 : Fin 4) t d))
        ∗ (∃ d, owns (c : Thread nD τ) (ms0_2 a t) fullShare ((dats a m 0 c).before (2 : Fin 4) t d))
        ∗ (∃ d, owns (c : Thread nD τ) (ms0_3 a t) fullShare ((dats a m 0 c).before (3 : Fin 4) t d)))
      ⊢ wp frame (wpE (defs₀ (F := F)) Variants.none c none) Set.univ (bodyAt0 a t) fun _ =>
          iprop((dats a m 0 c).Φ t.succ ∗ (dats a m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m 0 c).before w t d))
                  | true => owns (c : Thread nD τ) (((cfgA a).win w).stage ((cfgA a).slots t w)) fullShare ((dats a m 0 c).after w t)
                | false => owns (c : Thread nD τ) (((cfgA a).win w).stage ((cfgA a).slots t w)) fullShare ((dats a m 0 c).after w t)) := by
  rw [bigSep_W0]
  rewrite [idle3 a t]
  show iprop(Phi a m c t.castSucc ∗ (dats a m 0 c).owesAt () t.castSucc
        ∗ (∃ d, owns (c : Thread nD τ) (ms0_0 a t) fullShare ((dats a m 0 c).before (0 : Fin 4) t d))
        ∗ (∃ d, owns (c : Thread nD τ) (ms0_1 a t) fullShare ((dats a m 0 c).before (1 : Fin 4) t d))
        ∗ (∃ d, owns (c : Thread nD τ) (ms0_2 a t) fullShare ((dats a m 0 c).before (2 : Fin 4) t d))
        ∗ (∃ d, owns (c : Thread nD τ) (ms0_3 a t) fullShare ((dats a m 0 c).before (3 : Fin 4) t d)))
      ⊢ wp frame (wpE (defs₀ (F := F)) Variants.none c none) Set.univ (bodyAt0 a t) fun _ =>
          iprop(Phi a m c t.succ ∗ (dats a m 0 c).owesAt () t.castSucc
            ∗ owns (c : Thread nD τ) (ms0_0 a t) fullShare (iblk a m c (0 : Fin 4) t)
            ∗ owns (c : Thread nD τ) (ms0_1 a t) fullShare (iblk a m c (1 : Fin 4) t)
            ∗ owns (c : Thread nD τ) (ms0_2 a t) fullShare (iblk a m c (2 : Fin 4) t)
            ∗ owns (c : Thread nD τ) (ms0_3 a t) fullShare (outAt a m c t))
  simp only [before0_0, before0_1, before0_2]
  exact sound_core a m c t _ _

theorem body_obligation (c : Dev nD) : BodyObligation (dats a m 0 c) (defs₀ (F := F)) Variants.none () Set.univ := fun t => by
  rw [bigSep_W0]
  exact sound_body a m c t

/-! ## The launch -/

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp (MT nD τ sig Unit (Elt F) ℕ (UR sig nD τ) ℕ))
      = iprop((((c : Thread nD τ).loc main_arg2) ↦{q 0} v 0) ∗ (((c : Thread nD τ).loc main_arg3) ↦{q 1} v 1)) := by
  unfold Pipeline.prefHeld
  rw [show (Finset.univ : Finset (Fin 2)) = insert (0 : Fin 2) {(1 : Fin 2)} from by decide,
    bigSep_insert (by decide), bigSep_singleton]
  rfl

theorem enter (c : Dev nD) : iprop(Pipeline.ΦA spec0 c ∗ Pipeline.ΦT pre0 a.1 c) ⊢ (dats a m 0 c).Φ 0 := by
  unfold Pipeline.ΦA Pipeline.ΦT
  rw [prefHeld_eq, scopedRest0_eq, show (dats a m 0 c).Φ 0 = Phi a m c 0 from rfl]
  unfold Phi
  iintro ⟨⟨⟨⟨%a8, HS0⟩, ⟨%a9, HS1⟩⟩, Hr⟩, ⟨HT0, HT1⟩⟩
  isplitl [HS0 HS1]
  · iexists a8; iexists a9; isplitr; swap
    · isplitl [HS0]
      · iexact HS0
      · iexact HS1
    · ipureintro; intro s h; exact absurd h (Nat.succ_ne_zero _)
  isplitl [HT0]
  · iexact HT0
  isplitl [HT1]
  · iexact HT1
  iexact Hr

theorem leave (c : Dev nD) : (dats a m 0 c).Φ (Fin.last (cfgA a).N) ⊢ Pipeline.ΦA spec0 c := by
  unfold Pipeline.ΦA
  rw [scopedRest0_eq, show (dats a m 0 c).Φ (Fin.last (cfgA a).N) = Phi a m c (Fin.last _) from rfl]
  unfold Phi
  iintro ⟨⟨%a8, %a9, -, HS0, HS1⟩, -, -, Hr⟩
  isplitl [HS0 HS1]
  · isplitl [HS0]
    · iexists a8; iexact HS0
    · iexists a9; iexact HS1
  iexact Hr

/-- The memory's buffers, core by core. -/
abbrev V (c : Dev nD) (b : Ref sig .tc) : Buf (Elt F) ((c : Thread nD τ).loc b) := m ((c : Thread nD τ).loc b)

set_option backward.isDefEq.respectTransparency.types false in
set_option maxHeartbeats 1000000 in
theorem run_main (hpf : ∀ (c : Dev nD) (k : Fin 2), m ((c : Thread nD τ).loc (pre0.ref k)) = a.1 k) :
    θ_run (defs (F := F)) (onTc (τ := τ) (main (F := F))) (s₀ m ρ)
      (fun r => (Pipeline.FramePost (pcs a) (dats a m) 0 (V m)) r ∧ r.2.sem = fun _ => 0) :=
  Pipeline.θ_run_frameP_track_shared (Q' := _) pcfgs (fun _ => a) (dats a m) (0 : Fin 1) launch₀0 defs₀ Variants.none m ρ main
    (hbody := fun c => (body_obligation a m c).loose) (hq := fun _ _ _ => rfl) (howed := fun _ _ => rfl) (V := V m)
    (hmain := fun c Q => by
      delta main; simp only [Prog.bind_lift, Prog.pure_eq_ret]
      iintro ⟨Hk, Hb⟩; iapply Hk; iexact Hb)
    (hA := fun _ _ => rfl) (hpf := hpf) (hin := enter a m) (hout := leave a m)

end Cert.Kernel2Ideal.Experts
end
-- ==== Proof.UpIdealFrame.lean ====
module
public import proofs.«01_k».proof.Proof.UpIdealLaunch
public import proofs.«01_k».proof.Proof.UpRange

/-! The experts' first product: tables in their range are admissible, and the arguments are kept. -/

@[expose] public section
set_option maxRecDepth 65536
noncomputable section
namespace Cert.Kernel2Ideal.Experts
open Cert.Kernel2Ideal Cert.Kernel2Ideal.Gen
open Idealize.ShloMosaic Idealize.ShloMosaic.TcCoe Idealize.SL.Sem
open Cert.Pre_experts_up_in_range (InRange)

variable {F : FTy → Type} [FloatOps F]

/-- The row block a point reads: its own tile while that is in use, the last used one after. -/
theorem row_word : ∀ (n : Fin 41) (k : Fin 42), k.val ≠ 0 → (Scalar.minsi (BitVec.ofNat 32 n.val) (Scalar.subi (BitVec.ofNat 32 k.val) 1#32)).toNat = min n.val (k.val - 1) := by decide +kernel

theorem row_word' (n : Fin 41) (v : BitVec 32) (h1 : 1 ≤ v.toNat) (h2 : v.toNat ≤ 41) : (Scalar.minsi (BitVec.ofNat 32 n.val) (Scalar.subi v 1#32)).toNat = min n.val (v.toNat - 1) := by
  have e : v = BitVec.ofNat 32 v.toNat := by simp
  have := row_word n ⟨v.toNat, by omega⟩ (by show v.toNat ≠ 0; omega)
  rw [← e] at this
  exact this

theorem col_word : ∀ n : Fin 7, (BitVec.ofNat 32 n.val).toNat = n.val ∧ (Scalar.addi (BitVec.ofNat 32 n.val) 7#32).toNat = n.val + 7 := by decide

theorem tr0_eq (pf : pre0.Contents (Elt F)) (i : grid0.Coords) : cc0_transform_0 inb_S1_S1_0 numel1_S1 pf i = ![(Scalar.minsi (BitVec.ofNat 32 (i 1).val) (Scalar.subi (wordN (pf 1)) 1#32)).toNat, (0#32).toNat] := rfl

variable (m : (ℓ : Loc nD τ sig) → Buf (Elt F) ℓ) (ρ : Dev nD → PrngReg)

/-- The two tables, as the launch finds them. -/
def tables : pre0.Contents (Elt F) := fun k => m (((0 : Dev nD) : Thread nD τ).loc (pre0.ref k))

abbrev RangeM : Prop := InRange (m (((0 : Dev nD) : Thread nD τ).loc main_arg2)) (m (((0 : Dev nD) : Thread nD τ).loc main_arg3))

theorem wordE_lt (pf : pre0.Contents (Elt F)) (h : InRange (pf 0) (pf 1)) (i : grid0.Coords) : (wordE (pf 0) i).toNat < 8 := h.1 _
theorem wordN_ge (pf : pre0.Contents (Elt F)) (h : InRange (pf 0) (pf 1)) : 1 ≤ (wordN (pf 1)).toNat := (h.2 _).1
theorem wordN_le (pf : pre0.Contents (Elt F)) (h : InRange (pf 0) (pf 1)) : (wordN (pf 1)).toNat ≤ 41 := (h.2 _).2

theorem ok_of_range (pf : pre0.Contents (Elt F)) (h : InRange (pf 0) (pf 1)) : ok0 pf := by
  refine ⟨fun i => ?_, fun i => ?_, fun i => ?_⟩
  · have e := row_word' (i 1) (wordN (pf 1)) (wordN_ge pf h) (wordN_le pf h)
    have hi : (i 1).val < 41 := (i 1).isLt
    refine ⟨fun b => ?_, .inr (Affine.block_words_dvd (s := S20992x2048) (p := EltTy.packing .bf16) (by decide) (by decide))⟩
    rw [tr0_eq]
    fin_cases b
    · show ((Scalar.minsi (BitVec.ofNat 32 (i 1).val) (Scalar.subi (wordN (pf 1)) 1#32)).toNat + 1) * 512 ≤ 20992
      rw [e]; omega
    · show (0 + 1) * 2048 ≤ 2048
      omega
  · have e := wordE_lt pf h i
    refine ⟨fun b => ?_, .inl rfl⟩
    rw [tr1_eq]
    fin_cases b
    · show ((wordE (pf 0) i).toNat + 1) * 1 ≤ 8
      omega
    · show (0 + 1) * 2048 ≤ 2048
      omega
    · show ((BitVec.ofNat 32 (i 0).val).toNat + 1) * 1024 ≤ 14336
      have hi : (i 0).val < 7 := (i 0).isLt
      have := (col_word (i 0)).1
      rw [this]; omega
  · have e := wordE_lt pf h i
    refine ⟨fun b => ?_, .inl rfl⟩
    rw [tr2_eq]
    fin_cases b
    · show ((wordE (pf 0) i).toNat + 1) * 1 ≤ 8
      omega
    · show (0 + 1) * 2048 ≤ 2048
      omega
    · show ((Scalar.addi (BitVec.ofNat 32 (i 0).val) 7#32).toNat + 1) * 1024 ≤ 14336
      have hi : (i 0).val < 7 := (i 0).isLt
      have := (col_word (i 0)).2
      rw [this]; omega

/-- The tables with the proof that they are admissible. -/
def adm (h : RangeM m) : (pcfg0 (F := F)).Adm := ⟨tables m, ok_of_range _ h⟩

theorem adm_at (h : RangeM m) (c : Dev nD) (k : Fin 2) : m ((c : Thread nD τ).loc (pre0.ref k)) = (adm m h).1 k := by
  obtain rfl : c = 0 := Subsingleton.elim _ _
  rfl

/-- The run: the arguments as they were, the result what the points leave. -/
theorem run_kept (h : RangeM m) :
    θ_run (defs (F := F)) (onTc (τ := τ) (main (F := F))) (s₀ m ρ) (fun r =>
      (∀ c : Dev nD, r.2.mem ((c : Thread nD τ).loc main_v0) = (dats (adm m h) m 0 c).arrAt (3 : Fin 4) (cfgA (adm m h)).N
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0) := by
  refine (θ_run _ _ _).mono (fun r hr => ⟨fun c => ⟨(hr.1 c).1 (3 : Fin 4), ?_, ?_, ?_, ?_⟩, hr.2⟩) (run_main (adm m h) m ρ (adm_at m h))
  · exact ((hr.1 c).1 (0 : Fin 4)).trans ((dats (adm m h) m 0 c).arrAt_in (0 : Fin 4) rfl _)
  · exact ((hr.1 c).1 (1 : Fin 4)).trans ((dats (adm m h) m 0 c).arrAt_in (1 : Fin 4) rfl _)
  · exact (hr.1 c).2 main_arg2 (Pipeline.mem_restRefs_of (win := spec0) main_arg2 rfl (by decide))
  · exact (hr.1 c).2 main_arg3 (Pipeline.mem_restRefs_of (win := spec0) main_arg3 rfl (by decide))

end Cert.Kernel2Ideal.Experts
end
-- ==== Proof.UpValue.lean ====
module
public import proofs.«01_k».proof.Proof.UpIdealFrame
public import Idealize.ShloMosaic.Lib.Pointwise
public import Idealize.ShloMosaic.Lib.Pipeline.ValueKit.Geometry

/-! The experts' first product, element by element: each tile's rows through its own expert's two matrices, gated. -/

@[expose] public section
set_option maxRecDepth 65536
noncomputable section
namespace Cert.Kernel2Ideal.Experts
open Cert.Kernel2Ideal Cert.Kernel2Ideal.Gen
open Idealize.ShloMosaic Idealize.ShloMosaic.TcCoe Idealize.SL.Sem
open Cert.Pre_experts_up_in_range (InRange)

/-- Row `r` of the tokens times column `n` of expert `e`. -/
def dotAt (X : S20992x2048.Idx → EReal) (W : S8x2048x14336.Idx → EReal) (r : Fin 20992) (e : Fin 8) (n : Fin 14336) : EReal :=
  ∑ k : Fin 2048, X (ix2 r k) * W (ix3 e k n)

/-- A gate's value times its logistic times the value beside it. -/
def gated (g u : EReal) : EReal := g * Ideal.logistic g * u

/-- Expert `e`'s gated value of row `r`, at column `n` of each half. -/
def gatedAt (X : S20992x2048.Idx → EReal) (W : S8x2048x14336.Idx → EReal) (r : Fin 20992) (e : Fin 8) (n : Fin 7168) : EReal :=
  gated (dotAt X W r e ⟨n.val, by omega⟩) (dotAt X W r e ⟨n.val + 7168, by omega⟩)

/-- The tile of a row. -/
def tileOf (r : Fin 20992) : Fin 41 := ⟨r.val / 512, by omega⟩

/-- The expert of a tile. -/
def expertOf (te : S41.Idx → BitVec 32) (i : Fin 41) : Fin 8 := ⟨(te (ix1 i)).toNat % 8, by omega⟩

/-- The result: a row of a used tile through the tile's expert, zero past the used tiles. -/
def experts (X : S20992x2048.Idx → EReal) (W : S8x2048x14336.Idx → EReal) (te : S41.Idx → BitVec 32) (na : S1.Idx → BitVec 32)
    (r : Fin 20992) (n : Fin 7168) : EReal :=
  if (tileOf r).val < (na (ix1 0)).toNat then gatedAt X W r (expertOf te (tileOf r)) n else 0

theorem pay4_apply (x : S512x2048.Idx → EReal) (g u : S2048x1024.Idx → EReal) (r : Fin 512) (n : Fin 1024) :
    k0_pay4 (F := Ideal) x g u (ix2 r n) = gated (∑ k : Fin 2048, x (ix2 r k) * g (ix2 k n)) (∑ k : Fin 2048, x (ix2 r k) * u (ix2 k n)) := by
  unfold gated
  pointwise [k0_pay4]

theorem pay1_apply (j : S512x1024.Idx) : k0_pay1 (F := Ideal) j = (0 : EReal) := by
  pointwise [k0_pay1]

theorem pay2_apply (v : S1x2048x1024.Idx → EReal) (k : Fin 2048) (n : Fin 1024) : k0_pay2 (F := Ideal) v (ix2 k n) = v (ix3 0 k n) := by
  pointwise [k0_pay2]
theorem pay3_apply (v : S1x2048x1024.Idx → EReal) (k : Fin 2048) (n : Fin 1024) : k0_pay3 (F := Ideal) v (ix2 k n) = v (ix3 0 k n) := by
  pointwise [k0_pay3]

/-! ## The tables' words -/

theorem wordN_eq (T1 : S1.Idx → BitVec 32) : wordN (F := Ideal) T1 = T1 (ix1 0) :=
  congrArg T1 (Subsingleton.elim (α := Cert.Pre_experts_up_in_range.S1.Idx) _ _)

theorem read_word (T0 : S41.Idx → BitVec 32) (n : Fin 41) (h : ∀ b, (![n.val] : Fin 1 → ℕ) b + S1.size b ≤ S41.size b) :
    View.readAt (Elt Ideal) tabE.view (Rect.unit (s := S41) ![n.val] S1.size h).toLoadRect T0 (Shape.Idx.first (numel1_S1.symm ▸ Nat.one_pos)) = T0 (ix1 n) := by
  refine congrArg T0 (funext fun b => Fin.ext ?_)
  fin_cases b
  show n.val + 1 * 0 = n.val
  omega

theorem wordE_eq (T0 : S41.Idx → BitVec 32) (i : grid0.Coords) : wordE (F := Ideal) T0 i = T0 (ix1 (i 1)) :=
  (word_congr (F := Ideal) T0 (off1_eq i) _ (fun b => by rw [← off1_eq]; exact k0_off1_inb i b)).trans (read_word T0 (i 1) _)

theorem used_word : ∀ (n : Fin 41) (k : Fin 42), (Scalar.cmpi .ne (Scalar.extui (Scalar.cmpi .slt (BitVec.ofNat 32 n.val) (BitVec.ofNat 32 k.val)) : BitVec 32) 0#32 = 1#1) ↔ n.val < k.val := by decide +kernel

theorem used_iff (T1 : S1.Idx → BitVec 32) (h2 : (T1 (ix1 0)).toNat ≤ 41) (i : grid0.Coords) : Used (F := Ideal) T1 i ↔ (i 1).val < (T1 (ix1 0)).toNat := by
  show k0_cond3 i (wordN (F := Ideal) T1) = 1#1 ↔ _
  rw [wordN_eq]
  have e : T1 (ix1 0) = BitVec.ofNat 32 (T1 (ix1 0)).toNat := by simp
  have := used_word (i 1) ⟨(T1 (ix1 0)).toNat, by omega⟩
  rw [← e] at this
  exact this

/-! ## The blocks -/

variable (m : (ℓ : Loc nD τ sig) → Buf (Elt Ideal) ℓ)

theorem wAt_apply (c : Dev nD) (v : Fin 3 → ℕ) (h : ∀ b, (v b + 1) * S1x2048x1024.size b ≤ S8x2048x14336.size b) (k : Fin 2048) (n : Fin 1024)
    (e : Fin 8) (n' : Fin 14336) (h0 : v 0 = e.val) (h1 : v 1 = 0) (h2 : v 2 * 1024 + n.val = n'.val) :
    wAt (F := Ideal) m c v h (ix3 0 k n) = m ((c : Thread nD τ).loc main_arg1) (ix3 e k n') := by
  refine congrArg (m ((c : Thread nD τ).loc main_arg1)) (funext fun b => Fin.ext ?_)
  fin_cases b
  · show v 0 * 1 + 1 * 0 = e.val
    omega
  · show v 1 * 2048 + 1 * k.val = k.val
    omega
  · show v 2 * 1024 + 1 * n.val = n'.val
    omega

/-- The tokens' block at given block indices. -/
def xAt (c : Dev nD) (v : Fin 2 → ℕ) (h : ∀ b, (v b + 1) * S512x2048.size b ≤ S20992x2048.size b) : S512x2048.Idx → EReal :=
  ((Memref.whole main_arg0 : Memref sig .tc .hbm S20992x2048 .bf16).slice (Rect.block (s := S20992x2048) S512x2048.size v h) fun _ => rfl).view.read (Elt Ideal) (m ((c : Thread nD τ).loc main_arg0))

theorem xAt_apply (c : Dev nD) (v : Fin 2 → ℕ) (h : ∀ b, (v b + 1) * S512x2048.size b ≤ S20992x2048.size b) (r : Fin 512) (k : Fin 2048)
    (r' : Fin 20992) (h0 : v 0 * 512 + r.val = r'.val) (h1 : v 1 = 0) :
    xAt m c v h (ix2 r k) = m ((c : Thread nD τ).loc main_arg0) (ix2 r' k) := by
  refine congrArg (m ((c : Thread nD τ).loc main_arg0)) (funext fun b => Fin.ext ?_)
  fin_cases b
  · show v 0 * 512 + 1 * r.val = r'.val
    omega
  · show v 1 * 2048 + 1 * k.val = k.val
    omega

variable (a : (pcfg0 (F := Ideal)).Adm) (ha : InRange (tab0 a) (tab1 a))

theorem iblk0_eq (c : Dev nD) (t : Fin (cfgA a).N) : iblk a m c (0 : Fin 4) t = xAt m c (cc0_transform_0 inb_S1_S1_0 numel1_S1 a.1 (crd a t)) (fun b => hinb0 a.1 a.2 0 (crd a t) b) := rfl

include ha in
theorem outAt_apply (c : Dev nD) (t : Fin (cfgA a).N) (r : Fin 512) (n : Fin 1024) (R : Fin 20992) (N : Fin 7168)
    (hR : (crd a t 1).val * 512 + r.val = R.val) (hN : (crd a t 0).val * 1024 + n.val = N.val) :
    outAt a m c t (ix2 r n) = experts (m ((c : Thread nD τ).loc main_arg0)) (m ((c : Thread nD τ).loc main_arg1)) (tab0 a) (tab1 a) R N := by
  have i0 : (crd a t 0).val < 7 := (crd a t 0).isLt
  have i1 : (crd a t 1).val < 41 := (crd a t 1).isLt
  have q : tileOf R = crd a t 1 := Fin.ext (by show R.val / 512 = _; omega)
  have n1 := (ha.2 (ix1 0)).1
  have n2 := (ha.2 (ix1 0)).2
  have hu := used_iff (tab1 a) n2 (crd a t)
  unfold experts outAt left
  rw [q]
  by_cases hn : (crd a t 1).val < (tab1 a (ix1 0)).toNat
  · rw [if_pos hn, if_pos (hu.2 hn), pay4_apply]
    have e8 : (tab0 a (ix1 (crd a t 1))).toNat < 8 := ha.1 _
    have we : (wordE (F := Ideal) (tab0 a) (crd a t)).toNat = (tab0 a (ix1 (crd a t 1))).toNat % 8 := by
      rw [wordE_eq, Nat.mod_eq_of_lt e8]
    have wr := row_word' (crd a t 1) (wordN (F := Ideal) (tab1 a)) (by rw [wordN_eq]; exact n1) (by rw [wordN_eq]; exact n2)
    rw [wordN_eq] at wr
    have cw := col_word (crd a t 0)
    have hx : ∀ k : Fin 2048, (iblk a m c (0 : Fin 4) t : S512x2048.Idx → EReal) (ix2 r k) = m ((c : Thread nD τ).loc main_arg0) (ix2 R k) := fun k => by
      rw [iblk0_eq]
      refine xAt_apply m c _ _ r k R ?_ ?_
      · rw [tr0_eq]
        show (Scalar.minsi (BitVec.ofNat 32 (crd a t 1).val) (Scalar.subi (wordN (F := Ideal) (tab1 a)) 1#32)).toNat * 512 + r.val = R.val
        rw [wordN_eq, wr]; omega
      · rw [tr0_eq]; rfl
    unfold gatedAt dotAt
    refine congrArg₂ gated (Finset.sum_congr rfl fun k _ => congrArg₂ (· * ·) (hx k) ?_) (Finset.sum_congr rfl fun k _ => congrArg₂ (· * ·) (hx k) ?_)
    · unfold heldG
      rw [pay2_apply, iblk1_eq]
      refine wAt_apply m c _ _ k n _ _ ?_ ?_ ?_
      · rw [tr1_eq]; exact we
      · rw [tr1_eq]; rfl
      · rw [tr1_eq]
        show (BitVec.ofNat 32 (crd a t 0).val).toNat * 1024 + n.val = N.val
        rw [cw.1]; exact hN
    · unfold heldU
      rw [pay3_apply, iblk2_eq]
      refine wAt_apply m c _ _ k n _ _ ?_ ?_ ?_
      · rw [tr2_eq]; exact we
      · rw [tr2_eq]; rfl
      · rw [tr2_eq]
        show (Scalar.addi (BitVec.ofNat 32 (crd a t 0).val) 7#32).toNat * 1024 + n.val = N.val + 7168
        rw [cw.2]; omega
  · rw [if_neg hn, if_neg (fun h => hn (hu.1 h)), pay1_apply]

/-! ## The array -/

theorem flush3 : ∀ t : Fin grid0.N, Pipeline.Window.flushOf grid0 true cc0_transform_3 t = true := by decide +kernel

theorem tr3 : ∀ t : Fin grid0.N, cc0_transform_3 (grid0.coords t) 0 = t.val % 41 ∧ cc0_transform_3 (grid0.coords t) 1 = t.val / 41 := by decide +kernel

theorem covers3 : ((cfgA a).win (3 : Fin 4)).Covers := by
  refine ⟨show ∀ b : Fin 2, 0 < S512x1024.size b by decide, fun β => ?_⟩
  have b0 : (β (0 : Fin 2)).val < 41 := lt_of_lt_of_eq (β (0 : Fin 2)).isLt (show (20992 + 512 - 1) / 512 = 41 by norm_num)
  have b1 : (β (1 : Fin 2)).val < 7 := lt_of_lt_of_eq (β (1 : Fin 2)).isLt (show (7168 + 1024 - 1) / 1024 = 7 by norm_num)
  have hN : grid0.N = 287 := by decide
  have ht : (β (1 : Fin 2)).val * 41 + (β (0 : Fin 2)).val < grid0.N := by rw [hN]; omega
  have e := tr3 ⟨_, ht⟩
  refine ⟨⟨_, ht⟩, flush3 _, fun b => ⟨?_, .inl rfl⟩⟩
  fin_cases b
  · refine e.1.trans ?_
    show ((β (1 : Fin 2)).val * 41 + (β (0 : Fin 2)).val) % 41 = (β (0 : Fin 2)).val
    omega
  · refine e.2.trans ?_
    show ((β (1 : Fin 2)).val * 41 + (β (0 : Fin 2)).val) / 41 = (β (1 : Fin 2)).val
    omega

include ha in
theorem array_eq (c : Dev nD) : (dats a m 0 c).arrAt (3 : Fin 4) (cfgA a).N =
    fun j : S20992x7168.Idx => experts (m ((c : Thread nD τ).loc main_arg0)) (m ((c : Thread nD τ).loc main_arg1)) (tab0 a) (tab1 a) (j 0) (j 1) := by
  refine (dats a m 0 c).arrAt_eq_of_covers (3 : Fin 4) _ (covers3 a) (fun t _ y => ?_)
  have e := tr3 t
  have e' := coords0 t
  obtain ⟨r, n, rfl⟩ : ∃ (r : Fin 512) (n : Fin 1024), y = ix2 r n := ⟨y 0, y 1, by funext b; fin_cases b <;> rfl⟩
  refine Eq.trans ?_ (outAt_apply m a ha c t r n _ _ ?_ ?_)
  · rfl
  · refine (congrArg (· * 512 + r.val) (e'.2.trans e.1.symm)).trans ?_
    show cc0_transform_3 (grid0.coords t) 0 * 512 + r.val = cc0_transform_3 (grid0.coords t) 0 * 512 + 1 * r.val
    omega
  · refine (congrArg (· * 1024 + n.val) (e'.1.trans e.2.symm)).trans ?_
    show cc0_transform_3 (grid0.coords t) 1 * 1024 + n.val = cc0_transform_3 (grid0.coords t) 1 * 1024 + 1 * n.val
    omega

end Cert.Kernel2Ideal.Experts
end
-- ==== Proof.UpRef.lean ====
module
public import proofs.«01_k».proof.Proof.UpValue
public import proofs.«01_k».proof.Proof.Gen.Reference2Ideal.Run
public import Idealize.ShloMosaic.Lib.Pointwise
public import Idealize.ShloMosaic.Lib.WordCmp

/-! The reference of the experts' first product: all eight experts' gated values, then the sum of the chosen one's. -/

@[expose] public section
noncomputable section
namespace Cert.Reference2Ideal.Experts
open Idealize.ShloMosaic Idealize.ShloMosaic.TcCoe Idealize.SL.Sem
open Cert.Reference2Ideal Cert.Reference2Ideal.Gen Idealize.ShloMosaic.WordCmp
open Cert.Kernel2Ideal.Experts (dotAt gated gatedAt experts tileOf expertOf)
open Cert.Pre_experts_up_in_range (InRange)

/-- Every row against every expert. -/
def dotT (X : FVec Ideal S20992x2048 .bf16) (W : FVec Ideal S8x2048x14336 .f32) : FVec Ideal S20992x8x14336 .f32 :=
  Host.dotGeneral dot_S20992x2048_S8x2048x14336_S20992x8x14336_1_1_0_02_n_n none (extf .f32 X bitsLt_bf16_f32) W

/-- Whether an expert is a row's. -/
def chosenT (te : IVec S41 32) (na : IVec S1 32) : IVec S20992x8x7168 1 :=
  broadcastInDim S20992x8x7168 ![0, 1, 2] bcast_S20992x8x1_S20992x8x7168_0_1_2 (shapeCast _ (broadcastInDim S41x512x8 ![0, 1, 2] bcast_S41x1x8_S41x512x8_0_1_2 (broadcastInDim S41x1x8 ![0, 2] bcast_S41x8_S41x1x8_0_2 (andi (cmpi .eq (broadcastInDim S41x8 ![0, 1] bcast_S41x1_S41x8_0_1 (broadcastInDim S41x1 ![0] bcast_S41_S41x1_0 te)) (broadcastInDim S41x8 ![0, 1] bcast_S1x8_S41x8_0_1 (broadcastInDim S1x8 ![1] bcast_S8_S1x8_1 (iotaInDim S8 32 0)))) (broadcastInDim S41x8 ![0, 1] bcast_S41x1_S41x8_0_1 (broadcastInDim S41x1 ![0] bcast_S41_S41x1_0 (cmpi .slt (iotaInDim S41 32 0) (broadcastInDim S41 ![] bcast_S_S41 (shapeCast _ na shapeCasts_S1_S_)))))))) shapeCasts_S41x512x8_S20992x8x1)

/-- The gated values. -/
def gatedT (X : FVec Ideal S20992x2048 .bf16) (W : FVec Ideal S8x2048x14336 .f32) : FVec Ideal S20992x8x7168 .f32 :=
  mulf (mulf (extractStridedSlice S20992x8x7168 ![0, 0, 0] (dotT X W) slices_S20992x8x14336_S20992x8x7168_0_0_0) (Host.divf (broadcastInDim S20992x8x7168 ![] bcast_S_S20992x8x7168 (constant S_ .f32 0x3F800000#32)) (addf (broadcastInDim S20992x8x7168 ![] bcast_S_S20992x8x7168 (constant S_ .f32 0x3F800000#32)) (Host.exp (Host.negf (extractStridedSlice S20992x8x7168 ![0, 0, 0] (dotT X W) slices_S20992x8x14336_S20992x8x7168_0_0_0)))))) (extractStridedSlice S20992x8x7168 ![0, 0, 7168] (dotT X W) slices_S20992x8x14336_S20992x8x7168_0_0_7168)

/-- The gated values of the chosen experts, zero elsewhere. -/
def keptT (X : FVec Ideal S20992x2048 .bf16) (W : FVec Ideal S8x2048x14336 .f32) (te : IVec S41 32) (na : IVec S1 32) : FVec Ideal S20992x8x7168 .f32 :=
  select (chosenT te na) (gatedT X W) (broadcastInDim S20992x8x7168 ![] bcast_S_S20992x8x7168 (id (constant S_ .f32 0x00000000#32)))

/-- Their sum over the experts. -/
def resT (X : FVec Ideal S20992x2048 .bf16) (W : FVec Ideal S8x2048x14336 .f32) (te : IVec S41 32) (na : IVec S1 32) : FVec Ideal S20992x7168 .bf16 :=
  truncf .bf16 (Host.reduceAdd (keptT X W te na) (constant S_ .f32 0x00000000#32) reducesTo_S20992x8x7168_S20992x7168_d1 h_S_) bitsLt_bf16_f32

theorem dotT_apply (X : FVec Ideal S20992x2048 .bf16) (W : FVec Ideal S8x2048x14336 .f32) (r : Fin 20992) (e : Fin 8) (n : Fin 14336) : dotT X W (ix3 r e n) = dotAt X W r e n := by
  unfold dotAt
  pointwise [dotT]

theorem gatedT_apply (X : FVec Ideal S20992x2048 .bf16) (W : FVec Ideal S8x2048x14336 .f32) (r : Fin 20992) (e : Fin 8) (n : Fin 7168) : gatedT X W (ix3 r e n) = gatedAt X W r e n := by
  unfold gatedAt gated
  rw [← dotT_apply, ← dotT_apply]
  have q : (⟨n.val + 7168, by omega⟩ : Fin 14336) = ⟨7168 + n.val, by omega⟩ := Fin.ext (Nat.add_comm _ _)
  rw [q]
  pointwise [gatedT]
  rfl

theorem ofBool_one_iff (b : Bool) : BitVec.ofBool b = 1#1 ↔ b = true := by revert b; decide

theorem expert_iff (w : BitVec 32) (hw : w.toNat < 8) (e : Fin 8) : IntOp.cmpi .eq w (BitVec.ofNat 32 e.val) = 1#1 ↔ w.toNat % 8 = e.val := by
  show BitVec.ofBool (w == BitVec.ofNat 32 e.val) = 1#1 ↔ _
  rw [ofBool_one_iff, beq_iff_eq, ← BitVec.toNat_inj, BitVec.toNat_ofNat]
  omega

theorem tile_iff : ∀ (n : Fin 41) (k : Fin 42), IntOp.cmpi .slt (BitVec.ofNat 32 n.val) (BitVec.ofNat 32 k.val) = 1#1 ↔ n.val < k.val := by decide +kernel

theorem chosenT_iff (te : IVec S41 32) (na : IVec S1 32) (h : InRange te na) (r : Fin 20992) (e : Fin 8) (n : Fin 7168) :
    chosenT te na (ix3 r e n) = 1#1 ↔ expertOf te (tileOf r) = e ∧ (tileOf r).val < (na (ix1 0)).toNat := by
  have q : chosenT te na (ix3 r e n) = IntOp.andi (IntOp.cmpi .eq (te (ix1 (tileOf r))) (BitVec.ofNat 32 e.val)) (IntOp.cmpi .slt (BitVec.ofNat 32 (tileOf r).val) (na (ix1 0))) := by
    pointwise [chosenT]
    rfl
  have n2 := (h.2 (ix1 0)).2
  have u : na (ix1 0) = BitVec.ofNat 32 (na (ix1 0)).toNat := by simp
  have v := tile_iff (tileOf r) ⟨(na (ix1 0)).toNat, by omega⟩
  rw [← u] at v
  rw [q, IntOp.andi_eq_one, v, expert_iff _ (h.1 _)]
  exact and_congr_left' (Fin.ext_iff (a := expertOf te (tileOf r)) (b := e)).symm

theorem keptT_apply (X : FVec Ideal S20992x2048 .bf16) (W : FVec Ideal S8x2048x14336 .f32) (te : IVec S41 32) (na : IVec S1 32) (r : Fin 20992) (e : Fin 8) (n : Fin 7168) : keptT X W te na (ix3 r e n) = if chosenT te na (ix3 r e n) = 1#1 then gatedAt X W r e n else 0 := by
  rw [← gatedT_apply]
  pointwise [keptT]
  show (if chosenT te na (ix3 r e n) = 1#1 then gatedT X W (ix3 r e n) else Ideal.ofBits .f32 0x00000000#32) = _
  rw [Ideal.ofBits_zero_f32]

theorem resT_apply (X : FVec Ideal S20992x2048 .bf16) (W : FVec Ideal S8x2048x14336 .f32) (te : IVec S41 32) (na : IVec S1 32) (r : Fin 20992) (n : Fin 7168) : resT X W te na (ix2 r n) = ∑ e : Fin 8, keptT X W te na (ix3 r e n) := by
  pointwise [resT]

/-- Only a row's own expert is counted. -/
theorem resT_eq (X : FVec Ideal S20992x2048 .bf16) (W : FVec Ideal S8x2048x14336 .f32) (te : IVec S41 32) (na : IVec S1 32) (h : InRange te na) (r : Fin 20992) (n : Fin 7168) : resT X W te na (ix2 r n) = experts X W te na r n := by
  rw [resT_apply]
  have k : ∀ e : Fin 8, keptT X W te na (ix3 r e n) = if expertOf te (tileOf r) = e then (if (tileOf r).val < (na (ix1 0)).toNat then gatedAt X W r e n else 0) else 0 := fun e => by
    rw [keptT_apply]
    simp only [chosenT_iff te na h, ite_and]
  rw [Finset.sum_congr rfl fun e _ => k e, Finset.sum_ite_eq, if_pos (Finset.mem_univ _)]
  rfl

theorem res_eq (X : FVec Ideal S20992x2048 .bf16) (W : FVec Ideal S8x2048x14336 .f32) (te : IVec S41 32) (na : IVec S1 32) (h : InRange te na) : resT X W te na = fun j => experts X W te na (j 0) (j 1) := by
  funext j
  obtain ⟨r, n, rfl⟩ : ∃ (r : Fin 20992) (n : Fin 7168), j = ix2 r n := ⟨j 0, j 1, by funext b; fin_cases b <;> rfl⟩
  exact resT_eq X W te na h r n

end Cert.Reference2Ideal.Experts
end
-- ==== Proof.DnRange.lean ====
module
public import proofs.«01_k».proof.Proof.Gen.Pre_experts_down_in_range
public import proofs.«01_k».proof.Proof.UpRange
public import Idealize.ShloMosaic.Lib.ReduceAll

/-! The tables' precondition for the second product, read back: each tile's expert is one of the eight, and between one and all tiles are in use. -/

@[expose] public section
noncomputable section
namespace Cert.Pre_experts_down_in_range
open Idealize.ShloMosaic

/-- Every expert is below 8, the number of used tiles between 1 and 41. -/
def InRange (te : S41.Idx → BitVec 32) (na : S1.Idx → BitVec 32) : Prop := (∀ i, (te i).toNat < 8) ∧ ∀ i, 1 ≤ (na i).toNat ∧ (na i).toNat ≤ 41

open Cert.Pre_experts_up_in_range (expert_word tiles_word)

instance : Subsingleton S_.Idx := ⟨fun a b => funext fun i => i.elim0⟩
instance : Subsingleton S1.Idx := ⟨fun a b => funext fun i => by
  fin_cases i
  exact Fin.ext (by have h1 : (a 0).val < 1 := (a 0).isLt; have h2 : (b 0).val < 1 := (b 0).isLt; show (a 0).val = (b 0).val; omega)⟩

theorem inRange {F : FTy → Type} [FloatOps F] (a0 : FVec F S20992x7168 .bf16) (a1 : FVec F S8x7168x2048 .f32) (a2 : IVec S41 32) (a3 : IVec S1 32)
    (h : fn (F := F) a0 a1 a2 a3 = fun _ => 1#1) : InRange a2 a3 := by
  have e := congrFun h (fun a => a.elim0)
  unfold fn at e
  obtain ⟨e, e3⟩ := IntOp.andi_eq_one.1 e
  obtain ⟨e, e2⟩ := IntOp.andi_eq_one.1 e
  refine ⟨fun i => ?_, fun i => ?_⟩
  · have := IntOp.andi_eq_one.1 (Host.reduce_andi_all _ _ _ _ _ e i)
    exact expert_word _ this.1 this.2
  · have w := tiles_word _ e2 e3
    have q : shapeCast S_ a3 Facts.shapeCasts_S1_S_ (fun a => a.elim0) = a3 i := congrArg a3 (Subsingleton.elim _ _)
    rw [q] at w
    exact w

end Cert.Pre_experts_down_in_range
end
-- ==== Proof.DnIdealBody.lean ====
module
public import proofs.«01_k».proof.Proof.Gen.Kernel3Ideal.Skeleton
public import proofs.«01_k».proof.Proof.Gen.Kernel3Ideal.Launch
public import Idealize.ShloMosaic.Lib.Pipeline.Frame
public import Idealize.ShloMosaic.Lib.Pipeline.FrameBody
public import Idealize.ShloMosaic.Lib.Writes
public import Idealize.ShloMosaic.Lib.Pipeline.Value
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

/-! One call of the body of the second expert product: what it leaves, by the two decisions it makes. -/

@[expose] public section
set_option maxRecDepth 16384
set_option Elab.async false
noncomputable section
namespace Cert.Kernel3Ideal.Experts
open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The two tables and the scratch, whole. -/
abbrev tabE : Memref sig .tc .smem S41 .i32 := Memref.whole main_arg2
abbrev tabN : Memref sig .tc .smem S1 .i32 := Memref.whole main_arg3
abbrev scrG : Memref sig .tc .vmem S7168x512 .bf16 := Memref.whole cc0_scratch0

/-- The words the body reads: the expert of its tile, the expert of the tile before, the number of tiles in use. -/
abbrev wordE (T0 : S41.Idx → Elt F .i32) (i : grid0.Coords) : BitVec 32 :=
  View.readAt (Elt F) tabE.view (Rect.unit (s := S41) (k0_off1 i) S1.size (k0_off1_inb i)).toLoadRect T0 (Shape.Idx.first (numel1_S1.symm ▸ Nat.one_pos))
abbrev wordP (T0 : S41.Idx → Elt F .i32) (i : grid0.Coords) : BitVec 32 :=
  View.readAt (Elt F) tabE.view (Rect.unit (s := S41) (k0_off2 i) S1.size (k0_off2_inb i)).toLoadRect T0 (Shape.Idx.first (numel1_S1.symm ▸ Nat.one_pos))
abbrev wordN (T1 : S1.Idx → Elt F .i32) : BitVec 32 :=
  View.readAt (Elt F) tabN.view (Rect.unit (s := S1) ![0] S1.size inb_S1_S1_0).toLoadRect T1 (Shape.Idx.first (numel1_S1.symm ▸ Nat.one_pos))

/-- Whether the body casts its weights anew. -/
abbrev Fresh (T0 : S41.Idx → Elt F .i32) (i : grid0.Coords) : Prop :=
  Scalar.cmpi .ne (Scalar.extui (Scalar.ori (Scalar.cmpi .eq (BitVec.ofNat 32 (i 1).val) 0#32) (Scalar.cmpi .ne (wordE T0 i) (wordP T0 i)))) 0#32 = 1#1

/-- Whether its tile is in use. -/
abbrev Used (T1 : S1.Idx → Elt F .i32) (i : grid0.Coords) : Prop := k0_cond3 i (wordN T1) = 1#1

theorem cond1_iff (i : grid0.Coords) (v : BitVec 32) : k0_cond1 i v = 1#1 ↔ ¬ k0_cond3 i v = 1#1 := by
  unfold k0_cond1 k0_cond3
  dsimp only
  generalize Scalar.cmpi .slt (BitVec.ofNat 32 (i 1).val) v = b
  revert b; decide

/-- What the body leaves in the scratch and the result's block. -/
def castG (T0 : S41.Idx → Elt F .i32) (i : grid0.Coords) (x1 : S1x7168x512.Idx → Elt F .f32) (a : S7168x512.Idx → Elt F .bf16) : S7168x512.Idx → Elt F .bf16 :=
  if Fresh T0 i then k0_pay2 (F := F) x1 else a
def left (T1 : S1.Idx → Elt F .i32) (i : grid0.Coords) (x0 : S512x7168.Idx → Elt F .bf16) (g : S7168x512.Idx → Elt F .bf16) : S512x512.Idx → Elt F .f32 :=
  if Used T1 i then k0_pay3 (F := F) x0 g else k0_pay1 (F := F)

theorem zeros2 : (![0, 0] : Fin 2 → ℕ) = fun _ => 0 := by funext a; fin_cases a <;> rfl
theorem zeros3 : (![0, 0, 0] : Fin 3 → ℕ) = fun _ => 0 := by funext a; fin_cases a <;> rfl

/-- A block stored whole, read whole. -/
theorem canonO (h) (w : S512x512.Idx → Elt F .f32) :
    View.canon [(⟨Rect.unit (s := S512x512) ![0, 0] ![512, 512] h, w⟩ : View.Piece (Elt F) S512x512 .f32)] = w :=
  View.canon_unit_zero (S := S512x512) zeros2 h w
theorem ldX (h) (w : S512x7168.Idx → Elt F .bf16) : View.ld w (Rect.unit (s := S512x7168) ![0, 0] ![512, 7168] h) = w := View.ld_unit_zero (S := S512x7168) zeros2 h w
theorem ldW (h) (w : S1x7168x512.Idx → Elt F .f32) : View.ld w (Rect.unit (s := S1x7168x512) ![0, 0, 0] ![1, 7168, 512] h) = w := View.ld_unit_zero (S := S1x7168x512) zeros3 h w
theorem ldS (h) (w : S7168x512.Idx → Elt F .bf16) : View.ld w (Rect.unit (s := S7168x512) ![0, 0] ![7168, 512] h) = w := View.ld_unit_zero (S := S7168x512) zeros2 h w
theorem canonS (h) (w : S7168x512.Idx → Elt F .bf16) :
    View.canon [(⟨Rect.unit (s := S7168x512) ![0, 0] ![7168, 512] h, w⟩ : View.Piece (Elt F) S7168x512 .bf16)] = w :=
  View.canon_unit_zero (S := S7168x512) zeros2 h w
abbrev vG : View sig .tc .vmem S7168x512 .bf16 := View.whole cc0_scratch0
theorem readG (a : S7168x512.Idx → Elt F .bf16) : View.read (Elt F) vG a = a := rfl
theorem writesG (h) (w : S7168x512.Idx → Elt F .bf16) :
    vG.writes (Elt F) vG.junk [(⟨Rect.unit (s := S7168x512) ![0, 0] ![7168, 512] h, w⟩ : View.Piece (Elt F) S7168x512 .bf16)] = w := by
  have e := View.read_writes_junk_eq_canon (Val := Elt F) vG [(⟨Rect.unit (s := S7168x512) ![0, 0] ![7168, 512] h, w⟩ : View.Piece (Elt F) S7168x512 .bf16)]
  rw [canonS] at e
  generalize vG.writes (Elt F) vG.junk _ = X at e ⊢
  exact e
set_option backward.proofsInPublic true in
set_option maxHeartbeats 1000000 in
theorem body_run (c : Dev nD) (i : grid0.Coords) (arg4 : Memref sig .tc .vmem S512x7168 .bf16) (harg4 : arg4.IsWhole) (arg5 : Memref sig .tc .vmem S1x7168x512 .f32) (harg5 : arg5.IsWhole) (arg7 : Memref sig .tc .vmem S512x512 .f32) (harg7 : arg7.IsWhole) (T0 : S41.Idx → Elt F .i32) (T1 : S1.Idx → Elt F .i32)
    (x0 : S512x7168.Idx → Elt F .bf16) (x1 : S1x7168x512.Idx → Elt F .f32) (a8 : S7168x512.Idx → Elt F .bf16) (K : PUnit → sProp (MT nD τ sig Unit (Elt F) ℕ (UR sig nD τ) ℕ)) :
    iprop((arg4.view.loc (c : Thread nD τ) ↦[arg4.view.set]{fullShare} arg4.view.rep x0)
      ∗ (arg5.view.loc (c : Thread nD τ) ↦[arg5.view.set]{fullShare} arg5.view.rep x1)
      ∗ (tabE.view.loc (c : Thread nD τ) ↦{fullShare.right} T0)
      ∗ (tabN.view.loc (c : Thread nD τ) ↦{fullShare.right} T1)
      ∗ (∃ d, owns (c : Thread nD τ) arg7 fullShare d)
      ∗ (scrG.view.loc (c : Thread nD τ) ↦{fullShare} a8)
      ∗ (iprop((arg4.view.loc (c : Thread nD τ) ↦[arg4.view.set]{fullShare} arg4.view.rep x0)
          ∗ (arg5.view.loc (c : Thread nD τ) ↦[arg5.view.set]{fullShare} arg5.view.rep x1)
              ∗ (tabE.view.loc (c : Thread nD τ) ↦{fullShare.right} T0)
          ∗ (tabN.view.loc (c : Thread nD τ) ↦{fullShare.right} T1)
          ∗ owns (c : Thread nD τ) arg7 fullShare (left T1 i x0 (castG T0 i x1 a8))
          ∗ (scrG.view.loc (c : Thread nD τ) ↦{fullShare} castG T0 i x1 a8)) -∗ K ⟨⟩))
      ⊢ wp frame (wpE (defs₀ (F := F)) Variants.none c none) Set.univ (cc0_moe_down i tabE (Memref.isWhole_whole _) tabN (Memref.isWhole_whole _) arg4 harg4 arg5 harg5 arg7 harg7 scrG (Memref.isWhole_whole _)) K := by
  unfold owns
  rw [cc0_moe_down_eq_skeleton]; unfold cc0_moe_down_skel
  have hS0 : scrG.IsWhole := Memref.isWhole_whole _
  have hT0 : tabE.IsWhole := Memref.isWhole_whole _
  have hT1 : tabN.IsWhole := Memref.isWhole_whole _
  by_cases h3 : Used T1 i
  · have h1 : ¬ k0_cond1 i (wordN T1) = 1#1 := fun h => (cond1_iff _ _).1 h h3
    by_cases hn : Fresh T0 i
    · iintro ⟨H0, H1, HT0, HT1, ⟨%d2, %f2, -, HO2⟩, HS0, Hk⟩
      sl_exec! (disch := first | (guard_target = ¬(k0_cond1 _ _ = _); exact h1) | (guard_target = Scalar.cmpi = _; exact hn) | (guard_target = k0_cond3 _ _ = _; exact h3))
      sl_step
      unfold left castG
      simp only [if_pos hn, if_pos h3]
      sl_unfold_words
      simp only [View.readAt_eq_ld, View.read_rep, View.readCov_cons_toLoadRect, readG, ldX, ldW, ldS, writesG]
      iapply Hk
      isplitl [H0]; · iexact H0
      isplitl [H1]; · iexact H1
      isplitl [HT0]; · iexact HT0
      isplitl [HT1]; · iexact HT1
      isplitl [HO2]
      · iexists _; isplitr; swap
        · iexact HO2
        · ipureintro; exact (View.read_writes_junk_eq_canon _ _).trans (canonO _ _)
      iexact HS0
    · iintro ⟨H0, H1, HT0, HT1, ⟨%d2, %f2, -, HO2⟩, HS0, Hk⟩
      sl_exec! (disch := first | (guard_target = ¬(k0_cond1 _ _ = _); exact h1) | (guard_target = ¬(Scalar.cmpi = _); exact hn) | (guard_target = k0_cond3 _ _ = _; exact h3))
      sl_step
      unfold left castG
      simp only [if_neg hn, if_pos h3]
      sl_unfold_words
      simp only [View.readAt_eq_ld, View.read_rep, View.readCov_cons_toLoadRect, readG, ldX, ldW, ldS, writesG]
      iapply Hk
      isplitl [H0]; · iexact H0
      isplitl [H1]; · iexact H1
      isplitl [HT0]; · iexact HT0
      isplitl [HT1]; · iexact HT1
      isplitl [HO2]
      · iexists _; isplitr; swap
        · iexact HO2
        · ipureintro; exact (View.read_writes_junk_eq_canon _ _).trans (canonO _ _)
      iexact HS0
  · have h1 : k0_cond1 i (wordN T1) = 1#1 := (cond1_iff _ _).2 h3
    by_cases hn : Fresh T0 i
    · iintro ⟨H0, H1, HT0, HT1, ⟨%d2, %f2, -, HO2⟩, HS0, Hk⟩
      sl_exec! (disch := first | (guard_target = k0_cond1 _ _ = _; exact h1) | (guard_target = Scalar.cmpi = _; exact hn) | (guard_target = ¬(k0_cond3 _ _ = _); exact h3))
      sl_step
      unfold left castG
      simp only [if_pos hn, if_neg h3]
      sl_unfold_words
      simp only [View.readAt_eq_ld, View.read_rep, View.readCov_cons_toLoadRect, readG, ldX, ldW, ldS, writesG]
      iapply Hk
      isplitl [H0]; · iexact H0
      isplitl [H1]; · iexact H1
      isplitl [HT0]; · iexact HT0
      isplitl [HT1]; · iexact HT1
      isplitl [HO2]
      · iexists _; isplitr; swap
        · iexact HO2
        · ipureintro; exact (View.read_writes_junk_eq_canon _ _).trans (canonO _ _)
      iexact HS0
    · iintro ⟨H0, H1, HT0, HT1, ⟨%d2, %f2, -, HO2⟩, HS0, Hk⟩
      sl_exec! (disch := first | (guard_target = k0_cond1 _ _ = _; exact h1) | (guard_target = ¬(Scalar.cmpi = _); exact hn) | (guard_target = ¬(k0_cond3 _ _ = _); exact h3))
      sl_step
      unfold left castG
      simp only [if_neg hn, if_neg h3]
      sl_unfold_words
      simp only [View.readAt_eq_ld, View.read_rep, View.readCov_cons_toLoadRect, readG, ldX, ldW, ldS, writesG]
      iapply Hk
      isplitl [H0]; · iexact H0
      isplitl [H1]; · iexact H1
      isplitl [HT0]; · iexact HT0
      isplitl [HT1]; · iexact HT1
      isplitl [HO2]
      · iexists _; isplitr; swap
        · iexact HO2
        · ipureintro; exact (View.read_writes_junk_eq_canon _ _).trans (canonO _ _)
      iexact HS0
end Cert.Kernel3Ideal.Experts
end
-- ==== Proof.DnIdealLaunch.lean ====
module
public import proofs.«01_k».proof.Proof.DnIdealBody
public import Idealize.ShloMosaic.Lib.Pipeline.TableIdle
public import Idealize.ShloMosaic.Lib.Pipeline.Kit

/-! The second expert product over its whole grid: the tables fixed, what the scratch holds between points, the launch. -/

@[expose] public section
set_option maxRecDepth 16384
set_option Elab.async false
noncomputable section
namespace Cert.Kernel3Ideal.Experts
open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-! ## The grid's points -/

theorem coords0 : ∀ t : Fin grid0.N, ((grid0.coords t) 0).val = t.val / 41 ∧ ((grid0.coords t) 1).val = t.val % 41 := by decide +kernel

theorem off1_eq (i : grid0.Coords) : k0_off1 i = ![(i 1).val] := by
  have h : ∀ n : Fin 41, (Scalar.indexCast (BitVec.ofNat 32 n.val) : Index).toNat = n.val := by decide
  unfold k0_off1; exact congrArg (fun n => ![n]) (h (i 1))
theorem off2_eq (i : grid0.Coords) (h0 : (i 1).val ≠ 0) : k0_off2 i = ![(i 1).val - 1] := by
  have h : ∀ n : Fin 41, n.val ≠ 0 → (Scalar.indexCast (Scalar.maxsi (Scalar.subi (BitVec.ofNat 32 n.val) 1#32) 0#32) : Index).toNat = n.val - 1 := by decide
  unfold k0_off2; exact congrArg (fun n => ![n]) (h (i 1) h0)

/-- A table read at equal offsets reads the same word. -/
theorem word_congr (T0 : S41.Idx → Elt F .i32) {o o' : Fin 1 → ℕ} (e : o = o') (h : ∀ a, o a + S1.size a ≤ S41.size a) (h' : ∀ a, o' a + S1.size a ≤ S41.size a) :
    View.readAt (Elt F) tabE.view (Rect.unit (s := S41) o S1.size h).toLoadRect T0 (Shape.Idx.first (numel1_S1.symm ▸ Nat.one_pos))
      = View.readAt (Elt F) tabE.view (Rect.unit (s := S41) o' S1.size h').toLoadRect T0 (Shape.Idx.first (numel1_S1.symm ▸ Nat.one_pos)) := by
  subst e; rfl

theorem ne_word (x y : BitVec 32) (h : x ≠ y) : Scalar.cmpi .ne x y = 1#1 := by
  show BitVec.ofBool (x != y) = 1#1
  rw [bne_iff_ne.2 h]; rfl

/-- Where the body keeps its cast weights, the tile is not the first and its expert is the one before's. -/
theorem of_not_fresh (T0 : S41.Idx → Elt F .i32) (i : grid0.Coords) (h : ¬ Fresh T0 i) : (i 1).val ≠ 0 ∧ wordE T0 i = wordP T0 i := by
  have k : ∀ p q : BitVec 1, ¬ (Scalar.cmpi .ne (Scalar.extui (Scalar.ori p q) : BitVec 32) 0#32 = 1#1) → ¬ p = 1#1 ∧ ¬ q = 1#1 := by decide
  obtain ⟨hp, hq⟩ := k _ _ h
  have k0 : ∀ n : Fin 41, ¬ Scalar.cmpi .eq (BitVec.ofNat 32 n.val) 0#32 = 1#1 → n.val ≠ 0 := by decide
  refine ⟨k0 (i 1) hp, ?_⟩
  by_contra hne
  exact hq (ne_word _ _ hne)

/-! ## The pipeline at admissible tables -/

variable (a : (pcfg0 (F := F)).Adm)

abbrev cfgA : Pipeline.Cfg sig Λ₀ := cfg0 (F := F) a
abbrev pcs : Fin 1 → Pipeline.Cfg sig Λ₀ := Pipeline.pin (pcfgs (F := F)) fun _ => a
abbrev tab0 : S41.Idx → Elt F .i32 := a.1 0
abbrev tab1 : S1.Idx → Elt F .i32 := a.1 1

variable (m : (ℓ : Loc nD τ sig) → Buf (Elt F) ℓ) (ρ : Dev nD → PrngReg)

abbrev crd (t : Fin (cfgA a).N) : grid0.Coords := (cfgA a).grid.coords t
abbrev ms0_0 (t : Fin (cfgA a).N) : Memref sig .tc .vmem S512x7168 .bf16 := spec0_0.stage ((cfgA a).slots t (0 : Fin 3))
abbrev hs0_0 (t : Fin (cfgA a).N) : (ms0_0 a t).IsWhole := hstage0_0 (((cfgA a).slots t (0 : Fin 3)).cast nbuf0_0)
abbrev ms0_1 (t : Fin (cfgA a).N) : Memref sig .tc .vmem S1x7168x512 .f32 := spec0_1.stage ((cfgA a).slots t (1 : Fin 3))
abbrev hs0_1 (t : Fin (cfgA a).N) : (ms0_1 a t).IsWhole := hstage0_1 (((cfgA a).slots t (1 : Fin 3)).cast nbuf0_1)
abbrev ms0_2 (t : Fin (cfgA a).N) : Memref sig .tc .vmem S512x512 .f32 := spec0_2.stage ((cfgA a).slots t (2 : Fin 3))
abbrev hs0_2 (t : Fin (cfgA a).N) : (ms0_2 a t).IsWhole := hstage0_2 (((cfgA a).slots t (2 : Fin 3)).cast nbuf0_2)

/-- Window `w`'s block at point `t`, read off its array at launch. -/
def iblk (c : Dev nD) (w : Fin (cfgA a).W) (t : Fin (cfgA a).N) : (((cfgA a).win w).xblock ((cfgA a).grid.coords t)).Idx → Elt F ((cfgA a).win w).elt :=
  (((cfgA a).win w).blk t).view.read (Elt F) (m (((cfgA a).win w).arr.view.loc (c : Thread nD τ)))

/-- The weights' block at given block indices. -/
def wAt (c : Dev nD) (v : Fin 3 → ℕ) (h : ∀ b, (v b + 1) * S1x7168x512.size b ≤ S8x7168x2048.size b) : S1x7168x512.Idx → Elt F .f32 :=
  ((Memref.whole main_arg1 : Memref sig .tc .hbm S8x7168x2048 .f32).slice (Rect.block (s := S8x7168x2048) S1x7168x512.size v h) fun _ => rfl).view.read (Elt F) (m ((c : Thread nD τ).loc main_arg1))
theorem wAt_congr (c : Dev nD) {v v' : Fin 3 → ℕ} (e : v = v') (h h') : wAt m c v h = wAt m c v' h' := by subst e; rfl

theorem iblk1_eq (c : Dev nD) (t : Fin (cfgA a).N) : iblk a m c (1 : Fin 3) t = wAt m c (cc0_transform_1 k0_off1_inb numel1_S1 a.1 (crd a t)) (fun b => hinb0 a.1 a.2 1 (crd a t) b) := rfl
theorem tr1_eq (pf : pre0.Contents (Elt F)) (i : grid0.Coords) : cc0_transform_1 k0_off1_inb numel1_S1 pf i = ![(wordE (pf 0) i).toNat, (0#32).toNat, (BitVec.ofNat 32 (i 0).val).toNat] := rfl
/-- Where the body keeps its cast weights, the point before has the same block of weights. -/
theorem stay (t : Fin (cfgA a).N) (h : ¬ Fresh (tab0 a) (crd a t)) : ∃ h0 : t.val ≠ 0,
    wordE (tab0 a) (crd a t) = wordE (tab0 a) (crd a ⟨t.val - 1, by omega⟩) ∧ (crd a t 0).val = (crd a ⟨t.val - 1, by omega⟩ 0).val := by
  obtain ⟨h1, h2⟩ := of_not_fresh _ _ h
  have e := coords0 t
  have h1' : t.val % 41 ≠ 0 := by rw [← e.2]; exact h1
  have h0 : t.val ≠ 0 := fun h => h1' (by rw [h])
  have e' := coords0 ⟨t.val - 1, by omega⟩
  refine ⟨h0, h2.trans (word_congr _ ?_ _ _), ?_⟩
  · rw [off2_eq _ h1, off1_eq]
    refine congrArg (fun n => ![n]) ?_
    refine (congrArg (· - 1) e.2).trans (Eq.trans ?_ e'.2.symm)
    show t.val % 41 - 1 = (t.val - 1) % 41
    omega
  · refine e.1.trans (Eq.trans ?_ e'.1.symm)
    show t.val / 41 = (t.val - 1) / 41
    omega

theorem stay1 (c : Dev nD) (t : Fin (cfgA a).N) (h : ¬ Fresh (tab0 a) (crd a t)) (h0 : t.val - 1 < (cfgA a).N) :
    (iblk a m c (1 : Fin 3) t : S1x7168x512.Idx → Elt F .f32) = iblk a m c (1 : Fin 3) ⟨t.val - 1, h0⟩ := by
  obtain ⟨_, e, e'⟩ := stay a t h
  rw [iblk1_eq, iblk1_eq]
  exact wAt_congr m c (by rw [tr1_eq, tr1_eq, e, e']) _ _
/-- What the scratch holds after point `t`. -/
def heldG (c : Dev nD) (t : Fin (cfgA a).N) : S7168x512.Idx → Elt F .bf16 := k0_pay2 (F := F) (iblk a m c (1 : Fin 3) t)
theorem castG_eq (c : Dev nD) (t : Fin (cfgA a).N) (a8 : S7168x512.Idx → Elt F .bf16) (hh : ∀ s : Fin (cfgA a).N, s.val + 1 = t.val → a8 = heldG a m c s) :
    castG (tab0 a) (crd a t) (iblk a m c (1 : Fin 3) t) a8 = heldG a m c t := by
  by_cases hn : Fresh (tab0 a) (crd a t)
  · exact if_pos hn
  · obtain ⟨h0, -⟩ := stay a t hn
    refine (if_neg hn).trans ((hh ⟨t.val - 1, by omega⟩ (Nat.succ_pred_eq_of_ne_zero h0)).trans ?_)
    exact congrArg (k0_pay2 (F := F)) (stay1 a m c t hn (by omega)).symm
/-- What the result's block holds after point `t`. -/
def outAt (c : Dev nD) (t : Fin (cfgA a).N) : S512x512.Idx → Elt F .f32 :=
  left (tab1 a) (crd a t) (iblk a m c (0 : Fin 3) t) (heldG a m c t)

/-- Between points: the scratch as the point before left them, the body's halves of the tables, the random register. -/
def Phi (c : Dev nD) (t : Fin ((cfgA a).N + 1)) : sProp (MT nD τ sig Unit (Elt F) ℕ (UR sig nD τ) ℕ) :=
  iprop((∃ a8 : S7168x512.Idx → Elt F .bf16, ⌜∀ s : Fin (cfgA a).N, s.val + 1 = t.val → a8 = heldG a m c s⌝
      ∗ (scrG.view.loc (c : Thread nD τ) ↦{fullShare} a8))
    ∗ (tabE.view.loc (c : Thread nD τ) ↦{fullShare.right} tab0 a) ∗ (tabN.view.loc (c : Thread nD τ) ↦{fullShare.right} tab1 a)
    ∗ ∃ r, prngReg c r)

def dats (_ : Fin 1) (c : Dev nD) : Dat τ (Elt F) Unit ℕ (UR sig nD τ) ℕ (cfgA a) c where
  A w := m (((cfgA a).win w).arr.view.loc (c : Thread nD τ))
  after w t := match w with
    | ⟨0, _⟩ => iblk a m c (0 : Fin 3) t
    | ⟨1, _⟩ => iblk a m c (1 : Fin 3) t
    | ⟨2, _⟩ => outAt a m c t
  Φ t := Phi a m c t
  q _ := fullShare
  owed _ := 0

theorem after0_0 (c : Dev nD) (t : Fin (cfgA a).N) : (dats a m 0 c).after (0 : Fin 3) t = iblk a m c (0 : Fin 3) t := rfl
theorem after0_1 (c : Dev nD) (t : Fin (cfgA a).N) : (dats a m 0 c).after (1 : Fin 3) t = iblk a m c (1 : Fin 3) t := rfl
theorem after0_2 (c : Dev nD) (t : Fin (cfgA a).N) : (dats a m 0 c).after (2 : Fin 3) t = outAt a m c t := rfl

theorem before0_0 (c : Dev nD) (t : Fin (cfgA a).N) (d) : (dats a m 0 c).before (0 : Fin 3) t d = iblk a m c (0 : Fin 3) t :=
  ((dats a m 0 c).before_in_eq_fetched (0 : Fin 3) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA a).N) (d) : (dats a m 0 c).before (1 : Fin 3) t d = iblk a m c (1 : Fin 3) t :=
  ((dats a m 0 c).before_in_eq_fetched (1 : Fin 3) rfl (fun _ => rfl) (fun _ _ _ => rfl) (fun t => by rw [after0_1]; unfold Dat.blockOf iblk; rfl) t d).trans
    (by unfold Dat.fetched Dat.blockOf iblk; rfl)
/-- The result's block is stored at every point. -/
theorem idle2 (t : Fin (cfgA a).N) : (cfgA a).idle (2 : Fin 3) ((cfgA a).grid.coords t) = false := by
  have k : ∀ i v, (!(k0_cond1 i v == 1#1) && !(k0_cond3 i v == 1#1)) = false := by
    intro i v
    by_cases h : k0_cond3 i v = 1#1
    · rw [h]; simp
    · rw [(cond1_iff i v).2 h]; simp
  exact k _ _

abbrev bodyAt0 (t : Fin (cfgA a).N) : Prog (TpuEff nD τ sig (Elt F) Λ₀ .tc) PUnit :=
  cc0_moe_down (crd a t) tabE (Memref.isWhole_whole _) tabN (Memref.isWhole_whole _) (ms0_0 a t) (hs0_0 a t) (ms0_1 a t) (hs0_1 a t) (ms0_2 a t) (hs0_2 a t) scrG (Memref.isWhole_whole _)

/-- The body's run, its two results under other names. -/
theorem body_run_as (c : Dev nD) (i : grid0.Coords) (arg4 : Memref sig .tc .vmem S512x7168 .bf16) (harg4 : arg4.IsWhole) (arg5 : Memref sig .tc .vmem S1x7168x512 .f32) (harg5 : arg5.IsWhole) (arg7 : Memref sig .tc .vmem S512x512 .f32) (harg7 : arg7.IsWhole) (T0 : S41.Idx → Elt F .i32) (T1 : S1.Idx → Elt F .i32)
    (x0 : S512x7168.Idx → Elt F .bf16) (x1 : S1x7168x512.Idx → Elt F .f32) (a8 g : S7168x512.Idx → Elt F .bf16) (o : S512x512.Idx → Elt F .f32)
    (hg : castG T0 i x1 a8 = g) (ho : left T1 i x0 g = o)
    (K : PUnit → sProp (MT nD τ sig Unit (Elt F) ℕ (UR sig nD τ) ℕ)) :
    iprop(owns (c : Thread nD τ) arg4 fullShare x0 ∗ owns (c : Thread nD τ) arg5 fullShare x1
      ∗ (tabE.view.loc (c : Thread nD τ) ↦{fullShare.right} T0)
      ∗ (tabN.view.loc (c : Thread nD τ) ↦{fullShare.right} T1)
      ∗ (∃ d, owns (c : Thread nD τ) arg7 fullShare d)
      ∗ (scrG.view.loc (c : Thread nD τ) ↦{fullShare} a8)
      ∗ (iprop(owns (c : Thread nD τ) arg4 fullShare x0 ∗ owns (c : Thread nD τ) arg5 fullShare x1
          ∗ (tabE.view.loc (c : Thread nD τ) ↦{fullShare.right} T0)
          ∗ (tabN.view.loc (c : Thread nD τ) ↦{fullShare.right} T1)
          ∗ owns (c : Thread nD τ) arg7 fullShare o
          ∗ (scrG.view.loc (c : Thread nD τ) ↦{fullShare} g)) -∗ K ⟨⟩))
      ⊢ wp frame (wpE (defs₀ (F := F)) Variants.none c none) Set.univ (cc0_moe_down i tabE (Memref.isWhole_whole _) tabN (Memref.isWhole_whole _) arg4 harg4 arg5 harg5 arg7 harg7 scrG (Memref.isWhole_whole _)) K := by
  subst hg ho
  iintro ⟨H0, H1, HT0, HT1, H3, HS0, Hk⟩
  iapply (body_run c i arg4 harg4 arg5 harg5 arg7 harg7 T0 T1 x0 x1 a8 K)
  isplitl [H0]; · iapply rep_of_owns; iexact H0
  isplitl [H1]; · iapply rep_of_owns; iexact H1
  isplitl [HT0]; · iexact HT0
  isplitl [HT1]; · iexact HT1
  isplitl [H3]; · iexact H3
  isplitl [HS0]; · iexact HS0
  iintro ⟨H0, H1, HT0, HT1, H3, HS0⟩
  iapply Hk
  isplitl [H0]; · iapply owns_of_rep; iexact H0
  isplitl [H1]; · iapply owns_of_rep; iexact H1
  isplitl [HT0]; · iexact HT0
  isplitl [HT1]; · iexact HT1
  isplitl [H3]; · iexact H3
  iexact HS0

/-- The body's run between two states of the scratch, whatever else is held beside it. -/
theorem core (c : Dev nD) (i : grid0.Coords) (arg4 : Memref sig .tc .vmem S512x7168 .bf16) (harg4 : arg4.IsWhole) (arg5 : Memref sig .tc .vmem S1x7168x512 .f32) (harg5 : arg5.IsWhole) (arg7 : Memref sig .tc .vmem S512x512 .f32) (harg7 : arg7.IsWhole) (T0 : S41.Idx → Elt F .i32) (T1 : S1.Idx → Elt F .i32)
    (x0 : S512x7168.Idx → Elt F .bf16) (x1 : S1x7168x512.Idx → Elt F .f32) (g : S7168x512.Idx → Elt F .bf16) (o : S512x512.Idx → Elt F .f32)
    (Hp Hn : (S7168x512.Idx → Elt F .bf16) → Prop)
    (hg : ∀ a8, Hp a8 → castG T0 i x1 a8 = g) (ho : left T1 i x0 g = o) (hn : Hn g)
    (P R : sProp (MT nD τ sig Unit (Elt F) ℕ (UR sig nD τ) ℕ)) (bf : (S512x512.Idx → Elt F .f32) → (S512x512.Idx → Elt F .f32)) :
    iprop(((∃ a8 : S7168x512.Idx → Elt F .bf16, ⌜Hp a8⌝ ∗ (scrG.view.loc (c : Thread nD τ) ↦{fullShare} a8))
          ∗ (tabE.view.loc (c : Thread nD τ) ↦{fullShare.right} T0) ∗ (tabN.view.loc (c : Thread nD τ) ↦{fullShare.right} T1) ∗ R)
        ∗ P
        ∗ (∃ d : S512x7168.Idx → Elt F .bf16, owns (c : Thread nD τ) arg4 fullShare x0)
        ∗ (∃ d : S1x7168x512.Idx → Elt F .f32, owns (c : Thread nD τ) arg5 fullShare x1)
        ∗ (∃ d : S512x512.Idx → Elt F .f32, owns (c : Thread nD τ) arg7 fullShare (bf d)))
      ⊢ wp frame (wpE (defs₀ (F := F)) Variants.none c none) Set.univ (cc0_moe_down i tabE (Memref.isWhole_whole _) tabN (Memref.isWhole_whole _) arg4 harg4 arg5 harg5 arg7 harg7 scrG (Memref.isWhole_whole _)) fun _ =>
          iprop(((∃ a8 : S7168x512.Idx → Elt F .bf16, ⌜Hn a8⌝ ∗ (scrG.view.loc (c : Thread nD τ) ↦{fullShare} a8))
              ∗ (tabE.view.loc (c : Thread nD τ) ↦{fullShare.right} T0) ∗ (tabN.view.loc (c : Thread nD τ) ↦{fullShare.right} T1) ∗ R)
            ∗ P
            ∗ owns (c : Thread nD τ) arg4 fullShare x0
            ∗ owns (c : Thread nD τ) arg5 fullShare x1

            ∗ owns (c : Thread nD τ) arg7 fullShare o) := by
  iintro ⟨⟨⟨%a8, %hh, HS0⟩, HT0, HT1, Hr⟩, Ho, ⟨%d0, H0⟩, ⟨%d1, H1⟩, ⟨%d3, H3⟩⟩
  iapply (body_run_as c i arg4 harg4 arg5 harg5 arg7 harg7 T0 T1 x0 x1 a8 g o (hg _ hh) ho _)
  isplitl [H0]; · iexact H0
  isplitl [H1]; · iexact H1
  isplitl [HT0]; · iexact HT0
  isplitl [HT1]; · iexact HT1
  isplitl [H3]; · iexists _; iexact H3
  isplitl [HS0]; · iexact HS0
  iintro ⟨H0, H1, HT0, HT1, H3, HS0⟩
  isplitl [HS0 HT0 HT1 Hr]
  · isplitl [HS0]
    · iexists g; isplitr; swap
      · iexact HS0
      · ipureintro; exact hn
    isplitl [HT0]
    · iexact HT0
    isplitl [HT1]
    · iexact HT1
    iexact Hr
  isplitl [Ho]; · iexact Ho
  isplitl [H0]; · iexact H0
  isplitl [H1]; · iexact H1
  iexact H3

theorem held_succ (c : Dev nD) (t : Fin (cfgA a).N) (s : Fin (cfgA a).N) (hs : s.val + 1 = t.succ.val) : heldG a m c t = heldG a m c s := by
  have e : s = t := Fin.ext (Nat.succ.inj hs)
  rw [e]

set_option maxHeartbeats 400000 in
theorem sound_core (c : Dev nD) (t : Fin (cfgA a).N) (P : sProp (MT nD τ sig Unit (Elt F) ℕ (UR sig nD τ) ℕ)) (bf : (S512x512.Idx → Elt F .f32) → (S512x512.Idx → Elt F .f32)) :
    iprop(Phi a m c t.castSucc ∗ P
        ∗ (∃ d : S512x7168.Idx → Elt F .bf16, owns (c : Thread nD τ) (ms0_0 a t) fullShare (iblk a m c (0 : Fin 3) t))
        ∗ (∃ d : S1x7168x512.Idx → Elt F .f32, owns (c : Thread nD τ) (ms0_1 a t) fullShare (iblk a m c (1 : Fin 3) t))
        ∗ (∃ d : S512x512.Idx → Elt F .f32, owns (c : Thread nD τ) (ms0_2 a t) fullShare (bf d)))
      ⊢ wp frame (wpE (defs₀ (F := F)) Variants.none c none) Set.univ (bodyAt0 a t) fun _ =>
          iprop(Phi a m c t.succ ∗ P
            ∗ owns (c : Thread nD τ) (ms0_0 a t) fullShare (iblk a m c (0 : Fin 3) t)
            ∗ owns (c : Thread nD τ) (ms0_1 a t) fullShare (iblk a m c (1 : Fin 3) t)
            ∗ owns (c : Thread nD τ) (ms0_2 a t) fullShare (outAt a m c t)) :=
  by
  refine core c (crd a t) (ms0_0 a t) (hs0_0 a t) (ms0_1 a t) (hs0_1 a t) (ms0_2 a t) (hs0_2 a t) (tab0 a) (tab1 a)
    (iblk a m c (0 : Fin 3) t) (iblk a m c (1 : Fin 3) t) (heldG a m c t) (outAt a m c t)
    (fun a8 => ∀ s : Fin (cfgA a).N, s.val + 1 = t.castSucc.val → a8 = heldG a m c s)
    (fun a8 => ∀ s : Fin (cfgA a).N, s.val + 1 = t.succ.val → a8 = heldG a m c s)
    ?_ ?_ ?_ P _ bf
  · exact fun a8 h => castG_eq a m c t a8 fun s hs => h s (by rw [Fin.val_castSucc]; exact hs)
  · unfold outAt; rfl
  · exact held_succ a m c t

set_option maxHeartbeats 400000 in
theorem sound_body (c : Dev nD) (t : Fin (cfgA a).N) :
    iprop((dats a m 0 c).Φ t.castSucc ∗ (dats a m 0 c).owesAt () t.castSucc
        ∗ (∃ d, owns (c : Thread nD τ) (ms0_0 a t) fullShare ((dats a m 0 c).before (0 : Fin 3) t d))
        ∗ (∃ d, owns (c : Thread nD τ) (ms0_1 a t) fullShare ((dats a m 0 c).before (1 : Fin 3) t d))
        ∗ (∃ d, owns (c : Thread nD τ) (ms0_2 a t) fullShare ((dats a m 0 c).before (2 : Fin 3) t d)))
      ⊢ wp frame (wpE (defs₀ (F := F)) Variants.none c none) Set.univ (bodyAt0 a t) fun _ =>
          iprop((dats a m 0 c).Φ t.succ ∗ (dats a m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m 0 c).before w t d))
                  | true => owns (c : Thread nD τ) (((cfgA a).win w).stage ((cfgA a).slots t w)) fullShare ((dats a m 0 c).after w t)
                | false => owns (c : Thread nD τ) (((cfgA a).win w).stage ((cfgA a).slots t w)) fullShare ((dats a m 0 c).after w t)) := by
  rw [bigSep_W0]
  rewrite [idle2 a t]
  show iprop(Phi a m c t.castSucc ∗ (dats a m 0 c).owesAt () t.castSucc
        ∗ (∃ d, owns (c : Thread nD τ) (ms0_0 a t) fullShare ((dats a m 0 c).before (0 : Fin 3) t d))
        ∗ (∃ d, owns (c : Thread nD τ) (ms0_1 a t) fullShare ((dats a m 0 c).before (1 : Fin 3) t d))
        ∗ (∃ d, owns (c : Thread nD τ) (ms0_2 a t) fullShare ((dats a m 0 c).before (2 : Fin 3) t d)))
      ⊢ wp frame (wpE (defs₀ (F := F)) Variants.none c none) Set.univ (bodyAt0 a t) fun _ =>
          iprop(Phi a m c t.succ ∗ (dats a m 0 c).owesAt () t.castSucc
            ∗ owns (c : Thread nD τ) (ms0_0 a t) fullShare (iblk a m c (0 : Fin 3) t)
            ∗ owns (c : Thread nD τ) (ms0_1 a t) fullShare (iblk a m c (1 : Fin 3) t)
            ∗ owns (c : Thread nD τ) (ms0_2 a t) fullShare (outAt a m c t))
  simp only [before0_0, before0_1]
  exact sound_core a m c t _ _

theorem body_obligation (c : Dev nD) : BodyObligation (dats a m 0 c) (defs₀ (F := F)) Variants.none () Set.univ := fun t => by
  rw [bigSep_W0]
  exact sound_body a m c t

/-! ## The launch -/

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp (MT nD τ sig Unit (Elt F) ℕ (UR sig nD τ) ℕ))
      = iprop((((c : Thread nD τ).loc main_arg2) ↦{q 0} v 0) ∗ (((c : Thread nD τ).loc main_arg3) ↦{q 1} v 1)) := by
  unfold Pipeline.prefHeld
  rw [show (Finset.univ : Finset (Fin 2)) = insert (0 : Fin 2) {(1 : Fin 2)} from by decide,
    bigSep_insert (by decide), bigSep_singleton]
  rfl

theorem enter (c : Dev nD) : iprop(Pipeline.ΦA spec0 c ∗ Pipeline.ΦT pre0 a.1 c) ⊢ (dats a m 0 c).Φ 0 := by
  unfold Pipeline.ΦA Pipeline.ΦT
  rw [prefHeld_eq, scopedRest0_eq, show (dats a m 0 c).Φ 0 = Phi a m c 0 from rfl]
  unfold Phi
  iintro ⟨⟨⟨%a8, HS0⟩, Hr⟩, ⟨HT0, HT1⟩⟩
  isplitl [HS0]
  · iexists a8; isplitr; swap
    · iexact HS0
    · ipureintro; intro s h; exact absurd h (Nat.succ_ne_zero _)
  isplitl [HT0]
  · iexact HT0
  isplitl [HT1]
  · iexact HT1
  iexact Hr

theorem leave (c : Dev nD) : (dats a m 0 c).Φ (Fin.last (cfgA a).N) ⊢ Pipeline.ΦA spec0 c := by
  unfold Pipeline.ΦA
  rw [scopedRest0_eq, show (dats a m 0 c).Φ (Fin.last (cfgA a).N) = Phi a m c (Fin.last _) from rfl]
  unfold Phi
  iintro ⟨⟨%a8, -, HS0⟩, -, -, Hr⟩
  isplitl [HS0]
  · iexists a8; iexact HS0
  iexact Hr

/-- The memory's buffers, core by core. -/
abbrev V (c : Dev nD) (b : Ref sig .tc) : Buf (Elt F) ((c : Thread nD τ).loc b) := m ((c : Thread nD τ).loc b)

set_option backward.isDefEq.respectTransparency.types false in
set_option maxHeartbeats 1000000 in
theorem run_main (hpf : ∀ (c : Dev nD) (k : Fin 2), m ((c : Thread nD τ).loc (pre0.ref k)) = a.1 k) :
    θ_run (defs (F := F)) (onTc (τ := τ) (main (F := F))) (s₀ m ρ)
      (fun r => (Pipeline.FramePost (pcs a) (dats a m) 0 (V m)) r ∧ r.2.sem = fun _ => 0) :=
  Pipeline.θ_run_frameP_track (Q' := _) pcfgs (fun _ => a) (dats a m) (0 : Fin 1) launch0 defs₀ Variants.none m ρ main
    (hbody := fun c => (body_obligation a m c).loose) (hshare := fun c w => by unfold Dat.share; split <;> rfl) (howed := fun _ _ => rfl) (V := V m)
    (hmain := fun c Q => by
      delta main; simp only [Prog.bind_lift, Prog.pure_eq_ret]
      iintro ⟨Hk, Hb⟩; iapply Hk; iexact Hb)
    (hA := fun _ _ => rfl) (hpf := hpf) (hin := enter a m) (hout := leave a m)

end Cert.Kernel3Ideal.Experts
end
-- ==== Proof.DnIdealFrame.lean ====
module
public import proofs.«01_k».proof.Proof.DnIdealLaunch
public import proofs.«01_k».proof.Proof.DnRange

/-! The experts' second product: tables in their range are admissible, and the arguments are kept. -/

@[expose] public section
set_option maxRecDepth 65536
noncomputable section
namespace Cert.Kernel3Ideal.Experts
open Cert.Kernel3Ideal Cert.Kernel3Ideal.Gen
open Idealize.ShloMosaic Idealize.ShloMosaic.TcCoe Idealize.SL.Sem
open Cert.Pre_experts_down_in_range (InRange)

variable {F : FTy → Type} [FloatOps F]

/-- The row block a point reads: its own tile while that is in use, the last used one after. -/
theorem row_word : ∀ (n : Fin 41) (k : Fin 42), k.val ≠ 0 → (Scalar.minsi (BitVec.ofNat 32 n.val) (Scalar.subi (BitVec.ofNat 32 k.val) 1#32)).toNat = min n.val (k.val - 1) := by decide +kernel

theorem row_word' (n : Fin 41) (v : BitVec 32) (h1 : 1 ≤ v.toNat) (h2 : v.toNat ≤ 41) : (Scalar.minsi (BitVec.ofNat 32 n.val) (Scalar.subi v 1#32)).toNat = min n.val (v.toNat - 1) := by
  have e : v = BitVec.ofNat 32 v.toNat := by simp
  have := row_word n ⟨v.toNat, by omega⟩ (by show v.toNat ≠ 0; omega)
  rw [← e] at this
  exact this

theorem col_word : ∀ n : Fin 4, (BitVec.ofNat 32 n.val).toNat = n.val := by decide

theorem tr0_eq (pf : pre0.Contents (Elt F)) (i : grid0.Coords) : cc0_transform_0 inb_S1_S1_0 numel1_S1 pf i = ![(Scalar.minsi (BitVec.ofNat 32 (i 1).val) (Scalar.subi (wordN (pf 1)) 1#32)).toNat, (0#32).toNat] := rfl

variable (m : (ℓ : Loc nD τ sig) → Buf (Elt F) ℓ) (ρ : Dev nD → PrngReg)

/-- The two tables, as the launch finds them. -/
def tables : pre0.Contents (Elt F) := fun k => m (((0 : Dev nD) : Thread nD τ).loc (pre0.ref k))

abbrev RangeM : Prop := InRange (m (((0 : Dev nD) : Thread nD τ).loc main_arg2)) (m (((0 : Dev nD) : Thread nD τ).loc main_arg3))

theorem wordE_lt (pf : pre0.Contents (Elt F)) (h : InRange (pf 0) (pf 1)) (i : grid0.Coords) : (wordE (pf 0) i).toNat < 8 := h.1 _
theorem wordN_ge (pf : pre0.Contents (Elt F)) (h : InRange (pf 0) (pf 1)) : 1 ≤ (wordN (pf 1)).toNat := (h.2 _).1
theorem wordN_le (pf : pre0.Contents (Elt F)) (h : InRange (pf 0) (pf 1)) : (wordN (pf 1)).toNat ≤ 41 := (h.2 _).2

theorem ok_of_range (pf : pre0.Contents (Elt F)) (h : InRange (pf 0) (pf 1)) : ok0 pf := by
  refine ⟨fun i => ?_, fun i => ?_⟩
  · have e := row_word' (i 1) (wordN (pf 1)) (wordN_ge pf h) (wordN_le pf h)
    have hi : (i 1).val < 41 := (i 1).isLt
    refine ⟨fun b => ?_, .inr (Affine.block_words_dvd (s := S20992x7168) (p := EltTy.packing .bf16) (by decide) (by decide))⟩
    rw [tr0_eq]
    fin_cases b
    · show ((Scalar.minsi (BitVec.ofNat 32 (i 1).val) (Scalar.subi (wordN (pf 1)) 1#32)).toNat + 1) * 512 ≤ 20992
      rw [e]; omega
    · show (0 + 1) * 7168 ≤ 7168
      omega
  · have e := wordE_lt pf h i
    refine ⟨fun b => ?_, .inl rfl⟩
    rw [tr1_eq]
    fin_cases b
    · show ((wordE (pf 0) i).toNat + 1) * 1 ≤ 8
      omega
    · show (0 + 1) * 7168 ≤ 7168
      omega
    · show ((BitVec.ofNat 32 (i 0).val).toNat + 1) * 512 ≤ 2048
      have hi : (i 0).val < 4 := (i 0).isLt
      have := col_word (i 0)
      rw [this]; omega

/-- The tables with the proof that they are admissible. -/
def adm (h : RangeM m) : (pcfg0 (F := F)).Adm := ⟨tables m, ok_of_range _ h⟩

theorem adm_at (h : RangeM m) (c : Dev nD) (k : Fin 2) : m ((c : Thread nD τ).loc (pre0.ref k)) = (adm m h).1 k := by
  obtain rfl : c = 0 := Subsingleton.elim _ _
  rfl

/-- The run: the arguments as they were, the result what the points leave. -/
theorem run_kept (h : RangeM m) :
    θ_run (defs (F := F)) (onTc (τ := τ) (main (F := F))) (s₀ m ρ) (fun r =>
      (∀ c : Dev nD, r.2.mem ((c : Thread nD τ).loc main_v0) = (dats (adm m h) m 0 c).arrAt (2 : Fin 3) (cfgA (adm m h)).N
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0) := by
  refine (θ_run _ _ _).mono (fun r hr => ⟨fun c => ⟨(hr.1 c).1 (2 : Fin 3), ?_, ?_, ?_, ?_⟩, hr.2⟩) (run_main (adm m h) m ρ (adm_at m h))
  · exact ((hr.1 c).1 (0 : Fin 3)).trans ((dats (adm m h) m 0 c).arrAt_in (0 : Fin 3) rfl _)
  · exact ((hr.1 c).1 (1 : Fin 3)).trans ((dats (adm m h) m 0 c).arrAt_in (1 : Fin 3) rfl _)
  · exact (hr.1 c).2 main_arg2 (Pipeline.mem_restRefs_of (win := spec0) main_arg2 rfl (by decide))
  · exact (hr.1 c).2 main_arg3 (Pipeline.mem_restRefs_of (win := spec0) main_arg3 rfl (by decide))

end Cert.Kernel3Ideal.Experts
end
-- ==== Proof.DnValue.lean ====
module
public import proofs.«01_k».proof.Proof.DnIdealFrame
public import Idealize.ShloMosaic.Lib.Pointwise
public import Idealize.ShloMosaic.Lib.Pipeline.ValueKit.Geometry

/-! The experts' second product, element by element: each tile's rows through its own expert's matrix. -/

@[expose] public section
set_option maxRecDepth 65536
noncomputable section
namespace Cert.Kernel3Ideal.Experts
open Cert.Kernel3Ideal Cert.Kernel3Ideal.Gen
open Idealize.ShloMosaic Idealize.ShloMosaic.TcCoe Idealize.SL.Sem
open Cert.Pre_experts_down_in_range (InRange)

/-- Row `r` of the tokens times column `n` of expert `e`. -/
def dotAt (X : S20992x7168.Idx → EReal) (W : S8x7168x2048.Idx → EReal) (r : Fin 20992) (e : Fin 8) (n : Fin 2048) : EReal :=
  ∑ k : Fin 7168, X (ix2 r k) * W (ix3 e k n)

/-- The tile of a row. -/
def tileOf (r : Fin 20992) : Fin 41 := ⟨r.val / 512, by omega⟩

/-- The expert of a tile. -/
def expertOf (te : S41.Idx → BitVec 32) (i : Fin 41) : Fin 8 := ⟨(te (ix1 i)).toNat % 8, by omega⟩

/-- The result: a row of a used tile through the tile's expert, zero past the used tiles. -/
def experts (X : S20992x7168.Idx → EReal) (W : S8x7168x2048.Idx → EReal) (te : S41.Idx → BitVec 32) (na : S1.Idx → BitVec 32)
    (r : Fin 20992) (n : Fin 2048) : EReal :=
  if (tileOf r).val < (na (ix1 0)).toNat then dotAt X W r (expertOf te (tileOf r)) n else 0

theorem pay3_apply (x : S512x7168.Idx → EReal) (g : S7168x512.Idx → EReal) (r : Fin 512) (n : Fin 512) :
    k0_pay3 (F := Ideal) x g (ix2 r n) = ∑ k : Fin 7168, x (ix2 r k) * g (ix2 k n) := by
  pointwise [k0_pay3]

theorem pay1_apply (j : S512x512.Idx) : k0_pay1 (F := Ideal) j = (0 : EReal) := by
  pointwise [k0_pay1]

theorem pay2_apply (v : S1x7168x512.Idx → EReal) (k : Fin 7168) (n : Fin 512) : k0_pay2 (F := Ideal) v (ix2 k n) = v (ix3 0 k n) := by
  pointwise [k0_pay2]
/-! ## The tables' words -/

theorem wordN_eq (T1 : S1.Idx → BitVec 32) : wordN (F := Ideal) T1 = T1 (ix1 0) :=
  congrArg T1 (Subsingleton.elim (α := Cert.Pre_experts_down_in_range.S1.Idx) _ _)

theorem read_word (T0 : S41.Idx → BitVec 32) (n : Fin 41) (h : ∀ b, (![n.val] : Fin 1 → ℕ) b + S1.size b ≤ S41.size b) :
    View.readAt (Elt Ideal) tabE.view (Rect.unit (s := S41) ![n.val] S1.size h).toLoadRect T0 (Shape.Idx.first (numel1_S1.symm ▸ Nat.one_pos)) = T0 (ix1 n) := by
  refine congrArg T0 (funext fun b => Fin.ext ?_)
  fin_cases b
  show n.val + 1 * 0 = n.val
  omega

theorem wordE_eq (T0 : S41.Idx → BitVec 32) (i : grid0.Coords) : wordE (F := Ideal) T0 i = T0 (ix1 (i 1)) :=
  (word_congr (F := Ideal) T0 (off1_eq i) _ (fun b => by rw [← off1_eq]; exact k0_off1_inb i b)).trans (read_word T0 (i 1) _)

theorem used_word : ∀ (n : Fin 41) (k : Fin 42), (Scalar.cmpi .ne (Scalar.extui (Scalar.cmpi .slt (BitVec.ofNat 32 n.val) (BitVec.ofNat 32 k.val)) : BitVec 32) 0#32 = 1#1) ↔ n.val < k.val := by decide +kernel

theorem used_iff (T1 : S1.Idx → BitVec 32) (h2 : (T1 (ix1 0)).toNat ≤ 41) (i : grid0.Coords) : Used (F := Ideal) T1 i ↔ (i 1).val < (T1 (ix1 0)).toNat := by
  show k0_cond3 i (wordN (F := Ideal) T1) = 1#1 ↔ _
  rw [wordN_eq]
  have e : T1 (ix1 0) = BitVec.ofNat 32 (T1 (ix1 0)).toNat := by simp
  have := used_word (i 1) ⟨(T1 (ix1 0)).toNat, by omega⟩
  rw [← e] at this
  exact this

/-! ## The blocks -/

variable (m : (ℓ : Loc nD τ sig) → Buf (Elt Ideal) ℓ)

theorem wAt_apply (c : Dev nD) (v : Fin 3 → ℕ) (h : ∀ b, (v b + 1) * S1x7168x512.size b ≤ S8x7168x2048.size b) (k : Fin 7168) (n : Fin 512)
    (e : Fin 8) (n' : Fin 2048) (h0 : v 0 = e.val) (h1 : v 1 = 0) (h2 : v 2 * 512 + n.val = n'.val) :
    wAt (F := Ideal) m c v h (ix3 0 k n) = m ((c : Thread nD τ).loc main_arg1) (ix3 e k n') := by
  refine congrArg (m ((c : Thread nD τ).loc main_arg1)) (funext fun b => Fin.ext ?_)
  fin_cases b
  · show v 0 * 1 + 1 * 0 = e.val
    omega
  · show v 1 * 7168 + 1 * k.val = k.val
    omega
  · show v 2 * 512 + 1 * n.val = n'.val
    omega

/-- The tokens' block at given block indices. -/
def xAt (c : Dev nD) (v : Fin 2 → ℕ) (h : ∀ b, (v b + 1) * S512x7168.size b ≤ S20992x7168.size b) : S512x7168.Idx → EReal :=
  ((Memref.whole main_arg0 : Memref sig .tc .hbm S20992x7168 .bf16).slice (Rect.block (s := S20992x7168) S512x7168.size v h) fun _ => rfl).view.read (Elt Ideal) (m ((c : Thread nD τ).loc main_arg0))

theorem xAt_apply (c : Dev nD) (v : Fin 2 → ℕ) (h : ∀ b, (v b + 1) * S512x7168.size b ≤ S20992x7168.size b) (r : Fin 512) (k : Fin 7168)
    (r' : Fin 20992) (h0 : v 0 * 512 + r.val = r'.val) (h1 : v 1 = 0) :
    xAt m c v h (ix2 r k) = m ((c : Thread nD τ).loc main_arg0) (ix2 r' k) := by
  refine congrArg (m ((c : Thread nD τ).loc main_arg0)) (funext fun b => Fin.ext ?_)
  fin_cases b
  · show v 0 * 512 + 1 * r.val = r'.val
    omega
  · show v 1 * 7168 + 1 * k.val = k.val
    omega

variable (a : (pcfg0 (F := Ideal)).Adm) (ha : InRange (tab0 a) (tab1 a))

theorem iblk0_eq (c : Dev nD) (t : Fin (cfgA a).N) : iblk a m c (0 : Fin 3) t = xAt m c (cc0_transform_0 inb_S1_S1_0 numel1_S1 a.1 (crd a t)) (fun b => hinb0 a.1 a.2 0 (crd a t) b) := rfl

include ha in
theorem outAt_apply (c : Dev nD) (t : Fin (cfgA a).N) (r : Fin 512) (n : Fin 512) (R : Fin 20992) (N : Fin 2048)
    (hR : (crd a t 1).val * 512 + r.val = R.val) (hN : (crd a t 0).val * 512 + n.val = N.val) :
    outAt a m c t (ix2 r n) = experts (m ((c : Thread nD τ).loc main_arg0)) (m ((c : Thread nD τ).loc main_arg1)) (tab0 a) (tab1 a) R N := by
  have i0 : (crd a t 0).val < 4 := (crd a t 0).isLt
  have i1 : (crd a t 1).val < 41 := (crd a t 1).isLt
  have q : tileOf R = crd a t 1 := Fin.ext (by show R.val / 512 = _; omega)
  have n1 := (ha.2 (ix1 0)).1
  have n2 := (ha.2 (ix1 0)).2
  have hu := used_iff (tab1 a) n2 (crd a t)
  unfold experts outAt left
  rw [q]
  by_cases hn : (crd a t 1).val < (tab1 a (ix1 0)).toNat
  · rw [if_pos hn, if_pos (hu.2 hn), pay3_apply]
    have e8 : (tab0 a (ix1 (crd a t 1))).toNat < 8 := ha.1 _
    have we : (wordE (F := Ideal) (tab0 a) (crd a t)).toNat = (tab0 a (ix1 (crd a t 1))).toNat % 8 := by
      rw [wordE_eq, Nat.mod_eq_of_lt e8]
    have wr := row_word' (crd a t 1) (wordN (F := Ideal) (tab1 a)) (by rw [wordN_eq]; exact n1) (by rw [wordN_eq]; exact n2)
    rw [wordN_eq] at wr
    have cw := col_word (crd a t 0)
    have hx : ∀ k : Fin 7168, (iblk a m c (0 : Fin 3) t : S512x7168.Idx → EReal) (ix2 r k) = m ((c : Thread nD τ).loc main_arg0) (ix2 R k) := fun k => by
      rw [iblk0_eq]
      refine xAt_apply m c _ _ r k R ?_ ?_
      · rw [tr0_eq]
        show (Scalar.minsi (BitVec.ofNat 32 (crd a t 1).val) (Scalar.subi (wordN (F := Ideal) (tab1 a)) 1#32)).toNat * 512 + r.val = R.val
        rw [wordN_eq, wr]; omega
      · rw [tr0_eq]; rfl
    unfold dotAt
    refine Finset.sum_congr rfl fun k _ => congrArg₂ (· * ·) (hx k) ?_
    unfold heldG
    rw [pay2_apply, iblk1_eq]
    refine wAt_apply m c _ _ k n _ _ ?_ ?_ ?_
    · rw [tr1_eq]; exact we
    · rw [tr1_eq]; rfl
    · rw [tr1_eq]
      show (BitVec.ofNat 32 (crd a t 0).val).toNat * 512 + n.val = N.val
      rw [cw]; exact hN
  · rw [if_neg hn, if_neg (fun h => hn (hu.1 h)), pay1_apply]

/-! ## The array -/

theorem flush2 : ∀ t : Fin grid0.N, Pipeline.Window.flushOf grid0 true cc0_transform_2 t = true := by decide +kernel

theorem tr2 : ∀ t : Fin grid0.N, cc0_transform_2 (grid0.coords t) 0 = t.val % 41 ∧ cc0_transform_2 (grid0.coords t) 1 = t.val / 41 := by decide +kernel

theorem covers2 : ((cfgA a).win (2 : Fin 3)).Covers := by
  refine ⟨show ∀ b : Fin 2, 0 < S512x512.size b by decide, fun β => ?_⟩
  have b0 : (β (0 : Fin 2)).val < 41 := lt_of_lt_of_eq (β (0 : Fin 2)).isLt (show (20992 + 512 - 1) / 512 = 41 by norm_num)
  have b1 : (β (1 : Fin 2)).val < 4 := lt_of_lt_of_eq (β (1 : Fin 2)).isLt (show (2048 + 512 - 1) / 512 = 4 by norm_num)
  have hN : grid0.N = 164 := by decide
  have ht : (β (1 : Fin 2)).val * 41 + (β (0 : Fin 2)).val < grid0.N := by rw [hN]; omega
  have e := tr2 ⟨_, ht⟩
  refine ⟨⟨_, ht⟩, flush2 _, fun b => ⟨?_, .inl rfl⟩⟩
  fin_cases b
  · refine e.1.trans ?_
    show ((β (1 : Fin 2)).val * 41 + (β (0 : Fin 2)).val) % 41 = (β (0 : Fin 2)).val
    omega
  · refine e.2.trans ?_
    show ((β (1 : Fin 2)).val * 41 + (β (0 : Fin 2)).val) / 41 = (β (1 : Fin 2)).val
    omega

include ha in
theorem array_eq (c : Dev nD) : (dats a m 0 c).arrAt (2 : Fin 3) (cfgA a).N =
    fun j : S20992x2048.Idx => experts (m ((c : Thread nD τ).loc main_arg0)) (m ((c : Thread nD τ).loc main_arg1)) (tab0 a) (tab1 a) (j 0) (j 1) := by
  refine (dats a m 0 c).arrAt_eq_of_covers (2 : Fin 3) _ (covers2 a) (fun t _ y => ?_)
  have e := tr2 t
  have e' := coords0 t
  obtain ⟨r, n, rfl⟩ : ∃ (r : Fin 512) (n : Fin 512), y = ix2 r n := ⟨y 0, y 1, by funext b; fin_cases b <;> rfl⟩
  refine Eq.trans ?_ (outAt_apply m a ha c t r n _ _ ?_ ?_)
  · rfl
  · refine (congrArg (· * 512 + r.val) (e'.2.trans e.1.symm)).trans ?_
    show cc0_transform_2 (grid0.coords t) 0 * 512 + r.val = cc0_transform_2 (grid0.coords t) 0 * 512 + 1 * r.val
    omega
  · refine (congrArg (· * 512 + n.val) (e'.1.trans e.2.symm)).trans ?_
    show cc0_transform_2 (grid0.coords t) 1 * 512 + n.val = cc0_transform_2 (grid0.coords t) 1 * 512 + 1 * n.val
    omega

end Cert.Kernel3Ideal.Experts
end
-- ==== Proof.DnRef.lean ====
module
public import proofs.«01_k».proof.Proof.DnValue
public import proofs.«01_k».proof.Proof.Gen.Reference3Ideal.Run
public import Idealize.ShloMosaic.Lib.Pointwise
public import Idealize.ShloMosaic.Lib.WordCmp

/-! The reference of the experts' second product: all eight experts' values, then the sum of the chosen one's. -/

@[expose] public section
noncomputable section
namespace Cert.Reference3Ideal.Experts
open Idealize.ShloMosaic Idealize.ShloMosaic.TcCoe Idealize.SL.Sem
open Cert.Reference3Ideal Cert.Reference3Ideal.Gen Idealize.ShloMosaic.WordCmp
open Cert.Kernel3Ideal.Experts (dotAt experts tileOf expertOf)
open Cert.Pre_experts_down_in_range (InRange)

/-- Every row against every expert. -/
def dotT (X : FVec Ideal S20992x7168 .bf16) (W : FVec Ideal S8x7168x2048 .f32) : FVec Ideal S20992x8x2048 .f32 :=
  Host.dotGeneral dot_S20992x7168_S8x7168x2048_S20992x8x2048_1_1_0_02_n_n none (extf .f32 X bitsLt_bf16_f32) W

/-- Whether an expert is a row's. -/
def chosenT (te : IVec S41 32) (na : IVec S1 32) : IVec S20992x8x2048 1 :=
  broadcastInDim S20992x8x2048 ![0, 1, 2] bcast_S20992x8x1_S20992x8x2048_0_1_2 (shapeCast _ (broadcastInDim S41x512x8 ![0, 1, 2] bcast_S41x1x8_S41x512x8_0_1_2 (broadcastInDim S41x1x8 ![0, 2] bcast_S41x8_S41x1x8_0_2 (andi (cmpi .eq (broadcastInDim S41x8 ![0, 1] bcast_S41x1_S41x8_0_1 (broadcastInDim S41x1 ![0] bcast_S41_S41x1_0 te)) (broadcastInDim S41x8 ![0, 1] bcast_S1x8_S41x8_0_1 (broadcastInDim S1x8 ![1] bcast_S8_S1x8_1 (iotaInDim S8 32 0)))) (broadcastInDim S41x8 ![0, 1] bcast_S41x1_S41x8_0_1 (broadcastInDim S41x1 ![0] bcast_S41_S41x1_0 (cmpi .slt (iotaInDim S41 32 0) (broadcastInDim S41 ![] bcast_S_S41 (shapeCast _ na shapeCasts_S1_S_)))))))) shapeCasts_S41x512x8_S20992x8x1)

/-- The values of the chosen experts, zero elsewhere. -/
def keptT (X : FVec Ideal S20992x7168 .bf16) (W : FVec Ideal S8x7168x2048 .f32) (te : IVec S41 32) (na : IVec S1 32) : FVec Ideal S20992x8x2048 .f32 :=
  select (chosenT te na) (dotT X W) (broadcastInDim S20992x8x2048 ![] bcast_S_S20992x8x2048 (id (constant S_ .f32 0x00000000#32)))

/-- Their sum over the experts. -/
def resT (X : FVec Ideal S20992x7168 .bf16) (W : FVec Ideal S8x7168x2048 .f32) (te : IVec S41 32) (na : IVec S1 32) : FVec Ideal S20992x2048 .f32 :=
  Host.reduceAdd (keptT X W te na) (constant S_ .f32 0x00000000#32) reducesTo_S20992x8x2048_S20992x2048_d1 h_S_

theorem dotT_apply (X : FVec Ideal S20992x7168 .bf16) (W : FVec Ideal S8x7168x2048 .f32) (r : Fin 20992) (e : Fin 8) (n : Fin 2048) : dotT X W (ix3 r e n) = dotAt X W r e n := by
  unfold dotAt
  pointwise [dotT]

theorem ofBool_one_iff (b : Bool) : BitVec.ofBool b = 1#1 ↔ b = true := by revert b; decide

theorem expert_iff (w : BitVec 32) (hw : w.toNat < 8) (e : Fin 8) : IntOp.cmpi .eq w (BitVec.ofNat 32 e.val) = 1#1 ↔ w.toNat % 8 = e.val := by
  show BitVec.ofBool (w == BitVec.ofNat 32 e.val) = 1#1 ↔ _
  rw [ofBool_one_iff, beq_iff_eq, ← BitVec.toNat_inj, BitVec.toNat_ofNat]
  omega

theorem tile_iff : ∀ (n : Fin 41) (k : Fin 42), IntOp.cmpi .slt (BitVec.ofNat 32 n.val) (BitVec.ofNat 32 k.val) = 1#1 ↔ n.val < k.val := by decide +kernel

theorem chosenT_iff (te : IVec S41 32) (na : IVec S1 32) (h : InRange te na) (r : Fin 20992) (e : Fin 8) (n : Fin 2048) :
    chosenT te na (ix3 r e n) = 1#1 ↔ expertOf te (tileOf r) = e ∧ (tileOf r).val < (na (ix1 0)).toNat := by
  have q : chosenT te na (ix3 r e n) = IntOp.andi (IntOp.cmpi .eq (te (ix1 (tileOf r))) (BitVec.ofNat 32 e.val)) (IntOp.cmpi .slt (BitVec.ofNat 32 (tileOf r).val) (na (ix1 0))) := by
    pointwise [chosenT]
    rfl
  have n2 := (h.2 (ix1 0)).2
  have u : na (ix1 0) = BitVec.ofNat 32 (na (ix1 0)).toNat := by simp
  have v := tile_iff (tileOf r) ⟨(na (ix1 0)).toNat, by omega⟩
  rw [← u] at v
  rw [q, IntOp.andi_eq_one, v, expert_iff _ (h.1 _)]
  exact and_congr_left' (Fin.ext_iff (a := expertOf te (tileOf r)) (b := e)).symm

theorem keptT_apply (X : FVec Ideal S20992x7168 .bf16) (W : FVec Ideal S8x7168x2048 .f32) (te : IVec S41 32) (na : IVec S1 32) (r : Fin 20992) (e : Fin 8) (n : Fin 2048) : keptT X W te na (ix3 r e n) = if chosenT te na (ix3 r e n) = 1#1 then dotAt X W r e n else 0 := by
  rw [← dotT_apply]
  pointwise [keptT]
  show (if chosenT te na (ix3 r e n) = 1#1 then dotT X W (ix3 r e n) else Ideal.ofBits .f32 0x00000000#32) = _
  rw [Ideal.ofBits_zero_f32]

theorem resT_apply (X : FVec Ideal S20992x7168 .bf16) (W : FVec Ideal S8x7168x2048 .f32) (te : IVec S41 32) (na : IVec S1 32) (r : Fin 20992) (n : Fin 2048) : resT X W te na (ix2 r n) = ∑ e : Fin 8, keptT X W te na (ix3 r e n) := by
  pointwise [resT]

/-- Only a row's own expert is counted. -/
theorem resT_eq (X : FVec Ideal S20992x7168 .bf16) (W : FVec Ideal S8x7168x2048 .f32) (te : IVec S41 32) (na : IVec S1 32) (h : InRange te na) (r : Fin 20992) (n : Fin 2048) : resT X W te na (ix2 r n) = experts X W te na r n := by
  rw [resT_apply]
  have k : ∀ e : Fin 8, keptT X W te na (ix3 r e n) = if expertOf te (tileOf r) = e then (if (tileOf r).val < (na (ix1 0)).toNat then dotAt X W r e n else 0) else 0 := fun e => by
    rw [keptT_apply]
    simp only [chosenT_iff te na h, ite_and]
  rw [Finset.sum_congr rfl fun e _ => k e, Finset.sum_ite_eq, if_pos (Finset.mem_univ _)]
  rfl

theorem res_eq (X : FVec Ideal S20992x7168 .bf16) (W : FVec Ideal S8x7168x2048 .f32) (te : IVec S41 32) (na : IVec S1 32) (h : InRange te na) : resT X W te na = fun j => experts X W te na (j 0) (j 1) := by
  funext j
  obtain ⟨r, n, rfl⟩ : ∃ (r : Fin 20992) (n : Fin 2048), j = ix2 r n := ⟨j 0, j 1, by funext b; fin_cases b <;> rfl⟩
  exact resT_eq X W te na h r n

end Cert.Reference3Ideal.Experts
end
-- ==== Proof.QkvIdealBody.lean ====
module
public import proofs.«01_k».proof.Proof.Gen.Kernel4Ideal.Skeleton
public import proofs.«01_k».proof.Proof.Gen.Kernel4Ideal.Launch
public import Idealize.ShloMosaic.Lib.Pipeline.Frame
public import Idealize.ShloMosaic.Lib.Pipeline.FrameBody
public import Idealize.ShloMosaic.Lib.Writes
public import Idealize.ShloMosaic.Lib.Pipeline.Value
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

/-! One call of the body of the product of the rows with their projection weights: what it leaves, by the two decisions it makes. -/

@[expose] public section
set_option maxRecDepth 16384
set_option Elab.async false
noncomputable section
namespace Cert.Kernel4Ideal.Rows
open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The two tables and the scratch, whole. -/
abbrev tabE : Memref sig .tc .smem S8 .i32 := Memref.whole main_v2
abbrev tabN : Memref sig .tc .smem S1 .i32 := Memref.whole main_v3
abbrev scrG : Memref sig .tc .vmem S1024x2048 .bf16 := Memref.whole cc0_scratch0

/-- The words the body reads: the expert of its tile, the expert of the tile before, the number of tiles in use. -/
abbrev wordE (T0 : S8.Idx → Elt F .i32) (i : grid0.Coords) : BitVec 32 :=
  View.readAt (Elt F) tabE.view (Rect.unit (s := S8) (k0_off1 i) S1.size (k0_off1_inb i)).toLoadRect T0 (Shape.Idx.first (numel1_S1.symm ▸ Nat.one_pos))
abbrev wordP (T0 : S8.Idx → Elt F .i32) (i : grid0.Coords) : BitVec 32 :=
  View.readAt (Elt F) tabE.view (Rect.unit (s := S8) (k0_off2 i) S1.size (k0_off2_inb i)).toLoadRect T0 (Shape.Idx.first (numel1_S1.symm ▸ Nat.one_pos))
abbrev wordN (T1 : S1.Idx → Elt F .i32) : BitVec 32 :=
  View.readAt (Elt F) tabN.view (Rect.unit (s := S1) ![0] S1.size inb_S1_S1_0).toLoadRect T1 (Shape.Idx.first (numel1_S1.symm ▸ Nat.one_pos))

/-- Whether the body casts its weights anew. -/
abbrev Fresh (T0 : S8.Idx → Elt F .i32) (i : grid0.Coords) : Prop :=
  Scalar.cmpi .ne (Scalar.extui (Scalar.ori (Scalar.cmpi .eq (BitVec.ofNat 32 (i 1).val) 0#32) (Scalar.cmpi .ne (wordE T0 i) (wordP T0 i)))) 0#32 = 1#1

/-- Whether its tile is in use. -/
abbrev Used (T1 : S1.Idx → Elt F .i32) (i : grid0.Coords) : Prop := k0_cond3 i (wordN T1) = 1#1

theorem cond1_iff (i : grid0.Coords) (v : BitVec 32) : k0_cond1 i v = 1#1 ↔ ¬ k0_cond3 i v = 1#1 := by
  unfold k0_cond1 k0_cond3
  dsimp only
  generalize Scalar.cmpi .slt (BitVec.ofNat 32 (i 1).val) v = b
  revert b; decide

/-- What the body leaves in the scratch and the result's block. -/
def castG (T0 : S8.Idx → Elt F .i32) (i : grid0.Coords) (x1 : S1x1024x2048.Idx → Elt F .f32) (a : S1024x2048.Idx → Elt F .bf16) : S1024x2048.Idx → Elt F .bf16 :=
  if Fresh T0 i then k0_pay2 (F := F) x1 else a
def left (T1 : S1.Idx → Elt F .i32) (i : grid0.Coords) (x0 : S1088x2048.Idx → Elt F .bf16) (g : S1024x2048.Idx → Elt F .bf16) : S1088x1024.Idx → Elt F .f32 :=
  if Used T1 i then k0_pay3 (F := F) x0 g else k0_pay1 (F := F)

theorem zeros2 : (![0, 0] : Fin 2 → ℕ) = fun _ => 0 := by funext a; fin_cases a <;> rfl
theorem zeros3 : (![0, 0, 0] : Fin 3 → ℕ) = fun _ => 0 := by funext a; fin_cases a <;> rfl

/-- A block stored whole, read whole. -/
theorem canonO (h) (w : S1088x1024.Idx → Elt F .f32) :
    View.canon [(⟨Rect.unit (s := S1088x1024) ![0, 0] ![1088, 1024] h, w⟩ : View.Piece (Elt F) S1088x1024 .f32)] = w :=
  View.canon_unit_zero (S := S1088x1024) zeros2 h w
theorem ldX (h) (w : S1088x2048.Idx → Elt F .bf16) : View.ld w (Rect.unit (s := S1088x2048) ![0, 0] ![1088, 2048] h) = w := View.ld_unit_zero (S := S1088x2048) zeros2 h w
theorem ldW (h) (w : S1x1024x2048.Idx → Elt F .f32) : View.ld w (Rect.unit (s := S1x1024x2048) ![0, 0, 0] ![1, 1024, 2048] h) = w := View.ld_unit_zero (S := S1x1024x2048) zeros3 h w
theorem ldS (h) (w : S1024x2048.Idx → Elt F .bf16) : View.ld w (Rect.unit (s := S1024x2048) ![0, 0] ![1024, 2048] h) = w := View.ld_unit_zero (S := S1024x2048) zeros2 h w
theorem canonS (h) (w : S1024x2048.Idx → Elt F .bf16) :
    View.canon [(⟨Rect.unit (s := S1024x2048) ![0, 0] ![1024, 2048] h, w⟩ : View.Piece (Elt F) S1024x2048 .bf16)] = w :=
  View.canon_unit_zero (S := S1024x2048) zeros2 h w
abbrev vG : View sig .tc .vmem S1024x2048 .bf16 := View.whole cc0_scratch0
theorem readG (a : S1024x2048.Idx → Elt F .bf16) : View.read (Elt F) vG a = a := rfl
theorem writesG (h) (w : S1024x2048.Idx → Elt F .bf16) :
    vG.writes (Elt F) vG.junk [(⟨Rect.unit (s := S1024x2048) ![0, 0] ![1024, 2048] h, w⟩ : View.Piece (Elt F) S1024x2048 .bf16)] = w := by
  have e := View.read_writes_junk_eq_canon (Val := Elt F) vG [(⟨Rect.unit (s := S1024x2048) ![0, 0] ![1024, 2048] h, w⟩ : View.Piece (Elt F) S1024x2048 .bf16)]
  rw [canonS] at e
  generalize vG.writes (Elt F) vG.junk _ = X at e ⊢
  exact e
set_option backward.proofsInPublic true in
set_option maxHeartbeats 1000000 in
theorem body_run (c : Dev nD) (i : grid0.Coords) (arg4 : Memref sig .tc .vmem S1088x2048 .bf16) (harg4 : arg4.IsWhole) (arg5 : Memref sig .tc .vmem S1x1024x2048 .f32) (harg5 : arg5.IsWhole) (arg7 : Memref sig .tc .vmem S1088x1024 .f32) (harg7 : arg7.IsWhole) (T0 : S8.Idx → Elt F .i32) (T1 : S1.Idx → Elt F .i32)
    (x0 : S1088x2048.Idx → Elt F .bf16) (x1 : S1x1024x2048.Idx → Elt F .f32) (a8 : S1024x2048.Idx → Elt F .bf16) (K : PUnit → sProp (MT nD τ sig Unit (Elt F) ℕ (UR sig nD τ) ℕ)) :
    iprop((arg4.view.loc (c : Thread nD τ) ↦[arg4.view.set]{fullShare} arg4.view.rep x0)
      ∗ (arg5.view.loc (c : Thread nD τ) ↦[arg5.view.set]{fullShare} arg5.view.rep x1)
      ∗ (tabE.view.loc (c : Thread nD τ) ↦{fullShare.right} T0)
      ∗ (tabN.view.loc (c : Thread nD τ) ↦{fullShare.right} T1)
      ∗ (∃ d, owns (c : Thread nD τ) arg7 fullShare d)
      ∗ (scrG.view.loc (c : Thread nD τ) ↦{fullShare} a8)
      ∗ (iprop((arg4.view.loc (c : Thread nD τ) ↦[arg4.view.set]{fullShare} arg4.view.rep x0)
          ∗ (arg5.view.loc (c : Thread nD τ) ↦[arg5.view.set]{fullShare} arg5.view.rep x1)
              ∗ (tabE.view.loc (c : Thread nD τ) ↦{fullShare.right} T0)
          ∗ (tabN.view.loc (c : Thread nD τ) ↦{fullShare.right} T1)
          ∗ owns (c : Thread nD τ) arg7 fullShare (left T1 i x0 (castG T0 i x1 a8))
          ∗ (scrG.view.loc (c : Thread nD τ) ↦{fullShare} castG T0 i x1 a8)) -∗ K ⟨⟩))
      ⊢ wp frame (wpE (defs₀ (F := F)) Variants.none c none) Set.univ (cc0_fox_qkv i tabE (Memref.isWhole_whole _) tabN (Memref.isWhole_whole _) arg4 harg4 arg5 harg5 arg7 harg7 scrG (Memref.isWhole_whole _)) K := by
  unfold owns
  rw [cc0_fox_qkv_eq_skeleton]; unfold cc0_fox_qkv_skel
  have hS0 : scrG.IsWhole := Memref.isWhole_whole _
  have hT0 : tabE.IsWhole := Memref.isWhole_whole _
  have hT1 : tabN.IsWhole := Memref.isWhole_whole _
  by_cases h3 : Used T1 i
  · have h1 : ¬ k0_cond1 i (wordN T1) = 1#1 := fun h => (cond1_iff _ _).1 h h3
    by_cases hn : Fresh T0 i
    · iintro ⟨H0, H1, HT0, HT1, ⟨%d2, %f2, -, HO2⟩, HS0, Hk⟩
      sl_exec! (disch := first | (guard_target = ¬(k0_cond1 _ _ = _); exact h1) | (guard_target = Scalar.cmpi = _; exact hn) | (guard_target = k0_cond3 _ _ = _; exact h3))
      sl_step
      unfold left castG
      simp only [if_pos hn, if_pos h3]
      sl_unfold_words
      simp only [View.readAt_eq_ld, View.read_rep, View.readCov_cons_toLoadRect, readG, ldX, ldW, ldS, writesG]
      iapply Hk
      isplitl [H0]; · iexact H0
      isplitl [H1]; · iexact H1
      isplitl [HT0]; · iexact HT0
      isplitl [HT1]; · iexact HT1
      isplitl [HO2]
      · iexists _; isplitr; swap
        · iexact HO2
        · ipureintro; exact (View.read_writes_junk_eq_canon _ _).trans (canonO _ _)
      iexact HS0
    · iintro ⟨H0, H1, HT0, HT1, ⟨%d2, %f2, -, HO2⟩, HS0, Hk⟩
      sl_exec! (disch := first | (guard_target = ¬(k0_cond1 _ _ = _); exact h1) | (guard_target = ¬(Scalar.cmpi = _); exact hn) | (guard_target = k0_cond3 _ _ = _; exact h3))
      sl_step
      unfold left castG
      simp only [if_neg hn, if_pos h3]
      sl_unfold_words
      simp only [View.readAt_eq_ld, View.read_rep, View.readCov_cons_toLoadRect, readG, ldX, ldW, ldS, writesG]
      iapply Hk
      isplitl [H0]; · iexact H0
      isplitl [H1]; · iexact H1
      isplitl [HT0]; · iexact HT0
      isplitl [HT1]; · iexact HT1
      isplitl [HO2]
      · iexists _; isplitr; swap
        · iexact HO2
        · ipureintro; exact (View.read_writes_junk_eq_canon _ _).trans (canonO _ _)
      iexact HS0
  · have h1 : k0_cond1 i (wordN T1) = 1#1 := (cond1_iff _ _).2 h3
    by_cases hn : Fresh T0 i
    · iintro ⟨H0, H1, HT0, HT1, ⟨%d2, %f2, -, HO2⟩, HS0, Hk⟩
      sl_exec! (disch := first | (guard_target = k0_cond1 _ _ = _; exact h1) | (guard_target = Scalar.cmpi = _; exact hn) | (guard_target = ¬(k0_cond3 _ _ = _); exact h3))
      sl_step
      unfold left castG
      simp only [if_pos hn, if_neg h3]
      sl_unfold_words
      simp only [View.readAt_eq_ld, View.read_rep, View.readCov_cons_toLoadRect, readG, ldX, ldW, ldS, writesG]
      iapply Hk
      isplitl [H0]; · iexact H0
      isplitl [H1]; · iexact H1
      isplitl [HT0]; · iexact HT0
      isplitl [HT1]; · iexact HT1
      isplitl [HO2]
      · iexists _; isplitr; swap
        · iexact HO2
        · ipureintro; exact (View.read_writes_junk_eq_canon _ _).trans (canonO _ _)
      iexact HS0
    · iintro ⟨H0, H1, HT0, HT1, ⟨%d2, %f2, -, HO2⟩, HS0, Hk⟩
      sl_exec! (disch := first | (guard_target = k0_cond1 _ _ = _; exact h1) | (guard_target = ¬(Scalar.cmpi = _); exact hn) | (guard_target = ¬(k0_cond3 _ _ = _); exact h3))
      sl_step
      unfold left castG
      simp only [if_neg hn, if_neg h3]
      sl_unfold_words
      simp only [View.readAt_eq_ld, View.read_rep, View.readCov_cons_toLoadRect, readG, ldX, ldW, ldS, writesG]
      iapply Hk
      isplitl [H0]; · iexact H0
      isplitl [H1]; · iexact H1
      isplitl [HT0]; · iexact HT0
      isplitl [HT1]; · iexact HT1
      isplitl [HO2]
      · iexists _; isplitr; swap
        · iexact HO2
        · ipureintro; exact (View.read_writes_junk_eq_canon _ _).trans (canonO _ _)
      iexact HS0
end Cert.Kernel4Ideal.Rows
end
-- ==== Proof.QkvIdealLaunch.lean ====
module
public import proofs.«01_k».proof.Proof.QkvIdealBody
public import Idealize.ShloMosaic.Lib.Pipeline.TableIdle
public import Idealize.ShloMosaic.Lib.Pipeline.Kit
public import Idealize.ShloMosaic.Lib.Pipeline.FrameSuffix

/-! The product of the rows with their projection weights over its whole grid: the tables fixed, what the scratch holds between points, the launch. -/

@[expose] public section
set_option maxRecDepth 16384
set_option Elab.async false
noncomputable section
namespace Cert.Kernel4Ideal.Rows
open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-! ## The grid's points -/

theorem coords0 : ∀ t : Fin grid0.N, ((grid0.coords t) 0).val = t.val / 8 ∧ ((grid0.coords t) 1).val = t.val % 8 := by decide +kernel

theorem off1_eq (i : grid0.Coords) : k0_off1 i = ![(i 1).val] := by
  have h : ∀ n : Fin 8, (Scalar.indexCast (BitVec.ofNat 32 n.val) : Index).toNat = n.val := by decide
  unfold k0_off1; exact congrArg (fun n => ![n]) (h (i 1))
theorem off2_eq (i : grid0.Coords) (h0 : (i 1).val ≠ 0) : k0_off2 i = ![(i 1).val - 1] := by
  have h : ∀ n : Fin 8, n.val ≠ 0 → (Scalar.indexCast (Scalar.maxsi (Scalar.subi (BitVec.ofNat 32 n.val) 1#32) 0#32) : Index).toNat = n.val - 1 := by decide
  unfold k0_off2; exact congrArg (fun n => ![n]) (h (i 1) h0)

/-- A table read at equal offsets reads the same word. -/
theorem word_congr (T0 : S8.Idx → Elt F .i32) {o o' : Fin 1 → ℕ} (e : o = o') (h : ∀ a, o a + S1.size a ≤ S8.size a) (h' : ∀ a, o' a + S1.size a ≤ S8.size a) :
    View.readAt (Elt F) tabE.view (Rect.unit (s := S8) o S1.size h).toLoadRect T0 (Shape.Idx.first (numel1_S1.symm ▸ Nat.one_pos))
      = View.readAt (Elt F) tabE.view (Rect.unit (s := S8) o' S1.size h').toLoadRect T0 (Shape.Idx.first (numel1_S1.symm ▸ Nat.one_pos)) := by
  subst e; rfl

theorem ne_word (x y : BitVec 32) (h : x ≠ y) : Scalar.cmpi .ne x y = 1#1 := by
  show BitVec.ofBool (x != y) = 1#1
  rw [bne_iff_ne.2 h]; rfl

/-- Where the body keeps its cast weights, the tile is not the first and its expert is the one before's. -/
theorem of_not_fresh (T0 : S8.Idx → Elt F .i32) (i : grid0.Coords) (h : ¬ Fresh T0 i) : (i 1).val ≠ 0 ∧ wordE T0 i = wordP T0 i := by
  have k : ∀ p q : BitVec 1, ¬ (Scalar.cmpi .ne (Scalar.extui (Scalar.ori p q) : BitVec 32) 0#32 = 1#1) → ¬ p = 1#1 ∧ ¬ q = 1#1 := by decide
  obtain ⟨hp, hq⟩ := k _ _ h
  have k0 : ∀ n : Fin 8, ¬ Scalar.cmpi .eq (BitVec.ofNat 32 n.val) 0#32 = 1#1 → n.val ≠ 0 := by decide
  refine ⟨k0 (i 1) hp, ?_⟩
  by_contra hne
  exact hq (ne_word _ _ hne)

/-! ## The pipeline at admissible tables -/

variable (a : (pcfg0 (F := F)).Adm)

abbrev cfgA : Pipeline.Cfg sig Λ₀ := cfg0 (F := F) a
abbrev pcs : Fin 1 → Pipeline.Cfg sig Λ₀ := Pipeline.pin (pcfgs (F := F)) fun _ => a
abbrev tab0 : S8.Idx → Elt F .i32 := a.1 0
abbrev tab1 : S1.Idx → Elt F .i32 := a.1 1

variable (m : (ℓ : Loc nD τ sig) → Buf (Elt F) ℓ) (ρ : Dev nD → PrngReg)

abbrev crd (t : Fin (cfgA a).N) : grid0.Coords := (cfgA a).grid.coords t
abbrev ms0_0 (t : Fin (cfgA a).N) : Memref sig .tc .vmem S1088x2048 .bf16 := spec0_0.stage ((cfgA a).slots t (0 : Fin 3))
abbrev hs0_0 (t : Fin (cfgA a).N) : (ms0_0 a t).IsWhole := hstage0_0 (((cfgA a).slots t (0 : Fin 3)).cast nbuf0_0)
abbrev ms0_1 (t : Fin (cfgA a).N) : Memref sig .tc .vmem S1x1024x2048 .f32 := spec0_1.stage ((cfgA a).slots t (1 : Fin 3))
abbrev hs0_1 (t : Fin (cfgA a).N) : (ms0_1 a t).IsWhole := hstage0_1 (((cfgA a).slots t (1 : Fin 3)).cast nbuf0_1)
abbrev ms0_2 (t : Fin (cfgA a).N) : Memref sig .tc .vmem S1088x1024 .f32 := spec0_2.stage ((cfgA a).slots t (2 : Fin 3))
abbrev hs0_2 (t : Fin (cfgA a).N) : (ms0_2 a t).IsWhole := hstage0_2 (((cfgA a).slots t (2 : Fin 3)).cast nbuf0_2)

/-- Window `w`'s block at point `t`, read off its array at launch. -/
def iblk (c : Dev nD) (w : Fin (cfgA a).W) (t : Fin (cfgA a).N) : (((cfgA a).win w).xblock ((cfgA a).grid.coords t)).Idx → Elt F ((cfgA a).win w).elt :=
  (((cfgA a).win w).blk t).view.read (Elt F) (m (((cfgA a).win w).arr.view.loc (c : Thread nD τ)))

/-- The weights' block at given block indices. -/
def wAt (c : Dev nD) (v : Fin 3 → ℕ) (h : ∀ b, (v b + 1) * S1x1024x2048.size b ≤ S1x3072x2048.size b) : S1x1024x2048.Idx → Elt F .f32 :=
  ((Memref.whole main_v1 : Memref sig .tc .hbm S1x3072x2048 .f32).slice (Rect.block (s := S1x3072x2048) S1x1024x2048.size v h) fun _ => rfl).view.read (Elt F) (m ((c : Thread nD τ).loc main_v1))
theorem wAt_congr (c : Dev nD) {v v' : Fin 3 → ℕ} (e : v = v') (h h') : wAt m c v h = wAt m c v' h' := by subst e; rfl

theorem iblk1_eq (c : Dev nD) (t : Fin (cfgA a).N) : iblk a m c (1 : Fin 3) t = wAt m c (cc0_transform_1 k0_off1_inb numel1_S1 a.1 (crd a t)) (fun b => hinb0 a.1 a.2 1 (crd a t) b) := rfl
theorem tr1_eq (pf : pre0.Contents (Elt F)) (i : grid0.Coords) : cc0_transform_1 k0_off1_inb numel1_S1 pf i = ![(wordE (pf 0) i).toNat, (BitVec.ofNat 32 (i 0).val).toNat, (0#32).toNat] := rfl
/-- Where the body keeps its cast weights, the point before has the same block of weights. -/
theorem stay (t : Fin (cfgA a).N) (h : ¬ Fresh (tab0 a) (crd a t)) : ∃ h0 : t.val ≠ 0,
    wordE (tab0 a) (crd a t) = wordE (tab0 a) (crd a ⟨t.val - 1, by omega⟩) ∧ (crd a t 0).val = (crd a ⟨t.val - 1, by omega⟩ 0).val := by
  obtain ⟨h1, h2⟩ := of_not_fresh _ _ h
  have e := coords0 t
  have h1' : t.val % 8 ≠ 0 := by rw [← e.2]; exact h1
  have h0 : t.val ≠ 0 := fun h => h1' (by rw [h])
  have e' := coords0 ⟨t.val - 1, by omega⟩
  refine ⟨h0, h2.trans (word_congr _ ?_ _ _), ?_⟩
  · rw [off2_eq _ h1, off1_eq]
    refine congrArg (fun n => ![n]) ?_
    refine (congrArg (· - 1) e.2).trans (Eq.trans ?_ e'.2.symm)
    show t.val % 8 - 1 = (t.val - 1) % 8
    omega
  · refine e.1.trans (Eq.trans ?_ e'.1.symm)
    show t.val / 8 = (t.val - 1) / 8
    omega

theorem stay1 (c : Dev nD) (t : Fin (cfgA a).N) (h : ¬ Fresh (tab0 a) (crd a t)) (h0 : t.val - 1 < (cfgA a).N) :
    (iblk a m c (1 : Fin 3) t : S1x1024x2048.Idx → Elt F .f32) = iblk a m c (1 : Fin 3) ⟨t.val - 1, h0⟩ := by
  obtain ⟨_, e, e'⟩ := stay a t h
  rw [iblk1_eq, iblk1_eq]
  exact wAt_congr m c (by rw [tr1_eq, tr1_eq, e, e']) _ _
/-- What the scratch holds after point `t`. -/
def heldG (c : Dev nD) (t : Fin (cfgA a).N) : S1024x2048.Idx → Elt F .bf16 := k0_pay2 (F := F) (iblk a m c (1 : Fin 3) t)
theorem castG_eq (c : Dev nD) (t : Fin (cfgA a).N) (a8 : S1024x2048.Idx → Elt F .bf16) (hh : ∀ s : Fin (cfgA a).N, s.val + 1 = t.val → a8 = heldG a m c s) :
    castG (tab0 a) (crd a t) (iblk a m c (1 : Fin 3) t) a8 = heldG a m c t := by
  by_cases hn : Fresh (tab0 a) (crd a t)
  · exact if_pos hn
  · obtain ⟨h0, -⟩ := stay a t hn
    refine (if_neg hn).trans ((hh ⟨t.val - 1, by omega⟩ (Nat.succ_pred_eq_of_ne_zero h0)).trans ?_)
    exact congrArg (k0_pay2 (F := F)) (stay1 a m c t hn (by omega)).symm
/-- What the result's block holds after point `t`. -/
def outAt (c : Dev nD) (t : Fin (cfgA a).N) : S1088x1024.Idx → Elt F .f32 :=
  left (tab1 a) (crd a t) (iblk a m c (0 : Fin 3) t) (heldG a m c t)

/-- Between points: the scratch as the point before left them, the body's halves of the tables, the random register. -/
def Phi (c : Dev nD) (t : Fin ((cfgA a).N + 1)) : sProp (MT nD τ sig Unit (Elt F) ℕ (UR sig nD τ) ℕ) :=
  iprop((∃ a8 : S1024x2048.Idx → Elt F .bf16, ⌜∀ s : Fin (cfgA a).N, s.val + 1 = t.val → a8 = heldG a m c s⌝
      ∗ (scrG.view.loc (c : Thread nD τ) ↦{fullShare} a8))
    ∗ (tabE.view.loc (c : Thread nD τ) ↦{fullShare.right} tab0 a) ∗ (tabN.view.loc (c : Thread nD τ) ↦{fullShare.right} tab1 a)
    ∗ ∃ r, prngReg c r)

def dats (_ : Fin 1) (c : Dev nD) : Dat τ (Elt F) Unit ℕ (UR sig nD τ) ℕ (cfgA a) c where
  A w := m (((cfgA a).win w).arr.view.loc (c : Thread nD τ))
  after w t := match w with
    | ⟨0, _⟩ => iblk a m c (0 : Fin 3) t
    | ⟨1, _⟩ => iblk a m c (1 : Fin 3) t
    | ⟨2, _⟩ => outAt a m c t
  Φ t := Phi a m c t
  q _ := fullShare
  owed _ := 0

theorem after0_0 (c : Dev nD) (t : Fin (cfgA a).N) : (dats a m 0 c).after (0 : Fin 3) t = iblk a m c (0 : Fin 3) t := rfl
theorem after0_1 (c : Dev nD) (t : Fin (cfgA a).N) : (dats a m 0 c).after (1 : Fin 3) t = iblk a m c (1 : Fin 3) t := rfl
theorem after0_2 (c : Dev nD) (t : Fin (cfgA a).N) : (dats a m 0 c).after (2 : Fin 3) t = outAt a m c t := rfl

theorem before0_0 (c : Dev nD) (t : Fin (cfgA a).N) (d) : (dats a m 0 c).before (0 : Fin 3) t d = iblk a m c (0 : Fin 3) t :=
  ((dats a m 0 c).before_in_eq_fetched (0 : Fin 3) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA a).N) (d) : (dats a m 0 c).before (1 : Fin 3) t d = iblk a m c (1 : Fin 3) t :=
  ((dats a m 0 c).before_in_eq_fetched (1 : Fin 3) rfl (fun _ => rfl) (fun _ _ _ => rfl) (fun t => by rw [after0_1]; unfold Dat.blockOf iblk; rfl) t d).trans
    (by unfold Dat.fetched Dat.blockOf iblk; rfl)
/-- The result's block is stored at every point. -/
theorem idle2 (t : Fin (cfgA a).N) : (cfgA a).idle (2 : Fin 3) ((cfgA a).grid.coords t) = false := by
  have k : ∀ i v, (!(k0_cond1 i v == 1#1) && !(k0_cond3 i v == 1#1)) = false := by
    intro i v
    by_cases h : k0_cond3 i v = 1#1
    · rw [h]; simp
    · rw [(cond1_iff i v).2 h]; simp
  exact k _ _

abbrev bodyAt0 (t : Fin (cfgA a).N) : Prog (TpuEff nD τ sig (Elt F) Λ₀ .tc) PUnit :=
  cc0_fox_qkv (crd a t) tabE (Memref.isWhole_whole _) tabN (Memref.isWhole_whole _) (ms0_0 a t) (hs0_0 a t) (ms0_1 a t) (hs0_1 a t) (ms0_2 a t) (hs0_2 a t) scrG (Memref.isWhole_whole _)

/-- The body's run, its two results under other names. -/
theorem body_run_as (c : Dev nD) (i : grid0.Coords) (arg4 : Memref sig .tc .vmem S1088x2048 .bf16) (harg4 : arg4.IsWhole) (arg5 : Memref sig .tc .vmem S1x1024x2048 .f32) (harg5 : arg5.IsWhole) (arg7 : Memref sig .tc .vmem S1088x1024 .f32) (harg7 : arg7.IsWhole) (T0 : S8.Idx → Elt F .i32) (T1 : S1.Idx → Elt F .i32)
    (x0 : S1088x2048.Idx → Elt F .bf16) (x1 : S1x1024x2048.Idx → Elt F .f32) (a8 g : S1024x2048.Idx → Elt F .bf16) (o : S1088x1024.Idx → Elt F .f32)
    (hg : castG T0 i x1 a8 = g) (ho : left T1 i x0 g = o)
    (K : PUnit → sProp (MT nD τ sig Unit (Elt F) ℕ (UR sig nD τ) ℕ)) :
    iprop(owns (c : Thread nD τ) arg4 fullShare x0 ∗ owns (c : Thread nD τ) arg5 fullShare x1
      ∗ (tabE.view.loc (c : Thread nD τ) ↦{fullShare.right} T0)
      ∗ (tabN.view.loc (c : Thread nD τ) ↦{fullShare.right} T1)
      ∗ (∃ d, owns (c : Thread nD τ) arg7 fullShare d)
      ∗ (scrG.view.loc (c : Thread nD τ) ↦{fullShare} a8)
      ∗ (iprop(owns (c : Thread nD τ) arg4 fullShare x0 ∗ owns (c : Thread nD τ) arg5 fullShare x1
          ∗ (tabE.view.loc (c : Thread nD τ) ↦{fullShare.right} T0)
          ∗ (tabN.view.loc (c : Thread nD τ) ↦{fullShare.right} T1)
          ∗ owns (c : Thread nD τ) arg7 fullShare o
          ∗ (scrG.view.loc (c : Thread nD τ) ↦{fullShare} g)) -∗ K ⟨⟩))
      ⊢ wp frame (wpE (defs₀ (F := F)) Variants.none c none) Set.univ (cc0_fox_qkv i tabE (Memref.isWhole_whole _) tabN (Memref.isWhole_whole _) arg4 harg4 arg5 harg5 arg7 harg7 scrG (Memref.isWhole_whole _)) K := by
  subst hg ho
  iintro ⟨H0, H1, HT0, HT1, H3, HS0, Hk⟩
  iapply (body_run c i arg4 harg4 arg5 harg5 arg7 harg7 T0 T1 x0 x1 a8 K)
  isplitl [H0]; · iapply rep_of_owns; iexact H0
  isplitl [H1]; · iapply rep_of_owns; iexact H1
  isplitl [HT0]; · iexact HT0
  isplitl [HT1]; · iexact HT1
  isplitl [H3]; · iexact H3
  isplitl [HS0]; · iexact HS0
  iintro ⟨H0, H1, HT0, HT1, H3, HS0⟩
  iapply Hk
  isplitl [H0]; · iapply owns_of_rep; iexact H0
  isplitl [H1]; · iapply owns_of_rep; iexact H1
  isplitl [HT0]; · iexact HT0
  isplitl [HT1]; · iexact HT1
  isplitl [H3]; · iexact H3
  iexact HS0

/-- The body's run between two states of the scratch, whatever else is held beside it. -/
theorem core (c : Dev nD) (i : grid0.Coords) (arg4 : Memref sig .tc .vmem S1088x2048 .bf16) (harg4 : arg4.IsWhole) (arg5 : Memref sig .tc .vmem S1x1024x2048 .f32) (harg5 : arg5.IsWhole) (arg7 : Memref sig .tc .vmem S1088x1024 .f32) (harg7 : arg7.IsWhole) (T0 : S8.Idx → Elt F .i32) (T1 : S1.Idx → Elt F .i32)
    (x0 : S1088x2048.Idx → Elt F .bf16) (x1 : S1x1024x2048.Idx → Elt F .f32) (g : S1024x2048.Idx → Elt F .bf16) (o : S1088x1024.Idx → Elt F .f32)
    (Hp Hn : (S1024x2048.Idx → Elt F .bf16) → Prop)
    (hg : ∀ a8, Hp a8 → castG T0 i x1 a8 = g) (ho : left T1 i x0 g = o) (hn : Hn g)
    (P R : sProp (MT nD τ sig Unit (Elt F) ℕ (UR sig nD τ) ℕ)) (bf : (S1088x1024.Idx → Elt F .f32) → (S1088x1024.Idx → Elt F .f32)) :
    iprop(((∃ a8 : S1024x2048.Idx → Elt F .bf16, ⌜Hp a8⌝ ∗ (scrG.view.loc (c : Thread nD τ) ↦{fullShare} a8))
          ∗ (tabE.view.loc (c : Thread nD τ) ↦{fullShare.right} T0) ∗ (tabN.view.loc (c : Thread nD τ) ↦{fullShare.right} T1) ∗ R)
        ∗ P
        ∗ (∃ d : S1088x2048.Idx → Elt F .bf16, owns (c : Thread nD τ) arg4 fullShare x0)
        ∗ (∃ d : S1x1024x2048.Idx → Elt F .f32, owns (c : Thread nD τ) arg5 fullShare x1)
        ∗ (∃ d : S1088x1024.Idx → Elt F .f32, owns (c : Thread nD τ) arg7 fullShare (bf d)))
      ⊢ wp frame (wpE (defs₀ (F := F)) Variants.none c none) Set.univ (cc0_fox_qkv i tabE (Memref.isWhole_whole _) tabN (Memref.isWhole_whole _) arg4 harg4 arg5 harg5 arg7 harg7 scrG (Memref.isWhole_whole _)) fun _ =>
          iprop(((∃ a8 : S1024x2048.Idx → Elt F .bf16, ⌜Hn a8⌝ ∗ (scrG.view.loc (c : Thread nD τ) ↦{fullShare} a8))
              ∗ (tabE.view.loc (c : Thread nD τ) ↦{fullShare.right} T0) ∗ (tabN.view.loc (c : Thread nD τ) ↦{fullShare.right} T1) ∗ R)
            ∗ P
            ∗ owns (c : Thread nD τ) arg4 fullShare x0
            ∗ owns (c : Thread nD τ) arg5 fullShare x1

            ∗ owns (c : Thread nD τ) arg7 fullShare o) := by
  iintro ⟨⟨⟨%a8, %hh, HS0⟩, HT0, HT1, Hr⟩, Ho, ⟨%d0, H0⟩, ⟨%d1, H1⟩, ⟨%d3, H3⟩⟩
  iapply (body_run_as c i arg4 harg4 arg5 harg5 arg7 harg7 T0 T1 x0 x1 a8 g o (hg _ hh) ho _)
  isplitl [H0]; · iexact H0
  isplitl [H1]; · iexact H1
  isplitl [HT0]; · iexact HT0
  isplitl [HT1]; · iexact HT1
  isplitl [H3]; · iexists _; iexact H3
  isplitl [HS0]; · iexact HS0
  iintro ⟨H0, H1, HT0, HT1, H3, HS0⟩
  isplitl [HS0 HT0 HT1 Hr]
  · isplitl [HS0]
    · iexists g; isplitr; swap
      · iexact HS0
      · ipureintro; exact hn
    isplitl [HT0]
    · iexact HT0
    isplitl [HT1]
    · iexact HT1
    iexact Hr
  isplitl [Ho]; · iexact Ho
  isplitl [H0]; · iexact H0
  isplitl [H1]; · iexact H1
  iexact H3

theorem held_succ (c : Dev nD) (t : Fin (cfgA a).N) (s : Fin (cfgA a).N) (hs : s.val + 1 = t.succ.val) : heldG a m c t = heldG a m c s := by
  have e : s = t := Fin.ext (Nat.succ.inj hs)
  rw [e]

set_option maxHeartbeats 400000 in
theorem sound_core (c : Dev nD) (t : Fin (cfgA a).N) (P : sProp (MT nD τ sig Unit (Elt F) ℕ (UR sig nD τ) ℕ)) (bf : (S1088x1024.Idx → Elt F .f32) → (S1088x1024.Idx → Elt F .f32)) :
    iprop(Phi a m c t.castSucc ∗ P
        ∗ (∃ d : S1088x2048.Idx → Elt F .bf16, owns (c : Thread nD τ) (ms0_0 a t) fullShare (iblk a m c (0 : Fin 3) t))
        ∗ (∃ d : S1x1024x2048.Idx → Elt F .f32, owns (c : Thread nD τ) (ms0_1 a t) fullShare (iblk a m c (1 : Fin 3) t))
        ∗ (∃ d : S1088x1024.Idx → Elt F .f32, owns (c : Thread nD τ) (ms0_2 a t) fullShare (bf d)))
      ⊢ wp frame (wpE (defs₀ (F := F)) Variants.none c none) Set.univ (bodyAt0 a t) fun _ =>
          iprop(Phi a m c t.succ ∗ P
            ∗ owns (c : Thread nD τ) (ms0_0 a t) fullShare (iblk a m c (0 : Fin 3) t)
            ∗ owns (c : Thread nD τ) (ms0_1 a t) fullShare (iblk a m c (1 : Fin 3) t)
            ∗ owns (c : Thread nD τ) (ms0_2 a t) fullShare (outAt a m c t)) :=
  by
  refine core c (crd a t) (ms0_0 a t) (hs0_0 a t) (ms0_1 a t) (hs0_1 a t) (ms0_2 a t) (hs0_2 a t) (tab0 a) (tab1 a)
    (iblk a m c (0 : Fin 3) t) (iblk a m c (1 : Fin 3) t) (heldG a m c t) (outAt a m c t)
    (fun a8 => ∀ s : Fin (cfgA a).N, s.val + 1 = t.castSucc.val → a8 = heldG a m c s)
    (fun a8 => ∀ s : Fin (cfgA a).N, s.val + 1 = t.succ.val → a8 = heldG a m c s)
    ?_ ?_ ?_ P _ bf
  · exact fun a8 h => castG_eq a m c t a8 fun s hs => h s (by rw [Fin.val_castSucc]; exact hs)
  · unfold outAt; rfl
  · exact held_succ a m c t

set_option maxHeartbeats 400000 in
theorem sound_body (c : Dev nD) (t : Fin (cfgA a).N) :
    iprop((dats a m 0 c).Φ t.castSucc ∗ (dats a m 0 c).owesAt () t.castSucc
        ∗ (∃ d, owns (c : Thread nD τ) (ms0_0 a t) fullShare ((dats a m 0 c).before (0 : Fin 3) t d))
        ∗ (∃ d, owns (c : Thread nD τ) (ms0_1 a t) fullShare ((dats a m 0 c).before (1 : Fin 3) t d))
        ∗ (∃ d, owns (c : Thread nD τ) (ms0_2 a t) fullShare ((dats a m 0 c).before (2 : Fin 3) t d)))
      ⊢ wp frame (wpE (defs₀ (F := F)) Variants.none c none) Set.univ (bodyAt0 a t) fun _ =>
          iprop((dats a m 0 c).Φ t.succ ∗ (dats a m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m 0 c).before w t d))
                  | true => owns (c : Thread nD τ) (((cfgA a).win w).stage ((cfgA a).slots t w)) fullShare ((dats a m 0 c).after w t)
                | false => owns (c : Thread nD τ) (((cfgA a).win w).stage ((cfgA a).slots t w)) fullShare ((dats a m 0 c).after w t)) := by
  rw [bigSep_W0]
  rewrite [idle2 a t]
  show iprop(Phi a m c t.castSucc ∗ (dats a m 0 c).owesAt () t.castSucc
        ∗ (∃ d, owns (c : Thread nD τ) (ms0_0 a t) fullShare ((dats a m 0 c).before (0 : Fin 3) t d))
        ∗ (∃ d, owns (c : Thread nD τ) (ms0_1 a t) fullShare ((dats a m 0 c).before (1 : Fin 3) t d))
        ∗ (∃ d, owns (c : Thread nD τ) (ms0_2 a t) fullShare ((dats a m 0 c).before (2 : Fin 3) t d)))
      ⊢ wp frame (wpE (defs₀ (F := F)) Variants.none c none) Set.univ (bodyAt0 a t) fun _ =>
          iprop(Phi a m c t.succ ∗ (dats a m 0 c).owesAt () t.castSucc
            ∗ owns (c : Thread nD τ) (ms0_0 a t) fullShare (iblk a m c (0 : Fin 3) t)
            ∗ owns (c : Thread nD τ) (ms0_1 a t) fullShare (iblk a m c (1 : Fin 3) t)
            ∗ owns (c : Thread nD τ) (ms0_2 a t) fullShare (outAt a m c t))
  simp only [before0_0, before0_1]
  exact sound_core a m c t _ _

theorem body_obligation (c : Dev nD) : BodyObligation (dats a m 0 c) (defs₀ (F := F)) Variants.none () Set.univ := fun t => by
  rw [bigSep_W0]
  exact sound_body a m c t

/-! ## The launch -/

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp (MT nD τ sig Unit (Elt F) ℕ (UR sig nD τ) ℕ))
      = iprop((((c : Thread nD τ).loc main_v2) ↦{q 0} v 0) ∗ (((c : Thread nD τ).loc main_v3) ↦{q 1} v 1)) := by
  unfold Pipeline.prefHeld
  rw [show (Finset.univ : Finset (Fin 2)) = insert (0 : Fin 2) {(1 : Fin 2)} from by decide,
    bigSep_insert (by decide), bigSep_singleton]
  rfl

theorem enter (c : Dev nD) : iprop(Pipeline.ΦA spec0 c ∗ Pipeline.ΦT pre0 a.1 c) ⊢ (dats a m 0 c).Φ 0 := by
  unfold Pipeline.ΦA Pipeline.ΦT
  rw [prefHeld_eq, scopedRest0_eq, show (dats a m 0 c).Φ 0 = Phi a m c 0 from rfl]
  unfold Phi
  iintro ⟨⟨⟨%a8, HS0⟩, Hr⟩, ⟨HT0, HT1⟩⟩
  isplitl [HS0]
  · iexists a8; isplitr; swap
    · iexact HS0
    · ipureintro; intro s h; exact absurd h (Nat.succ_ne_zero _)
  isplitl [HT0]
  · iexact HT0
  isplitl [HT1]
  · iexact HT1
  iexact Hr

theorem leave (c : Dev nD) : (dats a m 0 c).Φ (Fin.last (cfgA a).N) ⊢ Pipeline.ΦA spec0 c := by
  unfold Pipeline.ΦA
  rw [scopedRest0_eq, show (dats a m 0 c).Φ (Fin.last (cfgA a).N) = Phi a m c (Fin.last _) from rfl]
  unfold Phi
  iintro ⟨⟨%a8, -, HS0⟩, -, -, Hr⟩
  isplitl [HS0]
  · iexists a8; iexact HS0
  iexact Hr

/-- The buffers as the call finds them: the weights turned over and cut, the tables filled. -/
def entryAt (c : Dev nD) : Valuation τ sig (Elt F) := StableHlo.after hostOps0 (fun b => m (c, b))
def entry : (ℓ : Loc nD τ sig) → Buf (Elt F) ℓ := fun ℓ => entryAt m ℓ.1 ℓ.2

abbrev datsE : (p : Fin 1) → (c : Dev nD) → Dat τ (Elt F) Unit ℕ (UR sig nD τ) ℕ (pcs a p) c := dats a (entry m)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

theorem tail_kept : ∀ ops ∈ ([hostOps1] : List (List (HloOp τ sig (Elt F)))), ∀ op ∈ ops, ∀ w : Fin 3, Proc.devRef .tc (Pipeline.arrRef spec0 w) ∉ op.writes := by
  intro ops hops op hop
  obtain rfl := List.mem_singleton.1 hops
  simp only [hostOps1, List.mem_cons, List.mem_nil_iff, or_false] at hop
  rcases hop with rfl | rfl | rfl | rfl | rfl | rfl | rfl | rfl
  all_goals intro w; fin_cases w <;> simp only [StableHlo.unary_writes, StableHlo.reshape_writes, Finset.mem_singleton] <;> exact StableHlo.devRef_ne_of_ne (by decide)

theorem tail_sub : ∀ ops ∈ ([hostOps1] : List (List (HloOp τ sig (Elt F)))), ∀ op ∈ ops, op.bufs ⊆ Pipeline.tailRefs sig pre0 spec0 := by
  intro ops hops op hop
  obtain rfl := List.mem_singleton.1 hops
  refine Pipeline.sub_tailRefs pre0 spec0 op ((List.forall_iff_forall_mem.mp hostOps1_sub) op hop) ?_
  simp only [hostOps1, List.mem_cons, List.mem_nil_iff, or_false] at hop
  rcases hop with rfl | rfl | rfl | rfl | rfl | rfl | rfl | rfl
  all_goals intro j; fin_cases j <;> simp only [StableHlo.unary_bufs, StableHlo.reshape_bufs, Finset.mem_insert, Finset.mem_singleton, not_or] <;> and_intros <;> exact StableHlo.devRef_ne_of_ne (by decide)

theorem tail_fresh : ∀ ops ∈ ([hostOps1] : List (List (HloOp τ sig (Elt F)))), ∀ op ∈ ops, op.fresh = ∅ := by
  intro ops hops op hop
  obtain rfl := List.mem_singleton.1 hops
  exact (List.forall_iff_forall_mem.mp hostOps1_fresh) op hop

set_option backward.isDefEq.respectTransparency.types false in
set_option maxHeartbeats 1000000 in
theorem run_main (hpf : ∀ (c : Dev nD) (k : Fin 2), entry m ((c : Thread nD τ).loc (pre0.ref k)) = a.1 k) :
    θ_run (defs (F := F)) (onTc (τ := τ) (main (F := F))) (s₀ m ρ)
      (fun r => (Pipeline.FramePost (pcs a) (datsE a m) 0 (Pipeline.afterTail pcfgs (fun _ => a) (datsE a m) 0 (entryAt m) [hostOps1])) r ∧ r.2.sem = fun _ => 0) :=
  Pipeline.θ_run_frameP_around_track (Q' := _) pcfgs (fun _ => a) (datsE a m) (0 : Fin 1) launch0 defs₀ Variants.none m ρ main
    (hbody := fun c => (body_obligation a (entry m) c).loose) (hshare := fun c w => by unfold Dat.share; split <;> rfl) (howed := fun _ _ => rfl)
    (V₀ := entryAt m) (opss := [hostOps1]) (hsub := tail_sub) (hfresh := tail_fresh) (hkeep := tail_kept)
    (hmain := Pipeline.hmainP_around pcfgs 0 defs₀ Variants.none m main [hostOps0] [hostOps1] hostOps0_sub hostOps0_fresh main_chain)
    (hA := fun _ _ => rfl) (hpf := hpf) (hin := enter a (entry m)) (hout := leave a (entry m))

end Cert.Kernel4Ideal.Rows
end
-- ==== Proof.QkvIdealFrame.lean ====
module
public import proofs.«01_k».proof.Proof.QkvIdealLaunch
public import Idealize.ShloMosaic.Lib.Claim

/-! The rows with their projection weights: the tables are what the call fills in, the arguments are kept, the four results are cut from the product. -/

@[expose] public section
set_option maxRecDepth 65536
noncomputable section
namespace Cert.Kernel4Ideal.Rows
open Cert.Kernel4Ideal Cert.Kernel4Ideal.Gen
open Idealize.ShloMosaic Idealize.ShloMosaic.TcCoe Idealize.SL.Sem

variable {F : FTy → Type} [FloatOps F]

/-- The tables: one matrix for all tiles, all eight tiles in use. -/
def Filled (te : S8.Idx → BitVec 32) (na : S1.Idx → BitVec 32) : Prop := (∀ i, te i = 0#32) ∧ ∀ i, na i = 8#32

theorem row_word : ∀ n : Fin 8, (Scalar.minsi (BitVec.ofNat 32 n.val) (Scalar.subi (8#32) 1#32)).toNat = n.val := by decide +kernel

theorem col_word : ∀ n : Fin 3, (BitVec.ofNat 32 n.val).toNat = n.val := by decide

theorem tr0_eq (pf : pre0.Contents (Elt F)) (i : grid0.Coords) : cc0_transform_0 inb_S1_S1_0 numel1_S1 pf i = ![(Scalar.minsi (BitVec.ofNat 32 (i 1).val) (Scalar.subi (wordN (pf 1)) 1#32)).toNat, (0#32).toNat] := rfl

theorem wordE_zero (pf : pre0.Contents (Elt F)) (h : Filled (pf 0) (pf 1)) (i : grid0.Coords) : wordE (pf 0) i = 0#32 := h.1 _
theorem wordN_eight (pf : pre0.Contents (Elt F)) (h : Filled (pf 0) (pf 1)) : wordN (pf 1) = 8#32 := h.2 _

theorem ok_of_filled (pf : pre0.Contents (Elt F)) (h : Filled (pf 0) (pf 1)) : ok0 pf := by
  refine ⟨fun i => ?_, fun i => ?_⟩
  · have e := row_word (i 1)
    have hi : (i 1).val < 8 := (i 1).isLt
    refine ⟨fun b => ?_, .inr (Affine.block_words_dvd (s := S8704x2048) (p := EltTy.packing .bf16) (by decide) (by decide))⟩
    rw [tr0_eq, wordN_eight pf h]
    fin_cases b
    · show ((Scalar.minsi (BitVec.ofNat 32 (i 1).val) (Scalar.subi (8#32) 1#32)).toNat + 1) * 1088 ≤ 8704
      rw [e]; omega
    · show (0 + 1) * 2048 ≤ 2048
      omega
  · refine ⟨fun b => ?_, .inl rfl⟩
    rw [tr1_eq, wordE_zero pf h]
    fin_cases b
    · show (0 + 1) * 1 ≤ 1
      omega
    · show ((BitVec.ofNat 32 (i 0).val).toNat + 1) * 1024 ≤ 3072
      have hi : (i 0).val < 3 := (i 0).isLt
      have := col_word (i 0)
      rw [this]; omega
    · show (0 + 1) * 2048 ≤ 2048
      omega

variable (m : (ℓ : Loc nD τ sig) → Buf (Elt F) ℓ) (ρ : Dev nD → PrngReg)

/-! ## What the call finds -/

theorem entry_x (c : Dev nD) : entry m ((c : Thread nD τ).loc main_arg0) = m ((c : Thread nD τ).loc main_arg0) := by
  show StableHlo.after hostOps0 (fun b => m (c, b)) (Proc.devRef .tc main_arg0) = _
  after_results

theorem entry_wt (c : Dev nD) : entryAt m c (Proc.devRef .tc main_arg1) = m ((c : Thread nD τ).loc main_arg1) := by
  show StableHlo.after hostOps0 (fun b => m (c, b)) (Proc.devRef .tc main_arg1) = _
  after_results

theorem entry_w (c : Dev nD) : entry m ((c : Thread nD τ).loc main_v1) =
    extractStridedSlice S1x3072x2048 ![0, 0, 0] (transpose S1x3104x2048 [0, 2, 1] (m ((c : Thread nD τ).loc main_arg1)) transposes_S1x2048x3104_S1x3104x2048_0_2_1) slices_S1x3104x2048_S1x3072x2048_0_0_0 := by
  show StableHlo.after hostOps0 (fun b => m (c, b)) (Proc.devRef .tc main_v1) = _
  after_results

theorem entry_te (c : Dev nD) : entry m ((c : Thread nD τ).loc main_v2) = (fun _ => 0#32 : S8.Idx → BitVec 32) := by
  show StableHlo.after hostOps0 (fun b => m (c, b)) (Proc.devRef .tc main_v2) = _
  after_results
  rfl

theorem entry_na (c : Dev nD) : entry m ((c : Thread nD τ).loc main_v3) = (fun _ => 8#32 : S1.Idx → BitVec 32) := by
  show StableHlo.after hostOps0 (fun b => m (c, b)) (Proc.devRef .tc main_v3) = _
  after_results
  rfl

/-- The two tables, as the call finds them. -/
def tables : pre0.Contents (Elt F) := fun k => entry m (((0 : Dev nD) : Thread nD τ).loc (pre0.ref k))

theorem filled : Filled (tables m 0) (tables m 1) :=
  ⟨fun i => congrFun (entry_te m 0) i, fun i => congrFun (entry_na m 0) i⟩

/-- The tables with the proof that they are admissible. -/
def adm : (pcfg0 (F := F)).Adm := ⟨tables m, ok_of_filled _ (filled m)⟩

theorem adm_at (c : Dev nD) (k : Fin 2) : entry m ((c : Thread nD τ).loc (pre0.ref k)) = (adm m).1 k := by
  obtain rfl : c = 0 := Subsingleton.elim _ _
  rfl

/-! ## What the call leaves -/

theorem tail_6 (W : Valuation τ sig (Elt F)) : StableHlo.after ([hostOps1] : List (List (HloOp τ sig (Elt F)))).flatten W (Proc.devRef .tc main_v6) =
    shapeCast S1x1x8192x8x64 (extractStridedSlice S8192x512 ![0, 2048] (W (Proc.devRef .tc main_v4)) slices_S8704x3072_S8192x512_0_2048) shapeCasts_S8192x512_S1x1x8192x8x64 := by
  simp only [List.flatten_cons, List.flatten_nil, List.append_nil]
  after_results
  rfl
theorem tail_8 (W : Valuation τ sig (Elt F)) : StableHlo.after ([hostOps1] : List (List (HloOp τ sig (Elt F)))).flatten W (Proc.devRef .tc main_v8) =
    shapeCast S1x1x8192x8x64 (extractStridedSlice S8192x512 ![0, 2560] (W (Proc.devRef .tc main_v4)) slices_S8704x3072_S8192x512_0_2560) shapeCasts_S8192x512_S1x1x8192x8x64 := by
  simp only [List.flatten_cons, List.flatten_nil, List.append_nil]
  after_results
  rfl
theorem tail_10 (W : Valuation τ sig (Elt F)) : StableHlo.after ([hostOps1] : List (List (HloOp τ sig (Elt F)))).flatten W (Proc.devRef .tc main_v10) =
    shapeCast S1x32x16x8x64 (extractStridedSlice S512x512 ![8192, 2048] (W (Proc.devRef .tc main_v4)) slices_S8704x3072_S512x512_8192_2048) shapeCasts_S512x512_S1x32x16x8x64 := by
  simp only [List.flatten_cons, List.flatten_nil, List.append_nil]
  after_results
  rfl
theorem tail_12 (W : Valuation τ sig (Elt F)) : StableHlo.after ([hostOps1] : List (List (HloOp τ sig (Elt F)))).flatten W (Proc.devRef .tc main_v12) =
    shapeCast S1x32x16x8x64 (extractStridedSlice S512x512 ![8192, 2560] (W (Proc.devRef .tc main_v4)) slices_S8704x3072_S512x512_8192_2560) shapeCasts_S512x512_S1x32x16x8x64 := by
  simp only [List.flatten_cons, List.flatten_nil, List.append_nil]
  after_results
  rfl
theorem tail_w (W : Valuation τ sig (Elt F)) : StableHlo.after ([hostOps1] : List (List (HloOp τ sig (Elt F)))).flatten W (Proc.devRef .tc main_arg1) = W (Proc.devRef .tc main_arg1) := by
  simp only [List.flatten_cons, List.flatten_nil, List.append_nil]
  after_results

/-- The product, every row against every column, as the points leave it. -/
def product (c : Dev nD) : S8704x3072.Idx → Elt F .f32 := (dats (adm m) (entry m) 0 c).arrAt (2 : Fin 3) (cfgA (adm m)).N

theorem product_held (c : Dev nD) (V : Valuation τ sig (Elt F)) :
    Pipeline.withArrays spec0 c V (fun w => (datsE (adm m) m 0 c).arrAt w (pcs (adm m) 0).N) (Proc.devRef .tc main_v4) = product m c :=
  Pipeline.withArrays_arr spec0 winFacts0.arr_inj c V (fun w => (datsE (adm m) m 0 c).arrAt w (pcs (adm m) 0).N) (2 : Fin 3)

theorem weights_held (c : Dev nD) (V : Valuation τ sig (Elt F)) :
    Pipeline.withArrays spec0 c V (fun w => (datsE (adm m) m 0 c).arrAt w (pcs (adm m) 0).N) (Proc.devRef .tc main_arg1) = V (Proc.devRef .tc main_arg1) :=
  Pipeline.withArrays_of_ne spec0 c V _ main_arg1 (by decide)

/-- The run: the arguments as they were, the four results cut from the product. -/
theorem run_kept :
    θ_run (defs (F := F)) (onTc (τ := τ) (main (F := F))) (s₀ m ρ) (fun r =>
      (∀ c : Dev nD,
        r.2.mem ((c : Thread nD τ).loc main_v6) = shapeCast S1x1x8192x8x64 (extractStridedSlice S8192x512 ![0, 2048] (product m c) slices_S8704x3072_S8192x512_0_2048) shapeCasts_S8192x512_S1x1x8192x8x64
        ∧ r.2.mem ((c : Thread nD τ).loc main_v8) = shapeCast S1x1x8192x8x64 (extractStridedSlice S8192x512 ![0, 2560] (product m c) slices_S8704x3072_S8192x512_0_2560) shapeCasts_S8192x512_S1x1x8192x8x64
        ∧ r.2.mem ((c : Thread nD τ).loc main_v10) = shapeCast S1x32x16x8x64 (extractStridedSlice S512x512 ![8192, 2048] (product m c) slices_S8704x3072_S512x512_8192_2048) shapeCasts_S512x512_S1x32x16x8x64
        ∧ r.2.mem ((c : Thread nD τ).loc main_v12) = shapeCast S1x32x16x8x64 (extractStridedSlice S512x512 ![8192, 2560] (product m c) slices_S8704x3072_S512x512_8192_2560) shapeCasts_S512x512_S1x32x16x8x64
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) := by
  refine (θ_run _ _ _).mono (fun r hr => ⟨fun c => ⟨?_, ?_, ?_, ?_, ?_, ?_⟩, hr.2⟩) (run_main (adm m) m ρ (adm_at m))
  · refine ((hr.1 c).2 main_v6 (Pipeline.mem_restRefs_of (win := spec0) main_v6 rfl (by decide))).trans ((tail_6 _).trans ?_)
    rw [← product_held m c (entryAt m c)]
  · refine ((hr.1 c).2 main_v8 (Pipeline.mem_restRefs_of (win := spec0) main_v8 rfl (by decide))).trans ((tail_8 _).trans ?_)
    rw [← product_held m c (entryAt m c)]
  · refine ((hr.1 c).2 main_v10 (Pipeline.mem_restRefs_of (win := spec0) main_v10 rfl (by decide))).trans ((tail_10 _).trans ?_)
    rw [← product_held m c (entryAt m c)]
  · refine ((hr.1 c).2 main_v12 (Pipeline.mem_restRefs_of (win := spec0) main_v12 rfl (by decide))).trans ((tail_12 _).trans ?_)
    rw [← product_held m c (entryAt m c)]
  · exact (((hr.1 c).1 (0 : Fin 3)).trans ((dats (adm m) (entry m) 0 c).arrAt_in (0 : Fin 3) rfl _)).trans (entry_x m c)
  · exact ((hr.1 c).2 main_arg1 (Pipeline.mem_restRefs_of (win := spec0) main_arg1 rfl (by decide))).trans
      ((tail_w _).trans ((weights_held m c (entryAt m c)).trans (entry_wt m c)))

end Cert.Kernel4Ideal.Rows
end
-- ==== Proof.QkvValue.lean ====
module
public import proofs.«01_k».proof.Proof.QkvIdealFrame
public import Idealize.ShloMosaic.Lib.Pointwise
public import Idealize.ShloMosaic.Lib.Pipeline.ValueKit.Geometry

/-! The rows with their projection weights, element by element. -/

@[expose] public section
set_option maxRecDepth 65536
noncomputable section
namespace Cert.Kernel4Ideal.Rows
open Cert.Kernel4Ideal Cert.Kernel4Ideal.Gen
open Idealize.ShloMosaic Idealize.ShloMosaic.TcCoe Idealize.SL.Sem

/-- Row `r` times column `n` of the weights. -/
def dotAt (X : S8704x2048.Idx → EReal) (W : S1x2048x3104.Idx → EReal) (r : Fin 8704) (n : Fin 3104) : EReal :=
  ∑ k : Fin 2048, X (ix2 r k) * W (ix3 0 k n)

/-- A column that is kept, among all columns. -/
def col (n : Fin 3072) : Fin 3104 := ⟨n.val, by omega⟩

theorem pay3_apply (x : S1088x2048.Idx → EReal) (g : S1024x2048.Idx → EReal) (r : Fin 1088) (n : Fin 1024) :
    k0_pay3 (F := Ideal) x g (ix2 r n) = ∑ k : Fin 2048, x (ix2 r k) * g (ix2 n k) := by
  pointwise [k0_pay3]

theorem pay2_apply (v : S1x1024x2048.Idx → EReal) (n : Fin 1024) (k : Fin 2048) : k0_pay2 (F := Ideal) v (ix2 n k) = v (ix3 0 n k) := by
  pointwise [k0_pay2]

/-! ## The tables' words -/

theorem used_word : ∀ n : Fin 8, Scalar.cmpi .ne (Scalar.extui (Scalar.cmpi .slt (BitVec.ofNat 32 n.val) 8#32) : BitVec 32) 0#32 = 1#1 := by decide +kernel

theorem used_all (T1 : S1.Idx → BitVec 32) (h : wordN (F := Ideal) T1 = 8#32) (i : grid0.Coords) : Used (F := Ideal) T1 i := by
  show k0_cond3 i (wordN (F := Ideal) T1) = 1#1
  rw [h]
  exact used_word (i 1)

/-! ## The blocks -/

variable (m : (ℓ : Loc nD τ sig) → Buf (Elt Ideal) ℓ)

/-- The weights turned over and cut, an entry of it. -/
theorem weights_apply (W : FVec Ideal S1x2048x3104 .f32) (n : Fin 3072) (k : Fin 2048) :
    extractStridedSlice S1x3072x2048 ![0, 0, 0] (transpose S1x3104x2048 [0, 2, 1] W transposes_S1x2048x3104_S1x3104x2048_0_2_1) slices_S1x3104x2048_S1x3072x2048_0_0_0 (ix3 0 n k) = W (ix3 0 k (col n)) := by
  pointwise [col]

theorem wAt_apply (c : Dev nD) (v : Fin 3 → ℕ) (h : ∀ b, (v b + 1) * S1x1024x2048.size b ≤ S1x3072x2048.size b) (n : Fin 1024) (k : Fin 2048)
    (n' : Fin 3072) (h0 : v 0 = 0) (h1 : v 1 * 1024 + n.val = n'.val) (h2 : v 2 = 0) :
    wAt (F := Ideal) (entry m) c v h (ix3 0 n k) = m ((c : Thread nD τ).loc main_arg1) (ix3 0 k (col n')) := by
  refine Eq.trans (b := entry m ((c : Thread nD τ).loc main_v1) (ix3 0 n' k)) ?_ ?_
  · refine congrArg (entry m ((c : Thread nD τ).loc main_v1)) (funext fun b => Fin.ext ?_)
    fin_cases b
    · show v 0 * 1 + 1 * 0 = 0
      omega
    · show v 1 * 1024 + 1 * n.val = n'.val
      omega
    · show v 2 * 2048 + 1 * k.val = k.val
      omega
  · rw [entry_w]
    exact weights_apply _ n' k

/-- The rows' block at given block indices. -/
def xAt (c : Dev nD) (v : Fin 2 → ℕ) (h : ∀ b, (v b + 1) * S1088x2048.size b ≤ S8704x2048.size b) : S1088x2048.Idx → EReal :=
  ((Memref.whole main_arg0 : Memref sig .tc .hbm S8704x2048 .bf16).slice (Rect.block (s := S8704x2048) S1088x2048.size v h) fun _ => rfl).view.read (Elt Ideal) (entry m ((c : Thread nD τ).loc main_arg0))

theorem xAt_apply (c : Dev nD) (v : Fin 2 → ℕ) (h : ∀ b, (v b + 1) * S1088x2048.size b ≤ S8704x2048.size b) (r : Fin 1088) (k : Fin 2048)
    (r' : Fin 8704) (h0 : v 0 * 1088 + r.val = r'.val) (h1 : v 1 = 0) :
    xAt m c v h (ix2 r k) = m ((c : Thread nD τ).loc main_arg0) (ix2 r' k) := by
  refine Eq.trans (b := entry m ((c : Thread nD τ).loc main_arg0) (ix2 r' k)) ?_ (congrFun (entry_x m c) _)
  refine congrArg (entry m ((c : Thread nD τ).loc main_arg0)) (funext fun b => Fin.ext ?_)
  fin_cases b
  · show v 0 * 1088 + 1 * r.val = r'.val
    omega
  · show v 1 * 2048 + 1 * k.val = k.val
    omega

variable (a : (pcfg0 (F := Ideal)).Adm) (ha : Filled (tab0 a) (tab1 a))

theorem iblk0_eq (c : Dev nD) (t : Fin (cfgA a).N) : iblk a (entry m) c (0 : Fin 3) t = xAt m c (cc0_transform_0 inb_S1_S1_0 numel1_S1 a.1 (crd a t)) (fun b => hinb0 a.1 a.2 0 (crd a t) b) := rfl

include ha in
theorem outAt_apply (c : Dev nD) (t : Fin (cfgA a).N) (r : Fin 1088) (n : Fin 1024) (R : Fin 8704) (N : Fin 3072)
    (hR : (crd a t 1).val * 1088 + r.val = R.val) (hN : (crd a t 0).val * 1024 + n.val = N.val) :
    outAt a (entry m) c t (ix2 r n) = dotAt (m ((c : Thread nD τ).loc main_arg0)) (m ((c : Thread nD τ).loc main_arg1)) R (col N) := by
  have w8 := wordN_eight a.1 ha
  have w0 := wordE_zero a.1 ha (crd a t)
  have wr := row_word (crd a t 1)
  have cw := col_word (crd a t 0)
  have hx : ∀ k : Fin 2048, (iblk a (entry m) c (0 : Fin 3) t : S1088x2048.Idx → EReal) (ix2 r k) = m ((c : Thread nD τ).loc main_arg0) (ix2 R k) := fun k => by
    rw [iblk0_eq]
    refine xAt_apply m c _ _ r k R ?_ ?_
    · rw [tr0_eq, w8]
      show (Scalar.minsi (BitVec.ofNat 32 (crd a t 1).val) (Scalar.subi (8#32) 1#32)).toNat * 1088 + r.val = R.val
      rw [wr]; exact hR
    · rw [tr0_eq]; rfl
  unfold outAt left
  rw [if_pos (used_all (tab1 a) w8 (crd a t)), pay3_apply]
  unfold dotAt
  refine Finset.sum_congr rfl fun k _ => congrArg₂ (· * ·) (hx k) ?_
  unfold heldG
  rw [pay2_apply, iblk1_eq]
  refine wAt_apply m c _ _ n k N ?_ ?_ ?_
  · rw [tr1_eq, w0]; rfl
  · rw [tr1_eq]
    show (BitVec.ofNat 32 (crd a t 0).val).toNat * 1024 + n.val = N.val
    rw [cw]; exact hN
  · rw [tr1_eq]; rfl

/-! ## The array -/

theorem flush2 : ∀ t : Fin grid0.N, Pipeline.Window.flushOf grid0 true cc0_transform_2 t = true := by decide +kernel

theorem tr2 : ∀ t : Fin grid0.N, cc0_transform_2 (grid0.coords t) 0 = t.val % 8 ∧ cc0_transform_2 (grid0.coords t) 1 = t.val / 8 := by decide +kernel

theorem covers2 : ((cfgA a).win (2 : Fin 3)).Covers := by
  refine ⟨show ∀ b : Fin 2, 0 < S1088x1024.size b by decide, fun β => ?_⟩
  have b0 : (β (0 : Fin 2)).val < 8 := lt_of_lt_of_eq (β (0 : Fin 2)).isLt (show (8704 + 1088 - 1) / 1088 = 8 by norm_num)
  have b1 : (β (1 : Fin 2)).val < 3 := lt_of_lt_of_eq (β (1 : Fin 2)).isLt (show (3072 + 1024 - 1) / 1024 = 3 by norm_num)
  have hN : grid0.N = 24 := by decide
  have ht : (β (1 : Fin 2)).val * 8 + (β (0 : Fin 2)).val < grid0.N := by rw [hN]; omega
  have e := tr2 ⟨_, ht⟩
  refine ⟨⟨_, ht⟩, flush2 _, fun b => ⟨?_, .inl rfl⟩⟩
  fin_cases b
  · refine e.1.trans ?_
    show ((β (1 : Fin 2)).val * 8 + (β (0 : Fin 2)).val) % 8 = (β (0 : Fin 2)).val
    omega
  · refine e.2.trans ?_
    show ((β (1 : Fin 2)).val * 8 + (β (0 : Fin 2)).val) / 8 = (β (1 : Fin 2)).val
    omega

include ha in
theorem array_eq (c : Dev nD) : (dats a (entry m) 0 c).arrAt (2 : Fin 3) (cfgA a).N =
    fun j : S8704x3072.Idx => dotAt (m ((c : Thread nD τ).loc main_arg0)) (m ((c : Thread nD τ).loc main_arg1)) (j 0) (col (j 1)) := by
  refine (dats a (entry m) 0 c).arrAt_eq_of_covers (2 : Fin 3) _ (covers2 a) (fun t _ y => ?_)
  have e := tr2 t
  have e' := coords0 t
  obtain ⟨r, n, rfl⟩ : ∃ (r : Fin 1088) (n : Fin 1024), y = ix2 r n := ⟨y 0, y 1, by funext b; fin_cases b <;> rfl⟩
  refine Eq.trans ?_ (outAt_apply m a ha c t r n _ _ ?_ ?_)
  · rfl
  · refine (congrArg (· * 1088 + r.val) (e'.2.trans e.1.symm)).trans ?_
    show cc0_transform_2 (grid0.coords t) 0 * 1088 + r.val = cc0_transform_2 (grid0.coords t) 0 * 1088 + 1 * r.val
    omega
  · refine (congrArg (· * 1024 + n.val) (e'.1.trans e.2.symm)).trans ?_
    show cc0_transform_2 (grid0.coords t) 1 * 1024 + n.val = cc0_transform_2 (grid0.coords t) 1 * 1024 + 1 * n.val
    omega

/-- The product as the call leaves it: every row against every kept column. -/
theorem product_eq (c : Dev nD) : product (F := Ideal) m c =
    fun j : S8704x3072.Idx => dotAt (m ((c : Thread nD τ).loc main_arg0)) (m ((c : Thread nD τ).loc main_arg1)) (j 0) (col (j 1)) :=
  array_eq m (adm m) (filled m) c

end Cert.Kernel4Ideal.Rows
end
-- ==== Proof.QkvRef.lean ====
module
public import proofs.«01_k».proof.Proof.QkvValue
public import proofs.«01_k».proof.Proof.Gen.Reference4Ideal.Run
public import Idealize.ShloMosaic.Lib.Pointwise

/-! The reference of the keys and values: one product, its columns cut out, the same rows of it cut out. -/

@[expose] public section
set_option maxRecDepth 65536
noncomputable section
namespace Cert.Reference4Ideal.Rows
open Idealize.ShloMosaic Idealize.ShloMosaic.TcCoe Idealize.SL.Sem
open Cert.Reference4Ideal Cert.Reference4Ideal.Gen
open Cert.Kernel4Ideal.Rows (dotAt col)

/-- Every row against every column. -/
def dotT (X : FVec Ideal S8704x2048 .bf16) (W : FVec Ideal S1x2048x3104 .f32) : FVec Ideal S8704x3104 .f32 :=
  Host.dotGeneral dot_S8704x2048_S2048x3104_S8704x3104_1_0_0_1_n_n none (extf .f32 X bitsLt_bf16_f32) (shapeCast _ W shapeCasts_S1x2048x3104_S2048x3104)

theorem dotT_apply (X : FVec Ideal S8704x2048 .bf16) (W : FVec Ideal S1x2048x3104 .f32) (r : Fin 8704) (n : Fin 3104) : dotT X W (ix2 r n) = dotAt X W r n := by
  unfold dotAt
  pointwise [dotT]

/-- Every row against the kept columns. -/
def kept (X : FVec Ideal S8704x2048 .bf16) (W : FVec Ideal S1x2048x3104 .f32) : FVec Ideal Cert.Kernel4Ideal.S8704x3072 .f32 :=
  fun j => dotAt X W (j 0) (col (j 1))

theorem kept_apply (X : FVec Ideal S8704x2048 .bf16) (W : FVec Ideal S1x2048x3104 .f32) (r : Fin 8704) (n : Fin 3072) : kept X W (ix2 r n) = dotAt X W r (col n) := rfl

variable (X : FVec Ideal S8704x2048 .bf16) (W : FVec Ideal S1x2048x3104 .f32)

/-- The keys of the prompt. -/
theorem prompt_keys : extractStridedSlice S8192x512 ![0, 0] (extractStridedSlice S8704x512 ![0, 2048] (dotT X W) slices_S8704x3104_S8704x512_0_2048) slices_S8704x512_S8192x512_0_0 =
    extractStridedSlice Cert.Kernel4Ideal.S8192x512 ![0, 2048] (kept X W) Cert.Kernel4Ideal.Gen.slices_S8704x3072_S8192x512_0_2048 := by
  funext j
  obtain ⟨r, n, rfl⟩ : ∃ (r : Fin 8192) (n : Fin 512), j = ix2 r n := ⟨j 0, j 1, by funext b; fin_cases b <;> rfl⟩
  have l : extractStridedSlice S8192x512 ![0, 0] (extractStridedSlice S8704x512 ![0, 2048] (dotT X W) slices_S8704x3104_S8704x512_0_2048) slices_S8704x512_S8192x512_0_0 (ix2 r n) =
      dotT X W (ix2 ⟨r.val, by omega⟩ ⟨2048 + n.val, by omega⟩) := by pointwise
  have k : extractStridedSlice Cert.Kernel4Ideal.S8192x512 ![0, 2048] (kept X W) Cert.Kernel4Ideal.Gen.slices_S8704x3072_S8192x512_0_2048 (ix2 r n) =
      kept X W (ix2 ⟨r.val, by omega⟩ ⟨2048 + n.val, by omega⟩) := by pointwise
  exact l.trans ((dotT_apply X W _ _).trans k.symm)

/-- The values of the prompt. -/
theorem prompt_values : extractStridedSlice S8192x512 ![0, 0] (extractStridedSlice S8704x512 ![0, 2560] (dotT X W) slices_S8704x3104_S8704x512_0_2560) slices_S8704x512_S8192x512_0_0 =
    extractStridedSlice Cert.Kernel4Ideal.S8192x512 ![0, 2560] (kept X W) Cert.Kernel4Ideal.Gen.slices_S8704x3072_S8192x512_0_2560 := by
  funext j
  obtain ⟨r, n, rfl⟩ : ∃ (r : Fin 8192) (n : Fin 512), j = ix2 r n := ⟨j 0, j 1, by funext b; fin_cases b <;> rfl⟩
  have l : extractStridedSlice S8192x512 ![0, 0] (extractStridedSlice S8704x512 ![0, 2560] (dotT X W) slices_S8704x3104_S8704x512_0_2560) slices_S8704x512_S8192x512_0_0 (ix2 r n) =
      dotT X W (ix2 ⟨r.val, by omega⟩ ⟨2560 + n.val, by omega⟩) := by pointwise
  have k : extractStridedSlice Cert.Kernel4Ideal.S8192x512 ![0, 2560] (kept X W) Cert.Kernel4Ideal.Gen.slices_S8704x3072_S8192x512_0_2560 (ix2 r n) =
      kept X W (ix2 ⟨r.val, by omega⟩ ⟨2560 + n.val, by omega⟩) := by pointwise
  exact l.trans ((dotT_apply X W _ _).trans k.symm)

/-- The keys of the sample group. -/
theorem sample_keys : extractStridedSlice S512x512 ![8192, 0] (extractStridedSlice S8704x512 ![0, 2048] (dotT X W) slices_S8704x3104_S8704x512_0_2048) slices_S8704x512_S512x512_8192_0 =
    extractStridedSlice Cert.Kernel4Ideal.S512x512 ![8192, 2048] (kept X W) Cert.Kernel4Ideal.Gen.slices_S8704x3072_S512x512_8192_2048 := by
  funext j
  obtain ⟨r, n, rfl⟩ : ∃ (r : Fin 512) (n : Fin 512), j = ix2 r n := ⟨j 0, j 1, by funext b; fin_cases b <;> rfl⟩
  have l : extractStridedSlice S512x512 ![8192, 0] (extractStridedSlice S8704x512 ![0, 2048] (dotT X W) slices_S8704x3104_S8704x512_0_2048) slices_S8704x512_S512x512_8192_0 (ix2 r n) =
      dotT X W (ix2 ⟨8192 + r.val, by omega⟩ ⟨2048 + n.val, by omega⟩) := by pointwise
  have k : extractStridedSlice Cert.Kernel4Ideal.S512x512 ![8192, 2048] (kept X W) Cert.Kernel4Ideal.Gen.slices_S8704x3072_S512x512_8192_2048 (ix2 r n) =
      kept X W (ix2 ⟨8192 + r.val, by omega⟩ ⟨2048 + n.val, by omega⟩) := by pointwise
  exact l.trans ((dotT_apply X W _ _).trans k.symm)

/-- The values of the sample group. -/
theorem sample_values : extractStridedSlice S512x512 ![8192, 0] (extractStridedSlice S8704x512 ![0, 2560] (dotT X W) slices_S8704x3104_S8704x512_0_2560) slices_S8704x512_S512x512_8192_0 =
    extractStridedSlice Cert.Kernel4Ideal.S512x512 ![8192, 2560] (kept X W) Cert.Kernel4Ideal.Gen.slices_S8704x3072_S512x512_8192_2560 := by
  funext j
  obtain ⟨r, n, rfl⟩ : ∃ (r : Fin 512) (n : Fin 512), j = ix2 r n := ⟨j 0, j 1, by funext b; fin_cases b <;> rfl⟩
  have l : extractStridedSlice S512x512 ![8192, 0] (extractStridedSlice S8704x512 ![0, 2560] (dotT X W) slices_S8704x3104_S8704x512_0_2560) slices_S8704x512_S512x512_8192_0 (ix2 r n) =
      dotT X W (ix2 ⟨8192 + r.val, by omega⟩ ⟨2560 + n.val, by omega⟩) := by pointwise
  have k : extractStridedSlice Cert.Kernel4Ideal.S512x512 ![8192, 2560] (kept X W) Cert.Kernel4Ideal.Gen.slices_S8704x3072_S512x512_8192_2560 (ix2 r n) =
      kept X W (ix2 ⟨8192 + r.val, by omega⟩ ⟨2560 + n.val, by omega⟩) := by pointwise
  exact l.trans ((dotT_apply X W _ _).trans k.symm)

end Cert.Reference4Ideal.Rows
end
-- ==== Proof.GateCore.lean ====
module
public import Idealize.ShloMosaic.Lib.Pointwise

/-! The log of the logistic function, as the gates compute it, on the extended reals. -/

@[expose] public section
noncomputable section
namespace Cert.Gates
open Idealize.ShloMosaic

/-- The log of the logistic function at `z`: minus the softplus of `-z`. -/
def gate (z : EReal) : EReal := 0 - (max (0 - z) 0 + Ideal.log1p (Ideal.exp (0 - max z (-z))))

/-- The same, with the negated argument less zero under the absolute value. -/
theorem gate_eq (z : EReal) : -(max (-z) 0 + Ideal.log1p (Ideal.exp (-max (-z - 0) (-(-z - 0))))) = gate z := by
  unfold gate
  rw [sub_zero, neg_neg, max_comm (-z) z]
  simp only [zero_sub]

end Cert.Gates
end
-- ==== Proof.Gate5.lean ====
module
public import proofs.«01_k».proof.Proof.Gen.Kernel5Ideal.Frame
public import proofs.«01_k».proof.Proof.GateCore
public import Idealize.ShloMosaic.Lib.Pointwise
public import Idealize.ShloMosaic.Lib.Pipeline.ValueKit.Geometry
public import Idealize.ShloMosaic.Lib.StableHlo.ReadAt
public import Idealize.ShloMosaic.Lib.Claim

/-! The forget gates' logs of the prompt, element by element. -/

@[expose] public section
set_option maxRecDepth 65536
noncomputable section
namespace Cert.Kernel5Ideal.Gates
open Cert.Kernel5Ideal Cert.Kernel5Ideal.Gen
open Idealize.ShloMosaic Idealize.ShloMosaic.TcCoe Idealize.SL.Sem
open Cert.Gates (gate)

section
variable {F : FTy → Type} [FloatOps F]

set_option maxHeartbeats 4000000 in
/-- The block of gates a point leaves (first point). -/
theorem left_A (c : Dev nD) (i : grid0.Coords) (arg1 : Memref sig .tc .vmem S256x2048 .bf16) (harg1 : arg1.IsWhole) (arg2 : Memref sig .tc .vmem S128x2048 .f32) (harg2 : arg2.IsWhole) (arg3 : Memref sig .tc .vmem S1x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (hc0 : cond0_0 i)
    (x0 : Vec F S256x2048 .bf16) (x1 : Vec F S128x2048 .f32) (x2 : Vec F S1x128 .f32) (x3 : Vec F S256x128 .f32) :
    out0_A_4 c i arg1 harg1 arg2 harg2 arg3 harg3 arg4 harg4 arg5 harg5 arg6 harg6 arg7 harg7 hc0 x0 x1 x2 x3 = k0_pay3 x0 x1 x2 := by
  unfold out0_A_4 kernelRun0_A
  dsimp only
  sl_unfold_words
  simp only [View.read_writes_junk_eq_canon, View.readAt_eq_ld, Memref.IsWhole.read_unread]
  refine (View.canon_unit_zero (S := S256x128) (off := ![0,0]) (by funext a; fin_cases a <;> rfl) _ _).trans ?_
  congr 1 <;> exact View.ld_unit_zero (by funext a; fin_cases a <;> rfl) _ _

set_option maxHeartbeats 4000000 in
/-- The block of gates a point leaves. -/
theorem left_B (c : Dev nD) (i : grid0.Coords) (arg1 : Memref sig .tc .vmem S256x2048 .bf16) (harg1 : arg1.IsWhole) (arg2 : Memref sig .tc .vmem S128x2048 .f32) (harg2 : arg2.IsWhole) (arg3 : Memref sig .tc .vmem S1x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (hc0 : ¬cond0_0 i)
    (x0 : Vec F S256x2048 .bf16) (x1 : Vec F S128x2048 .f32) (x2 : Vec F S1x128 .f32) (x3 : Vec F S256x128 .f32) (xs0 : Vec F S1x128 .f32) :
    out0_B_4 c i arg1 harg1 arg2 harg2 arg3 harg3 arg4 harg4 arg5 harg5 arg6 harg6 arg7 harg7 hc0 x0 x1 x2 x3 xs0 = k0_pay3 x0 x1 x2 := by
  unfold out0_B_4 kernelRun0_B
  dsimp only
  sl_unfold_words
  simp only [View.read_writes_junk_eq_canon, View.readAt_eq_ld, Memref.IsWhole.read_unread]
  refine (View.canon_unit_zero (S := S256x128) (off := ![0,0]) (by funext a; fin_cases a <;> rfl) _ _).trans ?_
  congr 1 <;> exact View.ld_unit_zero (by funext a; fin_cases a <;> rfl) _ _

variable (m : (ℓ : Loc nD τ sig) → Buf (Elt F) ℓ) (ρ : Dev nD → PrngReg)

theorem after_lf (c : Dev nD) (t : Fin cfg0.N) : (dats m 0 c).after 4 t = k0_pay3 (F := F) (iblk m c 0 t) (iblk m c 1 t) (iblk m c 2 t) := by
  rw [after0_4]
  by_cases h : t.val % 32 = 0
  · rw [outsAt0_A m c t h]; exact left_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h) (iblk m c 0 t) (iblk m c 1 t) (iblk m c 2 t) (iblk m c 3 t)
  · rw [outsAt0_B m c t h]; exact left_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun q => h ((hcond0_0 t).mp q)) (iblk m c 0 t) (iblk m c 1 t) (iblk m c 2 t) (iblk m c 3 t) (outsAt0 m c (t.val - 1) (Nat.lt_of_le_of_lt (Nat.sub_le _ _) t.isLt)).2.2

/-! The gates' weights and offsets as the call takes them: in the first 32 rows and columns, the arguments'. -/

theorem V_weights (c : Dev nD) (h : Fin 32) (k : Fin 2048) :
    (V m c main_v3 : S128x2048.Idx → F .f32) (ix2 ⟨h.val, by omega⟩ k) = (m ((c : Thread nD τ).loc main_arg1) : S1x2048x3104.Idx → F .f32) (ix3 0 k ⟨3072 + h.val, by omega⟩) := by
  unfold V
  after_reads_at

theorem V_offsets (c : Dev nD) (h : Fin 32) :
    (V m c main_v6 : S1x128.Idx → F .f32) (ix2 0 ⟨h.val, by omega⟩) = (m ((c : Thread nD τ).loc main_arg2) : S1x32.Idx → F .f32) (ix2 0 h) := by
  unfold V
  after_reads_at

theorem idx_0 : ∀ t : Fin cfg0.N, win0_0.index t = ![0 + t.val, 0] := by decide +kernel
theorem idx_1 : ∀ t : Fin cfg0.N, win0_1.index t = ![0, 0] := by decide +kernel
theorem idx_2 : ∀ t : Fin cfg0.N, win0_2.index t = ![0, 0] := by decide +kernel
theorem idx_4 : ∀ t : Fin cfg0.N, win0_4.index t = ![t.val, 0] := by decide +kernel

theorem blk_0 (c : Dev nD) (t : Fin cfg0.N) (ht : t.val < 32) (r : Fin 256) (k : Fin 2048) :
    (iblk m c 0 t : S256x2048.Idx → F .bf16) (ix2 r k) = (m ((c : Thread nD τ).loc main_arg0) : S8704x2048.Idx → F .bf16) (ix2 ⟨0 + (256 * t.val + r.val), by omega⟩ k) := by
  rw [← V_main_arg0 m c]
  unfold iblk
  rw [View.read_apply]
  show (V m c main_arg0 : S8704x2048.Idx → F .bf16) _ = (V m c main_arg0 : S8704x2048.Idx → F .bf16) _
  congr 1
  funext a
  apply Fin.ext
  match a with
  | ⟨0, _⟩ => show win0_0.index t 0 * 256 + 1 * r.val = 0 + (256 * t.val + r.val); rw [idx_0 t]; show (0 + t.val) * 256 + 1 * r.val = _; omega
  | ⟨1, _⟩ => show win0_0.index t 1 * 2048 + 1 * k.val = k.val; rw [idx_0 t]; show 0 * 2048 + 1 * k.val = _; omega

theorem blk_1 (c : Dev nD) (t : Fin cfg0.N) (n : Fin 128) (k : Fin 2048) :
    (iblk m c 1 t : S128x2048.Idx → F .f32) (ix2 n k) = (V m c main_v3 : S128x2048.Idx → F .f32) (ix2 n k) := by
  unfold iblk
  rw [View.read_apply]
  show (V m c main_v3 : S128x2048.Idx → F .f32) _ = (V m c main_v3 : S128x2048.Idx → F .f32) _
  congr 1
  funext a
  apply Fin.ext
  match a with
  | ⟨0, _⟩ => show win0_1.index t 0 * 128 + 1 * n.val = n.val; rw [idx_1 t]; show 0 * 128 + 1 * n.val = _; omega
  | ⟨1, _⟩ => show win0_1.index t 1 * 2048 + 1 * k.val = k.val; rw [idx_1 t]; show 0 * 2048 + 1 * k.val = _; omega

theorem blk_2 (c : Dev nD) (t : Fin cfg0.N) (n : Fin 128) :
    (iblk m c 2 t : S1x128.Idx → F .f32) (ix2 0 n) = (V m c main_v6 : S1x128.Idx → F .f32) (ix2 0 n) := by
  unfold iblk
  rw [View.read_apply]
  show (V m c main_v6 : S1x128.Idx → F .f32) _ = (V m c main_v6 : S1x128.Idx → F .f32) _
  congr 1
  funext a
  apply Fin.ext
  match a with
  | ⟨0, _⟩ => show win0_2.index t 0 * 1 + 1 * 0 = 0; rw [idx_2 t]; rfl
  | ⟨1, _⟩ => show win0_2.index t 1 * 128 + 1 * n.val = n.val; rw [idx_2 t]; show 0 * 128 + 1 * n.val = _; omega

/-- What the operations after the call leave in the result. -/
theorem tail_lf (W : Valuation τ sig (Elt F)) : StableHlo.after ([hostOps1] : List (List (HloOp τ sig (Elt F)))).flatten W (Proc.devRef .tc main_v10) =
    shapeCast S1x1x8192x32 (extractStridedSlice S8192x32 ![0, 0] (W (Proc.devRef .tc main_v8_0)) slices_S8192x128_S8192x32_0_0) shapeCasts_S8192x32_S1x1x8192x32 := by
  simp only [List.flatten_cons, List.flatten_nil, List.append_nil]
  after_results
  rfl

/-- The gates' logs, every row against every column, as the points leave them. -/
def logs (c : Dev nD) : S8192x128.Idx → Elt F .f32 := (dats m 0 c).arrAt (4 : Fin 6) cfg0.N

theorem logs_held (c : Dev nD) (W : Valuation τ sig (Elt F)) :
    Pipeline.withArrays spec0 c W (fun w => (dats m 0 c).arrAt w (cfgs 0).N) (Proc.devRef .tc main_v8_0) = logs m c :=
  Pipeline.withArrays_arr spec0 winFacts0.arr_inj c W (fun w => (dats m 0 c).arrAt w (cfgs 0).N) (4 : Fin 6)

/-- The run: the result is the logs' first 32 columns. -/
theorem run_logs :
    θ_run (defs (F := F)) (onTc (τ := τ) (main (F := F))) ⟨m, fun _ => 0, ρ⟩ (fun r =>
      (∀ c : Dev nD, r.2.mem ((c : Thread nD τ).loc main_v10) = shapeCast S1x1x8192x32 (extractStridedSlice S8192x32 ![0, 0] (logs m c) slices_S8192x128_S8192x32_0_0) shapeCasts_S8192x32_S1x1x8192x32)) := by
  refine (θ_run _ _ _).mono (fun r hr => fun c => ?_) (run_main m ρ)
  refine ((hr c).2 main_v10 (Pipeline.mem_restRefs_of (win := spec0) main_v10 rfl (by decide))).trans ((tail_lf _).trans ?_)
  rw [← logs_held m c (V0 m c)]

end

/-! ## Element by element -/

/-- One gate's log: a row against a column of the weights, and its offset. -/
def logAt (X : S8704x2048.Idx → EReal) (W : S1x2048x3104.Idx → EReal) (B : S1x32.Idx → EReal) (r : Fin 8704) (h : Fin 32) : EReal :=
  gate ((∑ k : Fin 2048, X (ix2 r k) * W (ix3 0 k ⟨3072 + h.val, by omega⟩)) + B (ix2 0 h))

theorem pay_apply (x : S256x2048.Idx → EReal) (w : S128x2048.Idx → EReal) (b : S1x128.Idx → EReal) (r : Fin 256) (n : Fin 128) :
    k0_pay3 (F := Ideal) x w b (ix2 r n) = gate ((∑ k : Fin 2048, x (ix2 r k) * w (ix2 n k)) + b (ix2 0 n)) := by
  unfold gate
  pointwise [k0_pay3]
  rfl

variable (m : (ℓ : Loc nD τ sig) → Buf (Elt Ideal) ℓ) (ρ : Dev nD → PrngReg)

/-- A row's log in each of the 128 columns. -/
def wideAt (X : S8704x2048.Idx → EReal) (W : S128x2048.Idx → EReal) (B : S1x128.Idx → EReal) (r : Fin 8192) (n : Fin 128) : EReal :=
  gate ((∑ k : Fin 2048, X (ix2 ⟨0 + r.val, by omega⟩ k) * W (ix2 n k)) + B (ix2 0 n))

/-- The same, of what the call takes. -/
def wide (c : Dev nD) (r : Fin 8192) (n : Fin 128) : EReal :=
  wideAt (m ((c : Thread nD τ).loc main_arg0)) (V m c main_v3) (V m c main_v6) r n

theorem after_apply (c : Dev nD) (t : Fin cfg0.N) (r : Fin 256) (n : Fin 128) (R : Fin 8192) (hR : 256 * t.val + r.val = R.val) :
    ((dats m 0 c).after 4 t : S256x128.Idx → EReal) (ix2 r n) = wide m c R n := by
  have ht : t.val < 32 := lt_of_lt_of_eq t.isLt N_0
  rw [after_lf]
  refine (pay_apply _ _ _ r n).trans ?_
  unfold wide wideAt
  refine congrArg gate (congrArg₂ (· + ·) (Finset.sum_congr rfl fun k _ => congrArg₂ (· * ·) ?_ ?_) ?_)
  · refine (blk_0 m c t ht r k).trans (congrArg (m ((c : Thread nD τ).loc main_arg0) : S8704x2048.Idx → EReal) ?_)
    exact congrArg (fun q => ix2 q k) (Fin.ext (congrArg (0 + ·) hR))
  · exact blk_1 m c t n k
  · exact blk_2 m c t n

theorem covers_lf : (cfg0.win 4).Covers := by
  refine ⟨show ∀ b : Fin 2, 0 < S256x128.size b by decide, fun β => ?_⟩
  have b0 : (β (0 : Fin 2)).val < 32 := lt_of_lt_of_eq (β (0 : Fin 2)).isLt (show (8192 + 256 - 1) / 256 = 32 by norm_num)
  have b1 : (β (1 : Fin 2)).val < 1 := lt_of_lt_of_eq (β (1 : Fin 2)).isLt (show (128 + 128 - 1) / 128 = 1 by norm_num)
  have ht : (β (0 : Fin 2)).val < cfg0.N := by rw [show cfg0.N = 32 from N_0]; exact b0
  refine ⟨⟨_, ht⟩, flush0_4 _, fun b => ⟨?_, .inl rfl⟩⟩
  have e := idx_4 ⟨_, ht⟩
  fin_cases b
  · exact congrFun e 0
  · refine (congrFun e 1).trans ?_
    show 0 = (β (1 : Fin 2)).val
    omega

theorem logs_eq (c : Dev nD) : logs (F := Ideal) m c = fun j : S8192x128.Idx => wide m c (j 0) (j 1) := by
  refine (dats m 0 c).arrAt_eq_of_covers (4 : Fin 6) _ covers_lf (fun t _ y => ?_)
  obtain ⟨r, n, rfl⟩ : ∃ (r : Fin 256) (n : Fin 128), y = ix2 r n := ⟨y 0, y 1, by funext b; fin_cases b <;> rfl⟩
  have ht : t.val < 32 := lt_of_lt_of_eq t.isLt N_0
  have p0 : (((win0_4.blk t).view.emb (ix2 r n)) 0).val = 256 * t.val + r.val := by
    show win0_4.index t 0 * 256 + 1 * r.val = _
    rw [idx_4 t]; show t.val * 256 + 1 * r.val = _; omega
  have p1 : (((win0_4.blk t).view.emb (ix2 r n)) 1).val = n.val := by
    show win0_4.index t 1 * 128 + 1 * n.val = _
    rw [idx_4 t]; show 0 * 128 + 1 * n.val = _; omega
  refine Eq.trans ?_ ((after_apply m c t r n ⟨256 * t.val + r.val, by omega⟩ rfl).trans ?_)
  · rfl
  · show wide m c _ _ = wide m c (((win0_4.blk t).view.emb (ix2 r n)) 0) (((win0_4.blk t).view.emb (ix2 r n)) 1)
    exact congrArg₂ (wide m c) (Fin.ext p0.symm) (Fin.ext p1.symm)

/-- The kept columns hold the gates' logs. -/
theorem kept_eq (c : Dev nD) : extractStridedSlice S8192x32 ![0, 0] (logs (F := Ideal) m c) slices_S8192x128_S8192x32_0_0 =
    fun j : S8192x32.Idx => logAt (m ((c : Thread nD τ).loc main_arg0)) (m ((c : Thread nD τ).loc main_arg1)) (m ((c : Thread nD τ).loc main_arg2)) ⟨0 + (j 0).val, by have h : (j 0).val < 8192 := (j 0).isLt; omega⟩ (j 1) := by
  funext j
  obtain ⟨r, h, rfl⟩ : ∃ (r : Fin 8192) (h : Fin 32), j = ix2 r h := ⟨j 0, j 1, by funext b; fin_cases b <;> rfl⟩
  have l : ∀ x : S8192x128.Idx → EReal, extractStridedSlice S8192x32 ![0, 0] (x : FVec Ideal S8192x128 .f32) slices_S8192x128_S8192x32_0_0 (ix2 r h) = x (ix2 r ⟨h.val, by omega⟩) := fun x => by
    pointwise
  refine (l _).trans ?_
  rw [logs_eq]
  show wide m c r ⟨h.val, _⟩ = logAt _ _ _ ⟨0 + r.val, _⟩ h
  unfold wide wideAt logAt
  exact congrArg gate (congrArg₂ (· + ·) (Finset.sum_congr rfl fun k _ => congrArg _ (V_weights (F := Ideal) m c h k)) (V_offsets (F := Ideal) m c h))

end Cert.Kernel5Ideal.Gates
end
-- ==== Proof.GateRef5.lean ====
module
public import proofs.«01_k».proof.Proof.Gate5
public import proofs.«01_k».proof.Proof.Gen.Reference5Ideal.Run
public import Idealize.ShloMosaic.Lib.Pointwise

/-! The reference of the prompt's gate logs. -/

@[expose] public section
set_option maxRecDepth 65536
noncomputable section
namespace Cert.Reference5Ideal.Gates
open Idealize.ShloMosaic Idealize.ShloMosaic.TcCoe Idealize.SL.Sem
open Cert.Reference5Ideal Cert.Reference5Ideal.Gen
open Cert.Kernel5Ideal.Gates (logAt)
open Cert.Gates (gate gate_eq)

/-- The gates before the logistic function. -/
def pre (X : FVec Ideal S8704x2048 .bf16) (W : FVec Ideal S1x2048x3104 .f32) (B : FVec Ideal S1x32 .f32) : FVec Ideal S8192x32 .f32 :=
  (addf (extractStridedSlice S8192x32 ![0, 3072] (Host.dotGeneral dot_S8704x2048_S2048x3104_S8704x3104_1_0_0_1_n_n none (extf .f32 X bitsLt_bf16_f32) (shapeCast _ W shapeCasts_S1x2048x3104_S2048x3104)) slices_S8704x3104_S8192x32_0_3072) (broadcastInDim S8192x32 ![0, 1] bcast_S1x32_S8192x32_0_1 (broadcastInDim S1x32 ![1] bcast_S32_S1x32_1 (shapeCast _ B shapeCasts_S1x32_S32))))

/-- Zeros. -/
def zeros : FVec Ideal S8192x32 .f32 := (broadcastInDim S8192x32 ![] bcast_S_S8192x32 (constant S_ .f32 0x00000000#32))

/-- The logs of the gates. -/
def logT (Z : FVec Ideal S8192x32 .f32) : FVec Ideal S8192x32 .f32 :=
  Host.negf (select (cmpf .une (subf (Host.negf Z) zeros) (subf (Host.negf Z) zeros)) (addf (Host.negf Z) zeros) (addf (maximumf (Host.negf Z) zeros) (Host.log1p (Host.exp (Host.negf (Host.absf (subf (Host.negf Z) zeros)))))))

theorem pre_apply (X : FVec Ideal S8704x2048 .bf16) (W : FVec Ideal S1x2048x3104 .f32) (B : FVec Ideal S1x32 .f32) (r : Fin 8192) (h : Fin 32) :
    pre X W B (ix2 r h) = (∑ k : Fin 2048, X (ix2 ⟨0 + r.val, by omega⟩ k) * W (ix3 0 k ⟨3072 + h.val, by omega⟩)) + B (ix2 0 h) := by
  pointwise [pre]

theorem zeros_apply (j : S8192x32.Idx) : zeros j = (0 : EReal) := by
  unfold zeros
  exact Ideal.ofBits_zero .f32

theorem logT_apply (Z : FVec Ideal S8192x32 .f32) (j : S8192x32.Idx) : logT Z j = gate (Z j) := by
  rw [← gate_eq]
  have q : cmpf .une (subf (Host.negf Z) zeros) (subf (Host.negf Z) zeros) j = 0#1 := by
    show Ideal.cmp .une _ _ = 0#1
    simp [Ideal.cmp]
  show -(Scalar.select (cmpf .une (subf (Host.negf Z) zeros) (subf (Host.negf Z) zeros) j) _ _) = _
  rw [q]
  show -(max (-(Z j)) (zeros j) + Ideal.log1p (Ideal.exp (-(max (-(Z j) - zeros j) (-(-(Z j) - zeros j)))))) = _
  rw [zeros_apply]

theorem logs_eq (X : FVec Ideal S8704x2048 .bf16) (W : FVec Ideal S1x2048x3104 .f32) (B : FVec Ideal S1x32 .f32) :
    logT (pre X W B) = fun j : S8192x32.Idx => logAt X W B ⟨0 + (j 0).val, by have h : (j 0).val < 8192 := (j 0).isLt; omega⟩ (j 1) := by
  funext j
  obtain ⟨r, h, rfl⟩ : ∃ (r : Fin 8192) (h : Fin 32), j = ix2 r h := ⟨j 0, j 1, by funext b; fin_cases b <;> rfl⟩
  rw [logT_apply, pre_apply]
  rfl

end Cert.Reference5Ideal.Gates
end
-- ==== Proof.Gate6.lean ====
module
public import proofs.«01_k».proof.Proof.Gen.Kernel6Ideal.Frame
public import proofs.«01_k».proof.Proof.GateCore
public import Idealize.ShloMosaic.Lib.Pointwise
public import Idealize.ShloMosaic.Lib.Pipeline.ValueKit.Geometry
public import Idealize.ShloMosaic.Lib.StableHlo.ReadAt
public import Idealize.ShloMosaic.Lib.Claim

/-! The forget gates' logs of the sample group, element by element. -/

@[expose] public section
set_option maxRecDepth 65536
noncomputable section
namespace Cert.Kernel6Ideal.Gates
open Cert.Kernel6Ideal Cert.Kernel6Ideal.Gen
open Idealize.ShloMosaic Idealize.ShloMosaic.TcCoe Idealize.SL.Sem
open Cert.Gates (gate)

section
variable {F : FTy → Type} [FloatOps F]

set_option maxHeartbeats 4000000 in
/-- The block of gates a point leaves. -/
theorem left_A (c : Dev nD) (i : grid0.Coords) (arg1 : Memref sig .tc .vmem S256x2048 .bf16) (harg1 : arg1.IsWhole) (arg2 : Memref sig .tc .vmem S128x2048 .f32) (harg2 : arg2.IsWhole) (arg3 : Memref sig .tc .vmem S1x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole)
    (x0 : Vec F S256x2048 .bf16) (x1 : Vec F S128x2048 .f32) (x2 : Vec F S1x128 .f32) (x3 : Vec F S256x128 .f32) :
    out0_A_4 c i arg1 harg1 arg2 harg2 arg3 harg3 arg4 harg4 arg5 harg5 arg6 harg6 arg7 harg7 x0 x1 x2 x3 = k0_pay2 x0 x1 x2 := by
  unfold out0_A_4 kernelRun0_A
  dsimp only
  sl_unfold_words
  simp only [View.read_writes_junk_eq_canon, View.readAt_eq_ld, Memref.IsWhole.read_unread]
  refine (View.canon_unit_zero (S := S256x128) (off := ![0,0]) (by funext a; fin_cases a <;> rfl) _ _).trans ?_
  congr 1 <;> exact View.ld_unit_zero (by funext a; fin_cases a <;> rfl) _ _

variable (m : (ℓ : Loc nD τ sig) → Buf (Elt F) ℓ) (ρ : Dev nD → PrngReg)

theorem after_lf (c : Dev nD) (t : Fin cfg0.N) : (dats m 0 c).after 4 t = k0_pay2 (F := F) (iblk m c 0 t) (iblk m c 1 t) (iblk m c 2 t) := by
  rw [after0_4]
  exact left_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t)

/-! The gates' weights and offsets as the call takes them: in the first 32 rows and columns, the arguments'. -/

theorem V_weights (c : Dev nD) (h : Fin 32) (k : Fin 2048) :
    (V m c main_v3 : S128x2048.Idx → F .f32) (ix2 ⟨h.val, by omega⟩ k) = (m ((c : Thread nD τ).loc main_arg1) : S1x2048x3104.Idx → F .f32) (ix3 0 k ⟨3072 + h.val, by omega⟩) := by
  unfold V
  after_reads_at

theorem V_offsets (c : Dev nD) (h : Fin 32) :
    (V m c main_v6 : S1x128.Idx → F .f32) (ix2 0 ⟨h.val, by omega⟩) = (m ((c : Thread nD τ).loc main_arg2) : S1x32.Idx → F .f32) (ix2 0 h) := by
  unfold V
  after_reads_at

theorem idx_0 : ∀ t : Fin cfg0.N, win0_0.index t = ![32 + t.val, 0] := by decide +kernel
theorem idx_1 : ∀ t : Fin cfg0.N, win0_1.index t = ![0, 0] := by decide +kernel
theorem idx_2 : ∀ t : Fin cfg0.N, win0_2.index t = ![0, 0] := by decide +kernel
theorem idx_4 : ∀ t : Fin cfg0.N, win0_4.index t = ![t.val, 0] := by decide +kernel

theorem blk_0 (c : Dev nD) (t : Fin cfg0.N) (ht : t.val < 2) (r : Fin 256) (k : Fin 2048) :
    (iblk m c 0 t : S256x2048.Idx → F .bf16) (ix2 r k) = (m ((c : Thread nD τ).loc main_arg0) : S8704x2048.Idx → F .bf16) (ix2 ⟨8192 + (256 * t.val + r.val), by omega⟩ k) := by
  rw [← V_main_arg0 m c]
  unfold iblk
  rw [View.read_apply]
  show (V m c main_arg0 : S8704x2048.Idx → F .bf16) _ = (V m c main_arg0 : S8704x2048.Idx → F .bf16) _
  congr 1
  funext a
  apply Fin.ext
  match a with
  | ⟨0, _⟩ => show win0_0.index t 0 * 256 + 1 * r.val = 8192 + (256 * t.val + r.val); rw [idx_0 t]; show (32 + t.val) * 256 + 1 * r.val = _; omega
  | ⟨1, _⟩ => show win0_0.index t 1 * 2048 + 1 * k.val = k.val; rw [idx_0 t]; show 0 * 2048 + 1 * k.val = _; omega

theorem blk_1 (c : Dev nD) (t : Fin cfg0.N) (n : Fin 128) (k : Fin 2048) :
    (iblk m c 1 t : S128x2048.Idx → F .f32) (ix2 n k) = (V m c main_v3 : S128x2048.Idx → F .f32) (ix2 n k) := by
  unfold iblk
  rw [View.read_apply]
  show (V m c main_v3 : S128x2048.Idx → F .f32) _ = (V m c main_v3 : S128x2048.Idx → F .f32) _
  congr 1
  funext a
  apply Fin.ext
  match a with
  | ⟨0, _⟩ => show win0_1.index t 0 * 128 + 1 * n.val = n.val; rw [idx_1 t]; show 0 * 128 + 1 * n.val = _; omega
  | ⟨1, _⟩ => show win0_1.index t 1 * 2048 + 1 * k.val = k.val; rw [idx_1 t]; show 0 * 2048 + 1 * k.val = _; omega

theorem blk_2 (c : Dev nD) (t : Fin cfg0.N) (n : Fin 128) :
    (iblk m c 2 t : S1x128.Idx → F .f32) (ix2 0 n) = (V m c main_v6 : S1x128.Idx → F .f32) (ix2 0 n) := by
  unfold iblk
  rw [View.read_apply]
  show (V m c main_v6 : S1x128.Idx → F .f32) _ = (V m c main_v6 : S1x128.Idx → F .f32) _
  congr 1
  funext a
  apply Fin.ext
  match a with
  | ⟨0, _⟩ => show win0_2.index t 0 * 1 + 1 * 0 = 0; rw [idx_2 t]; rfl
  | ⟨1, _⟩ => show win0_2.index t 1 * 128 + 1 * n.val = n.val; rw [idx_2 t]; show 0 * 128 + 1 * n.val = _; omega

/-- What the operations after the call leave in the result. -/
theorem tail_lf (W : Valuation τ sig (Elt F)) : StableHlo.after ([hostOps1] : List (List (HloOp τ sig (Elt F)))).flatten W (Proc.devRef .tc main_v9) =
    shapeCast S1x32x16x32 (extractStridedSlice S512x32 ![0, 0] (W (Proc.devRef .tc main_v7_0)) slices_S512x128_S512x32_0_0) shapeCasts_S512x32_S1x32x16x32 := by
  simp only [List.flatten_cons, List.flatten_nil, List.append_nil]
  after_results
  rfl

/-- The gates' logs, every row against every column, as the points leave them. -/
def logs (c : Dev nD) : S512x128.Idx → Elt F .f32 := (dats m 0 c).arrAt (4 : Fin 6) cfg0.N

theorem logs_held (c : Dev nD) (W : Valuation τ sig (Elt F)) :
    Pipeline.withArrays spec0 c W (fun w => (dats m 0 c).arrAt w (cfgs 0).N) (Proc.devRef .tc main_v7_0) = logs m c :=
  Pipeline.withArrays_arr spec0 winFacts0.arr_inj c W (fun w => (dats m 0 c).arrAt w (cfgs 0).N) (4 : Fin 6)

/-- The run: the result is the logs' first 32 columns. -/
theorem run_logs :
    θ_run (defs (F := F)) (onTc (τ := τ) (main (F := F))) ⟨m, fun _ => 0, ρ⟩ (fun r =>
      (∀ c : Dev nD, r.2.mem ((c : Thread nD τ).loc main_v9) = shapeCast S1x32x16x32 (extractStridedSlice S512x32 ![0, 0] (logs m c) slices_S512x128_S512x32_0_0) shapeCasts_S512x32_S1x32x16x32)) := by
  refine (θ_run _ _ _).mono (fun r hr => fun c => ?_) (run_main m ρ)
  refine ((hr c).2 main_v9 (Pipeline.mem_restRefs_of (win := spec0) main_v9 rfl (by decide))).trans ((tail_lf _).trans ?_)
  rw [← logs_held m c (V0 m c)]

end

/-! ## Element by element -/

/-- One gate's log: a row against a column of the weights, and its offset. -/
def logAt (X : S8704x2048.Idx → EReal) (W : S1x2048x3104.Idx → EReal) (B : S1x32.Idx → EReal) (r : Fin 8704) (h : Fin 32) : EReal :=
  gate ((∑ k : Fin 2048, X (ix2 r k) * W (ix3 0 k ⟨3072 + h.val, by omega⟩)) + B (ix2 0 h))

theorem pay_apply (x : S256x2048.Idx → EReal) (w : S128x2048.Idx → EReal) (b : S1x128.Idx → EReal) (r : Fin 256) (n : Fin 128) :
    k0_pay2 (F := Ideal) x w b (ix2 r n) = gate ((∑ k : Fin 2048, x (ix2 r k) * w (ix2 n k)) + b (ix2 0 n)) := by
  unfold gate
  pointwise [k0_pay2]
  rfl

variable (m : (ℓ : Loc nD τ sig) → Buf (Elt Ideal) ℓ) (ρ : Dev nD → PrngReg)

/-- A row's log in each of the 128 columns. -/
def wideAt (X : S8704x2048.Idx → EReal) (W : S128x2048.Idx → EReal) (B : S1x128.Idx → EReal) (r : Fin 512) (n : Fin 128) : EReal :=
  gate ((∑ k : Fin 2048, X (ix2 ⟨8192 + r.val, by omega⟩ k) * W (ix2 n k)) + B (ix2 0 n))

/-- The same, of what the call takes. -/
def wide (c : Dev nD) (r : Fin 512) (n : Fin 128) : EReal :=
  wideAt (m ((c : Thread nD τ).loc main_arg0)) (V m c main_v3) (V m c main_v6) r n

theorem after_apply (c : Dev nD) (t : Fin cfg0.N) (r : Fin 256) (n : Fin 128) (R : Fin 512) (hR : 256 * t.val + r.val = R.val) :
    ((dats m 0 c).after 4 t : S256x128.Idx → EReal) (ix2 r n) = wide m c R n := by
  have ht : t.val < 2 := lt_of_lt_of_eq t.isLt N_0
  rw [after_lf]
  refine (pay_apply _ _ _ r n).trans ?_
  unfold wide wideAt
  refine congrArg gate (congrArg₂ (· + ·) (Finset.sum_congr rfl fun k _ => congrArg₂ (· * ·) ?_ ?_) ?_)
  · refine (blk_0 m c t ht r k).trans (congrArg (m ((c : Thread nD τ).loc main_arg0) : S8704x2048.Idx → EReal) ?_)
    exact congrArg (fun q => ix2 q k) (Fin.ext (congrArg (8192 + ·) hR))
  · exact blk_1 m c t n k
  · exact blk_2 m c t n

theorem covers_lf : (cfg0.win 4).Covers := by
  refine ⟨show ∀ b : Fin 2, 0 < S256x128.size b by decide, fun β => ?_⟩
  have b0 : (β (0 : Fin 2)).val < 2 := lt_of_lt_of_eq (β (0 : Fin 2)).isLt (show (512 + 256 - 1) / 256 = 2 by norm_num)
  have b1 : (β (1 : Fin 2)).val < 1 := lt_of_lt_of_eq (β (1 : Fin 2)).isLt (show (128 + 128 - 1) / 128 = 1 by norm_num)
  have ht : (β (0 : Fin 2)).val < cfg0.N := by rw [show cfg0.N = 2 from N_0]; exact b0
  refine ⟨⟨_, ht⟩, flush0_4 _, fun b => ⟨?_, .inl rfl⟩⟩
  have e := idx_4 ⟨_, ht⟩
  fin_cases b
  · exact congrFun e 0
  · refine (congrFun e 1).trans ?_
    show 0 = (β (1 : Fin 2)).val
    omega

theorem logs_eq (c : Dev nD) : logs (F := Ideal) m c = fun j : S512x128.Idx => wide m c (j 0) (j 1) := by
  refine (dats m 0 c).arrAt_eq_of_covers (4 : Fin 6) _ covers_lf (fun t _ y => ?_)
  obtain ⟨r, n, rfl⟩ : ∃ (r : Fin 256) (n : Fin 128), y = ix2 r n := ⟨y 0, y 1, by funext b; fin_cases b <;> rfl⟩
  have ht : t.val < 2 := lt_of_lt_of_eq t.isLt N_0
  have p0 : (((win0_4.blk t).view.emb (ix2 r n)) 0).val = 256 * t.val + r.val := by
    show win0_4.index t 0 * 256 + 1 * r.val = _
    rw [idx_4 t]; show t.val * 256 + 1 * r.val = _; omega
  have p1 : (((win0_4.blk t).view.emb (ix2 r n)) 1).val = n.val := by
    show win0_4.index t 1 * 128 + 1 * n.val = _
    rw [idx_4 t]; show 0 * 128 + 1 * n.val = _; omega
  refine Eq.trans ?_ ((after_apply m c t r n ⟨256 * t.val + r.val, by omega⟩ rfl).trans ?_)
  · rfl
  · show wide m c _ _ = wide m c (((win0_4.blk t).view.emb (ix2 r n)) 0) (((win0_4.blk t).view.emb (ix2 r n)) 1)
    exact congrArg₂ (wide m c) (Fin.ext p0.symm) (Fin.ext p1.symm)

/-- The kept columns hold the gates' logs. -/
theorem kept_eq (c : Dev nD) : extractStridedSlice S512x32 ![0, 0] (logs (F := Ideal) m c) slices_S512x128_S512x32_0_0 =
    fun j : S512x32.Idx => logAt (m ((c : Thread nD τ).loc main_arg0)) (m ((c : Thread nD τ).loc main_arg1)) (m ((c : Thread nD τ).loc main_arg2)) ⟨8192 + (j 0).val, by have h : (j 0).val < 512 := (j 0).isLt; omega⟩ (j 1) := by
  funext j
  obtain ⟨r, h, rfl⟩ : ∃ (r : Fin 512) (h : Fin 32), j = ix2 r h := ⟨j 0, j 1, by funext b; fin_cases b <;> rfl⟩
  have l : ∀ x : S512x128.Idx → EReal, extractStridedSlice S512x32 ![0, 0] (x : FVec Ideal S512x128 .f32) slices_S512x128_S512x32_0_0 (ix2 r h) = x (ix2 r ⟨h.val, by omega⟩) := fun x => by
    pointwise
  refine (l _).trans ?_
  rw [logs_eq]
  show wide m c r ⟨h.val, _⟩ = logAt _ _ _ ⟨8192 + r.val, _⟩ h
  unfold wide wideAt logAt
  exact congrArg gate (congrArg₂ (· + ·) (Finset.sum_congr rfl fun k _ => congrArg _ (V_weights (F := Ideal) m c h k)) (V_offsets (F := Ideal) m c h))

end Cert.Kernel6Ideal.Gates
end
-- ==== Proof.GateRef6.lean ====
module
public import proofs.«01_k».proof.Proof.Gate6
public import proofs.«01_k».proof.Proof.Gen.Reference6Ideal.Run
public import Idealize.ShloMosaic.Lib.Pointwise

/-! The reference of the sample group's gate logs. -/

@[expose] public section
set_option maxRecDepth 65536
noncomputable section
namespace Cert.Reference6Ideal.Gates
open Idealize.ShloMosaic Idealize.ShloMosaic.TcCoe Idealize.SL.Sem
open Cert.Reference6Ideal Cert.Reference6Ideal.Gen
open Cert.Kernel6Ideal.Gates (logAt)
open Cert.Gates (gate gate_eq)

/-- The gates before the logistic function. -/
def pre (X : FVec Ideal S8704x2048 .bf16) (W : FVec Ideal S1x2048x3104 .f32) (B : FVec Ideal S1x32 .f32) : FVec Ideal S512x32 .f32 :=
  (addf (extractStridedSlice S512x32 ![8192, 3072] (Host.dotGeneral dot_S8704x2048_S2048x3104_S8704x3104_1_0_0_1_n_n none (extf .f32 X bitsLt_bf16_f32) (shapeCast _ W shapeCasts_S1x2048x3104_S2048x3104)) slices_S8704x3104_S512x32_8192_3072) (broadcastInDim S512x32 ![0, 1] bcast_S1x32_S512x32_0_1 (broadcastInDim S1x32 ![1] bcast_S32_S1x32_1 (shapeCast _ B shapeCasts_S1x32_S32))))

/-- Zeros. -/
def zeros : FVec Ideal S512x32 .f32 := (broadcastInDim S512x32 ![] bcast_S_S512x32 (constant S_ .f32 0x00000000#32))

/-- The logs of the gates. -/
def logT (Z : FVec Ideal S512x32 .f32) : FVec Ideal S512x32 .f32 :=
  Host.negf (select (cmpf .une (subf (Host.negf Z) zeros) (subf (Host.negf Z) zeros)) (addf (Host.negf Z) zeros) (addf (maximumf (Host.negf Z) zeros) (Host.log1p (Host.exp (Host.negf (Host.absf (subf (Host.negf Z) zeros)))))))

theorem pre_apply (X : FVec Ideal S8704x2048 .bf16) (W : FVec Ideal S1x2048x3104 .f32) (B : FVec Ideal S1x32 .f32) (r : Fin 512) (h : Fin 32) :
    pre X W B (ix2 r h) = (∑ k : Fin 2048, X (ix2 ⟨8192 + r.val, by omega⟩ k) * W (ix3 0 k ⟨3072 + h.val, by omega⟩)) + B (ix2 0 h) := by
  pointwise [pre]

theorem zeros_apply (j : S512x32.Idx) : zeros j = (0 : EReal) := by
  unfold zeros
  exact Ideal.ofBits_zero .f32

theorem logT_apply (Z : FVec Ideal S512x32 .f32) (j : S512x32.Idx) : logT Z j = gate (Z j) := by
  rw [← gate_eq]
  have q : cmpf .une (subf (Host.negf Z) zeros) (subf (Host.negf Z) zeros) j = 0#1 := by
    show Ideal.cmp .une _ _ = 0#1
    simp [Ideal.cmp]
  show -(Scalar.select (cmpf .une (subf (Host.negf Z) zeros) (subf (Host.negf Z) zeros) j) _ _) = _
  rw [q]
  show -(max (-(Z j)) (zeros j) + Ideal.log1p (Ideal.exp (-(max (-(Z j) - zeros j) (-(-(Z j) - zeros j)))))) = _
  rw [zeros_apply]

theorem logs_eq (X : FVec Ideal S8704x2048 .bf16) (W : FVec Ideal S1x2048x3104 .f32) (B : FVec Ideal S1x32 .f32) :
    logT (pre X W B) = fun j : S512x32.Idx => logAt X W B ⟨8192 + (j 0).val, by have h : (j 0).val < 512 := (j 0).isLt; omega⟩ (j 1) := by
  funext j
  obtain ⟨r, h, rfl⟩ : ∃ (r : Fin 512) (h : Fin 32), j = ix2 r h := ⟨j 0, j 1, by funext b; fin_cases b <;> rfl⟩
  rw [logT_apply, pre_apply]
  rfl

end Cert.Reference6Ideal.Gates
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Pre_experts_up_in_range
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Pre_experts_down_in_range
public import proofs.«01_k».proof.Proof.Gen.Kernel4
public import proofs.«01_k».proof.Proof.Gen.Kernel4.Skeleton
public import proofs.«01_k».proof.Proof.Gen.Kernel4.Launch
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import Idealize.ShloMosaic.Adequacy
public import Idealize.ShloMosaic.Init
public import proofs.«01_k».proof.Proof.Finite
public import proofs.«01_k».proof.Proof.Array
public import proofs.«01_k».proof.Proof.RefValue
public import proofs.«01_k».proof.Proof.UpFrame
public import proofs.«01_k».proof.Proof.UpIdealFrame
public import proofs.«01_k».proof.Proof.UpValue
public import proofs.«01_k».proof.Proof.UpRef
public import proofs.«01_k».proof.Proof.DnFrame
public import proofs.«01_k».proof.Proof.DnIdealFrame
public import proofs.«01_k».proof.Proof.DnValue
public import proofs.«01_k».proof.Proof.DnRef
public import proofs.«01_k».proof.Proof.QkvFrame
public import proofs.«01_k».proof.Proof.QkvIdealFrame
public import proofs.«01_k».proof.Proof.QkvValue
public import proofs.«01_k».proof.Proof.QkvRef
public import proofs.«01_k».proof.Proof.Gate5
public import proofs.«01_k».proof.Proof.GateRef5
public import proofs.«01_k».proof.Proof.Gate6
public import proofs.«01_k».proof.Proof.GateRef6

@[expose] public section

noncomputable section

-- Each of the six calls: where it halts, and that it computes what its reference does.

namespace Cert.Proof

open Idealize.ShloMosaic Idealize.SL.Sem Cert.Kernel

/-- Where the precondition holds, the four float arrays hold reals. -/
theorem reals_of_pre (m : (ℓ : Loc Cert.KernelIdeal.nD Cert.KernelIdeal.τ Cert.KernelIdeal.sig) → Buf (Elt Ideal) ℓ) (h : Cert.Pre_KernelIdeal_finite_inputs m)
    (c : Dev Cert.KernelIdeal.nD) : Cert.KernelIdeal.Att.Reals m c := by
  obtain ⟨h0, h1, h2, h3⟩ := Cert.Pre_finite_inputs.reals _ _ _ _ _ (h c)
  exact ⟨h0, h1, h2, h3⟩

/-- Both programs end with the attention of `wholeResult` in their result. -/
theorem algebraic_holds : Cert.algebraic_KernelIdeal_ReferenceIdeal_pre_finite_inputs := by
  intro m g m' g' hp he
  refine ⟨fun c => Cert.KernelIdeal.Att.wholeResult
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.Value.run_blocks m g)
    exact ⟨(h c).1.trans (Cert.KernelIdeal.Att.wholeResult_eq m c (reals_of_pre m hp c)), (h c).2⟩
  · refine (θ_run Cert.ReferenceIdeal.defs _ _).mono (fun r h c => ?_) (Cert.ReferenceIdeal.Value.run (F := Ideal) m' g')
    refine ⟨(h c).1.trans ((Cert.ReferenceIdeal.Att.res_eq m' c).trans ?_), (h c).2⟩
    obtain ⟨e0, e1, e2, e3, e4⟩ := he c
    rw [e0, e1, e2, e3, e4]
    have R := reals_of_pre m hp c
    exact Cert.ReferenceIdeal.Att.resT_value _ _ _ _ R.r0 R.r1 R.r2 R.r3 _

/-- The experts' first product halts with its arguments as they were, in machine words. -/
theorem up_kept : Cert.quiescent_Kernel2 := fun m ρ h =>
  (θ_run (Cert.Kernel2.defs (F := Bits)) _ _).mono (fun _ r => ⟨fun c => (r.1 c).2, r.2⟩)
    (Cert.Kernel2.Experts.run_kept m ρ (Cert.Pre_experts_up_in_range.inRange _ _ _ _ (h 0)))

/-- So does it in real numbers. -/
theorem up_kept_ideal : Cert.quiescent_Kernel2Ideal := fun m ρ h =>
  (θ_run (Cert.Kernel2Ideal.defs (F := Ideal)) _ _).mono (fun _ r => ⟨fun c => (r.1 c).2, r.2⟩)
    (Cert.Kernel2Ideal.Experts.run_kept m ρ (Cert.Pre_experts_up_in_range.inRange _ _ _ _ (h 0)))

/-- Both programs of the experts' first product end with `experts` in their result. -/
theorem up_algebraic : Cert.algebraic_Kernel2Ideal_Reference2Ideal := by
  intro m g m' g' hp he
  have hr : ∀ c : Dev Cert.Kernel2Ideal.nD, Cert.Pre_experts_up_in_range.InRange
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3)) :=
    fun c => Cert.Pre_experts_up_in_range.inRange _ _ _ _ (hp c)
  refine ⟨fun c j => Cert.Kernel2Ideal.Experts.experts
      (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3)) (j 0) (j 1), ?_, ?_⟩
  · refine (θ_run Cert.Kernel2Ideal.defs _ _).mono (fun r h c => ?_) (Cert.Kernel2Ideal.Experts.run_kept m g (hr 0))
    refine ⟨(h.1 c).1.trans ?_, (h.1 c).2⟩
    obtain rfl : c = 0 := Subsingleton.elim _ _
    exact Cert.Kernel2Ideal.Experts.array_eq m (Cert.Kernel2Ideal.Experts.adm m (hr 0)) (hr 0) 0
  · refine (θ_run Cert.Reference2Ideal.defs _ _).mono (fun r h c => ?_) (Cert.Reference2Ideal.Value.run (F := Ideal) m' g')
    refine ⟨(h c).1.trans ?_, (h c).2⟩
    obtain ⟨e0, e1, e2, e3⟩ := he c
    rw [e0, e1, e2, e3]
    exact Cert.Reference2Ideal.Experts.res_eq _ _ _ _ (hr c)

/-- The experts' second product halts with its arguments as they were, in machine words. -/
theorem down_kept : Cert.quiescent_Kernel3 := fun m ρ h =>
  (θ_run (Cert.Kernel3.defs (F := Bits)) _ _).mono (fun _ r => ⟨fun c => (r.1 c).2, r.2⟩)
    (Cert.Kernel3.Experts.run_kept m ρ (Cert.Pre_experts_down_in_range.inRange _ _ _ _ (h 0)))

/-- So does it in real numbers. -/
theorem down_kept_ideal : Cert.quiescent_Kernel3Ideal := fun m ρ h =>
  (θ_run (Cert.Kernel3Ideal.defs (F := Ideal)) _ _).mono (fun _ r => ⟨fun c => (r.1 c).2, r.2⟩)
    (Cert.Kernel3Ideal.Experts.run_kept m ρ (Cert.Pre_experts_down_in_range.inRange _ _ _ _ (h 0)))

/-- Both programs of the experts' second product end with `experts` in their result. -/
theorem down_algebraic : Cert.algebraic_Kernel3Ideal_Reference3Ideal := by
  intro m g m' g' hp he
  have hr : ∀ c : Dev Cert.Kernel3Ideal.nD, Cert.Pre_experts_down_in_range.InRange
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3)) :=
    fun c => Cert.Pre_experts_down_in_range.inRange _ _ _ _ (hp c)
  refine ⟨fun c j => Cert.Kernel3Ideal.Experts.experts
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3)) (j 0) (j 1), ?_, ?_⟩
  · refine (θ_run Cert.Kernel3Ideal.defs _ _).mono (fun r h c => ?_) (Cert.Kernel3Ideal.Experts.run_kept m g (hr 0))
    refine ⟨(h.1 c).1.trans ?_, (h.1 c).2⟩
    obtain rfl : c = 0 := Subsingleton.elim _ _
    exact Cert.Kernel3Ideal.Experts.array_eq m (Cert.Kernel3Ideal.Experts.adm m (hr 0)) (hr 0) 0
  · refine (θ_run Cert.Reference3Ideal.defs _ _).mono (fun r h c => ?_) (Cert.Reference3Ideal.Value.run (F := Ideal) m' g')
    refine ⟨(h c).1.trans ?_, (h c).2⟩
    obtain ⟨e0, e1, e2, e3⟩ := he c
    rw [e0, e1, e2, e3]
    exact Cert.Reference3Ideal.Experts.res_eq _ _ _ _ (hr c)

/-- The projection halts with its arguments as they were, in machine words. -/
theorem rows_kept : Cert.quiescent_Kernel4 := fun m ρ _ =>
  (θ_run (Cert.Kernel4.defs (F := Bits)) _ _).mono (fun _ r => ⟨fun c => (r.1 c).2.2.2.2, r.2⟩) (Cert.Kernel4.Rows.run_kept m ρ)

/-- So does it in real numbers. -/
theorem rows_kept_ideal : Cert.quiescent_Kernel4Ideal := fun m ρ _ =>
  (θ_run (Cert.Kernel4Ideal.defs (F := Ideal)) _ _).mono (fun _ r => ⟨fun c => (r.1 c).2.2.2.2, r.2⟩) (Cert.Kernel4Ideal.Rows.run_kept m ρ)

/-- Both programs end with the same keys and values, the product's columns cut out. -/
theorem rows_algebraic : Cert.algebraic_Kernel4Ideal_Reference4Ideal := by
  intro m g m' g' _ he
  refine ⟨fun c => _, fun c => _, fun c => _, fun c => _,
    (θ_run Cert.Kernel4Ideal.defs _ _).mono (fun r h c => h.1 c) (Cert.Kernel4Ideal.Rows.run_kept (F := Ideal) m g), ?_⟩
  refine (θ_run Cert.Reference4Ideal.defs _ _).mono (fun r h c => ?_) (Cert.Reference4Ideal.Value.run (F := Ideal) m' g')
  obtain ⟨h0, h1, h2, h3, h4⟩ := h c
  obtain ⟨e0, e1⟩ := he c
  rw [e0, e1] at h0 h1 h2 h3
  have p := (Cert.Kernel4Ideal.Rows.product_eq m c).symm
  refine ⟨h0.trans ?_, h1.trans ?_, h2.trans ?_, h3.trans ?_, h4⟩
  · exact congrArg (shapeCast _ · Cert.Kernel4Ideal.Gen.shapeCasts_S8192x512_S1x1x8192x8x64)
      ((Cert.Reference4Ideal.Rows.prompt_keys _ _).trans (congrArg (extractStridedSlice _ _ · Cert.Kernel4Ideal.Gen.slices_S8704x3072_S8192x512_0_2048) p))
  · exact congrArg (shapeCast _ · Cert.Kernel4Ideal.Gen.shapeCasts_S8192x512_S1x1x8192x8x64)
      ((Cert.Reference4Ideal.Rows.prompt_values _ _).trans (congrArg (extractStridedSlice _ _ · Cert.Kernel4Ideal.Gen.slices_S8704x3072_S8192x512_0_2560) p))
  · exact congrArg (shapeCast _ · Cert.Kernel4Ideal.Gen.shapeCasts_S512x512_S1x32x16x8x64)
      ((Cert.Reference4Ideal.Rows.sample_keys _ _).trans (congrArg (extractStridedSlice _ _ · Cert.Kernel4Ideal.Gen.slices_S8704x3072_S512x512_8192_2048) p))
  · exact congrArg (shapeCast _ · Cert.Kernel4Ideal.Gen.shapeCasts_S512x512_S1x32x16x8x64)
      ((Cert.Reference4Ideal.Rows.sample_values _ _).trans (congrArg (extractStridedSlice _ _ · Cert.Kernel4Ideal.Gen.slices_S8704x3072_S512x512_8192_2560) p))

/-- Both programs end with the same logs of the prompt's forget gates. -/
theorem gates5_algebraic : Cert.algebraic_Kernel5Ideal_Reference5Ideal := by
  intro m g m' g' _ he
  refine ⟨fun c => _, (θ_run Cert.Kernel5Ideal.defs _ _).mono (fun r h c => ⟨h.1 c, h.2.1 c⟩)
    (θ_run_and (Cert.Kernel5Ideal.Gates.run_logs (F := Ideal) m g) (Cert.Kernel5Ideal.Gen.frame (F := Ideal) m g)), ?_⟩
  refine (θ_run Cert.Reference5Ideal.defs _ _).mono (fun r h c => ?_) (Cert.Reference5Ideal.Value.run (F := Ideal) m' g')
  obtain ⟨h0, h1⟩ := h c
  obtain ⟨e0, e1, e2⟩ := he c
  rw [e0, e1, e2] at h0
  refine ⟨h0.trans ?_, h1⟩
  exact congrArg (shapeCast _ · Cert.Kernel5Ideal.Gen.shapeCasts_S8192x32_S1x1x8192x32)
    ((Cert.Reference5Ideal.Gates.logs_eq _ _ _).trans (Cert.Kernel5Ideal.Gates.kept_eq m c).symm)

/-- Both programs end with the same logs of the sample group's forget gates. -/
theorem gates6_algebraic : Cert.algebraic_Kernel6Ideal_Reference6Ideal := by
  intro m g m' g' _ he
  refine ⟨fun c => _, (θ_run Cert.Kernel6Ideal.defs _ _).mono (fun r h c => ⟨h.1 c, h.2.1 c⟩)
    (θ_run_and (Cert.Kernel6Ideal.Gates.run_logs (F := Ideal) m g) (Cert.Kernel6Ideal.Gen.frame (F := Ideal) m g)), ?_⟩
  refine (θ_run Cert.Reference6Ideal.defs _ _).mono (fun r h c => ?_) (Cert.Reference6Ideal.Value.run (F := Ideal) m' g')
  obtain ⟨h0, h1⟩ := h c
  obtain ⟨e0, e1, e2, e3⟩ := he c
  rw [e0, e1, e2] at h0
  refine ⟨h0.trans ?_, h1⟩
  exact congrArg (shapeCast _ · Cert.Kernel6Ideal.Gen.shapeCasts_S512x32_S1x32x16x32)
    ((Cert.Reference6Ideal.Gates.logs_eq _ _ _).trans (Cert.Kernel6Ideal.Gates.kept_eq m c).symm)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite_inputs.facts, Cert.Pre_experts_up_in_range.Gen.facts, Cert.Pre_experts_down_in_range.Gen.facts,
  fun m ρ _ => Cert.Kernel.Gen.frame m ρ,
  fun m ρ _ => Cert.KernelIdeal.Gen.frame m ρ,
  fun m ρ _ => Cert.KernelIdeal.Gen.frame m ρ,
  fun m ρ _ => (θ_run Cert.ReferenceIdeal.defs _ _).mono
    (fun r h => ⟨fun c => (h c).2, sem_eq_zero_of_no_sems rfl r.2⟩) (Cert.ReferenceIdeal.Value.run (F := Ideal) m ρ),
  fun m ρ _ => (θ_run Cert.ReferenceIdeal.defs _ _).mono
    (fun r h => ⟨fun c => (h c).2, sem_eq_zero_of_no_sems rfl r.2⟩) (Cert.ReferenceIdeal.Value.run (F := Ideal) m ρ),
  up_kept,
  up_kept_ideal,
  fun m ρ _ => (θ_run Cert.Reference2Ideal.defs _ _).mono
    (fun r h => ⟨fun c => (h c).2, sem_eq_zero_of_no_sems rfl r.2⟩) (Cert.Reference2Ideal.Value.run (F := Ideal) m ρ),
  fun m ρ _ => (θ_run Cert.Reference2Ideal.defs _ _).mono
    (fun r h => ⟨fun c => (h c).2, sem_eq_zero_of_no_sems rfl r.2⟩) (Cert.Reference2Ideal.Value.run (F := Ideal) m ρ),
  down_kept,
  down_kept_ideal,
  fun m ρ _ => (θ_run Cert.Reference3Ideal.defs _ _).mono
    (fun r h => ⟨fun c => (h c).2, sem_eq_zero_of_no_sems rfl r.2⟩) (Cert.Reference3Ideal.Value.run (F := Ideal) m ρ),
  fun m ρ _ => (θ_run Cert.Reference3Ideal.defs _ _).mono
    (fun r h => ⟨fun c => (h c).2, sem_eq_zero_of_no_sems rfl r.2⟩) (Cert.Reference3Ideal.Value.run (F := Ideal) m ρ),
  rows_kept,
  rows_kept_ideal,
  fun m ρ _ => (θ_run Cert.Reference4Ideal.defs _ _).mono
    (fun r h => ⟨fun c => (h c).2.2.2.2, sem_eq_zero_of_no_sems rfl r.2⟩) (Cert.Reference4Ideal.Value.run (F := Ideal) m ρ),
  fun m ρ _ => Cert.Kernel5.Gen.frame m ρ,
  fun m ρ _ => Cert.Kernel5Ideal.Gen.frame m ρ,
  fun m ρ _ => (θ_run Cert.Reference5Ideal.defs _ _).mono
    (fun r h => ⟨fun c => (h c).2, sem_eq_zero_of_no_sems rfl r.2⟩) (Cert.Reference5Ideal.Value.run (F := Ideal) m ρ),
  fun m ρ _ => Cert.Kernel6.Gen.frame m ρ,
  fun m ρ _ => Cert.Kernel6Ideal.Gen.frame m ρ,
  fun m ρ _ => (θ_run Cert.Reference6Ideal.defs _ _).mono
    (fun r h => ⟨fun c => (h c).2, sem_eq_zero_of_no_sems rfl r.2⟩) (Cert.Reference6Ideal.Value.run (F := Ideal) m ρ),
  trivial,
  algebraic_holds,
  trivial,
  up_algebraic,
  trivial,
  down_algebraic,
  trivial,
  rows_algebraic,
  trivial,
  gates5_algebraic,
  trivial,
  gates6_algebraic⟩

end Cert.Proof

end
